-- ==== Defs.lean ====
def Pre_Kernel [hPre_routed : Cert.Pre_routed.Facts] (m : (ℓ : Loc Cert.Kernel.nD Cert.Kernel.τ Cert.Kernel.sig) → Buf (Elt Bits) ℓ) : Prop :=
  ∀ c : Dev Cert.Kernel.nD,
    (Cert.Pre_routed.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_routed : Cert.Pre_routed.Facts] (m : (ℓ : Loc Cert.KernelIdeal.nD Cert.KernelIdeal.τ Cert.KernelIdeal.sig) → Buf (Elt Ideal) ℓ) : Prop :=
  ∀ c : Dev Cert.KernelIdeal.nD,
    (Cert.Pre_routed.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routed [hPre_routed : Cert.Pre_routed.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routed.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite [hPre_finite : Cert.Pre_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6)) (m ((c.tc : Thread Cert.Kernel5Ideal.nD Cert.Kernel5Ideal.τ).loc Cert.Kernel5Ideal.main_arg7)) (m ((c.tc : Thread Cert.Kernel5Ideal.nD Cert.Kernel5Ideal.τ).loc Cert.Kernel5Ideal.main_arg8))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite [hPre_finite : Cert.Pre_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6)) (m ((c.tc : Thread Cert.Reference5Ideal.nD Cert.Reference5Ideal.τ).loc Cert.Reference5Ideal.main_arg7)) (m ((c.tc : Thread Cert.Reference5Ideal.nD Cert.Reference5Ideal.τ).loc Cert.Reference5Ideal.main_arg8))) = (fun _ => 1#1)

def quiescent_Kernel [hKernel : Cert.Kernel.Facts] [hPre_routed : Cert.Pre_routed.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_routed [hReferenceIdeal : Cert.ReferenceIdeal.Facts] [hPre_routed : Cert.Pre_routed.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routed m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Kernel5Ideal_pre_finite [hKernel5Ideal : Cert.Kernel5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def quiescent_Reference5Ideal_pre_finite [hReference5Ideal : Cert.Reference5Ideal.Facts] [hPre_finite : Cert.Pre_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_routed : Cert.Pre_routed.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0_0) = v0 c
          ∧ r.2.mem ((c.tc : Thread Cert.Kernel2Ideal.nD Cert.Kernel2Ideal.τ).loc Cert.Kernel2Ideal.main_v0_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v32) = v0 c
          ∧ r.2.mem ((c.tc : Thread Cert.Reference2Ideal.nD Cert.Reference2Ideal.τ).loc Cert.Reference2Ideal.main_v34) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v5) = v0 c
          ∧ r.2.mem ((c.tc : Thread Cert.Reference3Ideal.nD Cert.Reference3Ideal.τ).loc Cert.Reference3Ideal.main_v17) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v5) = v0 c
          ∧ r.2.mem ((c.tc : Thread Cert.Reference4Ideal.nD Cert.Reference4Ideal.τ).loc Cert.Reference4Ideal.main_v31) = v1 c
          ∧ r.2.mem ((c.tc : Thread Cert.Reference4Ideal.nD Cert.Reference4Ideal.τ).loc Cert.Reference4Ideal.main_v32) = v2 c
          ∧ r.2.mem ((c.tc : Thread Cert.Reference4Ideal.nD Cert.Reference4Ideal.τ).loc Cert.Reference4Ideal.main_v33) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2))

def preserves_Kernel5_Kernel5Ideal : Prop :=
  True

def algebraic_Kernel5Ideal_Reference5Ideal_pre_finite [hKernel5Ideal : Cert.Kernel5Ideal.Facts] [hReference5Ideal : Cert.Reference5Ideal.Facts] [hPre_finite : Cert.Pre_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)) →
    ∃ (v0 : (c : Dev Cert.Kernel5Ideal.nD) → Buf (Elt Ideal) ((c.tc : Thread Cert.Kernel5Ideal.nD Cert.Kernel5Ideal.τ).loc Cert.Kernel5Ideal.main_v0_2)) (v1 : (c : Dev Cert.Kernel5Ideal.nD) → Buf (Elt Ideal) ((c.tc : Thread Cert.Kernel5Ideal.nD Cert.Kernel5Ideal.τ).loc Cert.Kernel5Ideal.main_v0_4)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_2) = v0 c
          ∧ r.2.mem ((c.tc : Thread Cert.Kernel5Ideal.nD Cert.Kernel5Ideal.τ).loc Cert.Kernel5Ideal.main_v0_4) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_routed : Cert.Pre_routed.Facts) (hPre_finite : Cert.Pre_finite.Facts),
    quiescent_Kernel (hKernel := hKernel) (hPre_routed := hPre_routed)
    ∧ quiescent_KernelIdeal (hKernelIdeal := hKernelIdeal) (hPre_routed := hPre_routed)
    ∧ quiescent_ReferenceIdeal (hReferenceIdeal := hReferenceIdeal)
    ∧ quiescent_ReferenceIdeal_pre_routed (hReferenceIdeal := hReferenceIdeal) (hPre_routed := hPre_routed)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_finite (hKernel5Ideal := hKernel5Ideal) (hPre_finite := hPre_finite)
    ∧ quiescent_Reference5Ideal (hReference5Ideal := hReference5Ideal)
    ∧ quiescent_Reference5Ideal_pre_finite (hReference5Ideal := hReference5Ideal) (hPre_finite := hPre_finite)
    ∧ preserves_Kernel_KernelIdeal
    ∧ algebraic_KernelIdeal_ReferenceIdeal (hKernelIdeal := hKernelIdeal) (hReferenceIdeal := hReferenceIdeal) (hPre_routed := hPre_routed)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_pre_finite (hKernel5Ideal := hKernel5Ideal) (hReference5Ideal := hReference5Ideal) (hPre_finite := hPre_finite)
-- ==== Pre_finite.lean ====
abbrev S16384x1024 : Shape := ⟨2, ![16384, 1024]⟩
abbrev S16384x2048 : Shape := ⟨2, ![16384, 2048]⟩
abbrev S1024x2048 : Shape := ⟨2, ![1024, 2048]⟩
abbrev S1x2048 : Shape := ⟨2, ![1, 2048]⟩
abbrev S32x2048 : Shape := ⟨2, ![32, 2048]⟩
abbrev S32x1 : Shape := ⟨2, ![32, 1]⟩
abbrev S_ : Shape := ⟨0, ![]⟩

class Facts : Prop where
  bcast_S_S1x2048 : S_.BroadcastsInDim S1x2048 (![] : Fin 0 → Fin S1x2048.rank)
  reducesTo_S1x2048_S_d0_1 : S1x2048.ReducesTo [0, 1] S_
  h_S_ : 0 < S_.numel
  bitsLt_bf16_f32 : FTy.bits .bf16 < FTy.bits .f32
  bcast_S_S32x2048 : S_.BroadcastsInDim S32x2048 (![] : Fin 0 → Fin S32x2048.rank)
  reducesTo_S32x2048_S_d0_1 : S32x2048.ReducesTo [0, 1] S_
  bcast_S_S32x1 : S_.BroadcastsInDim S32x1 (![] : Fin 0 → Fin S32x1.rank)
  reducesTo_S32x1_S_d0_1 : S32x1.ReducesTo [0, 1] S_

variable [Facts]

def fn_part1 {F : FTy → Type} [FloatOps F] (main_v15 : IVec S_ 1) (main_v16 : FVec F S32x1 .f32) (main_cst_4 : FVec F S_ .f32) : IVec S_ 1 :=
  let main_v17 : FVec F S32x1 .f32 := broadcastInDim S32x1 ![] bcast_S_S32x1 main_cst_4
  let main_v18 : IVec S32x1 1 := cmpf .olt main_v16 main_v17
  let main_c_5 : IVec S_ 1 := constantI S_ 1 1#1
  let main_v19 : IVec S_ 1 := (fun x v => Host.reduce IntOp.andi x v reducesTo_S32x1_S_d0_1 h_S_) main_v18 main_c_5
  let main_v20 : IVec S_ 1 := andi main_v15 main_v19
  main_v20

def fn {F : FTy → Type} [FloatOps F] (main_arg0 : FVec F S16384x1024 .bf16) (main_arg1 : FVec F S16384x1024 .bf16) (main_arg2 : FVec F S16384x2048 .f32) (main_arg3 : FVec F S1024x2048 .bf16) (main_arg4 : FVec F S1024x2048 .bf16) (main_arg5 : FVec F S1x2048 .f32) (main_arg6 : FVec F S32x2048 .bf16) (main_arg7 : FVec F S32x2048 .bf16) (main_arg8 : FVec F S32x1 .f32) : IVec S_ 1 :=
  let main_v0 : FVec F S1x2048 .f32 := Host.absf main_arg5
  let main_cst : FVec F S_ .f32 := constant S_ .f32 0x7F800000#32
  let main_v1 : FVec F S1x2048 .f32 := broadcastInDim S1x2048 ![] bcast_S_S1x2048 main_cst
  let main_v2 : IVec S1x2048 1 := cmpf .olt main_v0 main_v1
  let main_c : IVec S_ 1 := constantI S_ 1 1#1
  let main_v3 : IVec S_ 1 := (fun x v => Host.reduce IntOp.andi x v reducesTo_S1x2048_S_d0_1 h_S_) main_v2 main_c
  let main_v4 : FVec F S32x2048 .f32 := (extf .f32 · bitsLt_bf16_f32) main_arg6
  let main_v5 : FVec F S32x2048 .f32 := Host.absf main_v4
  let main_cst_0 : FVec F S_ .f32 := constant S_ .f32 0x7F800000#32
  let main_v6 : FVec F S32x2048 .f32 := broadcastInDim S32x2048 ![] bcast_S_S32x2048 main_cst_0
  let main_v7 : IVec S32x2048 1 := cmpf .olt main_v5 main_v6
  let main_c_1 : IVec S_ 1 := constantI S_ 1 1#1
  let main_v8 : IVec S_ 1 := (fun x v => Host.reduce IntOp.andi x v reducesTo_S32x2048_S_d0_1 h_S_) main_v7 main_c_1
  let main_v9 : IVec S_ 1 := andi main_v3 main_v8
  let main_v10 : FVec F S32x2048 .f32 := (extf .f32 · bitsLt_bf16_f32) main_arg7
  let main_v11 : FVec F S32x2048 .f32 := Host.absf main_v10
  let main_cst_2 : FVec F S_ .f32 := constant S_ .f32 0x7F800000#32
  let main_v12 : FVec F S32x2048 .f32 := broadcastInDim S32x2048 ![] bcast_S_S32x2048 main_cst_2
  let main_v13 : IVec S32x2048 1 := cmpf .olt main_v11 main_v12
  let main_c_3 : IVec S_ 1 := constantI S_ 1 1#1
  let main_v14 : IVec S_ 1 := (fun x v => Host.reduce IntOp.andi x v reducesTo_S32x2048_S_d0_1 h_S_) main_v13 main_c_3
  let main_v15 : IVec S_ 1 := andi main_v9 main_v14
  let main_v16 : FVec F S32x1 .f32 := Host.absf main_arg8
  let main_cst_4 : FVec F S_ .f32 := constant S_ .f32 0x7F800000#32
  fn_part1 (F := F) main_v15 main_v16 main_cst_4
-- ==== Pre_routed.lean ====
abbrev S160 : Shape := ⟨1, ![160]⟩
abbrev S1 : Shape := ⟨1, ![1]⟩
abbrev S81920x2048 : Shape := ⟨2, ![81920, 2048]⟩
abbrev S32x2048x2048 : Shape := ⟨3, ![32, 2048, 2048]⟩
abbrev S32x1x2048 : Shape := ⟨3, ![32, 1, 2048]⟩
abbrev S_ : Shape := ⟨0, ![]⟩

class Facts : Prop where
  bcast_S_S160 : S_.BroadcastsInDim S160 (![] : Fin 0 → Fin S160.rank)
  bcast_S_S1 : S_.BroadcastsInDim S1 (![] : Fin 0 → Fin S1.rank)
  bcast_S1_S160_0 : S1.BroadcastsInDim S160 (![0] : Fin 1 → Fin S160.rank)

variable [Facts]

def fn {F : FTy → Type} [FloatOps F] (main_arg0 : IVec S160 32) (main_arg1 : IVec S1 32) (main_arg2 : FVec F S81920x2048 .f32) (main_arg3 : FVec F S32x2048x2048 .bf16) (main_arg4 : FVec F S32x2048x2048 .bf16) (main_arg5 : FVec F S32x1x2048 .f32) (main_arg6 : FVec F S32x1x2048 .f32) (main_arg7 : FVec F S32x2048x2048 .bf16) (main_arg8 : FVec F S32x1x2048 .f32) : IVec S160 1 :=
  let main_c : IVec S_ 32 := constantI S_ 32 0#32
  let main_v0 : IVec S160 32 := broadcastInDim S160 ![] bcast_S_S160 main_c
  let main_v1 : IVec S160 1 := cmpi .sge main_arg0 main_v0
  let main_c_0 : IVec S_ 32 := constantI S_ 32 32#32
  let main_v2 : IVec S160 32 := broadcastInDim S160 ![] bcast_S_S160 main_c_0
  let main_v3 : IVec S160 1 := cmpi .slt main_arg0 main_v2
  let main_v4 : IVec S160 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S160 1 := broadcastInDim S160 ![0] bcast_S1_S160_0 main_v6
  let main_v8 : IVec S160 1 := andi main_v4 main_v7
  main_v8
-- ==== Kernel.lean ====
abbrev S160 : Shape := ⟨1, ![160]⟩
abbrev S1 : Shape := ⟨1, ![1]⟩
abbrev S81920x2048 : Shape := ⟨2, ![81920, 2048]⟩
abbrev S32x2048x2048 : Shape := ⟨3, ![32, 2048, 2048]⟩
abbrev S32x1x2048 : Shape := ⟨3, ![32, 1, 2048]⟩
abbrev S512x2048 : Shape := ⟨2, ![512, 2048]⟩
abbrev S1x2048x1024 : Shape := ⟨3, ![1, 2048, 1024]⟩
abbrev S1x1x1024 : Shape := ⟨3, ![1, 1, 1024]⟩
abbrev S1x1024x2048 : Shape := ⟨3, ![1, 1024, 2048]⟩
abbrev S1x1x2048 : Shape := ⟨3, ![1, 1, 2048]⟩
abbrev S2048x1024 : Shape := ⟨2, ![2048, 1024]⟩
abbrev S512x1024 : Shape := ⟨2, ![512, 1024]⟩
abbrev S1x1024 : Shape := ⟨2, ![1, 1024]⟩
abbrev S1024x2048 : Shape := ⟨2, ![1024, 2048]⟩
abbrev S1x2048 : Shape := ⟨2, ![1, 2048]⟩

abbrev nBuf : Space → Nat
  | .hbm => 8
  | .vmem => 18
  | .smem => 2
  | _ => 0

abbrev bufTy : (tb : Table) → Fin (tcTables nBuf tb) → BufTy
  | .hbm, ⟨0, _⟩ => ⟨S81920x2048, .f32⟩
  | .hbm, ⟨1, _⟩ => ⟨S32x2048x2048, .bf16⟩
  | .hbm, ⟨2, _⟩ => ⟨S32x2048x2048, .bf16⟩
  | .hbm, ⟨3, _⟩ => ⟨S32x1x2048, .f32⟩
  | .hbm, ⟨4, _⟩ => ⟨S32x1x2048, .f32⟩
  | .hbm, ⟨5, _⟩ => ⟨S32x2048x2048, .bf16⟩
  | .hbm, ⟨6, _⟩ => ⟨S32x1x2048, .f32⟩
  | .hbm, ⟨7, _⟩ => ⟨S81920x2048, .f32⟩
  | .local _ .vmem, ⟨0, _⟩ => ⟨S512x2048, .f32⟩
  | .local _ .vmem, ⟨1, _⟩ => ⟨S512x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1x1024, .f32⟩
  | .local _ .vmem, ⟨7, _⟩ => ⟨S1x1x1024, .f32⟩
  | .local _ .vmem, ⟨8, _⟩ => ⟨S1x1x1024, .f32⟩
  | .local _ .vmem, ⟨9, _⟩ => ⟨S1x1x1024, .f32⟩
  | .local _ .vmem, ⟨10, _⟩ => ⟨S1x1024x2048, .bf16⟩
  | .local _ .vmem, ⟨11, _⟩ => ⟨S1x1024x2048, .bf16⟩
  | .local _ .vmem, ⟨12, _⟩ => ⟨S1x1x2048, .f32⟩
  | .local _ .vmem, ⟨13, _⟩ => ⟨S1x1x2048, .f32⟩
  | .local _ .vmem, ⟨14, _⟩ => ⟨S512x2048, .f32⟩
  | .local _ .vmem, ⟨15, _⟩ => ⟨S512x2048, .f32⟩
  | .local _ .vmem, ⟨16, _⟩ => ⟨S512x2048, .bf16⟩
  | .local _ .vmem, ⟨17, _⟩ => ⟨S512x2048, .f32⟩
  | .local _ .smem, ⟨0, _⟩ => ⟨S160, .i32⟩
  | .local _ .smem, ⟨1, _⟩ => ⟨S1, .i32⟩
  | _, _ => ⟨S81920x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_arg6 : Ref sig .tc := ⟨.hbm, 4, rfl⟩
abbrev main_arg7 : Ref sig .tc := ⟨.hbm, 5, rfl⟩
abbrev main_arg8 : Ref sig .tc := ⟨.hbm, 6, rfl⟩
abbrev main_v0 : Ref sig .tc := ⟨.hbm, 7, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![160, 2], ![false, false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond3 (i : grid0.Coords) : BitVec 1 :=
  let arg1 : BitVec 32 := BitVec.ofNat 32 (i 1).val
  let c1_i32_34 : BitVec 32 := 1#32
  let v54 : BitVec 1 := Scalar.cmpi .eq arg1 c1_i32_34
  let v55 : BitVec 32 := Scalar.extui v54
  let c0_i32_35 : BitVec 32 := 0#32
  let v56 : BitVec 1 := Scalar.cmpi .ne v55 c0_i32_35
  v56

def k0_cond4 (i : grid0.Coords) (v4 : BitVec 32) : BitVec 1 :=
  let arg0 : BitVec 32 := BitVec.ofNat 32 (i 0).val
  let v5 : BitVec 1 := Scalar.cmpi .sge arg0 v4
  let arg1 : BitVec 32 := BitVec.ofNat 32 (i 1).val
  let c1_i32 : BitVec 32 := 1#32
  let v6 : BitVec 1 := Scalar.cmpi .eq arg1 c1_i32
  let v7 : BitVec 1 := Scalar.andi v5 v6
  let v8 : BitVec 32 := Scalar.extui v7
  let c0_i32_1 : BitVec 32 := 0#32
  let v9 : BitVec 1 := Scalar.cmpi .ne v8 c0_i32_1
  v9

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_2 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_3 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_4 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, c0_i32.toNat, v4.toNat]

def cc0_transform_5 (k0_off1_inb : ∀ i : grid0.Coords, ∀ a, (k0_off1 i) a + S1.size a ≤ S160.size a) (numel1_S1 : S1.numel = 1) (inb_S1_S1_0 : ∀ a, (![0] : Fin 1 → Nat) a + S1.size a ≤ S1.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0 : Index := 0#32
  let v2 : BitVec 32 := pf.at 1 (Rect.unit (s := S1) ![0] S1.size inb_S1_S1_0) numel1_S1
  let v3 : BitVec 1 := Scalar.cmpi .slt arg0 v2
  let c1_i32 : BitVec 32 := 1#32
  let v4 : BitVec 32 := Scalar.select v3 arg1 c1_i32
  let c0_i32 : BitVec 32 := 0#32
  let c0_i32_0 : BitVec 32 := 0#32
  ![v1.toNat, v4.toNat, c0_i32.toNat]

def cc0_transform_6 (k0_off1_inb : ∀ i : grid0.Coords, ∀ a, (k0_off1 i) a + S1.size a ≤ S160.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S160) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x1x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S160 : Shape := ⟨1, ![160]⟩
abbrev S1 : Shape := ⟨1, ![1]⟩
abbrev S81920x2048 : Shape := ⟨2, ![81920, 2048]⟩
abbrev S32x2048x2048 : Shape := ⟨3, ![32, 2048, 2048]⟩
abbrev S32x1x2048 : Shape := ⟨3, ![32, 1, 2048]⟩
abbrev S160x512x2048 : Shape := ⟨3, ![160, 512, 2048]⟩
abbrev S_ : Shape := ⟨0, ![]⟩
abbrev S160x1 : Shape := ⟨2, ![160, 1]⟩
abbrev S160x2048x2048 : Shape := ⟨3, ![160, 2048, 2048]⟩
abbrev S160x1x2048 : Shape := ⟨3, ![160, 1, 2048]⟩
abbrev S160x1x1 : Shape := ⟨3, ![160, 1, 1]⟩

abbrev nBuf : Space → Nat
  | .hbm => 114
  | .vmem => 0
  | .smem => 0
  | _ => 0

abbrev bufTy : (tb : Table) → Fin (tcTables nBuf tb) → BufTy
  | .hbm, ⟨0, _⟩ => ⟨S160, .i32⟩
  | .hbm, ⟨1, _⟩ => ⟨S1, .i32⟩
  | .hbm, ⟨2, _⟩ => ⟨S81920x2048, .f32⟩
  | .hbm, ⟨3, _⟩ => ⟨S32x2048x2048, .bf16⟩
  | .hbm, ⟨4, _⟩ => ⟨S32x2048x2048, .bf16⟩
  | .hbm, ⟨5, _⟩ => ⟨S32x1x2048, .f32⟩
  | .hbm, ⟨6, _⟩ => ⟨S32x1x2048, .f32⟩
  | .hbm, ⟨7, _⟩ => ⟨S32x2048x2048, .bf16⟩
  | .hbm, ⟨8, _⟩ => ⟨S32x1x2048, .f32⟩
  | .hbm, ⟨9, _⟩ => ⟨S160x512x2048, .f32⟩
  | .hbm, ⟨10, _⟩ => ⟨S_, .i32⟩
  | .hbm, ⟨11, _⟩ => ⟨S160, .i32⟩
  | .hbm, ⟨12, _⟩ => ⟨S160, .i1⟩
  | .hbm, ⟨13, _⟩ => ⟨S_, .i32⟩
  | .hbm, ⟨14, _⟩ => ⟨S160, .i32⟩
  | .hbm, ⟨15, _⟩ => ⟨S160, .i32⟩
  | .hbm, ⟨16, _⟩ => ⟨S160, .i32⟩
  | .hbm, ⟨17, _⟩ => ⟨S160x1, .i32⟩
  | .hbm, ⟨18, _⟩ => ⟨S160x2048x2048, .bf16⟩
  | .hbm, ⟨19, _⟩ => ⟨S160x2048x2048, .f32⟩
  | .hbm, ⟨20, _⟩ => ⟨S160x512x2048, .f32⟩
  | .hbm, ⟨21, _⟩ => ⟨S_, .i32⟩
  | .hbm, ⟨22, _⟩ => ⟨S160, .i32⟩
  | .hbm, ⟨23, _⟩ => ⟨S160, .i1⟩
  | .hbm, ⟨24, _⟩ => ⟨S_, .i32⟩
  | .hbm, ⟨25, _⟩ => ⟨S160, .i32⟩
  | .hbm, ⟨26, _⟩ => ⟨S160, .i32⟩
  | .hbm, ⟨27, _⟩ => ⟨S160, .i32⟩
  | .hbm, ⟨28, _⟩ => ⟨S160x1, .i32⟩
  | .hbm, ⟨29, _⟩ => ⟨S160x1x2048, .f32⟩
  | .hbm, ⟨30, _⟩ => ⟨S160x512x2048, .f32⟩
  | .hbm, ⟨31, _⟩ => ⟨S160x512x2048, .f32⟩
  | .hbm, ⟨32, _⟩ => ⟨S_, .i32⟩
  | .hbm, ⟨33, _⟩ => ⟨S160, .i32⟩
  | .hbm, ⟨34, _⟩ => ⟨S160, .i1⟩
  | .hbm, ⟨35, _⟩ => ⟨S_, .i32⟩
  | .hbm, ⟨36, _⟩ => ⟨S160, .i32⟩
  | .hbm, ⟨37, _⟩ => ⟨S160, .i32⟩
  | .hbm, ⟨38, _⟩ => ⟨S160, .i32⟩
  | .hbm, ⟨39, _⟩ => ⟨S160x1, .i32⟩
  | .hbm, ⟨40, _⟩ => ⟨S160x2048x2048, .bf16⟩
  | .hbm, ⟨41, _⟩ => ⟨S160x2048x2048, .f32⟩
  | .hbm, ⟨42, _⟩ => ⟨S160x512x2048, .f32⟩
  | .hbm, ⟨43, _⟩ => ⟨S_, .i32⟩
  | .hbm, ⟨44, _⟩ => ⟨S160, .i32⟩
  | .hbm, ⟨45, _⟩ => ⟨S160, .i1⟩
  | .hbm, ⟨46, _⟩ => ⟨S_, .i32⟩
  | .hbm, ⟨47, _⟩ => ⟨S160, .i32⟩
  | .hbm, ⟨48, _⟩ => ⟨S160, .i32⟩
  | .hbm, ⟨49, _⟩ => ⟨S160, .i32⟩
  | .hbm, ⟨50, _⟩ => ⟨S160x1, .i32⟩
  | .hbm, ⟨51, _⟩ => ⟨S160x1x2048, .f32⟩
  | .hbm, ⟨52, _⟩ => ⟨S160x512x2048, .f32⟩
  | .hbm, ⟨53, _⟩ => ⟨S160x512x2048, .f32⟩
  | .hbm, ⟨54, _⟩ => ⟨S_, .f32⟩
  | .hbm, ⟨55, _⟩ => ⟨S160x512x2048, .f32⟩
  | .hbm, ⟨56, _⟩ => ⟨S160x512x2048, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S160x512x2048, .f32⟩
  | .hbm, ⟨61, _⟩ => ⟨S160x512x2048, .f32⟩
  | .hbm, ⟨62, _⟩ => ⟨S_, .f32⟩
  | .hbm, ⟨63, _⟩ => ⟨S160x512x2048, .f32⟩
  | .hbm, ⟨64, _⟩ => ⟨S160x512x2048, .f32⟩
  | .hbm, ⟨65, _⟩ => ⟨S_, .f32⟩
  | .hbm, ⟨66, _⟩ => ⟨S160x512x2048, .f32⟩
  | .hbm, ⟨67, _⟩ => ⟨S160x512x2048, .f32⟩
  | .hbm, ⟨68, _⟩ => ⟨S160x512x2048, .f32⟩
  | .hbm, ⟨69, _⟩ => ⟨S160x512x2048, .f32⟩
  | .hbm, ⟨70, _⟩ => ⟨S_, .f32⟩
  | .hbm, ⟨71, _⟩ => ⟨S160x512x2048, .f32⟩
  | .hbm, ⟨72, _⟩ => ⟨S160x512x2048, .f32⟩
  | .hbm, ⟨73, _⟩ => ⟨S_, .f32⟩
  | .hbm, ⟨74, _⟩ => ⟨S160x512x2048, .f32⟩
  | .hbm, ⟨75, _⟩ => ⟨S160x512x2048, .f32⟩
  | .hbm, ⟨76, _⟩ => ⟨S160x512x2048, .f32⟩
  | .hbm, ⟨77, _⟩ => ⟨S_, .f32⟩
  | .hbm, ⟨78, _⟩ => ⟨S160x512x2048, .f32⟩
  | .hbm, ⟨79, _⟩ => ⟨S160x512x2048, .f32⟩
  | .hbm, ⟨80, _⟩ => ⟨S160x512x2048, .f32⟩
  | .hbm, ⟨81, _⟩ => ⟨S_, .i32⟩
  | .hbm, ⟨82, _⟩ => ⟨S160, .i32⟩
  | .hbm, ⟨83, _⟩ => ⟨S160, .i1⟩
  | .hbm, ⟨84, _⟩ => ⟨S_, .i32⟩
  | .hbm, ⟨85, _⟩ => ⟨S160, .i32⟩
  | .hbm, ⟨86, _⟩ => ⟨S160, .i32⟩
  | .hbm, ⟨87, _⟩ => ⟨S160, .i32⟩
  | .hbm, ⟨88, _⟩ => ⟨S160x1, .i32⟩
  | .hbm, ⟨89, _⟩ => ⟨S160x2048x2048, .bf16⟩
  | .hbm, ⟨90, _⟩ => ⟨S160x2048x2048, .f32⟩
  | .hbm, ⟨91, _⟩ => ⟨S160x512x2048, .f32⟩
  | .hbm, ⟨92, _⟩ => ⟨S_, .i32⟩
  | .hbm, ⟨93, _⟩ => ⟨S160, .i32⟩
  | .hbm, ⟨94, _⟩ => ⟨S160, .i1⟩
  | .hbm, ⟨95, _⟩ => ⟨S_, .i32⟩
  | .hbm, ⟨96, _⟩ => ⟨S160, .i32⟩
  | .hbm, ⟨97, _⟩ => ⟨S160, .i32⟩
  | .hbm, ⟨98, _⟩ => ⟨S160, .i32⟩
  | .hbm, ⟨99, _⟩ => ⟨S160x1, .i32⟩
  | .hbm, ⟨100, _⟩ => ⟨S160x1x2048, .f32⟩
  | .hbm, ⟨101, _⟩ => ⟨S160x512x2048, .f32⟩
  | .hbm, ⟨102, _⟩ => ⟨S160x512x2048, .f32⟩
  | .hbm, ⟨103, _⟩ => ⟨S160, .i32⟩
  | .hbm, ⟨104, _⟩ => ⟨S160x1x1, .i32⟩
  | .hbm, ⟨105, _⟩ => ⟨S_, .i32⟩
  | .hbm, ⟨106, _⟩ => ⟨S160x1x1, .i32⟩
  | .hbm, ⟨107, _⟩ => ⟨S160x1x1, .i1⟩
  | .hbm, ⟨108, _⟩ => ⟨S_, .f32⟩
  | .hbm, ⟨109, _⟩ => ⟨S_, .f32⟩
  | .hbm, ⟨110, _⟩ => ⟨S160x512x2048, .i1⟩
  | .hbm, ⟨111, _⟩ => ⟨S160x512x2048, .f32⟩
  | .hbm, ⟨112, _⟩ => ⟨S160x512x2048, .f32⟩
  | .hbm, ⟨113, _⟩ => ⟨S81920x2048, .f32⟩
  | _, _ => ⟨S160, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_c_1 : Ref sig .tc := ⟨.hbm, 21, rfl⟩
abbrev main_v10 : Ref sig .tc := ⟨.hbm, 22, rfl⟩
abbrev main_v11 : Ref sig .tc := ⟨.hbm, 23, rfl⟩
abbrev main_c_2 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_3 : Ref sig .tc := ⟨.hbm, 32, rfl⟩
abbrev main_v19 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_c_5 : Ref sig .tc := ⟨.hbm, 43, rfl⟩
abbrev main_v28 : Ref sig .tc := ⟨.hbm, 44, rfl⟩
abbrev main_v29 : Ref sig .tc := ⟨.hbm, 45, rfl⟩
abbrev main_c_6 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_cst : Ref sig .tc := ⟨.hbm, 54, rfl⟩
abbrev main_v37 : Ref sig .tc := ⟨.hbm, 55, rfl⟩
abbrev main_v38 : Ref sig .tc := ⟨.hbm, 56, rfl⟩
abbrev main_cst_7 : Ref sig .tc := ⟨.hbm, 57, rfl⟩
abbrev main_cst_8 : Ref sig .tc := ⟨.hbm, 58, rfl⟩
abbrev main_call0_v0 : Ref sig .tc := ⟨.hbm, 59, rfl⟩
abbrev main_call0_v1 : Ref sig .tc := ⟨.hbm, 60, rfl⟩
abbrev main_call0_v2 : Ref sig .tc := ⟨.hbm, 61, rfl⟩
abbrev main_call0_v3 : Ref sig .tc := ⟨.hbm, 62, rfl⟩
abbrev main_call0_v4 : Ref sig .tc := ⟨.hbm, 63, rfl⟩
abbrev main_v39 : Ref sig .tc := ⟨.hbm, 64, rfl⟩
abbrev main_cst_9 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_cst_10 : Ref sig .tc := ⟨.hbm, 70, rfl⟩
abbrev main_v44 : Ref sig .tc := ⟨.hbm, 71, rfl⟩
abbrev main_v45 : Ref sig .tc := ⟨.hbm, 72, rfl⟩
abbrev main_cst_11 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_cst_12 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_c_13 : Ref sig .tc := ⟨.hbm, 81, rfl⟩
abbrev main_v52 : Ref sig .tc := ⟨.hbm, 82, rfl⟩
abbrev main_v53 : Ref sig .tc := ⟨.hbm, 83, rfl⟩
abbrev main_c_14 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_c_15 : Ref sig .tc := ⟨.hbm, 92, rfl⟩
abbrev main_v61 : Ref sig .tc := ⟨.hbm, 93, rfl⟩
abbrev main_v62 : Ref sig .tc := ⟨.hbm, 94, rfl⟩
abbrev main_c_16 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_v74 : Ref sig .tc := ⟨.hbm, 107, rfl⟩
abbrev main_cst_17 : Ref sig .tc := ⟨.hbm, 108, rfl⟩
abbrev main_call1_v0 : Ref sig .tc := ⟨.hbm, 109, rfl⟩
abbrev main_call1_v1 : Ref sig .tc := ⟨.hbm, 110, rfl⟩
abbrev main_call1_v2 : Ref sig .tc := ⟨.hbm, 111, rfl⟩
abbrev main_v75 : Ref sig .tc := ⟨.hbm, 112, rfl⟩
abbrev main_v76 : Ref sig .tc := ⟨.hbm, 113, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S2048x7168 : Shape := ⟨2, ![2048, 7168]⟩
abbrev S2048x256 : Shape := ⟨2, ![2048, 256]⟩
abbrev S4x1x128 : Shape := ⟨3, ![4, 1, 128]⟩
abbrev S16384x7168 : Shape := ⟨2, ![16384, 7168]⟩
abbrev S16384x256 : Shape := ⟨2, ![16384, 256]⟩
abbrev S1024x2048 : Shape := ⟨2, ![1024, 2048]⟩
abbrev S2048x1024 : Shape := ⟨2, ![2048, 1024]⟩
abbrev S1x1x128 : Shape := ⟨3, ![1, 1, 128]⟩
abbrev S1024x1024 : Shape := ⟨2, ![1024, 1024]⟩
abbrev S1024x256 : Shape := ⟨2, ![1024, 256]⟩
abbrev S1024 : Shape := ⟨1, ![1024]⟩
abbrev S1024x1 : Shape := ⟨2, ![1024, 1]⟩
abbrev S1x128 : Shape := ⟨2, ![1, 128]⟩
abbrev S1024x128 : Shape := ⟨2, ![1024, 128]⟩

abbrev nBuf : Space → Nat
  | .hbm => 7
  | .vmem => 13
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x7168, .bf16⟩
  | .hbm, ⟨3, _⟩ => ⟨S2048x256, .bf16⟩
  | .hbm, ⟨4, _⟩ => ⟨S4x1x128, .f32⟩
  | .hbm, ⟨5, _⟩ => ⟨S16384x7168, .bf16⟩
  | .hbm, ⟨6, _⟩ => ⟨S16384x256, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S2048x1024, .bf16⟩
  | .local _ .vmem, ⟨4, _⟩ => ⟨S2048x1024, .bf16⟩
  | .local _ .vmem, ⟨5, _⟩ => ⟨S2048x256, .bf16⟩
  | .local _ .vmem, ⟨6, _⟩ => ⟨S1x1x128, .f32⟩
  | .local _ .vmem, ⟨7, _⟩ => ⟨S1x1x128, .f32⟩
  | .local _ .vmem, ⟨8, _⟩ => ⟨S1024x1024, .bf16⟩
  | .local _ .vmem, ⟨9, _⟩ => ⟨S1024x1024, .bf16⟩
  | .local _ .vmem, ⟨10, _⟩ => ⟨S1024x256, .f32⟩
  | .local _ .vmem, ⟨11, _⟩ => ⟨S1024x256, .f32⟩
  | .local _ .vmem, ⟨12, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![16, 7], ![false, false]⟩

def k0_cond2 (i : grid0.Coords) : BitVec 1 :=
  let arg1 : BitVec 32 := BitVec.ofNat 32 (i 1).val
  let c4_i32 : BitVec 32 := 4#32
  let v3 : BitVec 1 := Scalar.cmpi .slt arg1 c4_i32
  let v4 : BitVec 32 := Scalar.extui v3
  let c0_i32_1 : BitVec 32 := 0#32
  let v5 : BitVec 1 := Scalar.cmpi .ne v4 c0_i32_1
  v5

def k0_cond3 (i : grid0.Coords) : BitVec 1 :=
  let arg1 : BitVec 32 := BitVec.ofNat 32 (i 1).val
  let c4_i32_2 : BitVec 32 := 4#32
  let v6 : BitVec 1 := Scalar.cmpi .sge arg1 c4_i32_2
  let v7 : BitVec 32 := Scalar.extui v6
  let c0_i32_3 : BitVec 32 := 0#32
  let v8 : BitVec 1 := Scalar.cmpi .ne v7 c0_i32_3
  v8

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.minsi arg1 c3_i32
  let c0_i32 : BitVec 32 := 0#32
  let c0_i32_0 : BitVec 32 := 0#32
  let c0_i32_1 : BitVec 32 := 0#32
  ![v0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S2048x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S16384x2048 : Shape := ⟨2, ![16384, 2048]⟩
abbrev S1x2048 : Shape := ⟨2, ![1, 2048]⟩
abbrev S2048x7168 : Shape := ⟨2, ![2048, 7168]⟩
abbrev S2048x256 : Shape := ⟨2, ![2048, 256]⟩
abbrev S4x1x128 : Shape := ⟨3, ![4, 1, 128]⟩
abbrev S_ : Shape := ⟨0, ![]⟩
abbrev S16384 : Shape := ⟨1, ![16384]⟩
abbrev S16384x1 : Shape := ⟨2, ![16384, 1]⟩
abbrev S16384x7168 : Shape := ⟨2, ![16384, 7168]⟩
abbrev S16384x4096 : Shape := ⟨2, ![16384, 4096]⟩
abbrev S16384x4x8x128 : Shape := ⟨4, ![16384, 4, 8, 128]⟩
abbrev S1x4x1x128 : Shape := ⟨4, ![1, 4, 1, 128]⟩
abbrev S16384x4x8 : Shape := ⟨3, ![16384, 4, 8]⟩
abbrev S16384x4x8x1 : Shape := ⟨4, ![16384, 4, 8, 1]⟩
abbrev S16384x3072 : Shape := ⟨2, ![16384, 3072]⟩
abbrev S16384x256 : Shape := ⟨2, ![16384, 256]⟩

abbrev nBuf : Space → Nat
  | .hbm => 46
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S2048x7168, .bf16⟩
  | .hbm, ⟨3, _⟩ => ⟨S2048x256, .bf16⟩
  | .hbm, ⟨4, _⟩ => ⟨S4x1x128, .f32⟩
  | .hbm, ⟨5, _⟩ => ⟨S16384x2048, .f32⟩
  | .hbm, ⟨6, _⟩ => ⟨S_, .f32⟩
  | .hbm, ⟨7, _⟩ => ⟨S16384, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S_, .f32⟩
  | .hbm, ⟨13, _⟩ => ⟨S16384x1, .f32⟩
  | .hbm, ⟨14, _⟩ => ⟨S16384x1, .f32⟩
  | .hbm, ⟨15, _⟩ => ⟨S16384x1, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S16384x2048, .f32⟩
  | .hbm, ⟨20, _⟩ => ⟨S2048x7168, .f32⟩
  | .hbm, ⟨21, _⟩ => ⟨S16384x7168, .f32⟩
  | .hbm, ⟨22, _⟩ => ⟨S16384x4096, .f32⟩
  | .hbm, ⟨23, _⟩ => ⟨S16384x4x8x128, .f32⟩
  | .hbm, ⟨24, _⟩ => ⟨S1x4x1x128, .f32⟩
  | .hbm, ⟨25, _⟩ => ⟨S16384x4x8x128, .f32⟩
  | .hbm, ⟨26, _⟩ => ⟨S_, .f32⟩
  | .hbm, ⟨27, _⟩ => ⟨S16384x4x8, .f32⟩
  | .hbm, ⟨28, _⟩ => ⟨S16384x4x8x1, .f32⟩
  | .hbm, ⟨29, _⟩ => ⟨S_, .f32⟩
  | .hbm, ⟨30, _⟩ => ⟨S16384x4x8x1, .f32⟩
  | .hbm, ⟨31, _⟩ => ⟨S16384x4x8x1, .f32⟩
  | .hbm, ⟨32, _⟩ => ⟨S_, .f32⟩
  | .hbm, ⟨33, _⟩ => ⟨S16384x4x8x1, .f32⟩
  | .hbm, ⟨34, _⟩ => ⟨S16384x4x8x1, .f32⟩
  | .hbm, ⟨35, _⟩ => ⟨S16384x4x8x1, .f32⟩
  | .hbm, ⟨36, _⟩ => ⟨S16384x4x8x128, .f32⟩
  | .hbm, ⟨37, _⟩ => ⟨S16384x4x8x128, .f32⟩
  | .hbm, ⟨38, _⟩ => ⟨S16384x4x8x128, .f32⟩
  | .hbm, ⟨39, _⟩ => ⟨S16384x4x8x128, .f32⟩
  | .hbm, ⟨40, _⟩ => ⟨S16384x4096, .f32⟩
  | .hbm, ⟨41, _⟩ => ⟨S16384x3072, .f32⟩
  | .hbm, ⟨42, _⟩ => ⟨S16384x7168, .f32⟩
  | .hbm, ⟨43, _⟩ => ⟨S16384x7168, .bf16⟩
  | .hbm, ⟨44, _⟩ => ⟨S2048x256, .f32⟩
  | .hbm, ⟨45, _⟩ => ⟨S16384x256, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19 : Ref sig .tc := ⟨.hbm, 28, rfl⟩
abbrev main_cst_3 : Ref sig .tc := ⟨.hbm, 29, rfl⟩
abbrev main_v20 : Ref sig .tc := ⟨.hbm, 30, rfl⟩
abbrev main_v21 : Ref sig .tc := ⟨.hbm, 31, rfl⟩
abbrev main_cst_4 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩

abbrev nD : Nat := 1
abbrev τ : Topo := Topo.v7x

variable {F : FTy → Type} [FloatOps F]
-- ==== Kernel3.lean ====
abbrev S16384x1024 : Shape := ⟨2, ![16384, 1024]⟩
abbrev S16384x2048 : Shape := ⟨2, ![16384, 2048]⟩
abbrev S1024x2048 : Shape := ⟨2, ![1024, 2048]⟩
abbrev S1x2048 : Shape := ⟨2, ![1, 2048]⟩
abbrev S32x2048 : Shape := ⟨2, ![32, 2048]⟩
abbrev S32x1 : Shape := ⟨2, ![32, 1]⟩
abbrev S4x16384 : Shape := ⟨2, ![4, 16384]⟩
abbrev S32x128 : Shape := ⟨2, ![32, 128]⟩
abbrev S512x1024 : Shape := ⟨2, ![512, 1024]⟩
abbrev S512x2048 : Shape := ⟨2, ![512, 2048]⟩
abbrev S4x512 : Shape := ⟨2, ![4, 512]⟩
abbrev S512 : Shape := ⟨1, ![512]⟩
abbrev S512x1 : Shape := ⟨2, ![512, 1]⟩
abbrev S32x512 : Shape := ⟨2, ![32, 512]⟩
abbrev S1x512 : Shape := ⟨2, ![1, 512]⟩
abbrev S512x512 : Shape := ⟨2, ![512, 512]⟩
abbrev S32 : Shape := ⟨1, ![32]⟩

abbrev nBuf : Space → Nat
  | .hbm => 15
  | .vmem => 24
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S1024x2048, .bf16⟩
  | .hbm, ⟨4, _⟩ => ⟨S1024x2048, .bf16⟩
  | .hbm, ⟨5, _⟩ => ⟨S1x2048, .f32⟩
  | .hbm, ⟨6, _⟩ => ⟨S32x2048, .bf16⟩
  | .hbm, ⟨7, _⟩ => ⟨S32x2048, .bf16⟩
  | .hbm, ⟨8, _⟩ => ⟨S32x1, .f32⟩
  | .hbm, ⟨9, _⟩ => ⟨S16384x2048, .f32⟩
  | .hbm, ⟨10, _⟩ => ⟨S16384x2048, .f32⟩
  | .hbm, ⟨11, _⟩ => ⟨S4x16384, .i32⟩
  | .hbm, ⟨12, _⟩ => ⟨S4x16384, .i32⟩
  | .hbm, ⟨13, _⟩ => ⟨S4x16384, .f32⟩
  | .hbm, ⟨14, _⟩ => ⟨S32x128, .i32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S32x2048, .bf16⟩
  | .local _ .vmem, ⟨10, _⟩ => ⟨S32x2048, .bf16⟩
  | .local _ .vmem, ⟨11, _⟩ => ⟨S32x1, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S4x512, .i32⟩
  | .local _ .vmem, ⟨17, _⟩ => ⟨S4x512, .i32⟩
  | .local _ .vmem, ⟨18, _⟩ => ⟨S4x512, .i32⟩
  | .local _ .vmem, ⟨19, _⟩ => ⟨S4x512, .i32⟩
  | .local _ .vmem, ⟨20, _⟩ => ⟨S4x512, .f32⟩
  | .local _ .vmem, ⟨21, _⟩ => ⟨S4x512, .f32⟩
  | .local _ .vmem, ⟨22, _⟩ => ⟨S32x128, .i32⟩
  | .local _ .vmem, ⟨23, _⟩ => ⟨S32x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S32x128 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference3Ideal.lean ====
abbrev S16384x1024 : Shape := ⟨2, ![16384, 1024]⟩
abbrev S16384x2048 : Shape := ⟨2, ![16384, 2048]⟩
abbrev S1024x2048 : Shape := ⟨2, ![1024, 2048]⟩
abbrev S1x2048 : Shape := ⟨2, ![1, 2048]⟩
abbrev S32x2048 : Shape := ⟨2, ![32, 2048]⟩
abbrev S32x1 : Shape := ⟨2, ![32, 1]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩

abbrev nBuf : Space → Nat
  | .hbm => 30
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S1024x2048, .bf16⟩
  | .hbm, ⟨4, _⟩ => ⟨S1024x2048, .bf16⟩
  | .hbm, ⟨5, _⟩ => ⟨S1x2048, .f32⟩
  | .hbm, ⟨6, _⟩ => ⟨S32x2048, .bf16⟩
  | .hbm, ⟨7, _⟩ => ⟨S32x2048, .bf16⟩
  | .hbm, ⟨8, _⟩ => ⟨S32x1, .f32⟩
  | .hbm, ⟨9, _⟩ => ⟨S16384x2048, .bf16⟩
  | .hbm, ⟨10, _⟩ => ⟨S16384x2048, .f32⟩
  | .hbm, ⟨11, _⟩ => ⟨S2048x2048, .bf16⟩
  | .hbm, ⟨12, _⟩ => ⟨S2048x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩

abbrev nD : Nat := 1
abbrev τ : Topo := Topo.v7x

variable {F : FTy → Type} [FloatOps F]
-- ==== Kernel4.lean ====
abbrev S4x4096x256 : Shape := ⟨3, ![4, 4096, 256]⟩
abbrev S1x128 : Shape := ⟨2, ![1, 128]⟩
abbrev S4x4096x128 : Shape := ⟨3, ![4, 4096, 128]⟩
abbrev S4x8x4096 : Shape := ⟨3, ![4, 8, 4096]⟩
abbrev S4x8x512x128 : Shape := ⟨4, ![4, 8, 512, 128]⟩
abbrev S1x4096x256 : Shape := ⟨3, ![1, 4096, 256]⟩
abbrev S1x4096x128 : Shape := ⟨3, ![1, 4096, 128]⟩
abbrev S1x8x4096 : Shape := ⟨3, ![1, 8, 4096]⟩
abbrev S1x8x512x128 : Shape := ⟨4, ![1, 8, 512, 128]⟩
abbrev S4096x128 : Shape := ⟨2, ![4096, 128]⟩
abbrev S128x4096 : Shape := ⟨2, ![128, 4096]⟩
abbrev S8x4096 : Shape := ⟨2, ![8, 4096]⟩
abbrev S4096 : Shape := ⟨1, ![4096]⟩
abbrev S4096x1 : Shape := ⟨2, ![4096, 1]⟩
abbrev S512x128 : Shape := ⟨2, ![512, 128]⟩
abbrev S1x1x512x128 : Shape := ⟨4, ![1, 1, 512, 128]⟩

abbrev nBuf : Space → Nat
  | .hbm => 7
  | .vmem => 12
  | .smem => 0
  | _ => 0

abbrev bufTy : (tb : Table) → Fin (tcTables nBuf tb) → BufTy
  | .hbm, ⟨0, _⟩ => ⟨S4x4096x256, .f32⟩
  | .hbm, ⟨1, _⟩ => ⟨S1x128, .f32⟩
  | .hbm, ⟨2, _⟩ => ⟨S1x128, .f32⟩
  | .hbm, ⟨3, _⟩ => ⟨S4x4096x128, .f32⟩
  | .hbm, ⟨4, _⟩ => ⟨S4x8x4096, .f32⟩
  | .hbm, ⟨5, _⟩ => ⟨S4x8x512x128, .bf16⟩
  | .hbm, ⟨6, _⟩ => ⟨S4x8x512x128, .bf16⟩
  | .local _ .vmem, ⟨0, _⟩ => ⟨S1x4096x256, .f32⟩
  | .local _ .vmem, ⟨1, _⟩ => ⟨S1x4096x256, .f32⟩
  | .local _ .vmem, ⟨2, _⟩ => ⟨S1x128, .f32⟩
  | .local _ .vmem, ⟨3, _⟩ => ⟨S1x128, .f32⟩
  | .local _ .vmem, ⟨4, _⟩ => ⟨S1x4096x128, .f32⟩
  | .local _ .vmem, ⟨5, _⟩ => ⟨S1x4096x128, .f32⟩
  | .local _ .vmem, ⟨6, _⟩ => ⟨S1x8x4096, .f32⟩
  | .local _ .vmem, ⟨7, _⟩ => ⟨S1x8x4096, .f32⟩
  | .local _ .vmem, ⟨8, _⟩ => ⟨S1x8x512x128, .bf16⟩
  | .local _ .vmem, ⟨9, _⟩ => ⟨S1x8x512x128, .bf16⟩
  | .local _ .vmem, ⟨10, _⟩ => ⟨S1x8x512x128, .bf16⟩
  | .local _ .vmem, ⟨11, _⟩ => ⟨S1x8x512x128, .bf16⟩
  | _, _ => ⟨S4x4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev main_v0_2 : Ref sig .tc := ⟨.hbm, 5, rfl⟩
abbrev main_v0_3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_6 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x4096x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x8x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x8x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x8x512x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference4Ideal.lean ====
abbrev S4x4096x256 : Shape := ⟨3, ![4, 4096, 256]⟩
abbrev S1x128 : Shape := ⟨2, ![1, 128]⟩
abbrev S4x4096x128 : Shape := ⟨3, ![4, 4096, 128]⟩
abbrev S1x1x128 : Shape := ⟨3, ![1, 1, 128]⟩
abbrev S_ : Shape := ⟨0, ![]⟩
abbrev S4x4096 : Shape := ⟨2, ![4, 4096]⟩
abbrev S4x4096x1 : Shape := ⟨3, ![4, 4096, 1]⟩
abbrev S128 : Shape := ⟨1, ![128]⟩
abbrev S4x128x4096 : Shape := ⟨3, ![4, 128, 4096]⟩
abbrev S4x8x4096 : Shape := ⟨3, ![4, 8, 4096]⟩
abbrev S4x8x512x128 : Shape := ⟨4, ![4, 8, 512, 128]⟩

abbrev nBuf : Space → Nat
  | .hbm => 67
  | .vmem => 0
  | .smem => 0
  | _ => 0

abbrev bufTy : (tb : Table) → Fin (tcTables nBuf tb) → BufTy
  | .hbm, ⟨0, _⟩ => ⟨S4x4096x256, .f32⟩
  | .hbm, ⟨1, _⟩ => ⟨S1x128, .f32⟩
  | .hbm, ⟨2, _⟩ => ⟨S1x128, .f32⟩
  | .hbm, ⟨3, _⟩ => ⟨S4x4096x128, .f32⟩
  | .hbm, ⟨4, _⟩ => ⟨S1x1x128, .f32⟩
  | .hbm, ⟨5, _⟩ => ⟨S4x4096x128, .f32⟩
  | .hbm, ⟨6, _⟩ => ⟨S4x4096x128, .f32⟩
  | .hbm, ⟨7, _⟩ => ⟨S4x4096x128, .f32⟩
  | .hbm, ⟨8, _⟩ => ⟨S_, .f32⟩
  | .hbm, ⟨9, _⟩ => ⟨S4x4096x128, .f32⟩
  | .hbm, ⟨10, _⟩ => ⟨S4x4096x128, .f32⟩
  | .hbm, ⟨11, _⟩ => ⟨S4x4096x128, .f32⟩
  | .hbm, ⟨12, _⟩ => ⟨S4x4096x128, .f32⟩
  | .hbm, ⟨13, _⟩ => ⟨S4x4096x128, .i1⟩
  | .hbm, ⟨14, _⟩ => ⟨S4x4096x128, .f32⟩
  | .hbm, ⟨15, _⟩ => ⟨S4x4096x128, .f32⟩
  | .hbm, ⟨16, _⟩ => ⟨S4x4096x128, .f32⟩
  | .hbm, ⟨17, _⟩ => ⟨S4x4096x128, .f32⟩
  | .hbm, ⟨18, _⟩ => ⟨S4x4096x128, .f32⟩
  | .hbm, ⟨19, _⟩ => ⟨S4x4096x128, .f32⟩
  | .hbm, ⟨20, _⟩ => ⟨S4x4096x128, .f32⟩
  | .hbm, ⟨21, _⟩ => ⟨S4x4096x128, .f32⟩
  | .hbm, ⟨22, _⟩ => ⟨S4x4096x128, .f32⟩
  | .hbm, ⟨23, _⟩ => ⟨S_, .f32⟩
  | .hbm, ⟨24, _⟩ => ⟨S_, .f32⟩
  | .hbm, ⟨25, _⟩ => ⟨S4x4096x128, .f32⟩
  | .hbm, ⟨26, _⟩ => ⟨S4x4096x128, .f32⟩
  | .hbm, ⟨27, _⟩ => ⟨S4x4096x128, .f32⟩
  | .hbm, ⟨28, _⟩ => ⟨S_, .f32⟩
  | .hbm, ⟨29, _⟩ => ⟨S4x4096, .f32⟩
  | .hbm, ⟨30, _⟩ => ⟨S4x4096x1, .f32⟩
  | .hbm, ⟨31, _⟩ => ⟨S_, .f32⟩
  | .hbm, ⟨32, _⟩ => ⟨S4x4096x1, .f32⟩
  | .hbm, ⟨33, _⟩ => ⟨S4x4096x1, .f32⟩
  | .hbm, ⟨34, _⟩ => ⟨S_, .f32⟩
  | .hbm, ⟨35, _⟩ => ⟨S4x4096x1, .f32⟩
  | .hbm, ⟨36, _⟩ => ⟨S4x4096x1, .f32⟩
  | .hbm, ⟨37, _⟩ => ⟨S4x4096x1, .f32⟩
  | .hbm, ⟨38, _⟩ => ⟨S4x4096x128, .f32⟩
  | .hbm, ⟨39, _⟩ => ⟨S4x4096x128, .f32⟩
  | .hbm, ⟨40, _⟩ => ⟨S1x1x128, .f32⟩
  | .hbm, ⟨41, _⟩ => ⟨S4x4096x128, .f32⟩
  | .hbm, ⟨42, _⟩ => ⟨S4x4096x128, .f32⟩
  | .hbm, ⟨43, _⟩ => ⟨S128, .i32⟩
  | .hbm, ⟨44, _⟩ => ⟨S_, .i32⟩
  | .hbm, ⟨45, _⟩ => ⟨S128, .i32⟩
  | .hbm, ⟨46, _⟩ => ⟨S128, .i1⟩
  | .hbm, ⟨47, _⟩ => ⟨S_, .f32⟩
  | .hbm, ⟨48, _⟩ => ⟨S_, .f32⟩
  | .hbm, ⟨49, _⟩ => ⟨S4x4096x128, .i1⟩
  | .hbm, ⟨50, _⟩ => ⟨S4x4096x128, .f32⟩
  | .hbm, ⟨51, _⟩ => ⟨S4x4096x128, .f32⟩
  | .hbm, ⟨52, _⟩ => ⟨S4x4096x128, .bf16⟩
  | .hbm, ⟨53, _⟩ => ⟨S128, .i32⟩
  | .hbm, ⟨54, _⟩ => ⟨S_, .i32⟩
  | .hbm, ⟨55, _⟩ => ⟨S128, .i32⟩
  | .hbm, ⟨56, _⟩ => ⟨S128, .i1⟩
  | .hbm, ⟨57, _⟩ => ⟨S_, .f32⟩
  | .hbm, ⟨58, _⟩ => ⟨S_, .f32⟩
  | .hbm, ⟨59, _⟩ => ⟨S4x4096x128, .i1⟩
  | .hbm, ⟨60, _⟩ => ⟨S4x4096x128, .f32⟩
  | .hbm, ⟨61, _⟩ => ⟨S4x4096x128, .f32⟩
  | .hbm, ⟨62, _⟩ => ⟨S4x4096x128, .bf16⟩
  | .hbm, ⟨63, _⟩ => ⟨S4x128x4096, .f32⟩
  | .hbm, ⟨64, _⟩ => ⟨S4x8x4096, .f32⟩
  | .hbm, ⟨65, _⟩ => ⟨S4x8x512x128, .bf16⟩
  | .hbm, ⟨66, _⟩ => ⟨S4x8x512x128, .bf16⟩
  | _, _ => ⟨S4x4096x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_call0_v0 : Ref sig .tc := ⟨.hbm, 7, rfl⟩
abbrev main_call0_call0_cst : Ref sig .tc := ⟨.hbm, 8, rfl⟩
abbrev main_call0_call0_v0 : Ref sig .tc := ⟨.hbm, 9, rfl⟩
abbrev main_call0_call0_v1 : Ref sig .tc := ⟨.hbm, 10, rfl⟩
abbrev main_call0_call0_v2 : Ref sig .tc := ⟨.hbm, 11, rfl⟩
abbrev main_call0_call0_v3 : Ref sig .tc := ⟨.hbm, 12, rfl⟩
abbrev main_call0_call0_v4 : Ref sig .tc := ⟨.hbm, 13, rfl⟩
abbrev main_call0_call0_v5 : Ref sig .tc := ⟨.hbm, 14, rfl⟩
abbrev main_call0_call0_v6 : Ref sig .tc := ⟨.hbm, 15, rfl⟩
abbrev main_call0_call0_v7 : Ref sig .tc := ⟨.hbm, 16, rfl⟩
abbrev main_call0_call0_v8 : Ref sig .tc := ⟨.hbm, 17, rfl⟩
abbrev main_call0_call0_v9 : Ref sig .tc := ⟨.hbm, 18, rfl⟩
abbrev main_call0_call0_v10 : Ref sig .tc := ⟨.hbm, 19, rfl⟩
abbrev main_call0_call0_v11 : Ref sig .tc := ⟨.hbm, 20, rfl⟩
abbrev main_call0_v1 : Ref sig .tc := ⟨.hbm, 21, rfl⟩
abbrev main_v4 : Ref sig .tc := ⟨.hbm, 22, rfl⟩
abbrev main_call1_call0_cst : Ref sig .tc := ⟨.hbm, 23, rfl⟩
abbrev main_call1_call0_v0 : Ref sig .tc := ⟨.hbm, 24, rfl⟩
abbrev main_v5 : Ref sig .tc := ⟨.hbm, 25, rfl⟩
abbrev main_v6 : Ref sig .tc := ⟨.hbm, 26, rfl⟩
abbrev main_v7 : Ref sig .tc := ⟨.hbm, 27, rfl⟩
abbrev main_cst : Ref sig .tc := ⟨.hbm, 28, rfl⟩
abbrev main_v8 : Ref sig .tc := ⟨.hbm, 29, rfl⟩
abbrev main_v9 : Ref sig .tc := ⟨.hbm, 30, rfl⟩
abbrev main_cst_0 : Ref sig .tc := ⟨.hbm, 31, rfl⟩
abbrev main_v10 : Ref sig .tc := ⟨.hbm, 32, rfl⟩
abbrev main_v11 : Ref sig .tc := ⟨.hbm, 33, rfl⟩
abbrev main_cst_1 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_c : Ref sig .tc := ⟨.hbm, 44, rfl⟩
abbrev main_v21 : Ref sig .tc := ⟨.hbm, 45, rfl⟩
abbrev main_v22 : Ref sig .tc := ⟨.hbm, 46, rfl⟩
abbrev main_cst_2 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_c_3 : Ref sig .tc := ⟨.hbm, 54, rfl⟩
abbrev main_v26 : Ref sig .tc := ⟨.hbm, 55, rfl⟩
abbrev main_v27 : Ref sig .tc := ⟨.hbm, 56, rfl⟩
abbrev main_cst_4 : Ref sig .tc := ⟨.hbm, 57, rfl⟩
abbrev main_call3_v0 : Ref sig .tc := ⟨.hbm, 58, rfl⟩
abbrev main_call3_v1 : Ref sig .tc := ⟨.hbm, 59, rfl⟩
abbrev main_call3_v2 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩
abbrev main_v33 : Ref sig .tc := ⟨.hbm, 66, rfl⟩

abbrev nD : Nat := 1
abbrev τ : Topo := Topo.v7x

variable {F : FTy → Type} [FloatOps F]
-- ==== Kernel5.lean ====
abbrev S16384x1024 : Shape := ⟨2, ![16384, 1024]⟩
abbrev S16384x2048 : Shape := ⟨2, ![16384, 2048]⟩
abbrev S1024x2048 : Shape := ⟨2, ![1024, 2048]⟩
abbrev S1x2048 : Shape := ⟨2, ![1, 2048]⟩
abbrev S32x2048 : Shape := ⟨2, ![32, 2048]⟩
abbrev S32x1 : Shape := ⟨2, ![32, 1]⟩
abbrev S4x16384 : Shape := ⟨2, ![4, 16384]⟩
abbrev S32x128 : Shape := ⟨2, ![32, 128]⟩
abbrev S512x1024 : Shape := ⟨2, ![512, 1024]⟩
abbrev S512x2048 : Shape := ⟨2, ![512, 2048]⟩
abbrev S4x512 : Shape := ⟨2, ![4, 512]⟩
abbrev S512 : Shape := ⟨1, ![512]⟩
abbrev S512x1 : Shape := ⟨2, ![512, 1]⟩
abbrev S32x512 : Shape := ⟨2, ![32, 512]⟩
abbrev S1x512 : Shape := ⟨2, ![1, 512]⟩
abbrev S512x512 : Shape := ⟨2, ![512, 512]⟩
abbrev S32 : Shape := ⟨1, ![32]⟩

abbrev nBuf : Space → Nat
  | .hbm => 15
  | .vmem => 24
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S1024x2048, .bf16⟩
  | .hbm, ⟨4, _⟩ => ⟨S1024x2048, .bf16⟩
  | .hbm, ⟨5, _⟩ => ⟨S1x2048, .f32⟩
  | .hbm, ⟨6, _⟩ => ⟨S32x2048, .bf16⟩
  | .hbm, ⟨7, _⟩ => ⟨S32x2048, .bf16⟩
  | .hbm, ⟨8, _⟩ => ⟨S32x1, .f32⟩
  | .hbm, ⟨9, _⟩ => ⟨S16384x2048, .f32⟩
  | .hbm, ⟨10, _⟩ => ⟨S16384x2048, .f32⟩
  | .hbm, ⟨11, _⟩ => ⟨S4x16384, .i32⟩
  | .hbm, ⟨12, _⟩ => ⟨S4x16384, .i32⟩
  | .hbm, ⟨13, _⟩ => ⟨S4x16384, .f32⟩
  | .hbm, ⟨14, _⟩ => ⟨S32x128, .i32⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x2048, .f32⟩
  | .local _ .vmem, ⟨5, _⟩ => ⟨S512x2048, .f32⟩
  | .local _ .vmem, ⟨6, _⟩ => ⟨S1024x2048, .bf16⟩
  | .local _ .vmem, ⟨7, _⟩ => ⟨S1024x2048, .bf16⟩
  | .local _ .vmem, ⟨8, _⟩ => ⟨S1x2048, .f32⟩
  | .local _ .vmem, ⟨9, _⟩ => ⟨S32x2048, .bf16⟩
  | .local _ .vmem, ⟨10, _⟩ => ⟨S32x2048, .bf16⟩
  | .local _ .vmem, ⟨11, _⟩ => ⟨S32x1, .f32⟩
  | .local _ .vmem, ⟨12, _⟩ => ⟨S512x2048, .f32⟩
  | .local _ .vmem, ⟨13, _⟩ => ⟨S512x2048, .f32⟩
  | .local _ .vmem, ⟨14, _⟩ => ⟨S512x2048, .f32⟩
  | .local _ .vmem, ⟨15, _⟩ => ⟨S512x2048, .f32⟩
  | .local _ .vmem, ⟨16, _⟩ => ⟨S4x512, .i32⟩
  | .local _ .vmem, ⟨17, _⟩ => ⟨S4x512, .i32⟩
  | .local _ .vmem, ⟨18, _⟩ => ⟨S4x512, .i32⟩
  | .local _ .vmem, ⟨19, _⟩ => ⟨S4x512, .i32⟩
  | .local _ .vmem, ⟨20, _⟩ => ⟨S4x512, .f32⟩
  | .local _ .vmem, ⟨21, _⟩ => ⟨S4x512, .f32⟩
  | .local _ .vmem, ⟨22, _⟩ => ⟨S32x128, .i32⟩
  | .local _ .vmem, ⟨23, _⟩ => ⟨S32x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_stg12_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_stg14_0 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem9_1 : DmaSem sig := 13
abbrev cc0_sem10_0 : DmaSem sig := 14
abbrev cc0_sem10_1 : DmaSem sig := 15
abbrev cc0_sem11_0 : DmaSem sig := 16
abbrev cc0_sem11_1 : DmaSem sig := 17
abbrev cc0_sem12_0 : DmaSem sig := 18
abbrev cc0_sem12_1 : DmaSem sig := 19
abbrev cc0_sem13_0 : DmaSem sig := 20
abbrev cc0_sem13_1 : DmaSem sig := 21
abbrev cc0_sem14_0 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512 .i32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S4x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 1 → Memref sig .tc .vmem S32x128 .i32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== Reference5Ideal.lean ====
abbrev S16384x1024 : Shape := ⟨2, ![16384, 1024]⟩
abbrev S16384x2048 : Shape := ⟨2, ![16384, 2048]⟩
abbrev S1024x2048 : Shape := ⟨2, ![1024, 2048]⟩
abbrev S1x2048 : Shape := ⟨2, ![1, 2048]⟩
abbrev S32x2048 : Shape := ⟨2, ![32, 2048]⟩
abbrev S32x1 : Shape := ⟨2, ![32, 1]⟩
abbrev S2048x2048 : Shape := ⟨2, ![2048, 2048]⟩
abbrev S_ : Shape := ⟨0, ![]⟩
abbrev S16384 : Shape := ⟨1, ![16384]⟩
abbrev S16384x1 : Shape := ⟨2, ![16384, 1]⟩
abbrev S2048x32 : Shape := ⟨2, ![2048, 32]⟩
abbrev S16384x32 : Shape := ⟨2, ![16384, 32]⟩
abbrev S1x32 : Shape := ⟨2, ![1, 32]⟩
abbrev S16384x4 : Shape := ⟨2, ![16384, 4]⟩
abbrev S4x16384 : Shape := ⟨2, ![4, 16384]⟩

abbrev nBuf : Space → Nat
  | .hbm => 56
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x2048, .f32⟩
  | .hbm, ⟨3, _⟩ => ⟨S1024x2048, .bf16⟩
  | .hbm, ⟨4, _⟩ => ⟨S1024x2048, .bf16⟩
  | .hbm, ⟨5, _⟩ => ⟨S1x2048, .f32⟩
  | .hbm, ⟨6, _⟩ => ⟨S32x2048, .bf16⟩
  | .hbm, ⟨7, _⟩ => ⟨S32x2048, .bf16⟩
  | .hbm, ⟨8, _⟩ => ⟨S32x1, .f32⟩
  | .hbm, ⟨9, _⟩ => ⟨S16384x2048, .bf16⟩
  | .hbm, ⟨10, _⟩ => ⟨S16384x2048, .f32⟩
  | .hbm, ⟨11, _⟩ => ⟨S2048x2048, .bf16⟩
  | .hbm, ⟨12, _⟩ => ⟨S2048x2048, .f32⟩
  | .hbm, ⟨13, _⟩ => ⟨S16384x2048, .f32⟩
  | .hbm, ⟨14, _⟩ => ⟨S16384x2048, .f32⟩
  | .hbm, ⟨15, _⟩ => ⟨S16384x2048, .f32⟩
  | .hbm, ⟨16, _⟩ => ⟨S_, .f32⟩
  | .hbm, ⟨17, _⟩ => ⟨S16384, .f32⟩
  | .hbm, ⟨18, _⟩ => ⟨S16384x1, .f32⟩
  | .hbm, ⟨19, _⟩ => ⟨S_, .f32⟩
  | .hbm, ⟨20, _⟩ => ⟨S16384x1, .f32⟩
  | .hbm, ⟨21, _⟩ => ⟨S16384x1, .f32⟩
  | .hbm, ⟨22, _⟩ => ⟨S_, .f32⟩
  | .hbm, ⟨23, _⟩ => ⟨S16384x1, .f32⟩
  | .hbm, ⟨24, _⟩ => ⟨S16384x1, .f32⟩
  | .hbm, ⟨25, _⟩ => ⟨S16384x1, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S32x2048, .f32⟩
  | .hbm, ⟨31, _⟩ => ⟨S32x2048, .f32⟩
  | .hbm, ⟨32, _⟩ => ⟨S32x2048, .f32⟩
  | .hbm, ⟨33, _⟩ => ⟨S2048x32, .f32⟩
  | .hbm, ⟨34, _⟩ => ⟨S16384x32, .f32⟩
  | .hbm, ⟨35, _⟩ => ⟨S1x32, .f32⟩
  | .hbm, ⟨36, _⟩ => ⟨S16384x32, .f32⟩
  | .hbm, ⟨37, _⟩ => ⟨S16384x32, .f32⟩
  | .hbm, ⟨38, _⟩ => ⟨S16384x4, .f32⟩
  | .hbm, ⟨39, _⟩ => ⟨S16384x4, .i32⟩
  | .hbm, ⟨40, _⟩ => ⟨S4x16384, .i32⟩
  | .hbm, ⟨41, _⟩ => ⟨S_, .f32⟩
  | .hbm, ⟨42, _⟩ => ⟨S16384, .f32⟩
  | .hbm, ⟨43, _⟩ => ⟨S_, .f32⟩
  | .hbm, ⟨44, _⟩ => ⟨S16384, .f32⟩
  | .hbm, ⟨45, _⟩ => ⟨S16384, .f32⟩
  | .hbm, ⟨46, _⟩ => ⟨S16384x1, .f32⟩
  | .hbm, ⟨47, _⟩ => ⟨S16384x4, .f32⟩
  | .hbm, ⟨48, _⟩ => ⟨S16384x4, .f32⟩
  | .hbm, ⟨49, _⟩ => ⟨S16384x4, .f32⟩
  | .hbm, ⟨50, _⟩ => ⟨S_, .f32⟩
  | .hbm, ⟨51, _⟩ => ⟨S16384, .f32⟩
  | .hbm, ⟨52, _⟩ => ⟨S16384x1, .f32⟩
  | .hbm, ⟨53, _⟩ => ⟨S16384x4, .f32⟩
  | .hbm, ⟨54, _⟩ => ⟨S16384x4, .f32⟩
  | .hbm, ⟨55, _⟩ => ⟨S4x16384, .f32⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_v8 : Ref sig .tc := ⟨.hbm, 18, rfl⟩
abbrev main_cst_0 : Ref sig .tc := ⟨.hbm, 19, rfl⟩
abbrev main_v9 : Ref sig .tc := ⟨.hbm, 20, rfl⟩
abbrev main_v10 : Ref sig .tc := ⟨.hbm, 21, rfl⟩
abbrev main_cst_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_values : Ref sig .tc := ⟨.hbm, 38, rfl⟩
abbrev main_indices : Ref sig .tc := ⟨.hbm, 39, rfl⟩
abbrev main_v26 : Ref sig .tc := ⟨.hbm, 40, rfl⟩
abbrev main_cst_2 : Ref sig .tc := ⟨.hbm, 41, rfl⟩
abbrev main_v27 : Ref sig .tc := ⟨.hbm, 42, rfl⟩
abbrev main_cst_3 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_4 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩

abbrev nD : Nat := 1
abbrev τ : Topo := Topo.v7x

variable {F : FTy → Type} [FloatOps F]
-- ==== Proof.BitsRunValues.lean ====
module

public import proofs.«01_k».proof.Proof.Gen.Kernel.Flash.Runs
public import Idealize.ShloMosaic.Lib.Pipeline.ValueKit

@[expose] public section

set_option maxRecDepth 16384

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The word the body reads of the second table. -/
abbrev nuWord (T1 : S1.Idx → Elt Bits .i32) : BitVec 32 :=
  View.readAt (Elt Bits) (tbM0_1).view (Rect.unit (s := S1) ![0] S1.size inb_S1_S1_0).toLoadRect T1 (Shape.Idx.first (numel1_S1.symm ▸ Nat.one_pos))

section
variable (c : Dev nD) (i : grid0.Coords) (arg4 : Memref sig .tc .vmem S512x2048 .f32) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x2048 .bf16) (harg9 : arg9.IsWhole) (arg10 : Memref sig .tc .vmem S1x1x2048 .f32) (harg10 : arg10.IsWhole) (arg11 : Memref sig .tc .vmem S512x2048 .f32) (harg11 : arg11.IsWhole) (T0 : (S160.Idx → Elt Bits .i32)) (T1 : (S1.Idx → Elt Bits .i32))
     (x0 : (S512x2048.Idx → Elt Bits .f32)) (x1 : (S1x2048x1024.Idx → Elt Bits .bf16)) (x2 : (S1x2048x1024.Idx → Elt Bits .bf16)) (x3 : (S1x1x1024.Idx → Elt Bits .f32)) (x4 : (S1x1x1024.Idx → Elt Bits .f32)) (x5 : (S1x1024x2048.Idx → Elt Bits .bf16)) (x6 : (S1x1x2048.Idx → Elt Bits .f32))
  (xa0 : Buf (Elt Bits) ((c : Thread nD τ).loc cc0_scratch0)) (xa1 : Buf (Elt Bits) ((c : Thread nD τ).loc cc0_scratch1))

/-- After a used tile's first half the first scratch buffer holds the narrowed token tile. -/
theorem runA_scratch0 (h1 h2 h3 h4) :
    (kernelRun0_A c i arg4 harg4 arg5 harg5 arg6 harg6 arg7 harg7 arg8 harg8 arg9 harg9 arg10 harg10 arg11 harg11 T0 T1 x0 x1 x2 x3 x4 x5 x6 h1 h2 h3 h4).1
      = k0_pay4 (F := Bits) x0 := by
  unfold kernelRun0_A
  dsimp only
  funext y
  refine (congrFun (View.read_whole (Val := Elt Bits) cc0_scratch0 _).symm y).trans ?_
  frame_out [View.read_rep]
  exact congrFun (View.canon_cons_unit_lit (S := S512x2048) inb_S512x2048_S512x2048_0_0 _ _ (by decide)) y

/-- After a used tile's first half the second scratch buffer holds the partial product over the first half of the hidden columns. -/
theorem runA_scratch1 (h1 h2 h3 h4) :
    (kernelRun0_A c i arg4 harg4 arg5 harg5 arg6 harg6 arg7 harg7 arg8 harg8 arg9 harg9 arg10 harg10 arg11 harg11 T0 T1 x0 x1 x2 x3 x4 x5 x6 h1 h2 h3 h4).2.1
      = k0_pay1 (F := Bits) (k0_pay6 (F := Bits) (k0_pay4 (F := Bits) x0) x1 x3) (k0_pay7 (F := Bits) (k0_pay4 (F := Bits) x0) x2 x4) (k0_pay5 (F := Bits)) x5 := by
  unfold kernelRun0_A
  dsimp only
  funext y
  refine (congrFun (View.read_whole (Val := Elt Bits) cc0_scratch1 _).symm y).trans ?_
  frame_out [View.read_rep]
  exact congrFun (View.canon_cons_unit_lit (S := S512x2048) inb_S512x2048_S512x2048_0_0 _ _ (by decide)) y

/-- After a used tile's second half the output block holds the whole product with the expert's output bias. -/
theorem runB_out (h1 h2 h3 h4) :
    out0_B_7 c i arg4 harg4 arg5 harg5 arg6 harg6 arg7 harg7 arg8 harg8 arg9 harg9 arg10 harg10 arg11 harg11 T0 T1 x0 x1 x2 x3 x4 x5 x6 xa0 xa1 h1 h2 h3 h4
      = k0_pay2 (F := Bits) (k0_pay1 (F := Bits) (k0_pay6 (F := Bits) xa0 x1 x3) (k0_pay7 (F := Bits) xa0 x2 x4) xa1 x5) x6 := by
  funext y
  frame_out [View.read_rep, View.read_whole]

/-- After an unused tile's second half the output block holds zeros. -/
theorem runD_out (h1 h4) :
    out0_D_7 c i arg4 harg4 arg5 harg5 arg6 harg6 arg7 harg7 arg8 harg8 arg9 harg9 arg10 harg10 arg11 harg11 T0 T1 x0 x1 x2 x3 x4 x5 x6 xa0 xa1 h1 h4
      = k0_pay3 (F := Bits) := by
  funext y
  frame_out

end
end Cert.Kernel.Experts
end
-- ==== Proof.BitsRun.lean ====
module

public import proofs.«01_k».proof.Proof.BitsRunValues
public import proofs.«01_k».proof.Proof.BitsTables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.Adequacy
public import Idealize.ShloMosaic.Init

@[expose] public section

set_option maxRecDepth 16384
set_option Elab.async false

noncomputable section

namespace Cert.Kernel.Experts

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The machine's resources at this program. -/
local notation "𝕄" => MT nD τ sig Unit (Elt Bits) ℕ (UR sig nD τ) ℕ

/-- The rounds library's algebra, embedded whole. -/
abbrev EP : Emb (UR sig nD τ) 𝕄 := emb₁

variable {T0 : S160.Idx → BitVec 32} {T1 : S1.Idx → BitVec 32} (hr : Routed T0 T1)

/-! ## The pipeline at the two tables, whatever words they hold -/

/-- The tables as contents the pipeline admits. -/
def adm : (pcfg0 (F := Bits)).Adm := ⟨tabs T0 T1, tables_ok hr⟩
/-- The pipeline at the tables. -/
abbrev cfgA : Pipeline.Cfg sig Λ₀ := cfg0 (F := Bits) (adm hr)
/-- The program's pipelines at the tables. -/
abbrev pcs : Fin 1 → Pipeline.Cfg sig Λ₀ := Pipeline.pin (pcfgs (F := Bits)) fun _ => adm hr

variable (m : (ℓ : Loc nD τ sig) → Buf (Elt Bits) ℓ) (ρ : Dev nD → PrngReg)

/-- Point `t`'s coordinates. -/
abbrev crd (t : Fin (cfgA hr).N) : (cfgA hr).grid.Coords := (cfgA hr).grid.coords t

/-- The buffer window 0 stages its block in at point `t`. -/
abbrev ms0_0 (t : Fin (cfgA hr).N) : Memref sig .tc .vmem S512x2048 .f32 := spec0_0.stage ((cfgA hr).slots t (0 : Fin 8))
/-- Window 0's staging buffer is a whole buffer. -/
abbrev hs0_0 (t : Fin (cfgA hr).N) : (ms0_0 hr t).IsWhole := hstage0_0 (((cfgA hr).slots t (0 : Fin 8)).cast nbuf0_0)

/-- The buffer window 1 stages its block in at point `t`. -/
abbrev ms0_1 (t : Fin (cfgA hr).N) : Memref sig .tc .vmem S1x2048x1024 .bf16 := spec0_1.stage ((cfgA hr).slots t (1 : Fin 8))
/-- Window 1's staging buffer is a whole buffer. -/
abbrev hs0_1 (t : Fin (cfgA hr).N) : (ms0_1 hr t).IsWhole := hstage0_1 (((cfgA hr).slots t (1 : Fin 8)).cast nbuf0_1)

/-- The buffer window 2 stages its block in at point `t`. -/
abbrev ms0_2 (t : Fin (cfgA hr).N) : Memref sig .tc .vmem S1x2048x1024 .bf16 := spec0_2.stage ((cfgA hr).slots t (2 : Fin 8))
/-- Window 2's staging buffer is a whole buffer. -/
abbrev hs0_2 (t : Fin (cfgA hr).N) : (ms0_2 hr t).IsWhole := hstage0_2 (((cfgA hr).slots t (2 : Fin 8)).cast nbuf0_2)

/-- The buffer window 3 stages its block in at point `t`. -/
abbrev ms0_3 (t : Fin (cfgA hr).N) : Memref sig .tc .vmem S1x1x1024 .f32 := spec0_3.stage ((cfgA hr).slots t (3 : Fin 8))
/-- Window 3's staging buffer is a whole buffer. -/
abbrev hs0_3 (t : Fin (cfgA hr).N) : (ms0_3 hr t).IsWhole := hstage0_3 (((cfgA hr).slots t (3 : Fin 8)).cast nbuf0_3)

/-- The buffer window 4 stages its block in at point `t`. -/
abbrev ms0_4 (t : Fin (cfgA hr).N) : Memref sig .tc .vmem S1x1x1024 .f32 := spec0_4.stage ((cfgA hr).slots t (4 : Fin 8))
/-- Window 4's staging buffer is a whole buffer. -/
abbrev hs0_4 (t : Fin (cfgA hr).N) : (ms0_4 hr t).IsWhole := hstage0_4 (((cfgA hr).slots t (4 : Fin 8)).cast nbuf0_4)

/-- The buffer window 5 stages its block in at point `t`. -/
abbrev ms0_5 (t : Fin (cfgA hr).N) : Memref sig .tc .vmem S1x1024x2048 .bf16 := spec0_5.stage ((cfgA hr).slots t (5 : Fin 8))
/-- Window 5's staging buffer is a whole buffer. -/
abbrev hs0_5 (t : Fin (cfgA hr).N) : (ms0_5 hr t).IsWhole := hstage0_5 (((cfgA hr).slots t (5 : Fin 8)).cast nbuf0_5)

/-- The buffer window 6 stages its block in at point `t`. -/
abbrev ms0_6 (t : Fin (cfgA hr).N) : Memref sig .tc .vmem S1x1x2048 .f32 := spec0_6.stage ((cfgA hr).slots t (6 : Fin 8))
/-- Window 6's staging buffer is a whole buffer. -/
abbrev hs0_6 (t : Fin (cfgA hr).N) : (ms0_6 hr t).IsWhole := hstage0_6 (((cfgA hr).slots t (6 : Fin 8)).cast nbuf0_6)

/-- The buffer window 7 stages its block in at point `t`. -/
abbrev ms0_7 (t : Fin (cfgA hr).N) : Memref sig .tc .vmem S512x2048 .f32 := spec0_7.stage ((cfgA hr).slots t (7 : Fin 8))
/-- Window 7's staging buffer is a whole buffer. -/
abbrev hs0_7 (t : Fin (cfgA hr).N) : (ms0_7 hr t).IsWhole := hstage0_7 (((cfgA hr).slots t (7 : Fin 8)).cast nbuf0_7)

/-- Window `w`'s block at point `t`, read off its array at the launch. -/
def iblk (c : Dev nD) (w : Fin (cfgA hr).W) (t : Fin (cfgA hr).N) : (((cfgA hr).win w).xblock (crd hr t)).Idx → Elt Bits ((cfgA hr).win w).elt :=
  (((cfgA hr).win w).blk t).view.read (Elt Bits) ((s₀ m ρ).mem (((cfgA hr).win w).arr.view.loc (c : Thread nD τ)))

/-! ## The schedule: which points store the output block and write it back -/

/-- When the output block is written back, point by point. -/
theorem flush_table : ∀ t : Fin grid0.N,
    (true && (t.val + 1 = grid0.N || decide (∃ h : t.val + 1 < grid0.N, cc0_transform_7 (grid0.coords ⟨t.val + 1, h⟩) ≠ cc0_transform_7 (grid0.coords t))))
      = decide (t.val % 2 = 1) := by decide +kernel

/-- The output block is written back after a tile's second half. -/
theorem flush7 (t : Fin (cfgA hr).N) : ((cfgA hr).win (7 : Fin 8)).flush t = decide (t.val % 2 = 1) := flush_table t

/-- The word the body reads of the second table. -/
theorem nuWord_eq (T1 : S1.Idx → BitVec 32) : nuWord T1 = T1 (ix1 0) := congrArg T1 (one_index _)

/-- A tile's first half stores nothing into the output block; its second half does. -/
theorem idle7 (t : Fin (cfgA hr).N) : (cfgA hr).idle (7 : Fin 8) ((cfgA hr).grid.coords t) = decide (t.val % 2 = 0) := by
  have hv : ((grid0.coords t) 1).val = t.val % 2 := (coords_val t).2
  show (!(k0_cond1 (grid0.coords t) ((tabs T0 T1).atD 1 ![0]) == 1#1 && k0_cond3 (grid0.coords t) == 1#1) && !(k0_cond4 (grid0.coords t) ((tabs T0 T1).atD 1 ![0]) == 1#1)) = _
  generalize (tabs T0 T1).atD 1 ![0] = w
  have e3 := cond3_iff (grid0.coords t)
  have e1 := cond1_iff (grid0.coords t) w
  have e4 := cond4_iff (grid0.coords t) w
  rw [← e1] at e4
  rw [hv] at e3 e4
  rw [Bool.eq_iff_iff]
  simp only [Bool.and_eq_true, Bool.not_eq_true', Bool.and_eq_false_iff, beq_eq_false_iff_ne, ne_eq, decide_eq_true_eq, e3, e4]
  by_cases h : k0_cond1 (grid0.coords t) w = 1#1
  · simp only [h, not_true_eq_false, false_or, false_and, not_false_eq_true, and_true]; omega
  · simp only [h, not_false_eq_true, true_or, true_and]; omega

/-- So the block never holds anything stored when the body starts. -/
theorem fresh7 (n : Nat) (hn : n ≤ (cfgA hr).N) : (cfgA hr).fresh (7 : Fin 8) n = true :=
  Pipeline.Cfg.fresh_tab (cfgA hr) (7 : Fin 8) (fun _ => true) rfl (fun t => by
    rw [flush7, idle7]
    rcases Nat.mod_two_eq_zero_or_one t.val with h | h <;> rw [h] <;> rfl) n hn

/-! ## What the scratch buffers and the output block hold -/

/-- The narrowed token tile a tile's first half leaves in the first scratch buffer. -/
def tileTokens (c : Dev nD) (t : Fin (cfgA hr).N) : FVec Bits S512x2048 .bf16 := k0_pay4 (F := Bits) (iblk hr m ρ c (0 : Fin 8) t)

/-- The partial product over the first half of the hidden columns, left in the second scratch buffer. -/
def tilePartial (c : Dev nD) (t : Fin (cfgA hr).N) : FVec Bits S512x2048 .f32 :=
  k0_pay1 (F := Bits) (k0_pay6 (F := Bits) (tileTokens hr m ρ c t) (iblk hr m ρ c (1 : Fin 8) t) (iblk hr m ρ c (3 : Fin 8) t))
    (k0_pay7 (F := Bits) (tileTokens hr m ρ c t) (iblk hr m ρ c (2 : Fin 8) t) (iblk hr m ρ c (4 : Fin 8) t)) (k0_pay5 (F := Bits)) (iblk hr m ρ c (5 : Fin 8) t)

/-- The point before. -/
def prevPt (t : Fin (cfgA hr).N) : Fin (cfgA hr).N := ⟨t.val - 1, Nat.lt_of_le_of_lt (Nat.sub_le _ _) t.isLt⟩

/-- A used tile's block after its second half. -/
def tileOut (c : Dev nD) (t : Fin (cfgA hr).N) : FVec Bits S512x2048 .f32 :=
  k0_pay2 (F := Bits) (k0_pay1 (F := Bits) (k0_pay6 (F := Bits) (tileTokens hr m ρ c (prevPt hr t)) (iblk hr m ρ c (1 : Fin 8) t) (iblk hr m ρ c (3 : Fin 8) t))
    (k0_pay7 (F := Bits) (tileTokens hr m ρ c (prevPt hr t)) (iblk hr m ρ c (2 : Fin 8) t) (iblk hr m ρ c (4 : Fin 8) t)) (tilePartial hr m ρ c (prevPt hr t)) (iblk hr m ρ c (5 : Fin 8) t))
    (iblk hr m ρ c (6 : Fin 8) t)

/-- What the output block holds after point `t`. -/
def outAfter (c : Dev nD) (t : Fin (cfgA hr).N) : FVec Bits S512x2048 .f32 :=
  if t.val % 2 = 1 then (if live T1 (crd hr t) then tileOut hr m ρ c t else k0_pay3 (F := Bits)) else default

/-- Between points: the scratch buffers, which after a used tile's first half hold that tile's narrowed tokens and partial
    product, and the body's share of the tables. -/
def Phi (c : Dev nD) (t : Fin ((cfgA hr).N + 1)) : sProp 𝕄 :=
  iprop(∃ a0, ∃ a1, ⌜∀ s : Fin (cfgA hr).N, s.val + 1 = t.val → s.val % 2 = 0 → live T1 (crd hr s) → a0 = tileTokens hr m ρ c s ∧ a1 = tilePartial hr m ρ c s⌝
    ∗ (scM0_0.view.loc (c : Thread nD τ) ↦{fullShare} a0) ∗ (scM0_1.view.loc (c : Thread nD τ) ↦{fullShare} a1)
    ∗ (tbM0_0.view.loc (c : Thread nD τ) ↦{fullShare.right} T0) ∗ (tbM0_1.view.loc (c : Thread nD τ) ↦{fullShare.right} T1))

/-- The pipeline's proof data. -/
def dats (_ : Fin 1) (c : Dev nD) : Dat τ (Elt Bits) Unit ℕ (UR sig nD τ) ℕ (cfgA hr) c where
  A w := (s₀ m ρ).mem (((cfgA hr).win w).arr.view.loc (c : Thread nD τ))
  after w t := match w with
    | ⟨0, _⟩ => iblk hr m ρ c (0 : Fin 8) t
    | ⟨1, _⟩ => iblk hr m ρ c (1 : Fin 8) t
    | ⟨2, _⟩ => iblk hr m ρ c (2 : Fin 8) t
    | ⟨3, _⟩ => iblk hr m ρ c (3 : Fin 8) t
    | ⟨4, _⟩ => iblk hr m ρ c (4 : Fin 8) t
    | ⟨5, _⟩ => iblk hr m ρ c (5 : Fin 8) t
    | ⟨6, _⟩ => iblk hr m ρ c (6 : Fin 8) t
    | ⟨7, _⟩ => outAfter hr m ρ c t
  Φ t := Phi hr m ρ c t
  q _ := fullShare
  owed _ := 0

/-- The output block after a used tile's second half. -/
theorem after7_live (c : Dev nD) (t : Fin (cfgA hr).N) (hf : t.val % 2 = 1) (hl : live T1 (crd hr t)) :
    (dats hr m ρ 0 c).after (7 : Fin 8) t = tileOut hr m ρ c t := by
  show outAfter hr m ρ c t = _
  unfold outAfter
  rw [if_pos hf, if_pos hl]

/-- The output block after an unused tile's second half. -/
theorem after7_dead (c : Dev nD) (t : Fin (cfgA hr).N) (hf : t.val % 2 = 1) (hl : ¬live T1 (crd hr t)) :
    (dats hr m ρ 0 c).after (7 : Fin 8) t = k0_pay3 (F := Bits) := by
  show outAfter hr m ρ c t = _
  unfold outAfter
  rw [if_pos hf, if_neg hl]

/-- A second half and the first half before it belong to one tile. -/
theorem tile_prev (t : Fin (cfgA hr).N) (hf : t.val % 2 = 1) : (crd hr (prevPt hr t)) 0 = (crd hr t) 0 := by
  apply Fin.ext
  have a := (coords_val t).1
  have b := (coords_val (prevPt hr t)).1
  refine b.trans (Eq.trans ?_ a.symm)
  show (t.val - 1) / 2 = t.val / 2
  omega

/-- A tile in use at its second half is in use at its first. -/
theorem live_prev (t : Fin (cfgA hr).N) (hf : t.val % 2 = 1) (hl : live T1 (crd hr t)) : live T1 (crd hr (prevPt hr t)) := by
  unfold live at hl ⊢
  rw [tile_prev hr t hf]
  exact hl

/-- Input window 0 holds its block when the body runs. -/
theorem before0_0 (c : Dev nD) (t : Fin (cfgA hr).N) (d) : (dats hr m ρ 0 c).before (0 : Fin 8) t d = iblk hr m ρ c (0 : Fin 8) t :=
  ((dats hr m ρ 0 c).before_in_eq_fetched (0 : Fin 8) rfl (fun _ => rfl) (fun _ _ _ => rfl)
    (fun t => by rw [show (dats hr m ρ 0 c).after (0 : Fin 8) t = iblk hr m ρ c (0 : Fin 8) t from rfl]; unfold Dat.blockOf iblk; rfl) t d).trans
    (by unfold Dat.fetched Dat.blockOf iblk; rfl)

/-- Input window 1 holds its block when the body runs. -/
theorem before0_1 (c : Dev nD) (t : Fin (cfgA hr).N) (d) : (dats hr m ρ 0 c).before (1 : Fin 8) t d = iblk hr m ρ c (1 : Fin 8) t :=
  ((dats hr m ρ 0 c).before_in_eq_fetched (1 : Fin 8) rfl (fun _ => rfl) (fun _ _ _ => rfl)
    (fun t => by rw [show (dats hr m ρ 0 c).after (1 : Fin 8) t = iblk hr m ρ c (1 : Fin 8) t from rfl]; unfold Dat.blockOf iblk; rfl) t d).trans
    (by unfold Dat.fetched Dat.blockOf iblk; rfl)

/-- Input window 2 holds its block when the body runs. -/
theorem before0_2 (c : Dev nD) (t : Fin (cfgA hr).N) (d) : (dats hr m ρ 0 c).before (2 : Fin 8) t d = iblk hr m ρ c (2 : Fin 8) t :=
  ((dats hr m ρ 0 c).before_in_eq_fetched (2 : Fin 8) rfl (fun _ => rfl) (fun _ _ _ => rfl)
    (fun t => by rw [show (dats hr m ρ 0 c).after (2 : Fin 8) t = iblk hr m ρ c (2 : Fin 8) t from rfl]; unfold Dat.blockOf iblk; rfl) t d).trans
    (by unfold Dat.fetched Dat.blockOf iblk; rfl)

/-- Input window 3 holds its block when the body runs. -/
theorem before0_3 (c : Dev nD) (t : Fin (cfgA hr).N) (d) : (dats hr m ρ 0 c).before (3 : Fin 8) t d = iblk hr m ρ c (3 : Fin 8) t :=
  ((dats hr m ρ 0 c).before_in_eq_fetched (3 : Fin 8) rfl (fun _ => rfl) (fun _ _ _ => rfl)
    (fun t => by rw [show (dats hr m ρ 0 c).after (3 : Fin 8) t = iblk hr m ρ c (3 : Fin 8) t from rfl]; unfold Dat.blockOf iblk; rfl) t d).trans
    (by unfold Dat.fetched Dat.blockOf iblk; rfl)

/-- Input window 4 holds its block when the body runs. -/
theorem before0_4 (c : Dev nD) (t : Fin (cfgA hr).N) (d) : (dats hr m ρ 0 c).before (4 : Fin 8) t d = iblk hr m ρ c (4 : Fin 8) t :=
  ((dats hr m ρ 0 c).before_in_eq_fetched (4 : Fin 8) rfl (fun _ => rfl) (fun _ _ _ => rfl)
    (fun t => by rw [show (dats hr m ρ 0 c).after (4 : Fin 8) t = iblk hr m ρ c (4 : Fin 8) t from rfl]; unfold Dat.blockOf iblk; rfl) t d).trans
    (by unfold Dat.fetched Dat.blockOf iblk; rfl)

/-- Input window 5 holds its block when the body runs. -/
theorem before0_5 (c : Dev nD) (t : Fin (cfgA hr).N) (d) : (dats hr m ρ 0 c).before (5 : Fin 8) t d = iblk hr m ρ c (5 : Fin 8) t :=
  ((dats hr m ρ 0 c).before_in_eq_fetched (5 : Fin 8) rfl (fun _ => rfl) (fun _ _ _ => rfl)
    (fun t => by rw [show (dats hr m ρ 0 c).after (5 : Fin 8) t = iblk hr m ρ c (5 : Fin 8) t from rfl]; unfold Dat.blockOf iblk; rfl) t d).trans
    (by unfold Dat.fetched Dat.blockOf iblk; rfl)

/-- Input window 6 holds its block when the body runs. -/
theorem before0_6 (c : Dev nD) (t : Fin (cfgA hr).N) (d) : (dats hr m ρ 0 c).before (6 : Fin 8) t d = iblk hr m ρ c (6 : Fin 8) t :=
  ((dats hr m ρ 0 c).before_in_eq_fetched (6 : Fin 8) rfl (fun _ => rfl) (fun _ _ _ => rfl)
    (fun t => by rw [show (dats hr m ρ 0 c).after (6 : Fin 8) t = iblk hr m ρ c (6 : Fin 8) t from rfl]; unfold Dat.blockOf iblk; rfl) t d).trans
    (by unfold Dat.fetched Dat.blockOf iblk; rfl)

/-- The output window's buffer holds something unspecified when the body runs. -/
theorem before0_7 (c : Dev nD) (t : Fin (cfgA hr).N) (d) : (dats hr m ρ 0 c).before (7 : Fin 8) t d = d := by
  rw [(dats hr m ρ 0 c).before_out_traj (7 : Fin 8) rfl (fun _ _ => rfl)
    (fun t ht hi hf => absurd (hf.symm.trans (fresh7 hr t.val (Nat.le_of_lt t.isLt))) Bool.false_ne_true) t.val t rfl d]
  exact if_pos (fresh7 hr t.val (Nat.le_of_lt t.isLt))

/-! ## The body, path by path -/

/-- The body at point `t` on its staging buffers. -/
abbrev bodyAt0 (t : Fin (cfgA hr).N) : Prog (TpuEff nD τ sig (Elt Bits) Λ₀ .tc) PUnit :=
  cc0_moe_experts (crd hr t) (Memref.whole main_arg0) (Memref.isWhole_whole _) (Memref.whole main_arg1) (Memref.isWhole_whole _) (ms0_0 hr t) (hs0_0 hr t) (ms0_1 hr t) (hs0_1 hr t) (ms0_2 hr t) (hs0_2 hr t) (ms0_3 hr t) (hs0_3 hr t) (ms0_4 hr t) (hs0_4 hr t) (ms0_5 hr t) (hs0_5 hr t) (ms0_6 hr t) (hs0_6 hr t) (ms0_7 hr t) (hs0_7 hr t) (Memref.whole cc0_scratch0) (Memref.isWhole_whole _) (Memref.whole cc0_scratch1) (Memref.isWhole_whole _)

/-- What the pipeline asks of the body at point `t`. -/
def BodyAt (c : Dev nD) (t : Fin (cfgA hr).N) : Prop :=
    iprop((dats hr m ρ 0 c).Φ t.castSucc ∗ (dats hr m ρ 0 c).owesAt () t.castSucc
        ∗ (∃ d, owns (c : Thread nD τ) (ms0_0 hr t) fullShare ((dats hr m ρ 0 c).before (0 : Fin 8) t d))
        ∗ (∃ d, owns (c : Thread nD τ) (ms0_1 hr t) fullShare ((dats hr m ρ 0 c).before (1 : Fin 8) t d))
        ∗ (∃ d, owns (c : Thread nD τ) (ms0_2 hr t) fullShare ((dats hr m ρ 0 c).before (2 : Fin 8) t d))
        ∗ (∃ d, owns (c : Thread nD τ) (ms0_3 hr t) fullShare ((dats hr m ρ 0 c).before (3 : Fin 8) t d))
        ∗ (∃ d, owns (c : Thread nD τ) (ms0_4 hr t) fullShare ((dats hr m ρ 0 c).before (4 : Fin 8) t d))
        ∗ (∃ d, owns (c : Thread nD τ) (ms0_5 hr t) fullShare ((dats hr m ρ 0 c).before (5 : Fin 8) t d))
        ∗ (∃ d, owns (c : Thread nD τ) (ms0_6 hr t) fullShare ((dats hr m ρ 0 c).before (6 : Fin 8) t d))
        ∗ (∃ d, owns (c : Thread nD τ) (ms0_7 hr t) fullShare ((dats hr m ρ 0 c).before (7 : Fin 8) t d)))
      ⊢ wp frame (wpE (defs₀ (F := Bits)) Variants.none c none) Set.univ (bodyAt0 hr t) fun _ =>
          iprop((dats hr m ρ 0 c).Φ t.succ ∗ (dats hr m ρ 0 c).owesAt () t.succ
            ∗ bigSep Finset.univ fun w : Fin (cfgA hr).W =>
                match (cfgA hr).idle w ((cfgA hr).grid.coords t) with
                | true =>
                  match ((cfgA hr).win w).flush t with
                  | false => iprop(∃ d, owns (c : Thread nD τ) (((cfgA hr).win w).stage ((cfgA hr).slots t w)) fullShare ((dats hr m ρ 0 c).before w t d))
                  | true => owns (c : Thread nD τ) (((cfgA hr).win w).stage ((cfgA hr).slots t w)) fullShare ((dats hr m ρ 0 c).after w t)
                | false => owns (c : Thread nD τ) (((cfgA hr).win w).stage ((cfgA hr).slots t w)) fullShare ((dats hr m ρ 0 c).after w t))

set_option maxHeartbeats 6400000 in
/-- The body at a point of path A. -/
theorem body_A (c : Dev nD) (t : Fin (cfgA hr).N) (hl : live T1 (crd hr t)) (hf : t.val % 2 = 0) :
    BodyAt hr m ρ c t := by
  unfold BodyAt
  rw [bigSep_W0]
  have hl' : ((BitVec.ofNat 32 ((crd hr t) 0).val).slt (nuWord T1) = true) := by
    rw [nuWord_eq]; exact hl
  have hv : ((crd hr t) 1).val = t.val % 2 := (coords_val t).2
  rw [hf] at hv
  have h1 := (cond1_iff (crd hr t) (nuWord T1)).2 hl'
  have h2 := (cond2_iff (crd hr t)).2 hv
  have h3 := fun h => show False from absurd (hv.symm.trans ((cond3_iff (crd hr t)).1 h)) (by decide)
  have h4 := fun h => show False from ((cond4_iff (crd hr t) (nuWord T1)).1 h).1 hl'
  have i7 : (cfgA hr).idle (7 : Fin 8) ((cfgA hr).grid.coords t) = true := by rw [idle7, hf]; rfl
  have f7 : ((cfgA hr).win (7 : Fin 8)).flush t = false := by rw [flush7, hf]; rfl
  rewrite [i7]
  simp only [before0_0, before0_1, before0_2, before0_3, before0_4, before0_5, before0_6, before0_7, f7]
  rewrite [show (dats hr m ρ 0 c).Φ t.succ = Phi hr m ρ c t.succ from rfl, show (dats hr m ρ 0 c).Φ t.castSucc = Phi hr m ρ c t.castSucc from rfl,
    show (dats hr m ρ 0 c).owesAt () t.succ = (dats hr m ρ 0 c).owesAt () t.castSucc from rfl]
  unfold Phi
  iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (crd hr t) (ms0_0 hr t) (hs0_0 hr t) (ms0_1 hr t) (hs0_1 hr t) (ms0_2 hr t) (hs0_2 hr t) (ms0_3 hr t) (hs0_3 hr t) (ms0_4 hr t) (hs0_4 hr t) (ms0_5 hr t) (hs0_5 hr t) (ms0_6 hr t) (hs0_6 hr t) (ms0_7 hr t) (hs0_7 hr t) T0 T1 (iblk hr m ρ c (0 : Fin 8) t) (iblk hr m ρ c (1 : Fin 8) t) (iblk hr m ρ c (2 : Fin 8) t) (iblk hr m ρ c (3 : Fin 8) t) (iblk hr m ρ c (4 : Fin 8) t) (iblk hr m ρ c (5 : Fin 8) t) (iblk hr m ρ c (6 : Fin 8) t) h1 h2 h3 h4).2.2 _ a0 a1 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [HS0]; · iexact HS0
  isplitl [HS1]; · iexact HS1
  iintro ⟨H0, H1, H2, H3, H4, H5, H6, HT0, HT1, H7, HS0, HS1⟩
  isplitl [HS0 HS1 HT0 HT1]
  · iexists _; iexists _
    isplitr; swap
    · isplitl [HS0]; · iexact HS0
      isplitl [HS1]; · iexact HS1
      isplitl [HT0]; · iexact HT0
      iexact HT1
    · ipureintro
      intro s hs hse hsl
      exact ⟨by
        have hts : s = t := Fin.ext (by rw [Fin.val_succ] at hs; omega)
        subst hts
        exact runA_scratch0 c (crd hr s) _ _ _ _ _ _ _ _ _ _ _ _ _ _ _ _ T0 T1 _ _ _ _ _ _ _ h1 h2 h3 h4, by
        have hts : s = t := Fin.ext (by rw [Fin.val_succ] at hs; omega)
        subst hts
        exact runA_scratch1 c (crd hr s) _ _ _ _ _ _ _ _ _ _ _ _ _ _ _ _ T0 T1 _ _ _ _ _ _ _ h1 h2 h3 h4⟩
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexists d7; iexact H7

set_option maxHeartbeats 6400000 in
/-- The body at a point of path B. -/
theorem body_B (c : Dev nD) (t : Fin (cfgA hr).N) (hl : live T1 (crd hr t)) (hf : t.val % 2 = 1) :
    BodyAt hr m ρ c t := by
  unfold BodyAt
  rw [bigSep_W0]
  have hl' : ((BitVec.ofNat 32 ((crd hr t) 0).val).slt (nuWord T1) = true) := by
    rw [nuWord_eq]; exact hl
  have hv : ((crd hr t) 1).val = t.val % 2 := (coords_val t).2
  rw [hf] at hv
  have h1 := (cond1_iff (crd hr t) (nuWord T1)).2 hl'
  have h2 := fun h => show False from absurd (hv.symm.trans ((cond2_iff (crd hr t)).1 h)) (by decide)
  have h3 := (cond3_iff (crd hr t)).2 hv
  have h4 := fun h => show False from ((cond4_iff (crd hr t) (nuWord T1)).1 h).1 hl'
  have i7 : (cfgA hr).idle (7 : Fin 8) ((cfgA hr).grid.coords t) = false := by rw [idle7, hf]; rfl
  have f7 : ((cfgA hr).win (7 : Fin 8)).flush t = true := by rw [flush7, hf]; rfl
  rewrite [i7]
  simp only [before0_0, before0_1, before0_2, before0_3, before0_4, before0_5, before0_6, before0_7, f7]
  rewrite [show (dats hr m ρ 0 c).Φ t.succ = Phi hr m ρ c t.succ from rfl, show (dats hr m ρ 0 c).Φ t.castSucc = Phi hr m ρ c t.castSucc from rfl,
    show (dats hr m ρ 0 c).owesAt () t.succ = (dats hr m ρ 0 c).owesAt () t.castSucc from rfl]
  unfold Phi
  iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨e0, e1⟩ := ha (prevPt hr t) (by rw [Fin.val_castSucc]; show t.val - 1 + 1 = t.val; omega) (by show (t.val - 1) % 2 = 0; omega) (live_prev hr t hf hl)
  iapply ((kernelRun0_B c (crd hr t) (ms0_0 hr t) (hs0_0 hr t) (ms0_1 hr t) (hs0_1 hr t) (ms0_2 hr t) (hs0_2 hr t) (ms0_3 hr t) (hs0_3 hr t) (ms0_4 hr t) (hs0_4 hr t) (ms0_5 hr t) (hs0_5 hr t) (ms0_6 hr t) (hs0_6 hr t) (ms0_7 hr t) (hs0_7 hr t) T0 T1 (iblk hr m ρ c (0 : Fin 8) t) (iblk hr m ρ c (1 : Fin 8) t) (iblk hr m ρ c (2 : Fin 8) t) (iblk hr m ρ c (3 : Fin 8) t) (iblk hr m ρ c (4 : Fin 8) t) (iblk hr m ρ c (5 : Fin 8) t) (iblk hr m ρ c (6 : Fin 8) t) a0 a1 h1 h2 h3 h4).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexists _; iexact H7
  isplitl [HS0]; · iexact HS0
  isplitl [HS1]; · iexact HS1
  iintro ⟨H0, H1, H2, H3, H4, H5, H6, HT0, HT1, ⟨%e7, H7⟩, HS0, HS1⟩
  isplitl [HS0 HS1 HT0 HT1]
  · iexists _; iexists _
    isplitr; swap
    · isplitl [HS0]; · iexact HS0
      isplitl [HS1]; · iexact HS1
      isplitl [HT0]; · iexact HT0
      iexact HT1
    · ipureintro
      intro s hs hse hsl
      rw [Fin.val_succ] at hs; omega
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  unfold owns; iexists _; isplitr; swap
  · iexact H7
  · ipureintro
    exact (View.read_writes_of_cover _ _ _ _ _ (cover0_B_7 c _ _ _ _ _ _ _ _ _ _ _ _ _ _ _ _ _ _ _ _ _ _ _ _ _ _ _ _ _ _ _ _)).trans
      ((runB_out c (crd hr t) _ _ _ _ _ _ _ _ _ _ _ _ _ _ _ _ T0 T1 _ _ _ _ _ _ _ a0 a1 h1 h2 h3 h4).trans (by rw [e0, e1]; exact (after7_live hr m ρ c t hf hl).symm))

set_option maxHeartbeats 6400000 in
/-- The body at a point of path C. -/
theorem body_C (c : Dev nD) (t : Fin (cfgA hr).N) (hl : ¬live T1 (crd hr t)) (hf : t.val % 2 = 0) :
    BodyAt hr m ρ c t := by
  unfold BodyAt
  rw [bigSep_W0]
  have hl' : ¬((BitVec.ofNat 32 ((crd hr t) 0).val).slt (nuWord T1) = true) := by
    rw [nuWord_eq]; exact hl
  have hv : ((crd hr t) 1).val = t.val % 2 := (coords_val t).2
  rw [hf] at hv
  have h1 := fun h => hl' ((cond1_iff (crd hr t) (nuWord T1)).1 h)
  have h4 := fun h => show False from absurd (hv.symm.trans ((cond4_iff (crd hr t) (nuWord T1)).1 h).2) (by decide)
  have i7 : (cfgA hr).idle (7 : Fin 8) ((cfgA hr).grid.coords t) = true := by rw [idle7, hf]; rfl
  have f7 : ((cfgA hr).win (7 : Fin 8)).flush t = false := by rw [flush7, hf]; rfl
  rewrite [i7]
  simp only [before0_0, before0_1, before0_2, before0_3, before0_4, before0_5, before0_6, before0_7, f7]
  rewrite [show (dats hr m ρ 0 c).Φ t.succ = Phi hr m ρ c t.succ from rfl, show (dats hr m ρ 0 c).Φ t.castSucc = Phi hr m ρ c t.castSucc from rfl,
    show (dats hr m ρ 0 c).owesAt () t.succ = (dats hr m ρ 0 c).owesAt () t.castSucc from rfl]
  unfold Phi
  iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_C c (crd hr t) (ms0_0 hr t) (hs0_0 hr t) (ms0_1 hr t) (hs0_1 hr t) (ms0_2 hr t) (hs0_2 hr t) (ms0_3 hr t) (hs0_3 hr t) (ms0_4 hr t) (hs0_4 hr t) (ms0_5 hr t) (hs0_5 hr t) (ms0_6 hr t) (hs0_6 hr t) (ms0_7 hr t) (hs0_7 hr t) T0 T1 (iblk hr m ρ c (0 : Fin 8) t) (iblk hr m ρ c (1 : Fin 8) t) (iblk hr m ρ c (2 : Fin 8) t) (iblk hr m ρ c (3 : Fin 8) t) (iblk hr m ρ c (4 : Fin 8) t) (iblk hr m ρ c (5 : Fin 8) t) (iblk hr m ρ c (6 : Fin 8) t) a0 a1 h1 h4).2.2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [HS0]; · iexact HS0
  isplitl [HS1]; · iexact HS1
  iintro ⟨H0, H1, H2, H3, H4, H5, H6, HT0, HT1, H7, HS0, HS1⟩
  isplitl [HS0 HS1 HT0 HT1]
  · iexists _; iexists _
    isplitr; swap
    · isplitl [HS0]; · iexact HS0
      isplitl [HS1]; · iexact HS1
      isplitl [HT0]; · iexact HT0
      iexact HT1
    · ipureintro
      intro s hs hse hsl
      exact absurd (by
        have hts : s = t := Fin.ext (by rw [Fin.val_succ] at hs; omega)
        subst hts
        exact hsl) hl
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexists d7; iexact H7

set_option maxHeartbeats 6400000 in
/-- The body at a point of path D. -/
theorem body_D (c : Dev nD) (t : Fin (cfgA hr).N) (hl : ¬live T1 (crd hr t)) (hf : t.val % 2 = 1) :
    BodyAt hr m ρ c t := by
  unfold BodyAt
  rw [bigSep_W0]
  have hl' : ¬((BitVec.ofNat 32 ((crd hr t) 0).val).slt (nuWord T1) = true) := by
    rw [nuWord_eq]; exact hl
  have hv : ((crd hr t) 1).val = t.val % 2 := (coords_val t).2
  rw [hf] at hv
  have h1 := fun h => hl' ((cond1_iff (crd hr t) (nuWord T1)).1 h)
  have h4 := (cond4_iff (crd hr t) (nuWord T1)).2 ⟨hl', hv⟩
  have i7 : (cfgA hr).idle (7 : Fin 8) ((cfgA hr).grid.coords t) = false := by rw [idle7, hf]; rfl
  have f7 : ((cfgA hr).win (7 : Fin 8)).flush t = true := by rw [flush7, hf]; rfl
  rewrite [i7]
  simp only [before0_0, before0_1, before0_2, before0_3, before0_4, before0_5, before0_6, before0_7, f7]
  rewrite [show (dats hr m ρ 0 c).Φ t.succ = Phi hr m ρ c t.succ from rfl, show (dats hr m ρ 0 c).Φ t.castSucc = Phi hr m ρ c t.castSucc from rfl,
    show (dats hr m ρ 0 c).owesAt () t.succ = (dats hr m ρ 0 c).owesAt () t.castSucc from rfl]
  unfold Phi
  iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_D c (crd hr t) (ms0_0 hr t) (hs0_0 hr t) (ms0_1 hr t) (hs0_1 hr t) (ms0_2 hr t) (hs0_2 hr t) (ms0_3 hr t) (hs0_3 hr t) (ms0_4 hr t) (hs0_4 hr t) (ms0_5 hr t) (hs0_5 hr t) (ms0_6 hr t) (hs0_6 hr t) (ms0_7 hr t) (hs0_7 hr t) T0 T1 (iblk hr m ρ c (0 : Fin 8) t) (iblk hr m ρ c (1 : Fin 8) t) (iblk hr m ρ c (2 : Fin 8) t) (iblk hr m ρ c (3 : Fin 8) t) (iblk hr m ρ c (4 : Fin 8) t) (iblk hr m ρ c (5 : Fin 8) t) (iblk hr m ρ c (6 : Fin 8) t) a0 a1 h1 h4).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexists _; iexact H7
  isplitl [HS0]; · iexact HS0
  isplitl [HS1]; · iexact HS1
  iintro ⟨H0, H1, H2, H3, H4, H5, H6, HT0, HT1, ⟨%e7, H7⟩, HS0, HS1⟩
  isplitl [HS0 HS1 HT0 HT1]
  · iexists _; iexists _
    isplitr; swap
    · isplitl [HS0]; · iexact HS0
      isplitl [HS1]; · iexact HS1
      isplitl [HT0]; · iexact HT0
      iexact HT1
    · ipureintro
      intro s hs hse hsl
      rw [Fin.val_succ] at hs; omega
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  unfold owns; iexists _; isplitr; swap
  · iexact H7
  · ipureintro
    exact (View.read_writes_of_cover _ _ _ _ _ (cover0_D_7 c _ _ _ _ _ _ _ _ _ _ _ _ _ _ _ _ _ _ _ _ _ _ _ _ _ _ _ _ _ _)).trans
      ((runD_out c (crd hr t) _ _ _ _ _ _ _ _ _ _ _ _ _ _ _ _ T0 T1 _ _ _ _ _ _ _ a0 a1 h1 h4).trans (after7_dead hr m ρ c t hf hl).symm)

/-- The body at every point. -/
theorem body_every (c : Dev nD) (t : Fin (cfgA hr).N) : BodyAt hr m ρ c t := by
  rcases Nat.mod_two_eq_zero_or_one t.val with hf | hf <;> by_cases hl : live T1 (crd hr t)
  · exact body_A hr m ρ c t hl hf
  · exact body_C hr m ρ c t hl hf
  · exact body_B hr m ρ c t hl hf
  · exact body_D hr m ρ c t hl hf

/-- The library's body obligation. -/
theorem body_obligation (c : Dev nD) : BodyObligation (dats hr m ρ 0 c) (defs₀ (F := Bits)) Variants.none () Set.univ := fun t => by
  rw [bigSep_W0]
  exact body_every hr m ρ c t

/-! ## The launch -/

/-- The rounds library's launch element. -/
def u₀ : UR sig nD τ :=
  initOf (Pipeline.cells (pcs hr) ((launch0 (F := Bits)).cellOf_inj fun _ => adm hr))
    (Pipeline.launchToks (pcs hr) ((launch0 (F := Bits)).cellOf_inj fun _ => adm hr))

/-- Every window holds its array whole. -/
theorem share_eq (c : Dev nD) (w : Fin (cfgA hr).W) : (dats hr m ρ 0 c).share w = fullShare := by unfold Dat.share; split <;> rfl

/-- The tables as the launch hands them over, one by one. -/
theorem prefHeld_eq (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point, from the tables and the scratch buffers. -/
theorem phi_first (c : Dev nD) :
    iprop(BI.emp ∗ Pipeline.prefHeld pre0 c (fun _ => fullShare.right) (adm hr).1 ∗ Pipeline.scopedRest spec0 c) ⊢ (dats hr m ρ 0 c).Φ 0 := by
  rw [prefHeld_eq, scopedRest0_eq, show (dats hr m ρ 0 c).Φ 0 = Phi hr m ρ c 0 from rfl]
  unfold Phi
  iintro ⟨-, ⟨HT0, HT1⟩, ⟨%a0, HS0⟩, ⟨%a1, HS1⟩⟩
  iexists a0; iexists a1
  isplitr; swap
  · isplitl [HS0]; · iexact HS0
    isplitl [HS1]; · iexact HS1
    isplitl [HT0]; · iexact HT0
    iexact HT1
  · ipureintro
    intro s hs
    exact absurd hs (Nat.succ_ne_zero _)

/-- After the last point the scratch buffers go back. -/
theorem phi_last (c : Dev nD) : (dats hr m ρ 0 c).Φ (Fin.last (cfgA hr).N) ⊢ iprop(BI.emp ∗ Pipeline.scopedRest spec0 c) := by
  rw [scopedRest0_eq, show (dats hr m ρ 0 c).Φ (Fin.last (cfgA hr).N) = Phi hr m ρ c (Fin.last _) from rfl]
  unfold Phi
  iintro ⟨%a0, %a1, -, HS0, HS1, -, -⟩
  isplitr; · iempintro
  isplitl [HS0]
  · iexists a0; iexact HS0
  iexists a1; iexact HS1

/-- The memory at the end: every array as the pipeline computes it, the tables as they were. -/
def AtEnd : PUnit × MemSt nD τ sig (Elt Bits) → Prop := fun r =>
  ∀ c : Dev nD, (∀ w : Fin (cfgA hr).W, r.2.mem (((cfgA hr).win w).arr.view.loc (c : Thread nD τ)) = (dats hr m ρ 0 c).arrAt w (cfgA hr).N)
    ∧ ∀ j, r.2.mem ((c : Thread nD τ).loc (pre0.ref j)) = (adm hr).1 j

/-- The launch memory holds the two tables on every device. -/
def Holds (T0 : S160.Idx → BitVec 32) (T1 : S1.Idx → BitVec 32) (m : (ℓ : Loc nD τ sig) → Buf (Elt Bits) ℓ) : Prop :=
  ∀ c : Dev nD, m ((c : Thread nD τ).loc main_arg0) = T0 ∧ m ((c : Thread nD τ).loc main_arg1) = T1

variable {m}

/-- The launch memory holds the tables the pipeline is taken at. -/
theorem tables_held (hm : Holds T0 T1 m) (c : Dev nD) (j : Fin 2) : m ((c : Thread nD τ).loc (pre0.ref j)) = (adm hr).1 j := by
  fin_cases j
  · exact (hm c).1
  · exact (hm c).2

set_option backward.isDefEq.respectTransparency.types false in
set_option maxHeartbeats 4000000 in
/-- Every weakly fair execution terminates, and at its end each array holds what the pipeline computes and every
    semaphore counter reads zero. -/
theorem run_quiescent (hm : Holds T0 T1 m) :
    θ_run (defs (F := Bits)) (onTc (τ := τ) (main (F := Bits))) (s₀ m ρ) (fun r => AtEnd hr m ρ r ∧ r.2.sem = fun _ => 0) :=
  Pipeline.θ_run_region_noSem_pf_quiescent pcfgs (fun _ => adm hr) (dats hr m ρ) () ((launch0 (F := Bits)).cellOf_inj fun _ => adm hr) (0 : Fin 1)
    (launch0 (F := Bits)).win.to₀ (launch0 (F := Bits)).pre EP defs₀ Variants.none m ρ main
    (hbody := fun c => (body_obligation hr m ρ c).loose) (hne := (launch0 (F := Bits)).block_pos)
    (harr := (launch0 (F := Bits)).arr_whole) (hstage := (launch0 (F := Bits)).stage_whole) (howed := fun _ _ => rfl)
    (u₀ := u₀ hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hr) (dats hr m ρ) 0 (launch0 (F := Bits)).win.arr_inj c (launch0 (F := Bits)).arr_whole
      (share_eq hr m ρ c) _ _ fun _ => rfl)
    (hpf := tables_held hr hm)
    (X := fun _ => iprop(emp)) (Y := fun _ => iprop(emp)) (Z := fun _ => iprop(emp))
    (hX := fun c => by rw [unscopedRestP0_eq]; iintro -; isplitr <;> iempintro)
    (hin := phi_first hr m ρ)
    (hout := phi_last hr m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The argument arrays end unchanged and the result holds what the pipeline computes. -/
theorem run_result (hm : Holds T0 T1 m) :
    θ_run (defs (F := Bits)) (onTc (τ := τ) (main (F := Bits))) ⟨m, fun _ => 0, ρ⟩ (fun r => ∀ c : Dev nD,
      r.2.mem ((c.tc : Thread nD τ).loc main_v0) = (dats hr m ρ 0 c).arrAt (7 : Fin 8) (cfgA hr).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.1 c).1 (7 : Fin 8), ((h.1 c).2 0).trans (hm c).1.symm, ((h.1 c).2 1).trans (hm c).2.symm, ((h.1 c).1 (0 : Fin 8)).trans ((dats hr m ρ 0 c).arrAt_in (0 : Fin 8) rfl _), ((h.1 c).1 (1 : Fin 8)).trans ((dats hr m ρ 0 c).arrAt_in (1 : Fin 8) rfl _), ((h.1 c).1 (2 : Fin 8)).trans ((dats hr m ρ 0 c).arrAt_in (2 : Fin 8) rfl _), ((h.1 c).1 (3 : Fin 8)).trans ((dats hr m ρ 0 c).arrAt_in (3 : Fin 8) rfl _), ((h.1 c).1 (4 : Fin 8)).trans ((dats hr m ρ 0 c).arrAt_in (4 : Fin 8) rfl _), ((h.1 c).1 (5 : Fin 8)).trans ((dats hr m ρ 0 c).arrAt_in (5 : Fin 8) rfl _), ((h.1 c).1 (6 : Fin 8)).trans ((dats hr m ρ 0 c).arrAt_in (6 : Fin 8) rfl _)⟩)
    (run_quiescent hr ρ hm)

include hr in
/-- The program's frame at routed tables. -/
theorem run_frame (hm : Holds T0 T1 m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and ((θ_run defs _ _).mono (fun _ h c => (h c).2) (run_result hr ρ hm)) ((θ_run defs _ _).mono (fun _ h => h.2) (run_quiescent hr ρ hm))

end Cert.Kernel.Experts

end
-- ==== Proof.RunValues.lean ====
module

public import proofs.«01_k».proof.Proof.Gen.KernelIdeal.Flash.Runs
public import Idealize.ShloMosaic.Lib.Pipeline.ValueKit

@[expose] public section

set_option maxRecDepth 16384

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The word the body reads of the second table. -/
abbrev nuWord (T1 : S1.Idx → Elt Ideal .i32) : BitVec 32 :=
  View.readAt (Elt Ideal) (tbM0_1).view (Rect.unit (s := S1) ![0] S1.size inb_S1_S1_0).toLoadRect T1 (Shape.Idx.first (numel1_S1.symm ▸ Nat.one_pos))

section
variable (c : Dev nD) (i : grid0.Coords) (arg4 : Memref sig .tc .vmem S512x2048 .f32) (harg4 : arg4.IsWhole) (arg5 : Memref sig .tc .vmem S1x2048x1024 .bf16) (harg5 : arg5.IsWhole) (arg6 : Memref sig .tc .vmem S1x2048x1024 .bf16) (harg6 : arg6.IsWhole) (arg7 : Memref sig .tc .vmem S1x1x1024 .f32) (harg7 : arg7.IsWhole) (arg8 : Memref sig .tc .vmem S1x1x1024 .f32) (harg8 : arg8.IsWhole) (arg9 : Memref sig .tc .vmem S1x1024x2048 .bf16) (harg9 : arg9.IsWhole) (arg10 : Memref sig .tc .vmem S1x1x2048 .f32) (harg10 : arg10.IsWhole) (arg11 : Memref sig .tc .vmem S512x2048 .f32) (harg11 : arg11.IsWhole) (T0 : (S160.Idx → Elt Ideal .i32)) (T1 : (S1.Idx → Elt Ideal .i32))
     (x0 : (S512x2048.Idx → Elt Ideal .f32)) (x1 : (S1x2048x1024.Idx → Elt Ideal .bf16)) (x2 : (S1x2048x1024.Idx → Elt Ideal .bf16)) (x3 : (S1x1x1024.Idx → Elt Ideal .f32)) (x4 : (S1x1x1024.Idx → Elt Ideal .f32)) (x5 : (S1x1024x2048.Idx → Elt Ideal .bf16)) (x6 : (S1x1x2048.Idx → Elt Ideal .f32))
  (xa0 : Buf (Elt Ideal) ((c : Thread nD τ).loc cc0_scratch0)) (xa1 : Buf (Elt Ideal) ((c : Thread nD τ).loc cc0_scratch1))

/-- After a used tile's first half the first scratch buffer holds the narrowed token tile. -/
theorem runA_scratch0 (h1 h2 h3 h4) :
    (kernelRun0_A c i arg4 harg4 arg5 harg5 arg6 harg6 arg7 harg7 arg8 harg8 arg9 harg9 arg10 harg10 arg11 harg11 T0 T1 x0 x1 x2 x3 x4 x5 x6 h1 h2 h3 h4).1
      = k0_pay4 (F := Ideal) x0 := by
  unfold kernelRun0_A
  dsimp only
  funext y
  refine (congrFun (View.read_whole (Val := Elt Ideal) cc0_scratch0 _).symm y).trans ?_
  frame_out [View.read_rep]
  exact congrFun (View.canon_cons_unit_lit (S := S512x2048) inb_S512x2048_S512x2048_0_0 _ _ (by decide)) y

/-- After a used tile's first half the second scratch buffer holds the partial product over the first half of the hidden columns. -/
theorem runA_scratch1 (h1 h2 h3 h4) :
    (kernelRun0_A c i arg4 harg4 arg5 harg5 arg6 harg6 arg7 harg7 arg8 harg8 arg9 harg9 arg10 harg10 arg11 harg11 T0 T1 x0 x1 x2 x3 x4 x5 x6 h1 h2 h3 h4).2.1
      = k0_pay1 (F := Ideal) (k0_pay6 (F := Ideal) (k0_pay4 (F := Ideal) x0) x1 x3) (k0_pay7 (F := Ideal) (k0_pay4 (F := Ideal) x0) x2 x4) (k0_pay5 (F := Ideal)) x5 := by
  unfold kernelRun0_A
  dsimp only
  funext y
  refine (congrFun (View.read_whole (Val := Elt Ideal) cc0_scratch1 _).symm y).trans ?_
  frame_out [View.read_rep]
  exact congrFun (View.canon_cons_unit_lit (S := S512x2048) inb_S512x2048_S512x2048_0_0 _ _ (by decide)) y

/-- After a used tile's second half the output block holds the whole product with the expert's output bias. -/
theorem runB_out (h1 h2 h3 h4) :
    out0_B_7 c i arg4 harg4 arg5 harg5 arg6 harg6 arg7 harg7 arg8 harg8 arg9 harg9 arg10 harg10 arg11 harg11 T0 T1 x0 x1 x2 x3 x4 x5 x6 xa0 xa1 h1 h2 h3 h4
      = k0_pay2 (F := Ideal) (k0_pay1 (F := Ideal) (k0_pay6 (F := Ideal) xa0 x1 x3) (k0_pay7 (F := Ideal) xa0 x2 x4) xa1 x5) x6 := by
  funext y
  frame_out [View.read_rep, View.read_whole]

/-- After an unused tile's second half the output block holds zeros. -/
theorem runD_out (h1 h4) :
    out0_D_7 c i arg4 harg4 arg5 harg5 arg6 harg6 arg7 harg7 arg8 harg8 arg9 harg9 arg10 harg10 arg11 harg11 T0 T1 x0 x1 x2 x3 x4 x5 x6 xa0 xa1 h1 h4
      = k0_pay3 (F := Ideal) := by
  funext y
  frame_out

end
end Cert.KernelIdeal.Experts
end
-- ==== Proof.Tables.lean ====
module

public import proofs.«01_k».proof.Proof.Gen.KernelIdeal.Flash.Pins
public import Idealize.ShloMosaic.Lib.Pointwise

@[expose] public section

set_option maxRecDepth 16384

noncomputable section

namespace Cert.KernelIdeal.Experts

open Cert.KernelIdeal Cert.KernelIdeal.Gen
open Idealize.ShloMosaic
open Idealize.ShloMosaic.TcCoe Idealize.ShloMosaic.Tactic

/-- What the launch needs of the two prefetched tables: every tile's expert is one of the thirty-two, and the number of
    tiles in use is at least one. -/
structure Routed (T0 : S160.Idx → BitVec 32) (T1 : S1.Idx → BitVec 32) : Prop where
  expert : ∀ i, (T0 i).toNat < 32
  used : 1 ≤ (T1 (ix1 0)).toInt

/-- The two tables as the pipeline's contents. -/
def tabs (T0 : S160.Idx → BitVec 32) (T1 : S1.Idx → BitVec 32) : pre0.Contents (Elt Ideal) := fun
  | ⟨0, _⟩ => T0
  | ⟨1, _⟩ => T1
  | ⟨_ + 2, h⟩ => absurd h (by simp)

/-! ## Words -/

/-- The smaller of a tile's number and the last tile in use is a tile's number. -/
theorem clamped_lt (a n : BitVec 32) (ha : a.toNat < 160) (hn : 1 ≤ n.toInt) :
    (IntOp.minsi a (n - 1#32)).toNat < 160 := by
  unfold IntOp.minsi
  split
  · exact ha
  · rename_i h
    rw [BitVec.slt_iff_toInt_lt] at h
    rw [BitVec.toInt_eq_toNat_cond] at hn
    rw [BitVec.toInt_eq_toNat_cond, BitVec.toInt_eq_toNat_cond, BitVec.toNat_sub] at h
    rw [BitVec.toNat_sub]
    have := n.isLt
    simp only [BitVec.toNat_ofNat] at h ⊢
    split at hn <;> split at h <;> split at h <;> omega

/-- Below the last tile in use the smaller of the two is the tile's number itself. -/
theorem clamped_of_lt (a n : BitVec 32) (ha : a.toNat < 160) (hn : 1 ≤ n.toInt) (h : a.slt n = true) :
    IntOp.minsi a (n - 1#32) = a := by
  unfold IntOp.minsi
  split
  · rfl
  · rename_i h'
    rw [BitVec.slt_iff_toInt_lt] at h h'
    apply BitVec.eq_of_toNat_eq
    rw [BitVec.toInt_eq_toNat_cond] at hn
    rw [BitVec.toInt_eq_toNat_cond, BitVec.toInt_eq_toNat_cond] at h h'
    rw [BitVec.toNat_sub] at h' ⊢
    have := n.isLt
    simp only [BitVec.toNat_ofNat] at h h' ⊢
    repeat' split at hn
    all_goals repeat' split at h
    all_goals repeat' split at h'
    all_goals omega

/-- A one-element table has one index. -/
theorem one_index (j : S1.Idx) : j = ix1 0 := by
  funext a
  match a with
  | ⟨0, _⟩ => exact Subsingleton.elim (α := Fin 1) _ _

/-- A bit widened and compared with zero is the bit. -/
theorem bit_word (b : Bool) : (Scalar.cmpi .ne (Scalar.extui (BitVec.ofBool b)) 0#32 = 1#1) ↔ b = true := by
  cases b <;> decide

/-! ## The body's conditions -/

/-- Tile `i` is in use: its number lies below the number of tiles in use. -/
def live (T1 : S1.Idx → BitVec 32) (i : grid0.Coords) : Prop := (BitVec.ofNat 32 (i 0).val).slt (T1 (ix1 0)) = true

/-- Whether a point's tile is used is a test of two words. -/
instance (T1 : S1.Idx → BitVec 32) (i : grid0.Coords) : Decidable (live T1 i) := inferInstanceAs (Decidable (_ = _))

/-- The first branch is taken at the tiles in use. -/
theorem cond1_iff (i : grid0.Coords) (v : BitVec 32) : k0_cond1 i v = 1#1 ↔ (BitVec.ofNat 32 (i 0).val).slt v = true :=
  bit_word _

/-- The second grid coordinate is one of two. -/
theorem second_cases (i : grid0.Coords) : (i 1).val = 0 ∨ (i 1).val = 1 := by
  have h : (i 1).val < 2 := (i 1).isLt
  omega

/-- The scratch buffers are set up at a tile's first half. -/
theorem cond2_iff (i : grid0.Coords) :
    (Scalar.cmpi .ne (Scalar.extui (Scalar.cmpi .eq (BitVec.ofNat 32 (i 1).val) 0#32)) 0#32) = 1#1 ↔ (i 1).val = 0 := by
  rcases second_cases i with h | h <;> rw [h] <;> decide

/-- The result is stored at a tile's second half. -/
theorem cond3_iff (i : grid0.Coords) : k0_cond3 i = 1#1 ↔ (i 1).val = 1 := by
  unfold k0_cond3
  rcases second_cases i with h | h <;> simp only [h] <;> decide

/-- Zeros are stored at an unused tile's second half. -/
theorem cond4_iff (i : grid0.Coords) (v : BitVec 32) :
    k0_cond4 i v = 1#1 ↔ ¬(BitVec.ofNat 32 (i 0).val).slt v = true ∧ (i 1).val = 1 := by
  unfold k0_cond4
  have e : (v.sle (BitVec.ofNat 32 (i 0).val)) = !(BitVec.ofNat 32 (i 0).val).slt v := by
    rw [BitVec.sle_eq_not_slt]
  dsimp only
  unfold Scalar.cmpi IntOp.cmpi
  dsimp only
  rw [e]
  cases (BitVec.ofNat 32 (i 0).val).slt v <;> rcases second_cases i with h | h <;> simp only [h] <;> decide

/-! ## The index maps -/

section
variable {T0 : S160.Idx → BitVec 32} {T1 : S1.Idx → BitVec 32}

/-- The word an index map reads of the first table is the tile's expert. -/
theorem at_tile (i : grid0.Coords) (h) :
    (tabs T0 T1).at 0 (Rect.unit (s := S160) ![(Scalar.indexCast (BitVec.ofNat 32 (i 0).val)).toNat] S1.size h) numel1_S1 = T0 (ix1 (i 0)) := by
  refine congrArg T0 ?_
  funext a
  match a with
  | ⟨0, _⟩ =>
    apply Fin.ext
    have h0 : (i 0).val < 160 := (i 0).isLt
    show (BitVec.ofNat 32 (i 0).val).toNat + 1 * 0 = (i 0).val
    rw [BitVec.toNat_ofNat]
    omega

/-- The word an index map reads of the second table is the number of tiles in use. -/
theorem at_used (h) : (tabs T0 T1).at 1 (Rect.unit (s := S1) ![0] S1.size h) numel1_S1 = T1 (ix1 0) :=
  congrArg T1 (one_index _)

/-- The second grid coordinate, or the last half where the tile is not in use. -/
theorem half_lt (i : grid0.Coords) (c : BitVec 1) : (Scalar.select c (BitVec.ofNat 32 (i 1).val) 1#32).toNat < 2 := by
  unfold Scalar.select
  rcases second_cases i with h | h <;> rw [h] <;> split <;> decide

/-- A tile's number, as a word, is below the number of tiles. -/
theorem tile_lt (i : grid0.Coords) : (BitVec.ofNat 32 (i 0).val).toNat < 160 := by
  have h0 : (i 0).val < 160 := (i 0).isLt
  rw [BitVec.toNat_ofNat]
  omega

/-- The token window's block: the tile, or the last used tile. -/
theorem map0 (i : grid0.Coords) : cc0_transform_0 inb_S1_S1_0 numel1_S1 (tabs T0 T1) i
    = ![(IntOp.minsi (BitVec.ofNat 32 (i 0).val) (T1 (ix1 0) - 1#32)).toNat, 0] := by
  unfold cc0_transform_0
  dsimp only
  rw [at_used]
  rfl

/-- The half an index map names. -/
def halfWord (T1 : S1.Idx → BitVec 32) (i : grid0.Coords) : BitVec 32 :=
  Scalar.select (Scalar.cmpi .slt (BitVec.ofNat 32 (i 0).val) (T1 (ix1 0))) (BitVec.ofNat 32 (i 1).val) 1#32

/-- The gate weight window's block: the tile's expert and half. -/
theorem map1 (i : grid0.Coords) : cc0_transform_1 k0_off1_inb numel1_S1 inb_S1_S1_0 (tabs T0 T1) i
    = ![(T0 (ix1 (i 0))).toNat, 0, (halfWord T1 i).toNat] := by
  exact congrArg₂ (fun v w : BitVec 32 => (![v.toNat, 0, (Scalar.select (Scalar.cmpi .slt (BitVec.ofNat 32 (i 0).val) w) (BitVec.ofNat 32 (i 1).val) 1#32).toNat] : Fin 3 → Nat)) (at_tile i (k0_off1_inb i)) (at_used inb_S1_S1_0)

/-- The linear weight window's block: the tile's expert and half. -/
theorem map2 (i : grid0.Coords) : cc0_transform_2 k0_off1_inb numel1_S1 inb_S1_S1_0 (tabs T0 T1) i
    = ![(T0 (ix1 (i 0))).toNat, 0, (halfWord T1 i).toNat] :=
  map1 i

/-- The gate bias window's block: the tile's expert and half. -/
theorem map3 (i : grid0.Coords) : cc0_transform_3 k0_off1_inb numel1_S1 inb_S1_S1_0 (tabs T0 T1) i
    = ![(T0 (ix1 (i 0))).toNat, 0, (halfWord T1 i).toNat] :=
  map1 i

/-- The linear bias window's block: the tile's expert and half. -/
theorem map4 (i : grid0.Coords) : cc0_transform_4 k0_off1_inb numel1_S1 inb_S1_S1_0 (tabs T0 T1) i
    = ![(T0 (ix1 (i 0))).toNat, 0, (halfWord T1 i).toNat] :=
  map1 i

/-- The output weight window's block: the tile's expert and half. -/
theorem map5 (i : grid0.Coords) : cc0_transform_5 k0_off1_inb numel1_S1 inb_S1_S1_0 (tabs T0 T1) i
    = ![(T0 (ix1 (i 0))).toNat, (halfWord T1 i).toNat, 0] := by
  exact congrArg₂ (fun v w : BitVec 32 => (![v.toNat, (Scalar.select (Scalar.cmpi .slt (BitVec.ofNat 32 (i 0).val) w) (BitVec.ofNat 32 (i 1).val) 1#32).toNat, 0] : Fin 3 → Nat)) (at_tile i (k0_off1_inb i)) (at_used inb_S1_S1_0)

/-- The output bias window's block: the tile's expert. -/
theorem map6 (i : grid0.Coords) : cc0_transform_6 k0_off1_inb numel1_S1 (tabs T0 T1) i
    = ![(T0 (ix1 (i 0))).toNat, 0, 0] := by
  exact congrArg (fun v : BitVec 32 => (![v.toNat, 0, 0] : Fin 3 → Nat)) (at_tile i (k0_off1_inb i))

/-! ## The side condition of the pipeline at routed tables -/

/-- A tile's block lies inside the token array. -/
theorem inside2 {a : Nat} (h : a < 160) : ∀ d : Fin 2, ((![a, 0] : Fin 2 → Nat) d + 1) * S512x2048.size d ≤ S81920x2048.size d := by
  intro d
  match d with
  | ⟨0, _⟩ => show (a + 1) * 512 ≤ 81920; omega
  | ⟨1, _⟩ => show (0 + 1) * 2048 ≤ 2048; omega

/-- A block of one expert's slice lies inside its array. -/
theorem inside3 {e k p q P Q : Nat} (he : e < 32) {b : Nat} (hb : (b + 1) * p ≤ P) (hk : (k + 1) * q ≤ Q) :
    ∀ d : Fin 3, ((![e, b, k] : Fin 3 → Nat) d + 1) * (![1, p, q] : Fin 3 → Nat) d ≤ (![32, P, Q] : Fin 3 → Nat) d := by
  intro d
  match d with
  | ⟨0, _⟩ => show (e + 1) * 1 ≤ 32; omega
  | ⟨1, _⟩ => exact hb
  | ⟨2, _⟩ => exact hk

/-- The half an index map names is one of two. -/
theorem halfWord_lt (i : grid0.Coords) : (halfWord T1 i).toNat < 2 := half_lt i _

/-- At routed tables every block of every window lies inside its array. -/
theorem tables_ok (h : Routed T0 T1) : ok0 (F := Ideal) (tabs T0 T1) := by
  refine ⟨fun i => ⟨?_, .inl rfl⟩, fun i => ⟨?_, .inr (Affine.block_words_dvd (s := S32x2048x2048) (p := EltTy.packing .bf16) (by decide) (by decide))⟩,
    fun i => ⟨?_, .inr (Affine.block_words_dvd (s := S32x2048x2048) (p := EltTy.packing .bf16) (by decide) (by decide))⟩, fun i => ⟨?_, .inl rfl⟩, fun i => ⟨?_, .inl rfl⟩,
    fun i => ⟨?_, .inr (Affine.block_words_dvd (s := S32x2048x2048) (p := EltTy.packing .bf16) (by decide) (by decide))⟩, fun i => ⟨?_, .inl rfl⟩⟩
  · rw [map0]; exact inside2 (clamped_lt _ _ (tile_lt i) h.used)
  · rw [map1]; have := halfWord_lt (T1 := T1) i; exact inside3 (h.expert _) (by omega) (by omega)
  · rw [map2]; have := halfWord_lt (T1 := T1) i; exact inside3 (h.expert _) (by omega) (by omega)
  · rw [map3]; have := halfWord_lt (T1 := T1) i; exact inside3 (h.expert _) (by omega) (by omega)
  · rw [map4]; have := halfWord_lt (T1 := T1) i; exact inside3 (h.expert _) (by omega) (by omega)
  · rw [map5]; have := halfWord_lt (T1 := T1) i; exact inside3 (h.expert _) (by omega) (by omega)
  · rw [map6]; exact inside3 (h.expert _) (by omega) (by omega)
end

/-! ## The grid -/

/-- Point `t` is tile `t / 2`, half `t % 2`. -/
theorem coords_val : ∀ t : Fin grid0.N, ((grid0.coords t) 0).val = t.val / 2 ∧ ((grid0.coords t) 1).val = t.val % 2 := by
  decide +kernel

end Cert.KernelIdeal.Experts

end
-- ==== Proof.IdealRun.lean ====
module

public import proofs.«01_k».proof.Proof.RunValues
public import proofs.«01_k».proof.Proof.Tables
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

/-- The machine's resources at this program. -/
local notation "𝕄" => MT nD τ sig Unit (Elt Ideal) ℕ (UR sig nD τ) ℕ

/-- The rounds library's algebra, embedded whole. -/
abbrev EP : Emb (UR sig nD τ) 𝕄 := emb₁

variable {T0 : S160.Idx → BitVec 32} {T1 : S1.Idx → BitVec 32} (hr : Routed T0 T1)

/-! ## The pipeline at the two tables, whatever words they hold -/

/-- The tables as contents the pipeline admits. -/
def adm : (pcfg0 (F := Ideal)).Adm := ⟨tabs T0 T1, tables_ok hr⟩
/-- The pipeline at the tables. -/
abbrev cfgA : Pipeline.Cfg sig Λ₀ := cfg0 (F := Ideal) (adm hr)
/-- The program's pipelines at the tables. -/
abbrev pcs : Fin 1 → Pipeline.Cfg sig Λ₀ := Pipeline.pin (pcfgs (F := Ideal)) fun _ => adm hr

variable (m : (ℓ : Loc nD τ sig) → Buf (Elt Ideal) ℓ) (ρ : Dev nD → PrngReg)

/-- Point `t`'s coordinates. -/
abbrev crd (t : Fin (cfgA hr).N) : (cfgA hr).grid.Coords := (cfgA hr).grid.coords t

/-- The buffer window 0 stages its block in at point `t`. -/
abbrev ms0_0 (t : Fin (cfgA hr).N) : Memref sig .tc .vmem S512x2048 .f32 := spec0_0.stage ((cfgA hr).slots t (0 : Fin 8))
/-- Window 0's staging buffer is a whole buffer. -/
abbrev hs0_0 (t : Fin (cfgA hr).N) : (ms0_0 hr t).IsWhole := hstage0_0 (((cfgA hr).slots t (0 : Fin 8)).cast nbuf0_0)

/-- The buffer window 1 stages its block in at point `t`. -/
abbrev ms0_1 (t : Fin (cfgA hr).N) : Memref sig .tc .vmem S1x2048x1024 .bf16 := spec0_1.stage ((cfgA hr).slots t (1 : Fin 8))
/-- Window 1's staging buffer is a whole buffer. -/
abbrev hs0_1 (t : Fin (cfgA hr).N) : (ms0_1 hr t).IsWhole := hstage0_1 (((cfgA hr).slots t (1 : Fin 8)).cast nbuf0_1)

/-- The buffer window 2 stages its block in at point `t`. -/
abbrev ms0_2 (t : Fin (cfgA hr).N) : Memref sig .tc .vmem S1x2048x1024 .bf16 := spec0_2.stage ((cfgA hr).slots t (2 : Fin 8))
/-- Window 2's staging buffer is a whole buffer. -/
abbrev hs0_2 (t : Fin (cfgA hr).N) : (ms0_2 hr t).IsWhole := hstage0_2 (((cfgA hr).slots t (2 : Fin 8)).cast nbuf0_2)

/-- The buffer window 3 stages its block in at point `t`. -/
abbrev ms0_3 (t : Fin (cfgA hr).N) : Memref sig .tc .vmem S1x1x1024 .f32 := spec0_3.stage ((cfgA hr).slots t (3 : Fin 8))
/-- Window 3's staging buffer is a whole buffer. -/
abbrev hs0_3 (t : Fin (cfgA hr).N) : (ms0_3 hr t).IsWhole := hstage0_3 (((cfgA hr).slots t (3 : Fin 8)).cast nbuf0_3)

/-- The buffer window 4 stages its block in at point `t`. -/
abbrev ms0_4 (t : Fin (cfgA hr).N) : Memref sig .tc .vmem S1x1x1024 .f32 := spec0_4.stage ((cfgA hr).slots t (4 : Fin 8))
/-- Window 4's staging buffer is a whole buffer. -/
abbrev hs0_4 (t : Fin (cfgA hr).N) : (ms0_4 hr t).IsWhole := hstage0_4 (((cfgA hr).slots t (4 : Fin 8)).cast nbuf0_4)

/-- The buffer window 5 stages its block in at point `t`. -/
abbrev ms0_5 (t : Fin (cfgA hr).N) : Memref sig .tc .vmem S1x1024x2048 .bf16 := spec0_5.stage ((cfgA hr).slots t (5 : Fin 8))
/-- Window 5's staging buffer is a whole buffer. -/
abbrev hs0_5 (t : Fin (cfgA hr).N) : (ms0_5 hr t).IsWhole := hstage0_5 (((cfgA hr).slots t (5 : Fin 8)).cast nbuf0_5)

/-- The buffer window 6 stages its block in at point `t`. -/
abbrev ms0_6 (t : Fin (cfgA hr).N) : Memref sig .tc .vmem S1x1x2048 .f32 := spec0_6.stage ((cfgA hr).slots t (6 : Fin 8))
/-- Window 6's staging buffer is a whole buffer. -/
abbrev hs0_6 (t : Fin (cfgA hr).N) : (ms0_6 hr t).IsWhole := hstage0_6 (((cfgA hr).slots t (6 : Fin 8)).cast nbuf0_6)

/-- The buffer window 7 stages its block in at point `t`. -/
abbrev ms0_7 (t : Fin (cfgA hr).N) : Memref sig .tc .vmem S512x2048 .f32 := spec0_7.stage ((cfgA hr).slots t (7 : Fin 8))
/-- Window 7's staging buffer is a whole buffer. -/
abbrev hs0_7 (t : Fin (cfgA hr).N) : (ms0_7 hr t).IsWhole := hstage0_7 (((cfgA hr).slots t (7 : Fin 8)).cast nbuf0_7)

/-- Window `w`'s block at point `t`, read off its array at the launch. -/
def iblk (c : Dev nD) (w : Fin (cfgA hr).W) (t : Fin (cfgA hr).N) : (((cfgA hr).win w).xblock (crd hr t)).Idx → Elt Ideal ((cfgA hr).win w).elt :=
  (((cfgA hr).win w).blk t).view.read (Elt Ideal) ((s₀ m ρ).mem (((cfgA hr).win w).arr.view.loc (c : Thread nD τ)))

/-! ## The schedule: which points store the output block and write it back -/

/-- When the output block is written back, point by point. -/
theorem flush_table : ∀ t : Fin grid0.N,
    (true && (t.val + 1 = grid0.N || decide (∃ h : t.val + 1 < grid0.N, cc0_transform_7 (grid0.coords ⟨t.val + 1, h⟩) ≠ cc0_transform_7 (grid0.coords t))))
      = decide (t.val % 2 = 1) := by decide +kernel

/-- The output block is written back after a tile's second half. -/
theorem flush7 (t : Fin (cfgA hr).N) : ((cfgA hr).win (7 : Fin 8)).flush t = decide (t.val % 2 = 1) := flush_table t

/-- The word the body reads of the second table. -/
theorem nuWord_eq (T1 : S1.Idx → BitVec 32) : nuWord T1 = T1 (ix1 0) := congrArg T1 (one_index _)

/-- A tile's first half stores nothing into the output block; its second half does. -/
theorem idle7 (t : Fin (cfgA hr).N) : (cfgA hr).idle (7 : Fin 8) ((cfgA hr).grid.coords t) = decide (t.val % 2 = 0) := by
  have hv : ((grid0.coords t) 1).val = t.val % 2 := (coords_val t).2
  show (!(k0_cond1 (grid0.coords t) ((tabs T0 T1).atD 1 ![0]) == 1#1 && k0_cond3 (grid0.coords t) == 1#1) && !(k0_cond4 (grid0.coords t) ((tabs T0 T1).atD 1 ![0]) == 1#1)) = _
  generalize (tabs T0 T1).atD 1 ![0] = w
  have e3 := cond3_iff (grid0.coords t)
  have e1 := cond1_iff (grid0.coords t) w
  have e4 := cond4_iff (grid0.coords t) w
  rw [← e1] at e4
  rw [hv] at e3 e4
  rw [Bool.eq_iff_iff]
  simp only [Bool.and_eq_true, Bool.not_eq_true', Bool.and_eq_false_iff, beq_eq_false_iff_ne, ne_eq, decide_eq_true_eq, e3, e4]
  by_cases h : k0_cond1 (grid0.coords t) w = 1#1
  · simp only [h, not_true_eq_false, false_or, false_and, not_false_eq_true, and_true]; omega
  · simp only [h, not_false_eq_true, true_or, true_and]; omega

/-- So the block never holds anything stored when the body starts. -/
theorem fresh7 (n : Nat) (hn : n ≤ (cfgA hr).N) : (cfgA hr).fresh (7 : Fin 8) n = true :=
  Pipeline.Cfg.fresh_tab (cfgA hr) (7 : Fin 8) (fun _ => true) rfl (fun t => by
    rw [flush7, idle7]
    rcases Nat.mod_two_eq_zero_or_one t.val with h | h <;> rw [h] <;> rfl) n hn

/-! ## What the scratch buffers and the output block hold -/

/-- The narrowed token tile a tile's first half leaves in the first scratch buffer. -/
def tileTokens (c : Dev nD) (t : Fin (cfgA hr).N) : FVec Ideal S512x2048 .bf16 := k0_pay4 (F := Ideal) (iblk hr m ρ c (0 : Fin 8) t)

/-- The partial product over the first half of the hidden columns, left in the second scratch buffer. -/
def tilePartial (c : Dev nD) (t : Fin (cfgA hr).N) : FVec Ideal S512x2048 .f32 :=
  k0_pay1 (F := Ideal) (k0_pay6 (F := Ideal) (tileTokens hr m ρ c t) (iblk hr m ρ c (1 : Fin 8) t) (iblk hr m ρ c (3 : Fin 8) t))
    (k0_pay7 (F := Ideal) (tileTokens hr m ρ c t) (iblk hr m ρ c (2 : Fin 8) t) (iblk hr m ρ c (4 : Fin 8) t)) (k0_pay5 (F := Ideal)) (iblk hr m ρ c (5 : Fin 8) t)

/-- The point before. -/
def prevPt (t : Fin (cfgA hr).N) : Fin (cfgA hr).N := ⟨t.val - 1, Nat.lt_of_le_of_lt (Nat.sub_le _ _) t.isLt⟩

/-- A used tile's block after its second half. -/
def tileOut (c : Dev nD) (t : Fin (cfgA hr).N) : FVec Ideal S512x2048 .f32 :=
  k0_pay2 (F := Ideal) (k0_pay1 (F := Ideal) (k0_pay6 (F := Ideal) (tileTokens hr m ρ c (prevPt hr t)) (iblk hr m ρ c (1 : Fin 8) t) (iblk hr m ρ c (3 : Fin 8) t))
    (k0_pay7 (F := Ideal) (tileTokens hr m ρ c (prevPt hr t)) (iblk hr m ρ c (2 : Fin 8) t) (iblk hr m ρ c (4 : Fin 8) t)) (tilePartial hr m ρ c (prevPt hr t)) (iblk hr m ρ c (5 : Fin 8) t))
    (iblk hr m ρ c (6 : Fin 8) t)

/-- What the output block holds after point `t`. -/
def outAfter (c : Dev nD) (t : Fin (cfgA hr).N) : FVec Ideal S512x2048 .f32 :=
  if t.val % 2 = 1 then (if live T1 (crd hr t) then tileOut hr m ρ c t else k0_pay3 (F := Ideal)) else default

/-- Between points: the scratch buffers, which after a used tile's first half hold that tile's narrowed tokens and partial
    product, and the body's share of the tables. -/
def Phi (c : Dev nD) (t : Fin ((cfgA hr).N + 1)) : sProp 𝕄 :=
  iprop(∃ a0, ∃ a1, ⌜∀ s : Fin (cfgA hr).N, s.val + 1 = t.val → s.val % 2 = 0 → live T1 (crd hr s) → a0 = tileTokens hr m ρ c s ∧ a1 = tilePartial hr m ρ c s⌝
    ∗ (scM0_0.view.loc (c : Thread nD τ) ↦{fullShare} a0) ∗ (scM0_1.view.loc (c : Thread nD τ) ↦{fullShare} a1)
    ∗ (tbM0_0.view.loc (c : Thread nD τ) ↦{fullShare.right} T0) ∗ (tbM0_1.view.loc (c : Thread nD τ) ↦{fullShare.right} T1))

/-- The pipeline's proof data. -/
def dats (_ : Fin 1) (c : Dev nD) : Dat τ (Elt Ideal) Unit ℕ (UR sig nD τ) ℕ (cfgA hr) c where
  A w := (s₀ m ρ).mem (((cfgA hr).win w).arr.view.loc (c : Thread nD τ))
  after w t := match w with
    | ⟨0, _⟩ => iblk hr m ρ c (0 : Fin 8) t
    | ⟨1, _⟩ => iblk hr m ρ c (1 : Fin 8) t
    | ⟨2, _⟩ => iblk hr m ρ c (2 : Fin 8) t
    | ⟨3, _⟩ => iblk hr m ρ c (3 : Fin 8) t
    | ⟨4, _⟩ => iblk hr m ρ c (4 : Fin 8) t
    | ⟨5, _⟩ => iblk hr m ρ c (5 : Fin 8) t
    | ⟨6, _⟩ => iblk hr m ρ c (6 : Fin 8) t
    | ⟨7, _⟩ => outAfter hr m ρ c t
  Φ t := Phi hr m ρ c t
  q _ := fullShare
  owed _ := 0

/-- The output block after a used tile's second half. -/
theorem after7_live (c : Dev nD) (t : Fin (cfgA hr).N) (hf : t.val % 2 = 1) (hl : live T1 (crd hr t)) :
    (dats hr m ρ 0 c).after (7 : Fin 8) t = tileOut hr m ρ c t := by
  show outAfter hr m ρ c t = _
  unfold outAfter
  rw [if_pos hf, if_pos hl]

/-- The output block after an unused tile's second half. -/
theorem after7_dead (c : Dev nD) (t : Fin (cfgA hr).N) (hf : t.val % 2 = 1) (hl : ¬live T1 (crd hr t)) :
    (dats hr m ρ 0 c).after (7 : Fin 8) t = k0_pay3 (F := Ideal) := by
  show outAfter hr m ρ c t = _
  unfold outAfter
  rw [if_pos hf, if_neg hl]

/-- A second half and the first half before it belong to one tile. -/
theorem tile_prev (t : Fin (cfgA hr).N) (hf : t.val % 2 = 1) : (crd hr (prevPt hr t)) 0 = (crd hr t) 0 := by
  apply Fin.ext
  have a := (coords_val t).1
  have b := (coords_val (prevPt hr t)).1
  refine b.trans (Eq.trans ?_ a.symm)
  show (t.val - 1) / 2 = t.val / 2
  omega

/-- A tile in use at its second half is in use at its first. -/
theorem live_prev (t : Fin (cfgA hr).N) (hf : t.val % 2 = 1) (hl : live T1 (crd hr t)) : live T1 (crd hr (prevPt hr t)) := by
  unfold live at hl ⊢
  rw [tile_prev hr t hf]
  exact hl

/-- Input window 0 holds its block when the body runs. -/
theorem before0_0 (c : Dev nD) (t : Fin (cfgA hr).N) (d) : (dats hr m ρ 0 c).before (0 : Fin 8) t d = iblk hr m ρ c (0 : Fin 8) t :=
  ((dats hr m ρ 0 c).before_in_eq_fetched (0 : Fin 8) rfl (fun _ => rfl) (fun _ _ _ => rfl)
    (fun t => by rw [show (dats hr m ρ 0 c).after (0 : Fin 8) t = iblk hr m ρ c (0 : Fin 8) t from rfl]; unfold Dat.blockOf iblk; rfl) t d).trans
    (by unfold Dat.fetched Dat.blockOf iblk; rfl)

/-- Input window 1 holds its block when the body runs. -/
theorem before0_1 (c : Dev nD) (t : Fin (cfgA hr).N) (d) : (dats hr m ρ 0 c).before (1 : Fin 8) t d = iblk hr m ρ c (1 : Fin 8) t :=
  ((dats hr m ρ 0 c).before_in_eq_fetched (1 : Fin 8) rfl (fun _ => rfl) (fun _ _ _ => rfl)
    (fun t => by rw [show (dats hr m ρ 0 c).after (1 : Fin 8) t = iblk hr m ρ c (1 : Fin 8) t from rfl]; unfold Dat.blockOf iblk; rfl) t d).trans
    (by unfold Dat.fetched Dat.blockOf iblk; rfl)

/-- Input window 2 holds its block when the body runs. -/
theorem before0_2 (c : Dev nD) (t : Fin (cfgA hr).N) (d) : (dats hr m ρ 0 c).before (2 : Fin 8) t d = iblk hr m ρ c (2 : Fin 8) t :=
  ((dats hr m ρ 0 c).before_in_eq_fetched (2 : Fin 8) rfl (fun _ => rfl) (fun _ _ _ => rfl)
    (fun t => by rw [show (dats hr m ρ 0 c).after (2 : Fin 8) t = iblk hr m ρ c (2 : Fin 8) t from rfl]; unfold Dat.blockOf iblk; rfl) t d).trans
    (by unfold Dat.fetched Dat.blockOf iblk; rfl)

/-- Input window 3 holds its block when the body runs. -/
theorem before0_3 (c : Dev nD) (t : Fin (cfgA hr).N) (d) : (dats hr m ρ 0 c).before (3 : Fin 8) t d = iblk hr m ρ c (3 : Fin 8) t :=
  ((dats hr m ρ 0 c).before_in_eq_fetched (3 : Fin 8) rfl (fun _ => rfl) (fun _ _ _ => rfl)
    (fun t => by rw [show (dats hr m ρ 0 c).after (3 : Fin 8) t = iblk hr m ρ c (3 : Fin 8) t from rfl]; unfold Dat.blockOf iblk; rfl) t d).trans
    (by unfold Dat.fetched Dat.blockOf iblk; rfl)

/-- Input window 4 holds its block when the body runs. -/
theorem before0_4 (c : Dev nD) (t : Fin (cfgA hr).N) (d) : (dats hr m ρ 0 c).before (4 : Fin 8) t d = iblk hr m ρ c (4 : Fin 8) t :=
  ((dats hr m ρ 0 c).before_in_eq_fetched (4 : Fin 8) rfl (fun _ => rfl) (fun _ _ _ => rfl)
    (fun t => by rw [show (dats hr m ρ 0 c).after (4 : Fin 8) t = iblk hr m ρ c (4 : Fin 8) t from rfl]; unfold Dat.blockOf iblk; rfl) t d).trans
    (by unfold Dat.fetched Dat.blockOf iblk; rfl)

/-- Input window 5 holds its block when the body runs. -/
theorem before0_5 (c : Dev nD) (t : Fin (cfgA hr).N) (d) : (dats hr m ρ 0 c).before (5 : Fin 8) t d = iblk hr m ρ c (5 : Fin 8) t :=
  ((dats hr m ρ 0 c).before_in_eq_fetched (5 : Fin 8) rfl (fun _ => rfl) (fun _ _ _ => rfl)
    (fun t => by rw [show (dats hr m ρ 0 c).after (5 : Fin 8) t = iblk hr m ρ c (5 : Fin 8) t from rfl]; unfold Dat.blockOf iblk; rfl) t d).trans
    (by unfold Dat.fetched Dat.blockOf iblk; rfl)

/-- Input window 6 holds its block when the body runs. -/
theorem before0_6 (c : Dev nD) (t : Fin (cfgA hr).N) (d) : (dats hr m ρ 0 c).before (6 : Fin 8) t d = iblk hr m ρ c (6 : Fin 8) t :=
  ((dats hr m ρ 0 c).before_in_eq_fetched (6 : Fin 8) rfl (fun _ => rfl) (fun _ _ _ => rfl)
    (fun t => by rw [show (dats hr m ρ 0 c).after (6 : Fin 8) t = iblk hr m ρ c (6 : Fin 8) t from rfl]; unfold Dat.blockOf iblk; rfl) t d).trans
    (by unfold Dat.fetched Dat.blockOf iblk; rfl)

/-- The output window's buffer holds something unspecified when the body runs. -/
theorem before0_7 (c : Dev nD) (t : Fin (cfgA hr).N) (d) : (dats hr m ρ 0 c).before (7 : Fin 8) t d = d := by
  rw [(dats hr m ρ 0 c).before_out_traj (7 : Fin 8) rfl (fun _ _ => rfl)
    (fun t ht hi hf => absurd (hf.symm.trans (fresh7 hr t.val (Nat.le_of_lt t.isLt))) Bool.false_ne_true) t.val t rfl d]
  exact if_pos (fresh7 hr t.val (Nat.le_of_lt t.isLt))

/-! ## The body, path by path -/

/-- The body at point `t` on its staging buffers. -/
abbrev bodyAt0 (t : Fin (cfgA hr).N) : Prog (TpuEff nD τ sig (Elt Ideal) Λ₀ .tc) PUnit :=
  cc0_moe_experts (crd hr t) (Memref.whole main_arg0) (Memref.isWhole_whole _) (Memref.whole main_arg1) (Memref.isWhole_whole _) (ms0_0 hr t) (hs0_0 hr t) (ms0_1 hr t) (hs0_1 hr t) (ms0_2 hr t) (hs0_2 hr t) (ms0_3 hr t) (hs0_3 hr t) (ms0_4 hr t) (hs0_4 hr t) (ms0_5 hr t) (hs0_5 hr t) (ms0_6 hr t) (hs0_6 hr t) (ms0_7 hr t) (hs0_7 hr t) (Memref.whole cc0_scratch0) (Memref.isWhole_whole _) (Memref.whole cc0_scratch1) (Memref.isWhole_whole _)

/-- What the pipeline asks of the body at point `t`. -/
def BodyAt (c : Dev nD) (t : Fin (cfgA hr).N) : Prop :=
    iprop((dats hr m ρ 0 c).Φ t.castSucc ∗ (dats hr m ρ 0 c).owesAt () t.castSucc
        ∗ (∃ d, owns (c : Thread nD τ) (ms0_0 hr t) fullShare ((dats hr m ρ 0 c).before (0 : Fin 8) t d))
        ∗ (∃ d, owns (c : Thread nD τ) (ms0_1 hr t) fullShare ((dats hr m ρ 0 c).before (1 : Fin 8) t d))
        ∗ (∃ d, owns (c : Thread nD τ) (ms0_2 hr t) fullShare ((dats hr m ρ 0 c).before (2 : Fin 8) t d))
        ∗ (∃ d, owns (c : Thread nD τ) (ms0_3 hr t) fullShare ((dats hr m ρ 0 c).before (3 : Fin 8) t d))
        ∗ (∃ d, owns (c : Thread nD τ) (ms0_4 hr t) fullShare ((dats hr m ρ 0 c).before (4 : Fin 8) t d))
        ∗ (∃ d, owns (c : Thread nD τ) (ms0_5 hr t) fullShare ((dats hr m ρ 0 c).before (5 : Fin 8) t d))
        ∗ (∃ d, owns (c : Thread nD τ) (ms0_6 hr t) fullShare ((dats hr m ρ 0 c).before (6 : Fin 8) t d))
        ∗ (∃ d, owns (c : Thread nD τ) (ms0_7 hr t) fullShare ((dats hr m ρ 0 c).before (7 : Fin 8) t d)))
      ⊢ wp frame (wpE (defs₀ (F := Ideal)) Variants.none c none) Set.univ (bodyAt0 hr t) fun _ =>
          iprop((dats hr m ρ 0 c).Φ t.succ ∗ (dats hr m ρ 0 c).owesAt () t.succ
            ∗ bigSep Finset.univ fun w : Fin (cfgA hr).W =>
                match (cfgA hr).idle w ((cfgA hr).grid.coords t) with
                | true =>
                  match ((cfgA hr).win w).flush t with
                  | false => iprop(∃ d, owns (c : Thread nD τ) (((cfgA hr).win w).stage ((cfgA hr).slots t w)) fullShare ((dats hr m ρ 0 c).before w t d))
                  | true => owns (c : Thread nD τ) (((cfgA hr).win w).stage ((cfgA hr).slots t w)) fullShare ((dats hr m ρ 0 c).after w t)
                | false => owns (c : Thread nD τ) (((cfgA hr).win w).stage ((cfgA hr).slots t w)) fullShare ((dats hr m ρ 0 c).after w t))

set_option maxHeartbeats 6400000 in
/-- The body at a point of path A. -/
theorem body_A (c : Dev nD) (t : Fin (cfgA hr).N) (hl : live T1 (crd hr t)) (hf : t.val % 2 = 0) :
    BodyAt hr m ρ c t := by
  unfold BodyAt
  rw [bigSep_W0]
  have hl' : ((BitVec.ofNat 32 ((crd hr t) 0).val).slt (nuWord T1) = true) := by
    rw [nuWord_eq]; exact hl
  have hv : ((crd hr t) 1).val = t.val % 2 := (coords_val t).2
  rw [hf] at hv
  have h1 := (cond1_iff (crd hr t) (nuWord T1)).2 hl'
  have h2 := (cond2_iff (crd hr t)).2 hv
  have h3 := fun h => show False from absurd (hv.symm.trans ((cond3_iff (crd hr t)).1 h)) (by decide)
  have h4 := fun h => show False from ((cond4_iff (crd hr t) (nuWord T1)).1 h).1 hl'
  have i7 : (cfgA hr).idle (7 : Fin 8) ((cfgA hr).grid.coords t) = true := by rw [idle7, hf]; rfl
  have f7 : ((cfgA hr).win (7 : Fin 8)).flush t = false := by rw [flush7, hf]; rfl
  rewrite [i7]
  simp only [before0_0, before0_1, before0_2, before0_3, before0_4, before0_5, before0_6, before0_7, f7]
  rewrite [show (dats hr m ρ 0 c).Φ t.succ = Phi hr m ρ c t.succ from rfl, show (dats hr m ρ 0 c).Φ t.castSucc = Phi hr m ρ c t.castSucc from rfl,
    show (dats hr m ρ 0 c).owesAt () t.succ = (dats hr m ρ 0 c).owesAt () t.castSucc from rfl]
  unfold Phi
  iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_A c (crd hr t) (ms0_0 hr t) (hs0_0 hr t) (ms0_1 hr t) (hs0_1 hr t) (ms0_2 hr t) (hs0_2 hr t) (ms0_3 hr t) (hs0_3 hr t) (ms0_4 hr t) (hs0_4 hr t) (ms0_5 hr t) (hs0_5 hr t) (ms0_6 hr t) (hs0_6 hr t) (ms0_7 hr t) (hs0_7 hr t) T0 T1 (iblk hr m ρ c (0 : Fin 8) t) (iblk hr m ρ c (1 : Fin 8) t) (iblk hr m ρ c (2 : Fin 8) t) (iblk hr m ρ c (3 : Fin 8) t) (iblk hr m ρ c (4 : Fin 8) t) (iblk hr m ρ c (5 : Fin 8) t) (iblk hr m ρ c (6 : Fin 8) t) h1 h2 h3 h4).2.2 _ a0 a1 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [HS0]; · iexact HS0
  isplitl [HS1]; · iexact HS1
  iintro ⟨H0, H1, H2, H3, H4, H5, H6, HT0, HT1, H7, HS0, HS1⟩
  isplitl [HS0 HS1 HT0 HT1]
  · iexists _; iexists _
    isplitr; swap
    · isplitl [HS0]; · iexact HS0
      isplitl [HS1]; · iexact HS1
      isplitl [HT0]; · iexact HT0
      iexact HT1
    · ipureintro
      intro s hs hse hsl
      exact ⟨by
        have hts : s = t := Fin.ext (by rw [Fin.val_succ] at hs; omega)
        subst hts
        exact runA_scratch0 c (crd hr s) _ _ _ _ _ _ _ _ _ _ _ _ _ _ _ _ T0 T1 _ _ _ _ _ _ _ h1 h2 h3 h4, by
        have hts : s = t := Fin.ext (by rw [Fin.val_succ] at hs; omega)
        subst hts
        exact runA_scratch1 c (crd hr s) _ _ _ _ _ _ _ _ _ _ _ _ _ _ _ _ T0 T1 _ _ _ _ _ _ _ h1 h2 h3 h4⟩
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexists d7; iexact H7

set_option maxHeartbeats 6400000 in
/-- The body at a point of path B. -/
theorem body_B (c : Dev nD) (t : Fin (cfgA hr).N) (hl : live T1 (crd hr t)) (hf : t.val % 2 = 1) :
    BodyAt hr m ρ c t := by
  unfold BodyAt
  rw [bigSep_W0]
  have hl' : ((BitVec.ofNat 32 ((crd hr t) 0).val).slt (nuWord T1) = true) := by
    rw [nuWord_eq]; exact hl
  have hv : ((crd hr t) 1).val = t.val % 2 := (coords_val t).2
  rw [hf] at hv
  have h1 := (cond1_iff (crd hr t) (nuWord T1)).2 hl'
  have h2 := fun h => show False from absurd (hv.symm.trans ((cond2_iff (crd hr t)).1 h)) (by decide)
  have h3 := (cond3_iff (crd hr t)).2 hv
  have h4 := fun h => show False from ((cond4_iff (crd hr t) (nuWord T1)).1 h).1 hl'
  have i7 : (cfgA hr).idle (7 : Fin 8) ((cfgA hr).grid.coords t) = false := by rw [idle7, hf]; rfl
  have f7 : ((cfgA hr).win (7 : Fin 8)).flush t = true := by rw [flush7, hf]; rfl
  rewrite [i7]
  simp only [before0_0, before0_1, before0_2, before0_3, before0_4, before0_5, before0_6, before0_7, f7]
  rewrite [show (dats hr m ρ 0 c).Φ t.succ = Phi hr m ρ c t.succ from rfl, show (dats hr m ρ 0 c).Φ t.castSucc = Phi hr m ρ c t.castSucc from rfl,
    show (dats hr m ρ 0 c).owesAt () t.succ = (dats hr m ρ 0 c).owesAt () t.castSucc from rfl]
  unfold Phi
  iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  obtain ⟨e0, e1⟩ := ha (prevPt hr t) (by rw [Fin.val_castSucc]; show t.val - 1 + 1 = t.val; omega) (by show (t.val - 1) % 2 = 0; omega) (live_prev hr t hf hl)
  iapply ((kernelRun0_B c (crd hr t) (ms0_0 hr t) (hs0_0 hr t) (ms0_1 hr t) (hs0_1 hr t) (ms0_2 hr t) (hs0_2 hr t) (ms0_3 hr t) (hs0_3 hr t) (ms0_4 hr t) (hs0_4 hr t) (ms0_5 hr t) (hs0_5 hr t) (ms0_6 hr t) (hs0_6 hr t) (ms0_7 hr t) (hs0_7 hr t) T0 T1 (iblk hr m ρ c (0 : Fin 8) t) (iblk hr m ρ c (1 : Fin 8) t) (iblk hr m ρ c (2 : Fin 8) t) (iblk hr m ρ c (3 : Fin 8) t) (iblk hr m ρ c (4 : Fin 8) t) (iblk hr m ρ c (5 : Fin 8) t) (iblk hr m ρ c (6 : Fin 8) t) a0 a1 h1 h2 h3 h4).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexists _; iexact H7
  isplitl [HS0]; · iexact HS0
  isplitl [HS1]; · iexact HS1
  iintro ⟨H0, H1, H2, H3, H4, H5, H6, HT0, HT1, ⟨%e7, H7⟩, HS0, HS1⟩
  isplitl [HS0 HS1 HT0 HT1]
  · iexists _; iexists _
    isplitr; swap
    · isplitl [HS0]; · iexact HS0
      isplitl [HS1]; · iexact HS1
      isplitl [HT0]; · iexact HT0
      iexact HT1
    · ipureintro
      intro s hs hse hsl
      rw [Fin.val_succ] at hs; omega
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  unfold owns; iexists _; isplitr; swap
  · iexact H7
  · ipureintro
    exact (View.read_writes_of_cover _ _ _ _ _ (cover0_B_7 c _ _ _ _ _ _ _ _ _ _ _ _ _ _ _ _ _ _ _ _ _ _ _ _ _ _ _ _ _ _ _ _)).trans
      ((runB_out c (crd hr t) _ _ _ _ _ _ _ _ _ _ _ _ _ _ _ _ T0 T1 _ _ _ _ _ _ _ a0 a1 h1 h2 h3 h4).trans (by rw [e0, e1]; exact (after7_live hr m ρ c t hf hl).symm))

set_option maxHeartbeats 6400000 in
/-- The body at a point of path C. -/
theorem body_C (c : Dev nD) (t : Fin (cfgA hr).N) (hl : ¬live T1 (crd hr t)) (hf : t.val % 2 = 0) :
    BodyAt hr m ρ c t := by
  unfold BodyAt
  rw [bigSep_W0]
  have hl' : ¬((BitVec.ofNat 32 ((crd hr t) 0).val).slt (nuWord T1) = true) := by
    rw [nuWord_eq]; exact hl
  have hv : ((crd hr t) 1).val = t.val % 2 := (coords_val t).2
  rw [hf] at hv
  have h1 := fun h => hl' ((cond1_iff (crd hr t) (nuWord T1)).1 h)
  have h4 := fun h => show False from absurd (hv.symm.trans ((cond4_iff (crd hr t) (nuWord T1)).1 h).2) (by decide)
  have i7 : (cfgA hr).idle (7 : Fin 8) ((cfgA hr).grid.coords t) = true := by rw [idle7, hf]; rfl
  have f7 : ((cfgA hr).win (7 : Fin 8)).flush t = false := by rw [flush7, hf]; rfl
  rewrite [i7]
  simp only [before0_0, before0_1, before0_2, before0_3, before0_4, before0_5, before0_6, before0_7, f7]
  rewrite [show (dats hr m ρ 0 c).Φ t.succ = Phi hr m ρ c t.succ from rfl, show (dats hr m ρ 0 c).Φ t.castSucc = Phi hr m ρ c t.castSucc from rfl,
    show (dats hr m ρ 0 c).owesAt () t.succ = (dats hr m ρ 0 c).owesAt () t.castSucc from rfl]
  unfold Phi
  iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_C c (crd hr t) (ms0_0 hr t) (hs0_0 hr t) (ms0_1 hr t) (hs0_1 hr t) (ms0_2 hr t) (hs0_2 hr t) (ms0_3 hr t) (hs0_3 hr t) (ms0_4 hr t) (hs0_4 hr t) (ms0_5 hr t) (hs0_5 hr t) (ms0_6 hr t) (hs0_6 hr t) (ms0_7 hr t) (hs0_7 hr t) T0 T1 (iblk hr m ρ c (0 : Fin 8) t) (iblk hr m ρ c (1 : Fin 8) t) (iblk hr m ρ c (2 : Fin 8) t) (iblk hr m ρ c (3 : Fin 8) t) (iblk hr m ρ c (4 : Fin 8) t) (iblk hr m ρ c (5 : Fin 8) t) (iblk hr m ρ c (6 : Fin 8) t) a0 a1 h1 h4).2.2 _ _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexact H7
  isplitl [HS0]; · iexact HS0
  isplitl [HS1]; · iexact HS1
  iintro ⟨H0, H1, H2, H3, H4, H5, H6, HT0, HT1, H7, HS0, HS1⟩
  isplitl [HS0 HS1 HT0 HT1]
  · iexists _; iexists _
    isplitr; swap
    · isplitl [HS0]; · iexact HS0
      isplitl [HS1]; · iexact HS1
      isplitl [HT0]; · iexact HT0
      iexact HT1
    · ipureintro
      intro s hs hse hsl
      exact absurd (by
        have hts : s = t := Fin.ext (by rw [Fin.val_succ] at hs; omega)
        subst hts
        exact hsl) hl
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  iexists d7; iexact H7

set_option maxHeartbeats 6400000 in
/-- The body at a point of path D. -/
theorem body_D (c : Dev nD) (t : Fin (cfgA hr).N) (hl : ¬live T1 (crd hr t)) (hf : t.val % 2 = 1) :
    BodyAt hr m ρ c t := by
  unfold BodyAt
  rw [bigSep_W0]
  have hl' : ¬((BitVec.ofNat 32 ((crd hr t) 0).val).slt (nuWord T1) = true) := by
    rw [nuWord_eq]; exact hl
  have hv : ((crd hr t) 1).val = t.val % 2 := (coords_val t).2
  rw [hf] at hv
  have h1 := fun h => hl' ((cond1_iff (crd hr t) (nuWord T1)).1 h)
  have h4 := (cond4_iff (crd hr t) (nuWord T1)).2 ⟨hl', hv⟩
  have i7 : (cfgA hr).idle (7 : Fin 8) ((cfgA hr).grid.coords t) = false := by rw [idle7, hf]; rfl
  have f7 : ((cfgA hr).win (7 : Fin 8)).flush t = true := by rw [flush7, hf]; rfl
  rewrite [i7]
  simp only [before0_0, before0_1, before0_2, before0_3, before0_4, before0_5, before0_6, before0_7, f7]
  rewrite [show (dats hr m ρ 0 c).Φ t.succ = Phi hr m ρ c t.succ from rfl, show (dats hr m ρ 0 c).Φ t.castSucc = Phi hr m ρ c t.castSucc from rfl,
    show (dats hr m ρ 0 c).owesAt () t.succ = (dats hr m ρ 0 c).owesAt () t.castSucc from rfl]
  unfold Phi
  iintro ⟨⟨%a0, %a1, %ha, HS0, HS1, HT0, HT1⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply ((kernelRun0_D c (crd hr t) (ms0_0 hr t) (hs0_0 hr t) (ms0_1 hr t) (hs0_1 hr t) (ms0_2 hr t) (hs0_2 hr t) (ms0_3 hr t) (hs0_3 hr t) (ms0_4 hr t) (hs0_4 hr t) (ms0_5 hr t) (hs0_5 hr t) (ms0_6 hr t) (hs0_6 hr t) (ms0_7 hr t) (hs0_7 hr t) T0 T1 (iblk hr m ρ c (0 : Fin 8) t) (iblk hr m ρ c (1 : Fin 8) t) (iblk hr m ρ c (2 : Fin 8) t) (iblk hr m ρ c (3 : Fin 8) t) (iblk hr m ρ c (4 : Fin 8) t) (iblk hr m ρ c (5 : Fin 8) t) (iblk hr m ρ c (6 : Fin 8) t) a0 a1 h1 h4).2.2.2 _)
  isplitl [H0]; · iapply rep_of_owns; iexact H0
  isplitl [H1]; · iapply rep_of_owns; iexact H1
  isplitl [H2]; · iapply rep_of_owns; iexact H2
  isplitl [H3]; · iapply rep_of_owns; iexact H3
  isplitl [H4]; · iapply rep_of_owns; iexact H4
  isplitl [H5]; · iapply rep_of_owns; iexact H5
  isplitl [H6]; · iapply rep_of_owns; iexact H6
  isplitl [HT0]; · iexact HT0
  isplitl [HT1]; · iexact HT1
  isplitl [H7]; · iexists _; iexact H7
  isplitl [HS0]; · iexact HS0
  isplitl [HS1]; · iexact HS1
  iintro ⟨H0, H1, H2, H3, H4, H5, H6, HT0, HT1, ⟨%e7, H7⟩, HS0, HS1⟩
  isplitl [HS0 HS1 HT0 HT1]
  · iexists _; iexists _
    isplitr; swap
    · isplitl [HS0]; · iexact HS0
      isplitl [HS1]; · iexact HS1
      isplitl [HT0]; · iexact HT0
      iexact HT1
    · ipureintro
      intro s hs hse hsl
      rw [Fin.val_succ] at hs; omega
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]; · iapply owns_of_rep; iexact H5
  isplitl [H6]; · iapply owns_of_rep; iexact H6
  unfold owns; iexists _; isplitr; swap
  · iexact H7
  · ipureintro
    exact (View.read_writes_of_cover _ _ _ _ _ (cover0_D_7 c _ _ _ _ _ _ _ _ _ _ _ _ _ _ _ _ _ _ _ _ _ _ _ _ _ _ _ _ _ _)).trans
      ((runD_out c (crd hr t) _ _ _ _ _ _ _ _ _ _ _ _ _ _ _ _ T0 T1 _ _ _ _ _ _ _ a0 a1 h1 h4).trans (after7_dead hr m ρ c t hf hl).symm)

/-- The body at every point. -/
theorem body_every (c : Dev nD) (t : Fin (cfgA hr).N) : BodyAt hr m ρ c t := by
  rcases Nat.mod_two_eq_zero_or_one t.val with hf | hf <;> by_cases hl : live T1 (crd hr t)
  · exact body_A hr m ρ c t hl hf
  · exact body_C hr m ρ c t hl hf
  · exact body_B hr m ρ c t hl hf
  · exact body_D hr m ρ c t hl hf

/-- The library's body obligation. -/
theorem body_obligation (c : Dev nD) : BodyObligation (dats hr m ρ 0 c) (defs₀ (F := Ideal)) Variants.none () Set.univ := fun t => by
  rw [bigSep_W0]
  exact body_every hr m ρ c t

/-! ## The launch -/

/-- The rounds library's launch element. -/
def u₀ : UR sig nD τ :=
  initOf (Pipeline.cells (pcs hr) ((launch0 (F := Ideal)).cellOf_inj fun _ => adm hr))
    (Pipeline.launchToks (pcs hr) ((launch0 (F := Ideal)).cellOf_inj fun _ => adm hr))

/-- Every window holds its array whole. -/
theorem share_eq (c : Dev nD) (w : Fin (cfgA hr).W) : (dats hr m ρ 0 c).share w = fullShare := by unfold Dat.share; split <;> rfl

/-- The tables as the launch hands them over, one by one. -/
theorem prefHeld_eq (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- The invariant before the first point, from the tables and the scratch buffers. -/
theorem phi_first (c : Dev nD) :
    iprop(BI.emp ∗ Pipeline.prefHeld pre0 c (fun _ => fullShare.right) (adm hr).1 ∗ Pipeline.scopedRest spec0 c) ⊢ (dats hr m ρ 0 c).Φ 0 := by
  rw [prefHeld_eq, scopedRest0_eq, show (dats hr m ρ 0 c).Φ 0 = Phi hr m ρ c 0 from rfl]
  unfold Phi
  iintro ⟨-, ⟨HT0, HT1⟩, ⟨%a0, HS0⟩, ⟨%a1, HS1⟩⟩
  iexists a0; iexists a1
  isplitr; swap
  · isplitl [HS0]; · iexact HS0
    isplitl [HS1]; · iexact HS1
    isplitl [HT0]; · iexact HT0
    iexact HT1
  · ipureintro
    intro s hs
    exact absurd hs (Nat.succ_ne_zero _)

/-- After the last point the scratch buffers go back. -/
theorem phi_last (c : Dev nD) : (dats hr m ρ 0 c).Φ (Fin.last (cfgA hr).N) ⊢ iprop(BI.emp ∗ Pipeline.scopedRest spec0 c) := by
  rw [scopedRest0_eq, show (dats hr m ρ 0 c).Φ (Fin.last (cfgA hr).N) = Phi hr m ρ c (Fin.last _) from rfl]
  unfold Phi
  iintro ⟨%a0, %a1, -, HS0, HS1, -, -⟩
  isplitr; · iempintro
  isplitl [HS0]
  · iexists a0; iexact HS0
  iexists a1; iexact HS1

/-- The memory at the end: every array as the pipeline computes it, the tables as they were. -/
def AtEnd : PUnit × MemSt nD τ sig (Elt Ideal) → Prop := fun r =>
  ∀ c : Dev nD, (∀ w : Fin (cfgA hr).W, r.2.mem (((cfgA hr).win w).arr.view.loc (c : Thread nD τ)) = (dats hr m ρ 0 c).arrAt w (cfgA hr).N)
    ∧ ∀ j, r.2.mem ((c : Thread nD τ).loc (pre0.ref j)) = (adm hr).1 j

/-- The launch memory holds the two tables on every device. -/
def Holds (T0 : S160.Idx → BitVec 32) (T1 : S1.Idx → BitVec 32) (m : (ℓ : Loc nD τ sig) → Buf (Elt Ideal) ℓ) : Prop :=
  ∀ c : Dev nD, m ((c : Thread nD τ).loc main_arg0) = T0 ∧ m ((c : Thread nD τ).loc main_arg1) = T1

variable {m}

/-- The launch memory holds the tables the pipeline is taken at. -/
theorem tables_held (hm : Holds T0 T1 m) (c : Dev nD) (j : Fin 2) : m ((c : Thread nD τ).loc (pre0.ref j)) = (adm hr).1 j := by
  fin_cases j
  · exact (hm c).1
  · exact (hm c).2

set_option backward.isDefEq.respectTransparency.types false in
set_option maxHeartbeats 4000000 in
/-- Every weakly fair execution terminates, and at its end each array holds what the pipeline computes and every
    semaphore counter reads zero. -/
theorem run_quiescent (hm : Holds T0 T1 m) :
    θ_run (defs (F := Ideal)) (onTc (τ := τ) (main (F := Ideal))) (s₀ m ρ) (fun r => AtEnd hr m ρ r ∧ r.2.sem = fun _ => 0) :=
  Pipeline.θ_run_region_noSem_pf_quiescent pcfgs (fun _ => adm hr) (dats hr m ρ) () ((launch0 (F := Ideal)).cellOf_inj fun _ => adm hr) (0 : Fin 1)
    (launch0 (F := Ideal)).win.to₀ (launch0 (F := Ideal)).pre EP defs₀ Variants.none m ρ main
    (hbody := fun c => (body_obligation hr m ρ c).loose) (hne := (launch0 (F := Ideal)).block_pos)
    (harr := (launch0 (F := Ideal)).arr_whole) (hstage := (launch0 (F := Ideal)).stage_whole) (howed := fun _ _ => rfl)
    (u₀ := u₀ hr) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs hr) (dats hr m ρ) 0 (launch0 (F := Ideal)).win.arr_inj c (launch0 (F := Ideal)).arr_whole
      (share_eq hr m ρ c) _ _ fun _ => rfl)
    (hpf := tables_held hr hm)
    (X := fun _ => iprop(emp)) (Y := fun _ => iprop(emp)) (Z := fun _ => iprop(emp))
    (hX := fun c => by rw [unscopedRestP0_eq]; iintro -; isplitr <;> iempintro)
    (hin := phi_first hr m ρ)
    (hout := phi_last hr m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

/-- The argument arrays end unchanged and the result holds what the pipeline computes. -/
theorem run_result (hm : Holds T0 T1 m) :
    θ_run (defs (F := Ideal)) (onTc (τ := τ) (main (F := Ideal))) ⟨m, fun _ => 0, ρ⟩ (fun r => ∀ c : Dev nD,
      r.2.mem ((c.tc : Thread nD τ).loc main_v0) = (dats hr m ρ 0 c).arrAt (7 : Fin 8) (cfgA hr).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h.1 c).1 (7 : Fin 8), ((h.1 c).2 0).trans (hm c).1.symm, ((h.1 c).2 1).trans (hm c).2.symm, ((h.1 c).1 (0 : Fin 8)).trans ((dats hr m ρ 0 c).arrAt_in (0 : Fin 8) rfl _), ((h.1 c).1 (1 : Fin 8)).trans ((dats hr m ρ 0 c).arrAt_in (1 : Fin 8) rfl _), ((h.1 c).1 (2 : Fin 8)).trans ((dats hr m ρ 0 c).arrAt_in (2 : Fin 8) rfl _), ((h.1 c).1 (3 : Fin 8)).trans ((dats hr m ρ 0 c).arrAt_in (3 : Fin 8) rfl _), ((h.1 c).1 (4 : Fin 8)).trans ((dats hr m ρ 0 c).arrAt_in (4 : Fin 8) rfl _), ((h.1 c).1 (5 : Fin 8)).trans ((dats hr m ρ 0 c).arrAt_in (5 : Fin 8) rfl _), ((h.1 c).1 (6 : Fin 8)).trans ((dats hr m ρ 0 c).arrAt_in (6 : Fin 8) rfl _)⟩)
    (run_quiescent hr ρ hm)

include hr in
/-- The program's frame at routed tables. -/
theorem run_frame (hm : Holds T0 T1 m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and ((θ_run defs _ _).mono (fun _ h c => (h c).2) (run_result hr ρ hm)) ((θ_run defs _ _).mono (fun _ h => h.2) (run_quiescent hr ρ hm))

end Cert.KernelIdeal.Experts

end
-- ==== Proof.Spec.lean ====
module

public import Idealize.ShloMosaic.Lib.Pointwise
public import Idealize.ShloMosaic.PureOps.Ideal

@[expose] public section

set_option maxRecDepth 16384

noncomputable section

namespace Cert.Routed

open Idealize.ShloMosaic
open Idealize.ShloMosaic.Tactic

/-! # The routed experts, index by index

The one formula the kernel's result and the reference's both come to. -/

/-- The shape of the tokens: the rows of all tiles. -/
abbrev Tokens : Shape := ⟨2, ![81920, 2048]⟩
/-- The shape of a stack of weight matrices, one of each expert. -/
abbrev Weights : Shape := ⟨3, ![32, 2048, 2048]⟩
/-- The shape of a stack of biases, one row of each expert. -/
abbrev Biases : Shape := ⟨3, ![32, 1, 2048]⟩
/-- The shape of the table of experts, one entry of each tile. -/
abbrev Tiles : Shape := ⟨1, ![160]⟩
/-- The shape of the count of used tiles. -/
abbrev One : Shape := ⟨1, ![1]⟩

/-- One unit of an expert's linear layer on one token. -/
def unit (x : Fin 2048 → EReal) (w : Weights.Idx → EReal) (b : Biases.Idx → EReal) (e : Fin 32) (k : Fin 2048) : EReal :=
  ∑ d : Fin 2048, x d * w (ix3 e d k) + b (ix3 e 0 k)

/-- The clamped gated activation of a gate and a linear unit: with `g` the gate cut off above at seven and `l` the linear
    unit cut off at minus seven and seven, `g · sigmoid(1.702 g) · (l + 1)`. -/
def gated (g l : EReal) : EReal :=
  min g (Ideal.ofBits .f32 0x40E00000#32)
    * Ideal.div 1 (1 + Ideal.exp (-(Ideal.ofBits .f32 0x3FD9DB23#32 * min g (Ideal.ofBits .f32 0x40E00000#32))))
    * (min (Ideal.ofBits .f32 0x40E00000#32) (max (Ideal.ofBits .f32 0xC0E00000#32) l) + 1)

/-- One hidden unit of expert `e` on one token. -/
def hidden (x : Fin 2048 → EReal) (w1g w1l : Weights.Idx → EReal) (b1g b1l : Biases.Idx → EReal) (e : Fin 32) (k : Fin 2048) : EReal :=
  gated (unit x w1g b1g e k) (unit x w1l b1l e k)

/-- One output of expert `e` on one token. -/
def expertOut (x : Fin 2048 → EReal) (w1g w1l : Weights.Idx → EReal) (b1g b1l : Biases.Idx → EReal) (w2 : Weights.Idx → EReal) (b2 : Biases.Idx → EReal)
    (e : Fin 32) (j : Fin 2048) : EReal :=
  ∑ k : Fin 2048, hidden x w1g w1l b1g b1l e k * w2 (ix3 e k j) + b2 (ix3 e 0 j)

/-- The expert a word names. -/
def expertOf (v : BitVec 32) : Fin 32 := ⟨min v.toNat 31, by omega⟩

/-- The row of tile `t` at place `p`. -/
def rowOf (t : Fin 160) (p : Fin 512) : Fin 81920 := ⟨t.val * 512 + p.val, by omega⟩

/-- The result at tile `t`, place `p`, column `j`: the tile's expert on the row if the tile is in use, zero otherwise. -/
def result (T0 : Tiles.Idx → BitVec 32) (T1 : One.Idx → BitVec 32) (x : Tokens.Idx → EReal) (w1g w1l : Weights.Idx → EReal) (b1g b1l : Biases.Idx → EReal)
    (w2 : Weights.Idx → EReal) (b2 : Biases.Idx → EReal) (t : Fin 160) (p : Fin 512) (j : Fin 2048) : EReal :=
  if (BitVec.ofNat 32 t.val).slt (T1 (ix1 0)) = true then
    expertOut (fun d => x (ix2 (rowOf t p) d)) w1g w1l b1g b1l w2 b2 (expertOf (T0 (ix1 t))) j
  else 0

/-- The constant of the kernel's exponent is the negated constant of the reference's. -/
theorem slope_neg (g : EReal) : Ideal.ofBits .f32 0xBFD9DB23#32 * g = -(Ideal.ofBits .f32 0x3FD9DB23#32 * g) := by
  rw [← EReal.neg_mul]
  congr 1
  simp [Ideal.ofBits, Ideal.ieee, -EReal.coe_mul]

/-- A word below thirty-two is not negative. -/
theorem not_neg {v : BitVec 32} (h : v.toNat < 32) : v.slt 0#32 = false := by
  rw [Bool.eq_false_iff]
  intro hs
  rw [BitVec.slt_iff_toInt_lt, BitVec.toInt_eq_toNat_cond] at hs
  split at hs <;> simp at hs <;> omega

section Slices
variable {α : Type}

/-- The dimension numbers of taking whole slices of a stack by a column of slice numbers. -/
abbrev sliceDims (N P Q n : Nat)
    (wf : GatherDims.WF ⟨3, ![N, P, Q]⟩ ⟨2, ![n, 1]⟩ ⟨3, ![n, P, Q]⟩ [1, 2] [0] [] [0] [] 1 ![1, P, Q]) :
    GatherDims ⟨3, ![N, P, Q]⟩ ⟨2, ![n, 1]⟩ ⟨3, ![n, P, Q]⟩ where
  offsetDims := [1, 2]
  collapsedSliceDims := [0]
  operandBatchingDims := []
  startIndicesBatchingDims := []
  startIndexMap := [0]
  indexVectorDim := 1
  sliceSizes := ![1, P, Q]
  wf := wf

/-- Entry `(t, p, q)` of the slices taken is entry `(p, q)` of the slice the `t`-th number names, clamped into the stack. -/
theorem gather_slices {N P Q n : Nat} (hN : 0 < N)
    (wf : GatherDims.WF ⟨3, ![N, P, Q]⟩ ⟨2, ![n, 1]⟩ ⟨3, ![n, P, Q]⟩ [1, 2] [0] [] [0] [] 1 ![1, P, Q])
    (x : (⟨3, ![N, P, Q]⟩ : Shape).Idx → α) (idx : IVec ⟨2, ![n, 1]⟩ 32) (t : Fin n) (p : Fin P) (q : Fin Q) :
    Host.gather (sliceDims N P Q n wf) x idx (ix3 t p q) = x (ix3 ⟨min (idx (ix2 t 0)).toInt.toNat (N - 1), by omega⟩ p q) := by
  unfold Host.gather
  congr 1
  funext a
  refine Fin.ext ?_
  show (sliceDims N P Q n wf).start (ix3 t p q) idx a + (sliceDims N P Q n wf).batchCoord (ix3 t p q) a + (sliceDims N P Q n wf).offCoord (ix3 t p q) a = _
  rw [GatherDims.batchCoord_eq_zero _ _ _ List.not_mem_nil, Nat.add_zero]
  match a with
  | ⟨0, _⟩ =>
    rw [GatherDims.offCoord_eq_zero _ _ _ (fun h => ((GatherDims.mem_sKept _ _).mp h).1 (List.mem_singleton.mpr rfl)), Nat.add_zero]
    unfold GatherDims.start
    rw [dif_pos (show (⟨0, by decide⟩ : Fin 3) ∈ (sliceDims N P Q n wf).startIndexMap from List.mem_singleton.mpr rfl)]
    have hsi : (sliceDims N P Q n wf).siIdx (ix3 t p q) ⟨List.idxOf (⟨0, by decide⟩ : Fin 3) (sliceDims N P Q n wf).startIndexMap,
        List.idxOf_lt_length_iff.2 (List.mem_singleton.mpr rfl)⟩ = ix2 t 0 := by
      funext b
      refine Fin.ext ?_
      match b with
      | ⟨0, _⟩ => rfl
      | ⟨1, _⟩ => rfl
    rw [hsi]
    rfl
  | ⟨1, _⟩ =>
    unfold GatherDims.start
    rw [dif_neg (show (⟨1, by decide⟩ : Fin 3) ∉ (sliceDims N P Q n wf).startIndexMap from fun h => absurd (congrArg Fin.val (List.mem_singleton.mp h)) (Nat.succ_ne_zero _)), Nat.zero_add]
    rfl
  | ⟨2, _⟩ =>
    unfold GatherDims.start
    rw [dif_neg (show (⟨2, by decide⟩ : Fin 3) ∉ (sliceDims N P Q n wf).startIndexMap from fun h => absurd (congrArg Fin.val (List.mem_singleton.mp h)) (Nat.succ_ne_zero _)), Nat.zero_add]
    rfl

end Slices

/-- The clamped slice number of a word below thirty-two. -/
theorem clamped_expert {u v : BitVec 32} (e : u = v) (h : v.toNat < 32) {hlt} : (⟨min u.toInt.toNat (32 - 1), hlt⟩ : Fin 32) = expertOf v := by
  subst e
  apply Fin.ext
  show min u.toInt.toNat (32 - 1) = min u.toNat 31
  rw [BitVec.toInt_eq_toNat_cond]
  split <;> omega

end Cert.Routed

end
-- ==== Proof.Value.lean ====
module

public import proofs.«01_k».proof.Proof.IdealRun
public import proofs.«01_k».proof.Proof.Spec
public import Idealize.ShloMosaic.Lib.Pointwise
public import Idealize.ShloMosaic.Lib.Pipeline.ValueKit

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.ShloMosaic.Pipeline (Dat Cfg Window)
open Cert.Routed (unit gated hidden expertOut expertOf rowOf result)

/-! # The kernel's result, index by index -/

/-! ## The stored vectors at an index -/

/-- The product of the two vectors the body forms is the activation of the two linear layers. -/
theorem act_at (xb : FVec Ideal S512x2048 .bf16) (wg wl : FVec Ideal S1x2048x1024 .bf16) (bg bl : FVec Ideal S1x1x1024 .f32) (p : Fin 512) (k : Fin 1024) :
    k0_pay6 (F := Ideal) xb wg bg (ix2 p k) * k0_pay7 (F := Ideal) xb wl bl (ix2 p k)
      = gated (∑ d : Fin 2048, xb (ix2 p d) * wg (ix3 0 d k) + bg (ix3 0 0 k)) (∑ d : Fin 2048, xb (ix2 p d) * wl (ix3 0 d k) + bl (ix3 0 0 k)) := by
  unfold gated
  pointwise [k0_pay6, k0_pay7]
  rw [Cert.Routed.slope_neg]

/-- One half's accumulation. -/
theorem add_at (a l : FVec Ideal S512x1024 .f32) (acc : FVec Ideal S512x2048 .f32) (w : FVec Ideal S1x1024x2048 .bf16) (p : Fin 512) (j : Fin 2048) :
    k0_pay1 (F := Ideal) a l acc w (ix2 p j) = acc (ix2 p j) + ∑ k : Fin 1024, a (ix2 p k) * l (ix2 p k) * w (ix3 0 k j) := by
  pointwise [k0_pay1]

/-- The output bias. -/
theorem bias_at (a : FVec Ideal S512x2048 .f32) (b : FVec Ideal S1x1x2048 .f32) (p : Fin 512) (j : Fin 2048) :
    k0_pay2 (F := Ideal) a b (ix2 p j) = a (ix2 p j) + b (ix3 0 0 j) := by
  pointwise [k0_pay2]

/-- The accumulator starts at zero. -/
theorem start_at (p : Fin 512) (j : Fin 2048) : k0_pay5 (F := Ideal) (ix2 p j) = 0 := by
  pointwise [k0_pay5]

/-- An unused tile's block is zero. -/
theorem zero_at (p : Fin 512) (j : Fin 2048) : k0_pay3 (F := Ideal) (ix2 p j) = 0 := by
  pointwise [k0_pay3]

/-- Narrowing the tokens changes nothing on the extended reals. -/
theorem narrow_at (x : FVec Ideal S512x2048 .f32) (p : Fin 512) (d : Fin 2048) : k0_pay4 (F := Ideal) x (ix2 p d) = x (ix2 p d) := by
  pointwise [k0_pay4]

/-! ## The blocks at an index -/

variable {T0 : S160.Idx → BitVec 32} {T1 : S1.Idx → BitVec 32} (hr : Routed T0 T1)
variable (m : (ℓ : Loc nD τ sig) → Buf (Elt Ideal) ℓ) (ρ : Dev nD → PrngReg)

/-- The tile of a point. -/
abbrev tileAt (t : Fin (cfgA hr).N) : Fin 160 := (crd hr t) 0

/-- Column `k` of half `f` of the hidden columns. -/
def halfCol (f : Nat) (hf : f < 2) (k : Fin 1024) : Fin 2048 := ⟨f * 1024 + k.val, by omega⟩

/-- The half a live point reads. -/
theorem half_of (t : Fin (cfgA hr).N) (hl : live T1 (crd hr t)) (f : Nat) (hf : t.val % 2 = f) : (halfWord T1 (crd hr t)).toNat = f := by
  have hv : ((crd hr t) 1).val = t.val % 2 := (coords_val t).2
  unfold halfWord Scalar.cmpi IntOp.cmpi
  dsimp only
  rw [Scalar.select_ofBool, if_pos (show (BitVec.ofNat 32 ((crd hr t) 0).val).slt (T1 (ix1 0)) = true from hl), hv, BitVec.toNat_ofNat]
  omega

/-- The expert's number is the tile's table entry. -/
theorem expert_val (t : Fin (cfgA hr).N) : (T0 (ix1 (tileAt hr t))).toNat = (expertOf (T0 (ix1 (tileAt hr t)))).val := by
  have := hr.expert (ix1 (tileAt hr t))
  show _ = min _ 31
  omega

/-- The tile's tokens. -/
theorem tokens_at (c : Dev nD) (t : Fin (cfgA hr).N) (hl : live T1 (crd hr t)) (p : Fin 512) (d : Fin 2048) :
    iblk hr m ρ c (0 : Fin 8) t (ix2 p d) = m ((c : Thread nD τ).loc main_arg2) (ix2 (rowOf (tileAt hr t) p) d) := by
  refine congrArg (m ((c : Thread nD τ).loc main_arg2)) (funext fun a => Fin.ext ?_)
  match a with
  | ⟨0, _⟩ =>
    show (cc0_transform_0 inb_S1_S1_0 numel1_S1 (tabs T0 T1) (crd hr t)) 0 * 512 + 1 * p.val = (tileAt hr t).val * 512 + p.val
    rw [map0, clamped_of_lt _ _ (tile_lt _) hr.used hl]
    show (BitVec.ofNat 32 (tileAt hr t).val).toNat * 512 + 1 * p.val = _
    have := (tileAt hr t).isLt
    rw [BitVec.toNat_ofNat]
    omega
  | ⟨1, _⟩ =>
    show (cc0_transform_0 inb_S1_S1_0 numel1_S1 (tabs T0 T1) (crd hr t)) 1 * 2048 + 1 * d.val = d.val
    rw [map0]
    show 0 * 2048 + 1 * d.val = d.val
    omega

/-- The gate's weights. -/
theorem gateW_at (c : Dev nD) (t : Fin (cfgA hr).N) (hl : live T1 (crd hr t)) (f : Nat) (hf2 : f < 2) (hf : t.val % 2 = f) (d : Fin 2048) (k : Fin 1024) :
    iblk hr m ρ c (1 : Fin 8) t (ix3 0 d k) = m ((c : Thread nD τ).loc main_arg3) (ix3 (expertOf (T0 (ix1 (tileAt hr t)))) d (halfCol f hf2 k)) := by
  refine congrArg (m ((c : Thread nD τ).loc main_arg3)) (funext fun a => Fin.ext ?_)
  match a with
  | ⟨0, _⟩ =>
    show (cc0_transform_1 k0_off1_inb numel1_S1 inb_S1_S1_0 (tabs T0 T1) (crd hr t)) 0 * 1 + 1 * 0 = _
    rw [map1]
    exact (Nat.mul_one _).trans (expert_val hr t)
  | ⟨1, _⟩ =>
    show (cc0_transform_1 k0_off1_inb numel1_S1 inb_S1_S1_0 (tabs T0 T1) (crd hr t)) 1 * 2048 + 1 * d.val = d.val
    rw [map1]
    show 0 * 2048 + 1 * d.val = d.val
    omega
  | ⟨2, _⟩ =>
    show (cc0_transform_1 k0_off1_inb numel1_S1 inb_S1_S1_0 (tabs T0 T1) (crd hr t)) 2 * 1024 + 1 * k.val = f * 1024 + k.val
    rw [map1]
    show (halfWord T1 (crd hr t)).toNat * 1024 + 1 * k.val = _
    rw [half_of hr t hl f hf]
    omega

/-- The linear branch's weights. -/
theorem linW_at (c : Dev nD) (t : Fin (cfgA hr).N) (hl : live T1 (crd hr t)) (f : Nat) (hf2 : f < 2) (hf : t.val % 2 = f) (d : Fin 2048) (k : Fin 1024) :
    iblk hr m ρ c (2 : Fin 8) t (ix3 0 d k) = m ((c : Thread nD τ).loc main_arg4) (ix3 (expertOf (T0 (ix1 (tileAt hr t)))) d (halfCol f hf2 k)) := by
  refine congrArg (m ((c : Thread nD τ).loc main_arg4)) (funext fun a => Fin.ext ?_)
  match a with
  | ⟨0, _⟩ =>
    show (cc0_transform_2 k0_off1_inb numel1_S1 inb_S1_S1_0 (tabs T0 T1) (crd hr t)) 0 * 1 + 1 * 0 = _
    rw [map2]
    exact (Nat.mul_one _).trans (expert_val hr t)
  | ⟨1, _⟩ =>
    show (cc0_transform_2 k0_off1_inb numel1_S1 inb_S1_S1_0 (tabs T0 T1) (crd hr t)) 1 * 2048 + 1 * d.val = d.val
    rw [map2]
    show 0 * 2048 + 1 * d.val = d.val
    omega
  | ⟨2, _⟩ =>
    show (cc0_transform_2 k0_off1_inb numel1_S1 inb_S1_S1_0 (tabs T0 T1) (crd hr t)) 2 * 1024 + 1 * k.val = f * 1024 + k.val
    rw [map2]
    show (halfWord T1 (crd hr t)).toNat * 1024 + 1 * k.val = _
    rw [half_of hr t hl f hf]
    omega

/-- The gate's biases. -/
theorem gateB_at (c : Dev nD) (t : Fin (cfgA hr).N) (hl : live T1 (crd hr t)) (f : Nat) (hf2 : f < 2) (hf : t.val % 2 = f) (k : Fin 1024) :
    iblk hr m ρ c (3 : Fin 8) t (ix3 0 0 k) = m ((c : Thread nD τ).loc main_arg5) (ix3 (expertOf (T0 (ix1 (tileAt hr t)))) 0 (halfCol f hf2 k)) := by
  refine congrArg (m ((c : Thread nD τ).loc main_arg5)) (funext fun a => Fin.ext ?_)
  match a with
  | ⟨0, _⟩ =>
    show (cc0_transform_3 k0_off1_inb numel1_S1 inb_S1_S1_0 (tabs T0 T1) (crd hr t)) 0 * 1 + 1 * 0 = _
    rw [map3]
    exact (Nat.mul_one _).trans (expert_val hr t)
  | ⟨1, _⟩ =>
    show (cc0_transform_3 k0_off1_inb numel1_S1 inb_S1_S1_0 (tabs T0 T1) (crd hr t)) 1 * 1 + 1 * 0 = 0
    rw [map3]
    show 0 * 1 + 1 * 0 = 0
    omega
  | ⟨2, _⟩ =>
    show (cc0_transform_3 k0_off1_inb numel1_S1 inb_S1_S1_0 (tabs T0 T1) (crd hr t)) 2 * 1024 + 1 * k.val = f * 1024 + k.val
    rw [map3]
    show (halfWord T1 (crd hr t)).toNat * 1024 + 1 * k.val = _
    rw [half_of hr t hl f hf]
    omega

/-- The linear branch's biases. -/
theorem linB_at (c : Dev nD) (t : Fin (cfgA hr).N) (hl : live T1 (crd hr t)) (f : Nat) (hf2 : f < 2) (hf : t.val % 2 = f) (k : Fin 1024) :
    iblk hr m ρ c (4 : Fin 8) t (ix3 0 0 k) = m ((c : Thread nD τ).loc main_arg6) (ix3 (expertOf (T0 (ix1 (tileAt hr t)))) 0 (halfCol f hf2 k)) := by
  refine congrArg (m ((c : Thread nD τ).loc main_arg6)) (funext fun a => Fin.ext ?_)
  match a with
  | ⟨0, _⟩ =>
    show (cc0_transform_4 k0_off1_inb numel1_S1 inb_S1_S1_0 (tabs T0 T1) (crd hr t)) 0 * 1 + 1 * 0 = _
    rw [map4]
    exact (Nat.mul_one _).trans (expert_val hr t)
  | ⟨1, _⟩ =>
    show (cc0_transform_4 k0_off1_inb numel1_S1 inb_S1_S1_0 (tabs T0 T1) (crd hr t)) 1 * 1 + 1 * 0 = 0
    rw [map4]
    show 0 * 1 + 1 * 0 = 0
    omega
  | ⟨2, _⟩ =>
    show (cc0_transform_4 k0_off1_inb numel1_S1 inb_S1_S1_0 (tabs T0 T1) (crd hr t)) 2 * 1024 + 1 * k.val = f * 1024 + k.val
    rw [map4]
    show (halfWord T1 (crd hr t)).toNat * 1024 + 1 * k.val = _
    rw [half_of hr t hl f hf]
    omega

/-- The output weights. -/
theorem outW_at (c : Dev nD) (t : Fin (cfgA hr).N) (hl : live T1 (crd hr t)) (f : Nat) (hf2 : f < 2) (hf : t.val % 2 = f) (k : Fin 1024) (j : Fin 2048) :
    iblk hr m ρ c (5 : Fin 8) t (ix3 0 k j) = m ((c : Thread nD τ).loc main_arg7) (ix3 (expertOf (T0 (ix1 (tileAt hr t)))) (halfCol f hf2 k) j) := by
  refine congrArg (m ((c : Thread nD τ).loc main_arg7)) (funext fun a => Fin.ext ?_)
  match a with
  | ⟨0, _⟩ =>
    show (cc0_transform_5 k0_off1_inb numel1_S1 inb_S1_S1_0 (tabs T0 T1) (crd hr t)) 0 * 1 + 1 * 0 = _
    rw [map5]
    exact (Nat.mul_one _).trans (expert_val hr t)
  | ⟨1, _⟩ =>
    show (cc0_transform_5 k0_off1_inb numel1_S1 inb_S1_S1_0 (tabs T0 T1) (crd hr t)) 1 * 1024 + 1 * k.val = f * 1024 + k.val
    rw [map5]
    show (halfWord T1 (crd hr t)).toNat * 1024 + 1 * k.val = _
    rw [half_of hr t hl f hf]
    omega
  | ⟨2, _⟩ =>
    show (cc0_transform_5 k0_off1_inb numel1_S1 inb_S1_S1_0 (tabs T0 T1) (crd hr t)) 2 * 2048 + 1 * j.val = j.val
    rw [map5]
    show 0 * 2048 + 1 * j.val = j.val
    omega

/-- The output biases. -/
theorem outB_at (c : Dev nD) (t : Fin (cfgA hr).N) (j : Fin 2048) :
    iblk hr m ρ c (6 : Fin 8) t (ix3 0 0 j) = m ((c : Thread nD τ).loc main_arg8) (ix3 (expertOf (T0 (ix1 (tileAt hr t)))) 0 j) := by
  refine congrArg (m ((c : Thread nD τ).loc main_arg8)) (funext fun a => Fin.ext ?_)
  match a with
  | ⟨0, _⟩ =>
    show (cc0_transform_6 k0_off1_inb numel1_S1 (tabs T0 T1) (crd hr t)) 0 * 1 + 1 * 0 = _
    rw [map6]
    exact (Nat.mul_one _).trans (expert_val hr t)
  | ⟨1, _⟩ =>
    show (cc0_transform_6 k0_off1_inb numel1_S1 (tabs T0 T1) (crd hr t)) 1 * 1 + 1 * 0 = 0
    rw [map6]
    show 0 * 1 + 1 * 0 = 0
    omega
  | ⟨2, _⟩ =>
    show (cc0_transform_6 k0_off1_inb numel1_S1 (tabs T0 T1) (crd hr t)) 2 * 2048 + 1 * j.val = j.val
    rw [map6]
    show 0 * 2048 + 1 * j.val = j.val
    omega

/-! ## A tile's block -/

/-- The argument arrays, as the specification reads them. -/
abbrev spec (c : Dev nD) (t : Fin 160) (p : Fin 512) (j : Fin 2048) : EReal :=
  result T0 T1 (m ((c : Thread nD τ).loc main_arg2)) (m ((c : Thread nD τ).loc main_arg3)) (m ((c : Thread nD τ).loc main_arg4))
    (m ((c : Thread nD τ).loc main_arg5)) (m ((c : Thread nD τ).loc main_arg6)) (m ((c : Thread nD τ).loc main_arg7)) (m ((c : Thread nD τ).loc main_arg8)) t p j

/-- One summand of the output: a hidden unit of the expert times its output weight. -/
abbrev term (c : Dev nD) (t : Fin 160) (p : Fin 512) (j : Fin 2048) (k : Fin 2048) : EReal :=
  hidden (fun d => m ((c : Thread nD τ).loc main_arg2) (ix2 (rowOf t p) d)) (m ((c : Thread nD τ).loc main_arg3)) (m ((c : Thread nD τ).loc main_arg4))
    (m ((c : Thread nD τ).loc main_arg5)) (m ((c : Thread nD τ).loc main_arg6)) (expertOf (T0 (ix1 t))) k
    * m ((c : Thread nD τ).loc main_arg7) (ix3 (expertOf (T0 (ix1 t))) k j)

/-- What a point adds to the accumulator: its half of the hidden units, over tokens narrowed at a point of the same tile. -/
theorem half_at (c : Dev nD) (s t : Fin (cfgA hr).N) (hs : tileAt hr s = tileAt hr t) (hls : live T1 (crd hr s)) (hl : live T1 (crd hr t))
    (f : Nat) (hf2 : f < 2) (hf : t.val % 2 = f) (acc : FVec Ideal S512x2048 .f32) (p : Fin 512) (j : Fin 2048) :
    k0_pay1 (F := Ideal) (k0_pay6 (F := Ideal) (tileTokens hr m ρ c s) (iblk hr m ρ c (1 : Fin 8) t) (iblk hr m ρ c (3 : Fin 8) t))
        (k0_pay7 (F := Ideal) (tileTokens hr m ρ c s) (iblk hr m ρ c (2 : Fin 8) t) (iblk hr m ρ c (4 : Fin 8) t)) acc (iblk hr m ρ c (5 : Fin 8) t) (ix2 p j)
      = acc (ix2 p j) + ∑ k : Fin 1024, term (T0 := T0) m c (tileAt hr t) p j (halfCol f hf2 k) := by
  rw [add_at]
  refine congrArg (acc (ix2 p j) + ·) (Finset.sum_congr rfl fun k _ => ?_)
  rw [act_at, outW_at hr m ρ c t hl f hf2 hf, gateB_at hr m ρ c t hl f hf2 hf, linB_at hr m ρ c t hl f hf2 hf]
  refine congrArg₂ (fun a b => gated (a + _) (b + _) * _) (Finset.sum_congr rfl fun d _ => ?_) (Finset.sum_congr rfl fun d _ => ?_)
  · rw [gateW_at hr m ρ c t hl f hf2 hf]
    exact congrArg (· * _) ((narrow_at _ p d).trans ((tokens_at hr m ρ c s hls p d).trans (by rw [hs])))
  · rw [linW_at hr m ρ c t hl f hf2 hf]
    exact congrArg (· * _) ((narrow_at _ p d).trans ((tokens_at hr m ρ c s hls p d).trans (by rw [hs])))

/-- The hidden units of the two halves are all of them. -/
theorem halves (F : Fin 2048 → EReal) : ∑ k : Fin 2048, F k = (∑ k : Fin 1024, F (halfCol 0 (by omega) k)) + ∑ k : Fin 1024, F (halfCol 1 (by omega) k) := by
  rw [Fin.sum_univ_add (a := 1024) (b := 1024) (f := F)]
  refine congrArg₂ (· + ·) (Finset.sum_congr rfl fun k _ => congrArg F (Fin.ext ?_)) (Finset.sum_congr rfl fun k _ => congrArg F (Fin.ext ?_))
  · show k.val = 0 * 1024 + k.val
    omega
  · show 1024 + k.val = 1 * 1024 + k.val
    omega

/-- The block a used tile leaves is the expert's output of its rows. -/
theorem tile_at (c : Dev nD) (t : Fin (cfgA hr).N) (hf : t.val % 2 = 1) (hl : live T1 (crd hr t)) (p : Fin 512) (j : Fin 2048) :
    tileOut hr m ρ c t (ix2 p j) = spec (T0 := T0) (T1 := T1) m c (tileAt hr t) p j := by
  have hp : tileAt hr (prevPt hr t) = tileAt hr t := tile_prev hr t hf
  have hlp : live T1 (crd hr (prevPt hr t)) := by
    show (BitVec.ofNat 32 (tileAt hr (prevPt hr t)).val).slt _ = true
    rw [hp]
    exact hl
  have hf0 : (prevPt hr t).val % 2 = 0 := by
    show (t.val - 1) % 2 = 0
    omega
  unfold tileOut tilePartial
  rw [bias_at, half_at hr m ρ c (prevPt hr t) t hp hlp hl 1 (by omega) hf, half_at hr m ρ c (prevPt hr t) (prevPt hr t) rfl hlp hlp 0 (by omega) hf0,
    start_at, zero_add, hp, outB_at]
  unfold spec result
  rw [if_pos (show (BitVec.ofNat 32 (tileAt hr t).val).slt (T1 (ix1 0)) = true from hl)]
  unfold expertOut
  rw [halves]

/-- The block an unused tile leaves is zero. -/
theorem dead_at (c : Dev nD) (t : Fin (cfgA hr).N) (hl : ¬ live T1 (crd hr t)) (p : Fin 512) (j : Fin 2048) :
    k0_pay3 (F := Ideal) (ix2 p j) = spec (T0 := T0) (T1 := T1) m c (tileAt hr t) p j := by
  rw [zero_at]
  unfold spec result
  rw [if_neg (show ¬ (BitVec.ofNat 32 (tileAt hr t).val).slt (T1 (ix1 0)) = true from hl)]

/-! ## The array -/

/-- The array the specification describes. -/
def specArr (c : Dev nD) : S81920x2048.Idx → EReal := fun i =>
  spec (T0 := T0) (T1 := T1) m c ⟨(i 0).val / 512, by have : (i 0).val < 81920 := (i 0).isLt; omega⟩ ⟨(i 0).val % 512, by omega⟩ ⟨(i 1).val, (i 1).isLt⟩

end Cert.KernelIdeal.Experts

end
-- ==== Proof.Result.lean ====
module

public import proofs.«01_k».proof.Proof.Value
public import Idealize.ShloMosaic.Lib.Pipeline.Covers

@[expose] public section

set_option maxRecDepth 16384
set_option Elab.async false

noncomputable section

namespace Cert.KernelIdeal.Experts

open Cert.KernelIdeal Cert.KernelIdeal.Gen
open Idealize.ShloMosaic
open Idealize.ShloMosaic.TcCoe Idealize.ShloMosaic.Tactic
open Idealize.ShloMosaic.Pipeline (Dat Cfg Window)
open Cert.Routed (unit gated hidden expertOut expertOf rowOf result)

/-! # The array the kernel's run leaves -/

variable {T0 : S160.Idx → BitVec 32} {T1 : S1.Idx → BitVec 32} (hr : Routed T0 T1)
variable (m : (ℓ : Loc nD τ sig) → Buf (Elt Ideal) ℓ) (ρ : Dev nD → PrngReg)

/-- The written blocks cover the result, whatever the tables hold. -/
theorem covers7 : ((cfgA hr).win 7).Covers :=
  ((cfgA hr).win 7).covers_of_indexMap_surj rfl
    (fun a => match a with | ⟨0, _⟩ => (by decide : 0 < 512) | ⟨1, _⟩ => (by decide : 0 < 2048))
    fun β => ⟨fun a => match a with
        | ⟨0, _⟩ => (⟨(β (0 : Fin 2)).val, lt_of_lt_of_eq (β (0 : Fin 2)).isLt (show (81920 + 512 - 1) / 512 = 160 from by decide)⟩ : Fin 160)
        | ⟨1, _⟩ => (0 : Fin 2),
      fun a => match a with
        | ⟨0, _⟩ => by
          show (BitVec.ofNat 32 (β (0 : Fin 2)).val).toNat = (β (0 : Fin 2)).val
          have : (β (0 : Fin 2)).val < 160 := lt_of_lt_of_eq (β (0 : Fin 2)).isLt (show (81920 + 512 - 1) / 512 = 160 from by decide)
          rw [BitVec.toNat_ofNat]
          omega
        | ⟨1, _⟩ => by
          have : (β (1 : Fin 2)).val < 1 := lt_of_lt_of_eq (β (1 : Fin 2)).isLt (show (2048 + 2048 - 1) / 2048 = 1 from by decide)
          show 0 = (β (1 : Fin 2)).val
          omega⟩

/-- What the specification says where block `t` places its own index. -/
theorem spec_at (c : Dev nD) (t : Fin (cfgA hr).N) (p : Fin 512) (j : Fin 2048) (i : S81920x2048.Idx)
    (h0 : (i 0).val = (tileAt hr t).val * 512 + p.val) (h1 : (i 1).val = j.val) :
    specArr (T0 := T0) (T1 := T1) m c i = spec (T0 := T0) (T1 := T1) m c (tileAt hr t) p j := by
  have same : ∀ {a a' : Fin 160} {b b' : Fin 512} {d d' : Fin 2048}, a = a' → b = b' → d = d' →
      spec (T0 := T0) (T1 := T1) m c a b d = spec (T0 := T0) (T1 := T1) m c a' b' d' := by
    rintro _ _ _ _ _ _ rfl rfl rfl
    rfl
  exact same (Fin.ext (by show (i 0).val / 512 = _; omega)) (Fin.ext (by show (i 0).val % 512 = _; omega)) (Fin.ext h1)

/-- The array the run leaves is the specification's. -/
theorem arr_eq (c : Dev nD) : (dats hr m ρ (0 : Fin 1) c).arrAt 7 (cfgA hr).N = specArr (T0 := T0) (T1 := T1) m c := by
  refine (dats hr m ρ (0 : Fin 1) c).arrAt_eq_of_covers 7 (specArr (T0 := T0) (T1 := T1) m c) (covers7 hr) fun t hflush y => ?_
  have hf : t.val % 2 = 1 := by
    rw [flush7] at hflush
    exact of_decide_eq_true hflush
  obtain ⟨p, hp⟩ : ∃ p : Fin 512, p.val = (y (0 : Fin 2)).val := ⟨⟨(y (0 : Fin 2)).val, (show (y (0 : Fin 2)).val < 512 from (y (0 : Fin 2)).isLt)⟩, rfl⟩
  obtain ⟨j, hj⟩ : ∃ j : Fin 2048, j.val = (y (1 : Fin 2)).val := ⟨⟨(y (1 : Fin 2)).val, (show (y (1 : Fin 2)).val < 2048 from (y (1 : Fin 2)).isLt)⟩, rfl⟩
  have hy : ((cfgA hr).win 7).xinj ((cfgA hr).grid.coords t) y = ix2 p j := by
    refine funext fun a => Fin.ext ?_
    match a with
    | ⟨0, _⟩ => exact hp.symm
    | ⟨1, _⟩ => exact hj.symm
  refine Eq.trans (b := (dats hr m ρ (0 : Fin 1) c).after 7 t (ix2 p j)) (congrArg ((dats hr m ρ (0 : Fin 1) c).after 7 t) hy) ?_
  have hs := spec_at hr m c t p j (((((cfgA hr).win 7).blk t).view.emb y)) (by
      show (BitVec.ofNat 32 (tileAt hr t).val).toNat * 512 + 1 * (y (0 : Fin 2)).val = _
      have := (tileAt hr t).isLt
      rw [← hp, BitVec.toNat_ofNat]
      omega) (by
      show 0 * 2048 + 1 * (y (1 : Fin 2)).val = _
      rw [← hj]
      omega)
  refine Eq.trans ?_ hs.symm
  by_cases hl : live T1 (crd hr t)
  · rw [after7_live hr m ρ c t hf hl]
    exact tile_at hr m ρ c t hf hl p j
  · rw [after7_dead hr m ρ c t hf hl]
    exact dead_at hr m c t hl p j

end Cert.KernelIdeal.Experts

end
-- ==== Proof.Reference.lean ====
module

public import proofs.«01_k».proof.Proof.Gen.ReferenceIdeal
public import proofs.«01_k».proof.Proof.Spec
public import Idealize.ShloMosaic.Lib.Claim
public import Idealize.ShloMosaic.PureOps.Ideal.Laws
public import Idealize.ShloMosaic.Adequacy
public import Idealize.ShloMosaic.Init

@[expose] public section

set_option maxRecDepth 16384
set_option Elab.async false

noncomputable section

namespace Cert.ReferenceIdeal.Experts

open Cert.ReferenceIdeal Cert.ReferenceIdeal.Gen
open Idealize.ShloMosaic
open Idealize.ShloMosaic.TcCoe Idealize.ShloMosaic.Tactic
open Idealize.SL Idealize.SL.Sem

/-! # The reference: its run, and its result at an index -/

/-- The slice number of each tile. -/
def picks (te : IVec S160 32) : IVec S160x1 32 :=
  broadcastInDim S160x1 ![0] bcast_S160_S160x1_0
    (select (cmpi .slt te (broadcastInDim S160 ![] bcast_S_S160 (constantI S_ 32 0#32)))
      (addi te (broadcastInDim S160 ![] bcast_S_S160 (constantI S_ 32 32#32))) te)

/-- A linear layer of each tile's expert on the tile. -/
def layer (x : FVec Ideal S160x512x2048 .f32) (te : IVec S160 32) (w : FVec Ideal S32x2048x2048 .bf16) (b : FVec Ideal S32x1x2048 .f32) : FVec Ideal S160x512x2048 .f32 :=
  addf (Host.dotGeneral dot_S160x512x2048_S160x2048x2048_S160x512x2048_2_1_1_2_0_0 none x
      (extf .f32 (Host.gather gather_S32x2048x2048_S160x1_S160x2048x2048_12_0_n_n_0_1_120482048 w (picks te)) bitsLt_bf16_f32))
    (broadcastInDim S160x512x2048 ![0, 1, 2] bcast_S160x1x2048_S160x512x2048_0_1_2 (Host.gather gather_S32x1x2048_S160x1_S160x1x2048_12_0_n_n_0_1_112048 b (picks te)))

/-- A constant over the tiles. -/
def splat (bits : BitVec 32) : FVec Ideal S160x512x2048 .f32 := broadcastInDim S160x512x2048 ![] bcast_S_S160x512x2048 (constant (F := Ideal) S_ .f32 bits)

/-- The activation of a gate and a linear layer. -/
def act (g l : FVec Ideal S160x512x2048 .f32) : FVec Ideal S160x512x2048 .f32 :=
  mulf (mulf (minimumf g (splat 0x40E00000#32))
      (Host.divf (splat 0x3F800000#32) (addf (splat 0x3F800000#32) (Host.exp (Host.negf (mulf (splat 0x3FD9DB23#32) (minimumf g (splat 0x40E00000#32))))))))
    (addf (minimumf (splat 0x40E00000#32) (maximumf (splat 0xC0E00000#32) l)) (splat 0x3F800000#32))

/-- The reference's result. -/
def out (te : IVec S160 32) (nu : IVec S1 32) (x : FVec Ideal S81920x2048 .f32) (w1g w1l : FVec Ideal S32x2048x2048 .bf16) (b1g b1l : FVec Ideal S32x1x2048 .f32)
    (w2 : FVec Ideal S32x2048x2048 .bf16) (b2 : FVec Ideal S32x1x2048 .f32) : FVec Ideal S81920x2048 .f32 :=
  shapeCast S81920x2048
    (select (broadcastInDim S160x512x2048 ![0, 1, 2] bcast_S160x1x1_S160x512x2048_0_1_2
        (cmpi .slt (broadcastInDim S160x1x1 ![0] bcast_S160_S160x1x1_0 (iotaInDim S160 32 0))
          (broadcastInDim S160x1x1 ![] bcast_S_S160x1x1 (shapeCast S_ nu shapeCasts_S1_S_))))
      (layer (act (layer (shapeCast S160x512x2048 x shapeCasts_S81920x2048_S160x512x2048) te w1g b1g)
        (layer (shapeCast S160x512x2048 x shapeCasts_S81920x2048_S160x512x2048) te w1l b1l)) te w2 b2)
      (splat 0x00000000#32))
    shapeCasts_S160x512x2048_S81920x2048

set_option maxHeartbeats 3200000 in
/-- Every run of the reference ends with its result in place, its arguments unchanged and its semaphores at zero. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v76)
        = out (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  hlo_run
  rfl

/-- Every run of the reference leaves its arguments unchanged and its semaphores at zero. -/
theorem run_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) ∧ r.2.sem = fun _ => 0) :=
  (θ_run defs _ _).mono (fun r h => ⟨fun c => (h c).2, sem_eq_zero_of_no_sems (by decide) r.2⟩) (run m g)

/-- A tile's slice number is the word of its expert. -/
theorem picks_at (te : IVec S160 32) (t : Fin 160) (h : (te (ix1 t)).toNat < 32) : picks te (ix2 t 0) = te (ix1 t) := by
  unfold picks
  pointwise []
  unfold IntOp.cmpi Scalar.select
  dsimp only
  rw [Cert.Routed.not_neg h]
  exact if_neg (by decide)

/-- The slices of a weight array, at an index. -/
theorem weights_at (te : IVec S160 32) (w : FVec Ideal S32x2048x2048 .bf16) (t : Fin 160) (d k : Fin 2048) (h : (te (ix1 t)).toNat < 32) :
    Host.gather gather_S32x2048x2048_S160x1_S160x2048x2048_12_0_n_n_0_1_120482048 w (picks te) (ix3 t d k) = w (ix3 (Cert.Routed.expertOf (te (ix1 t))) d k) := by
  refine (Cert.Routed.gather_slices (N := 32) (P := 2048) (Q := 2048) (n := 160) (by decide) _ w (picks te) t d k).trans ?_
  exact congrArg (fun e => w (ix3 e d k)) (Cert.Routed.clamped_expert (picks_at te t h) h)

/-- The slices of a bias array, at an index. -/
theorem biases_at (te : IVec S160 32) (b : FVec Ideal S32x1x2048 .f32) (t : Fin 160) (k : Fin 2048) (h : (te (ix1 t)).toNat < 32) :
    Host.gather gather_S32x1x2048_S160x1_S160x1x2048_12_0_n_n_0_1_112048 b (picks te) (ix3 t 0 k) = b (ix3 (Cert.Routed.expertOf (te (ix1 t))) 0 k) := by
  refine (Cert.Routed.gather_slices (N := 32) (P := 1) (Q := 2048) (n := 160) (by decide) _ b (picks te) t 0 k).trans ?_
  exact congrArg (fun e => b (ix3 e 0 k)) (Cert.Routed.clamped_expert (picks_at te t h) h)

/-- A linear layer at an index. -/
theorem layer_at (x : FVec Ideal S160x512x2048 .f32) (te : IVec S160 32) (w : FVec Ideal S32x2048x2048 .bf16) (b : FVec Ideal S32x1x2048 .f32)
    (t : Fin 160) (p : Fin 512) (k : Fin 2048) (h : (te (ix1 t)).toNat < 32) :
    layer x te w b (ix3 t p k) = Cert.Routed.unit (fun d => x (ix3 t p d)) w b (Cert.Routed.expertOf (te (ix1 t))) k := by
  unfold layer
  pointwise []
  rw [biases_at te b t k h]
  exact congrArg₂ (· + ·) (Finset.sum_congr rfl fun d _ => congrArg (x (ix3 t p d) * ·) (weights_at te w t d k h)) rfl

/-- The activation at an index. -/
theorem act_at (g l : FVec Ideal S160x512x2048 .f32) (j : S160x512x2048.Idx) : act g l j = Cert.Routed.gated (g j) (l j) := by
  idx_vars j
  unfold act splat Cert.Routed.gated
  pointwise []

/-- The tokens cut into tiles, at an index. -/
theorem tiles_at (x : FVec Ideal S81920x2048 .f32) (t : Fin 160) (p : Fin 512) (d : Fin 2048) :
    shapeCast S160x512x2048 x shapeCasts_S81920x2048_S160x512x2048 (ix3 t p d) = x (ix2 (Cert.Routed.rowOf t p) d) := by
  pointwise []
  rfl

/-- The reference's result at an index. -/
theorem out_at (te : IVec S160 32) (nu : IVec S1 32) (x : FVec Ideal S81920x2048 .f32) (w1g w1l : FVec Ideal S32x2048x2048 .bf16) (b1g b1l : FVec Ideal S32x1x2048 .f32)
    (w2 : FVec Ideal S32x2048x2048 .bf16) (b2 : FVec Ideal S32x1x2048 .f32) (t : Fin 160) (p : Fin 512) (j : Fin 2048) (h : (te (ix1 t)).toNat < 32) :
    out te nu x w1g w1l b1g b1l w2 b2 (ix2 (Cert.Routed.rowOf t p) j) = Cert.Routed.result te nu x w1g w1l b1g b1l w2 b2 t p j := by
  have ht : (Cert.Routed.rowOf t p).val / 512 = t.val := by show (t.val * 512 + p.val) / 512 = t.val; omega
  have hp : (Cert.Routed.rowOf t p).val % 512 = p.val := by show (t.val * 512 + p.val) % 512 = p.val; omega
  unfold out splat
  pointwise []
  simp only [ht, hp, Fin.eta]
  rw [layer_at _ _ _ _ _ _ _ h]
  unfold Cert.Routed.result Cert.Routed.expertOut Cert.Routed.hidden
  simp only [act_at, layer_at _ _ _ _ _ _ _ h, tiles_at]
  unfold Cert.Routed.unit IntOp.cmpi
  exact Scalar.select_ofBool _ _ _

end Cert.ReferenceIdeal.Experts

end
-- ==== Proof.Pre.lean ====
module

public import proofs.«01_k».proof.Proof.Gen.Pre_routed
public import Idealize.ShloMosaic.Lib.Pointwise

@[expose] public section

set_option maxRecDepth 16384

noncomputable section

namespace Cert.Routed

open Idealize.ShloMosaic

/-- A conjunction of two bits is one exactly when both are. -/
theorem and_one {a b : BitVec 1} (h : a &&& b = 1#1) : a = 1#1 ∧ b = 1#1 := by
  revert a b
  decide

/-- The bit of a true test. -/
theorem bit_true {b : Bool} (h : BitVec.ofBool b = 1#1) : b = true := by
  revert b
  decide

/-- What the precondition says of the two tables: every tile's expert is one of the thirty-two, and some tile is used. -/
theorem tables_ok {F : FTy → Type} [FloatOps F] (te : Pre_routed.S160.Idx → BitVec 32) (nu : Pre_routed.S1.Idx → BitVec 32)
    (x : FVec F Pre_routed.S81920x2048 .f32) (w1g w1l : FVec F Pre_routed.S32x2048x2048 .bf16) (b1g b1l : FVec F Pre_routed.S32x1x2048 .f32)
    (w2 : FVec F Pre_routed.S32x2048x2048 .bf16) (b2 : FVec F Pre_routed.S32x1x2048 .f32)
    (h : Pre_routed.fn (F := F) te nu x w1g w1l b1g b1l w2 b2 = fun _ => 1#1) :
    (∀ i, (te i).toNat < 32) ∧ 1 ≤ (nu (ix1 0)).toInt := by
  have hi : ∀ i, ((0#32).sle (te i) = true ∧ (te i).slt 32#32 = true) ∧ (1#32).sle (nu (ix1 0)) = true := fun i => by
    have h1 : IntOp.andi (IntOp.andi (IntOp.cmpi .sge (te i) 0#32) (IntOp.cmpi .slt (te i) 32#32)) (IntOp.cmpi .sge (nu (ix1 0)) 1#32) = 1#1 := by
      have h0 := congrFun h i
      unfold Pre_routed.fn at h0
      refine Eq.trans ?_ h0
      refine congrArg (fun j => IntOp.andi (IntOp.andi (IntOp.cmpi .sge (te i) 0#32) (IntOp.cmpi .slt (te i) 32#32)) (IntOp.cmpi .sge (nu j) 1#32)) ?_
      refine funext fun a => Fin.ext ?_
      match a with
      | ⟨0, _⟩ => rfl
    have h2 := and_one h1
    have h3 := and_one h2.1
    exact ⟨⟨bit_true h3.1, bit_true h3.2⟩, bit_true h2.2⟩
  refine ⟨fun i => ?_, ?_⟩
  · have h0 := BitVec.sle_iff_toInt_le.mp (hi i).1.1
    have h1 := BitVec.slt_iff_toInt_lt.mp (hi i).1.2
    have e0 : (0#32).toInt = 0 := by decide
    have e1 : (32#32).toInt = 32 := by decide
    rw [e0] at h0
    rw [e1] at h1
    rw [BitVec.toInt_eq_toNat_cond] at h0 h1
    split at h0 <;> omega
  · have h0 := BitVec.sle_iff_toInt_le.mp (hi (ix1 0)).2
    have e0 : (1#32).toInt = 1 := by decide
    rw [e0] at h0
    exact h0

end Cert.Routed

end
-- ==== Proof.InProjFrame.lean ====
module

public import proofs.«01_k».proof.Proof.Gen.Kernel2.Frame
public import proofs.«01_k».proof.Proof.Gen.Kernel2.Skeleton
public import Idealize.ShloMosaic.Lib.Claim
public import Idealize.ShloMosaic.Lib.Pipeline.FrameBody
public import Idealize.ShloMosaic.Lib.Exec
public import Idealize.ShloMosaic.Lib.Ring
public import Idealize.ShloMosaic.Lib.WordCmp

@[expose] public section

set_option maxRecDepth 16384
set_option Elab.async false

noncomputable section

namespace Cert.Kernel2.InProj

open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-- The machine's resources at this program. -/
local notation "𝕄" => MT nD τ sig Unit (Elt F) ℕ (UR sig nD τ) ℕ

/-- The three ways the body's conditions can fall: first column block, another block normalised by heads, a plain one. -/
def Branch (i : grid0.Coords) : Prop :=
  (k0_cond1 i = 1#1 ∧ k0_cond2 i = 1#1 ∧ ¬(k0_cond3 i = 1#1)) ∨ (¬(k0_cond1 i = 1#1) ∧ k0_cond2 i = 1#1 ∧ ¬(k0_cond3 i = 1#1))
    ∨ (¬(k0_cond1 i = 1#1) ∧ ¬(k0_cond2 i = 1#1) ∧ k0_cond3 i = 1#1)

/-- Which way they fall can be decided. -/
instance (i : grid0.Coords) : Decidable (Branch i) := by unfold Branch; infer_instance

/-- At every grid point the conditions fall one of the three ways. -/
theorem branch : ∀ t : Fin grid0.N, Branch (grid0.coords t) := by decide +kernel

section
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x1024 .bf16) (harg4 : arg4.IsWhole) (arg5 : Memref sig .tc .vmem S2048x256 .bf16) (harg5 : arg5.IsWhole)
  (arg6 : Memref sig .tc .vmem S1x1x128 .f32) (harg6 : arg6.IsWhole) (arg7 : Memref sig .tc .vmem S1024x1024 .bf16) (harg7 : arg7.IsWhole)
  (arg8 : Memref sig .tc .vmem S1024x256 .f32) (harg8 : arg8.IsWhole) (arg9 : Memref sig .tc .vmem S1024x2048 .bf16) (harg9 : arg9.IsWhole)
  (x0 : Vec F S1024x2048 .f32) (x1 : Vec F S1x2048 .f32) (x2 : Vec F S2048x1024 .bf16) (x3 : Vec F S2048x256 .bf16) (x4 : Vec F S1x1x128 .f32)

/-- The body's operands: the five input blocks at their contents, the two output blocks and the scratch at any. -/
def operands : sProp 𝕄 :=
  iprop(owns (c : Thread nD τ) arg2 fullShare x0 ∗ owns (c : Thread nD τ) arg3 fullShare x1 ∗ owns (c : Thread nD τ) arg4 fullShare x2
    ∗ owns (c : Thread nD τ) arg5 fullShare x3 ∗ owns (c : Thread nD τ) arg6 fullShare x4 ∗ (∃ d, owns (c : Thread nD τ) arg7 fullShare d)
    ∗ (∃ d, owns (c : Thread nD τ) arg8 fullShare d) ∗ (∃ d, owns (c : Thread nD τ) arg9 fullShare d))

set_option maxHeartbeats 4000000 in
/-- However the conditions fall, the body runs from its operands and hands them back, the inputs as they were. -/
theorem body_safe (hb : Branch i) (K : PUnit → sProp 𝕄) :
    iprop(operands c arg2 arg3 arg4 arg5 arg6 arg7 arg8 arg9 x0 x1 x2 x3 x4
        ∗ (operands c arg2 arg3 arg4 arg5 arg6 arg7 arg8 arg9 x0 x1 x2 x3 x4 -∗ K ⟨⟩))
      ⊢ wp frame (wpE (defs₀ (F := F)) Variants.none c none) Set.univ
          (cc0_inproj i arg2 harg2 arg3 harg3 arg4 harg4 arg5 harg5 arg6 harg6 arg7 harg7 arg8 harg8 arg9 harg9) K := by
  simp only [cc0_inproj_eq_skeleton]; unfold cc0_inproj_skel
  simp only [k0_part1_eq_skeleton, k0_part2_eq_skeleton, k0_part3_eq_skeleton]
  unfold operands owns
  iintro ⟨⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds, %fs, -, HS⟩⟩, Hk⟩
  obtain rfl := harg2.eq_unread hf0; obtain rfl := harg3.eq_unread hf1; obtain rfl := harg4.eq_unread hf2
  obtain rfl := harg5.eq_unread hf3; obtain rfl := harg6.eq_unread hf4
  rcases hb with ⟨h1, h2, h3⟩ | ⟨h1, h2, h3⟩ | ⟨h1, h2, h3⟩
  all_goals
    sl_exec (disch := first | sl_exact h1 | sl_exact h2 | sl_exact h3)
    sl_step
    iapply Hk
    isplitl [H0]; · iexists _; isplitr; · ipureintro; exact harg2.read_unread _
                    iexact H0
    isplitl [H1]; · iexists _; isplitr; · ipureintro; exact harg3.read_unread _
                    iexact H1
    isplitl [H2]; · iexists _; isplitr; · ipureintro; exact harg4.read_unread _
                    iexact H2
    isplitl [H3]; · iexists _; isplitr; · ipureintro; exact harg5.read_unread _
                    iexact H3
    isplitl [H4]; · iexists _; isplitr; · ipureintro; exact harg6.read_unread _
                    iexact H4
    isplitl [H5]; · iexists _, _; isplitr; swap; · iexact H5
                    ipureintro; rfl
    isplitl [H6]; · iexists _, _; isplitr; swap; · iexact H6
                    ipureintro; rfl
    iexists _, _; isplitr; swap; · iexact HS
    ipureintro; rfl

end

variable (m : (ℓ : Loc nD τ sig) → Buf (Elt F) ℓ) (ρ : Dev nD → PrngReg)

/-- Of the two output windows nothing is kept track of here. -/
def untracked : Fin 7 → Bool := fun w => w.val == 5 || w.val == 6

/-- The proof data of the launch: every input buffer at its block after each point, nothing said of the outputs. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, h⟩ => Pipeline.Dat.unnamed (cfg := cfg0) ⟨5, h⟩ t
    | ⟨6, h⟩ => Pipeline.Dat.unnamed (cfg := cfg0) ⟨6, h⟩ t
  Φ _ := Pipeline.ΦA spec0 c
  q _ := fullShare
  owed _ := 0

/-- The arrays are the launch's. -/
theorem A_eq (c : Dev nD) (w : Fin cfg0.W) : (dats m 0 c).A w = V m c (Pipeline.arrRef spec0 w) := by dsimp only [dats]

/-- What the body is given at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare d)
    ∗ (∃ d, owns (c : Thread nD τ) (st0_6 t) fullShare d))

/-- What it gives back. -/
def bodyPost (c : Dev nD) (t : Fin cfg0.N) : sProp 𝕄 :=
  iprop((dats m 0 c).Φ t.succ ∗ (dats m 0 c).owesAt () t.succ
    ∗ (dats m 0 c).leavesExact 0 t ∗ (dats m 0 c).leavesExact 1 t ∗ (dats m 0 c).leavesExact 2 t ∗ (dats m 0 c).leavesExact 3 t ∗ (dats m 0 c).leavesExact 4 t
    ∗ (∃ d, owns (c : Thread nD τ) (st0_5 t) fullShare d)
    ∗ (∃ d, owns (c : Thread nD τ) (st0_6 t) fullShare d))

set_option maxHeartbeats 2400000 in
/-- The body at any point, from what the launch gives it to what the launch takes back. -/
theorem body_point (c : Dev nD) (t : Fin cfg0.N) :
    bodyPre m c t ⊢ wp frame (wpE (defs₀ (F := F)) Variants.none c none) Set.univ (bodyAt0 t) (fun _ => bodyPost m c t) := by
  have h0 : ∀ d, (dats m 0 c).before 0 t d = iblk m c 0 t := before0_0_of m (dats m 0 c) (A_eq m c 0) (fun t => by dsimp only [dats]) t
  have h1 : ∀ d, (dats m 0 c).before 1 t d = iblk m c 1 t := before0_1_of m (dats m 0 c) (A_eq m c 1) (fun t => by dsimp only [dats]) t
  have h2 : ∀ d, (dats m 0 c).before 2 t d = iblk m c 2 t := before0_2_of m (dats m 0 c) (A_eq m c 2) (fun t => by dsimp only [dats]) t
  have h3 : ∀ d, (dats m 0 c).before 3 t d = iblk m c 3 t := before0_3_of m (dats m 0 c) (A_eq m c 3) (fun t => by dsimp only [dats]) t
  have h4 : ∀ d, (dats m 0 c).before 4 t d = iblk m c 4 t := before0_4_of m (dats m 0 c) (A_eq m c 4) (fun t => by dsimp only [dats]) t
  unfold bodyPre bodyPost bodyAt0
  simp only [h0, h1, h2, h3, h4]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    show (Pipeline.ΦA spec0 c : sProp 𝕄) = iprop(iprop((∃ d, owns (c : Thread nD τ) (Memref.whole cc0_scratch0 : Memref sig .tc .vmem S1024x2048 .bf16) fullShare d)) ∗ (∃ r, prngReg c r)) from by
      unfold Pipeline.ΦA; rw [scopedRest0_eq]; simp only [owns_whole]]
  rw [show (dats m 0 c).leavesExact 0 t = owns (c : Thread nD τ) (st0_0 t) fullShare (iblk m c 0 t) from rfl,
    show (dats m 0 c).leavesExact 1 t = owns (c : Thread nD τ) (st0_1 t) fullShare (iblk m c 1 t) from rfl,
    show (dats m 0 c).leavesExact 2 t = owns (c : Thread nD τ) (st0_2 t) fullShare (iblk m c 2 t) from rfl,
    show (dats m 0 c).leavesExact 3 t = owns (c : Thread nD τ) (st0_3 t) fullShare (iblk m c 3 t) from rfl,
    show (dats m 0 c).leavesExact 4 t = owns (c : Thread nD τ) (st0_4 t) fullShare (iblk m c 4 t) from rfl]
  iintro ⟨⟨HS, Hg⟩, Ho, ⟨%d0, H0⟩, ⟨%d1, H1⟩, ⟨%d2, H2⟩, ⟨%d3, H3⟩, ⟨%d4, H4⟩, H5, H6⟩
  iapply (body_safe c (grid0.coords t) _ _ _ _ _ _ _ _ _ _ _ _ _ _ _ _ (iblk m c 0 t) (iblk m c 1 t) (iblk m c 2 t) (iblk m c 3 t) (iblk m c 4 t) (branch t) _)
  unfold operands
  isplitl [H0 H1 H2 H3 H4 H5 H6 HS]
  · isplitl [H0]; · iexact H0
    isplitl [H1]; · iexact H1
    isplitl [H2]; · iexact H2
    isplitl [H3]; · iexact H3
    isplitl [H4]; · iexact H4
    isplitl [H5]; · iexact H5
    isplitl [H6]; · iexact H6
    iexact HS
  iintro ⟨H0, H1, H2, H3, H4, H5, H6, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The launch's obligation of the body, at every point. -/
theorem body_obligation (c : Dev nD) : BodyObligation (dats (F := F) m 0 c) (defs₀ (F := F)) Variants.none () Set.univ untracked := fun t => by
  rw [bigSep_W0, bigSep_W0, show defs₀ (F := F) .tc cfg0.body (cfg0.bodyArgs t (cfg0.slots t)) = bodyAt0 t from by unfold defs₀; rw [Defs.onTc_tc]]
  exact triple_restated (body_point m c t) rfl .rfl fun _ => .rfl

set_option backward.isDefEq.respectTransparency.types false in
/-- The launch runs: every input array ends as it was, and every counter ends at zero. -/
theorem run_launch : θ_run defs (onTc (τ := τ) (main (F := F))) (s₀ m ρ)
    (fun r => (Pipeline.RDat.FramePost (cfgs 0) (fun c => (dats m 0 c).toRForget untracked) (V m)) r ∧ r.2.sem = fun _ => 0) :=
  Pipeline.θ_run_frame_forget (Q' := _) cfgs (dats m) (0 : Fin 1) launch0 defs₀ Variants.none untracked m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The in-projection's frame: it runs, its argument arrays end unchanged and its counters end at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(Pipeline.RDat.FramePost.arr_in h.1 c 0 rfl).trans (A_eq m c 0),
    (Pipeline.RDat.FramePost.arr_in h.1 c 1 rfl).trans (A_eq m c 1), (Pipeline.RDat.FramePost.arr_in h.1 c 2 rfl).trans (A_eq m c 2),
    (Pipeline.RDat.FramePost.arr_in h.1 c 3 rfl).trans (A_eq m c 3), (Pipeline.RDat.FramePost.arr_in h.1 c 4 rfl).trans (A_eq m c 4)⟩, h.2⟩) (run_launch m ρ)

end Cert.Kernel2.InProj

end
-- ==== Proof.InProjBlocks.lean ====
module

public import proofs.«01_k».proof.Proof.Gen.Kernel2Ideal.Frame
public import Idealize.ShloMosaic.Lib.Pipeline.ValueKit
public import Idealize.ShloMosaic.Lib.Pipeline.TableIdle
public import Idealize.ShloMosaic.Lib.Pointwise
public import Idealize.ShloMosaic.Lib.WordCmp
public import Idealize.ShloMosaic.PureOps.Ideal

@[expose] public section

set_option maxRecDepth 16384
set_option Elab.async false

noncomputable section

namespace Cert.Kernel2Ideal.InProj

open Cert.Kernel2Ideal Cert.Kernel2Ideal.Gen
open Idealize.ShloMosaic
open Idealize.ShloMosaic.TcCoe Idealize.ShloMosaic.Tactic

/-! # The in-projection's schedule, and its input blocks at an index

Point `t` of the grid is column block `t % 7` of row block `t / 7`. -/

/-- The conditions at the first point of a row block. -/
theorem conds_first : ∀ t : Fin grid0.N, t.val % 7 = 0 →
    k0_cond1 (grid0.coords t) = 1#1 ∧ k0_cond2 (grid0.coords t) = 1#1 ∧ ¬(k0_cond3 (grid0.coords t) = 1#1) := by decide +kernel

/-- The conditions at a later point whose column block is normalised by heads. -/
theorem conds_head : ∀ t : Fin grid0.N, t.val % 7 ≠ 0 → t.val % 7 < 4 →
    ¬(k0_cond1 (grid0.coords t) = 1#1) ∧ k0_cond2 (grid0.coords t) = 1#1 ∧ ¬(k0_cond3 (grid0.coords t) = 1#1) := by decide +kernel

/-- The conditions at a point whose column block is the product alone. -/
theorem conds_plain : ∀ t : Fin grid0.N, ¬(t.val % 7 < 4) →
    ¬(k0_cond1 (grid0.coords t) = 1#1) ∧ ¬(k0_cond2 (grid0.coords t) = 1#1) ∧ k0_cond3 (grid0.coords t) = 1#1 := by decide +kernel

/-- The wide block is stored at every point. -/
theorem idle5 : ∀ t : Fin grid0.N, cfg0.idle 5 (grid0.coords t) = false := by decide +kernel

/-- The narrow block is stored at a row block's first point only. -/
theorem idle6 : ∀ t : Fin grid0.N, cfg0.idle 6 (grid0.coords t) = decide (t.val % 7 ≠ 0) := by decide +kernel

/-- Where the tokens' block lies. -/
theorem place0 : ∀ t : Fin grid0.N, cc0_transform_0 (grid0.coords t) 0 = t.val / 7 ∧ cc0_transform_0 (grid0.coords t) 1 = 0 := by decide +kernel
/-- Where the wide weights' block lies. -/
theorem place2 : ∀ t : Fin grid0.N, cc0_transform_2 (grid0.coords t) 0 = 0 ∧ cc0_transform_2 (grid0.coords t) 1 = t.val % 7 := by decide +kernel
/-- Where the heads' gains lie: those of the column block, up to the fourth. -/
theorem place4 : ∀ t : Fin grid0.N, cc0_transform_4 (grid0.coords t) 0 = min (t.val % 7) 3 ∧ cc0_transform_4 (grid0.coords t) 1 = 0
    ∧ cc0_transform_4 (grid0.coords t) 2 = 0 := by decide +kernel
/-- Where the wide block goes. -/
theorem place5 : ∀ t : Fin grid0.N, cc0_transform_5 (grid0.coords t) 0 = t.val / 7 ∧ cc0_transform_5 (grid0.coords t) 1 = t.val % 7 := by decide +kernel
/-- Where the narrow block goes. -/
theorem place6 : ∀ t : Fin grid0.N, cc0_transform_6 (grid0.coords t) 0 = t.val / 7 ∧ cc0_transform_6 (grid0.coords t) 1 = 0 := by decide +kernel

/-- There are 112 points. -/
theorem point_lt (t : Fin grid0.N) : t.val < 112 := lt_of_lt_of_eq t.isLt N_0

/-- The buffer of the narrow block holds nothing stored yet exactly at a row block's first point. -/
theorem fresh6 (n : Nat) (hn : n ≤ cfg0.N) : cfg0.fresh 6 n = decide (n % 7 = 0) :=
  Pipeline.Cfg.fresh_tab cfg0 6 (fun n => decide (n % 7 = 0)) rfl (fun t => by
    rw [Bool.eq_iff_iff, Bool.or_eq_true, Bool.and_eq_true, flush0_6 t, show cfg0.idle 6 (cfg0.grid.coords t) = decide (t.val % 7 ≠ 0) from idle6 t]
    simp only [decide_eq_true_eq]
    omega) n hn

variable (m : (ℓ : Loc nD τ sig) → Buf (Elt Ideal) ℓ)

/-- A row of the tokens' array. -/
def rowAt (t : Fin grid0.N) (p : Fin 1024) : Fin 16384 := ⟨t.val / 7 * 1024 + p.val, by have := point_lt t; omega⟩

/-- A column of the wide array. -/
def colAt (t : Fin grid0.N) (l : Fin 1024) : Fin 7168 := ⟨t.val % 7 * 1024 + l.val, by omega⟩

/-- The tokens' block at an index. -/
theorem tokens_at (c : Dev nD) (t : Fin grid0.N) (p : Fin 1024) (d : Fin 2048) :
    iblk m c 0 t (ix2 p d) = m ((c.tc : Thread nD τ).loc main_arg0) (ix2 (rowAt t p) d) := by
  have e := place0 t
  refine congrArg (m ((c.tc : Thread nD τ).loc main_arg0)) (funext fun a => Fin.ext ?_)
  match a with
  | ⟨0, _⟩ => show cc0_transform_0 (grid0.coords t) 0 * 1024 + 1 * p.val = t.val / 7 * 1024 + p.val; rw [e.1]; omega
  | ⟨1, _⟩ => show cc0_transform_0 (grid0.coords t) 1 * 2048 + 1 * d.val = d.val; rw [e.2]; omega

/-- The rows' gain at an index. -/
theorem gain_at (c : Dev nD) (t : Fin grid0.N) (d : Fin 2048) :
    iblk m c 1 t (ix2 0 d) = m ((c.tc : Thread nD τ).loc main_arg1) (ix2 0 d) := by
  refine congrArg (m ((c.tc : Thread nD τ).loc main_arg1)) (funext fun a => Fin.ext ?_)
  match a with
  | ⟨0, _⟩ => show 0 * 1 + 1 * 0 = 0; omega
  | ⟨1, _⟩ => show 0 * 2048 + 1 * d.val = d.val; omega

/-- The wide weights' block at an index. -/
theorem wideW_at (c : Dev nD) (t : Fin grid0.N) (k : Fin 2048) (l : Fin 1024) :
    iblk m c 2 t (ix2 k l) = m ((c.tc : Thread nD τ).loc main_arg2) (ix2 k (colAt t l)) := by
  have e := place2 t
  refine congrArg (m ((c.tc : Thread nD τ).loc main_arg2)) (funext fun a => Fin.ext ?_)
  match a with
  | ⟨0, _⟩ => show cc0_transform_2 (grid0.coords t) 0 * 2048 + 1 * k.val = k.val; rw [e.1]; omega
  | ⟨1, _⟩ => show cc0_transform_2 (grid0.coords t) 1 * 1024 + 1 * l.val = t.val % 7 * 1024 + l.val; rw [e.2]; omega

/-- The narrow weights at an index. -/
theorem narrowW_at (c : Dev nD) (t : Fin grid0.N) (k : Fin 2048) (l : Fin 256) :
    iblk m c 3 t (ix2 k l) = m ((c.tc : Thread nD τ).loc main_arg3) (ix2 k l) := by
  refine congrArg (m ((c.tc : Thread nD τ).loc main_arg3)) (funext fun a => Fin.ext ?_)
  match a with
  | ⟨0, _⟩ => show 0 * 2048 + 1 * k.val = k.val; omega
  | ⟨1, _⟩ => show 0 * 256 + 1 * l.val = l.val; omega

/-- The heads' gains at an index, where a column block is normalised by heads. -/
theorem gains_at (c : Dev nD) (t : Fin grid0.N) (b : Fin 4) (hb : t.val % 7 = b.val) (l : Fin 128) :
    iblk m c 4 t (ix3 0 0 l) = m ((c.tc : Thread nD τ).loc main_arg4) (ix3 b 0 l) := by
  have e := place4 t
  refine congrArg (m ((c.tc : Thread nD τ).loc main_arg4)) (funext fun a => Fin.ext ?_)
  match a with
  | ⟨0, _⟩ => show cc0_transform_4 (grid0.coords t) 0 * 1 + 1 * 0 = b.val; rw [e.1]; omega
  | ⟨1, _⟩ => show cc0_transform_4 (grid0.coords t) 1 * 1 + 1 * 0 = 0; rw [e.2.1]
  | ⟨2, _⟩ => show cc0_transform_4 (grid0.coords t) 2 * 128 + 1 * l.val = l.val; rw [e.2.2]; omega

/-- Points of one row block see one block of tokens. -/
theorem tokens_same (c : Dev nD) (s t : Fin grid0.N) (h : s.val / 7 = t.val / 7) : iblk m c 0 s = iblk m c 0 t := by
  funext y
  obtain ⟨p, d, rfl⟩ : ∃ (p : Fin 1024) (d : Fin 2048), y = ix2 p d := ⟨y (0 : Fin 2), y (1 : Fin 2), by
    funext a; match a with | ⟨0, _⟩ => rfl | ⟨1, _⟩ => rfl⟩
  rw [tokens_at, tokens_at, show rowAt s p = rowAt t p from Fin.ext (by show s.val / 7 * 1024 + p.val = t.val / 7 * 1024 + p.val; rw [h])]

/-- Every point sees the same gain. -/
theorem gain_same (c : Dev nD) (s t : Fin grid0.N) : iblk m c 1 s = iblk m c 1 t := rfl

/-- Every point sees the same narrow weights. -/
theorem narrowW_same (c : Dev nD) (s t : Fin grid0.N) : iblk m c 3 s = iblk m c 3 t := rfl

end Cert.Kernel2Ideal.InProj

end
-- ==== Proof.InProjRuns.lean ====
module

public import proofs.«01_k».proof.Proof.Gen.Kernel2Ideal.Frame
public import proofs.«01_k».proof.Proof.Gen.Kernel2Ideal.Skeleton
public import Idealize.ShloMosaic.Lib.Pipeline.ValueKit
public import Idealize.ShloMosaic.Lib.Exec
public import Idealize.ShloMosaic.Lib.Writes
public import Idealize.ShloMosaic.Lib.Ring
public import Idealize.ShloMosaic.PureOps.Ideal

@[expose] public section

set_option maxRecDepth 16384
set_option Elab.async false

noncomputable section

namespace Cert.Kernel2Ideal.InProj

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- The machine's resources at this program. -/
local notation "𝕄" => MT nD τ sig Unit (Elt Ideal) ℕ (UR sig nD τ) ℕ

/-- The scratch buffer the normalised rows are kept in. -/
abbrev scM : Memref sig .tc .vmem S1024x2048 .bf16 := Memref.whole cc0_scratch0

section
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x1024 .bf16) (harg4 : arg4.IsWhole) (arg5 : Memref sig .tc .vmem S2048x256 .bf16) (harg5 : arg5.IsWhole)
  (arg6 : Memref sig .tc .vmem S1x1x128 .f32) (harg6 : arg6.IsWhole) (arg7 : Memref sig .tc .vmem S1024x1024 .bf16) (harg7 : arg7.IsWhole)
  (arg8 : Memref sig .tc .vmem S1024x256 .f32) (harg8 : arg8.IsWhole) (arg9 : Memref sig .tc .vmem S1024x2048 .bf16) (harg9 : arg9.IsWhole)
  (x0 : S1024x2048.Idx → Elt Ideal .f32) (x1 : S1x2048.Idx → Elt Ideal .f32) (x2 : S2048x1024.Idx → Elt Ideal .bf16)
  (x3 : S2048x256.Idx → Elt Ideal .bf16) (x4 : S1x1x128.Idx → Elt Ideal .f32)

/-- The five input blocks, each held whole in its buffer. -/
abbrev inputs : sProp 𝕄 :=
  iprop((arg2.view.loc (c : Thread nD τ) ↦[arg2.view.set]{fullShare} arg2.view.rep x0)
    ∗ (arg3.view.loc (c : Thread nD τ) ↦[arg3.view.set]{fullShare} arg3.view.rep x1)
    ∗ (arg4.view.loc (c : Thread nD τ) ↦[arg4.view.set]{fullShare} arg4.view.rep x2)
    ∗ (arg5.view.loc (c : Thread nD τ) ↦[arg5.view.set]{fullShare} arg5.view.rep x3)
    ∗ (arg6.view.loc (c : Thread nD τ) ↦[arg6.view.set]{fullShare} arg6.view.rep x4))

set_option backward.proofsInPublic true in
set_option maxHeartbeats 8000000 in
/-- The body at a row block's first point: what it leaves in the wide output block, in the narrow one and in the scratch buffer. -/
def runFirst (h1 : k0_cond1 i = 1#1) (h2 : k0_cond2 i = 1#1) (h3 : ¬(k0_cond3 i = 1#1)) :
    Σ' (out0 : List (View.Piece (Elt Ideal) S1024x1024 .bf16)) (out1 : List (View.Piece (Elt Ideal) S1024x256 .f32)), { out2 : List (View.Piece (Elt Ideal) S1024x2048 .bf16) //
      ∀ (K : PUnit → sProp 𝕄),
        iprop(inputs c arg2 arg3 arg4 arg5 arg6 x0 x1 x2 x3 x4
          ∗ (∃ d, owns (c : Thread nD τ) arg7 fullShare d) ∗ (∃ d, owns (c : Thread nD τ) arg8 fullShare d) ∗ (∃ d, owns (c : Thread nD τ) arg9 fullShare d)
          ∗ (iprop(inputs c arg2 arg3 arg4 arg5 arg6 x0 x1 x2 x3 x4
              ∗ (∃ f, arg7.view.loc (c : Thread nD τ) ↦[arg7.view.set]{fullShare} arg7.view.writes (Elt Ideal) f out0)
              ∗ (∃ f, arg8.view.loc (c : Thread nD τ) ↦[arg8.view.set]{fullShare} arg8.view.writes (Elt Ideal) f out1)
              ∗ (∃ f, arg9.view.loc (c : Thread nD τ) ↦[arg9.view.set]{fullShare} arg9.view.writes (Elt Ideal) f out2)) -∗ K ⟨⟩))
          ⊢ wp frame (wpE (defs₀ (F := Ideal)) Variants.none c none) Set.univ
              (cc0_inproj i arg2 harg2 arg3 harg3 arg4 harg4 arg5 harg5 arg6 harg6 arg7 harg7 arg8 harg8 arg9 harg9) K } :=
  ⟨_, _, _, fun K => by
    unfold inputs owns
    simp only [cc0_inproj_eq_skeleton]; unfold cc0_inproj_skel
    simp only [k0_part1_eq_skeleton, k0_part2_eq_skeleton, k0_part3_eq_skeleton]
    iintro ⟨⟨H0, H1, H2, H3, H4⟩, ⟨%d7, %f7, -, H7⟩, ⟨%d8, %f8, -, H8⟩, ⟨%ds, %fs, -, HS0⟩, Hk⟩
    sl_exec (disch := first | sl_exact h1 | sl_exact h2 | sl_exact h3)
    sl_step
    iapply Hk
    isplitl [H0 H1 H2 H3 H4]
    · isplitl [H0]; · iexact H0
      isplitl [H1]; · iexact H1
      isplitl [H2]; · iexact H2
      isplitl [H3]; · iexact H3
      iexact H4
    isplitl [H7]; · iexists _; iexact H7
    isplitl [H8]; · iexists _; iexact H8
    iexists _; iexact HS0⟩

set_option backward.proofsInPublic true in
set_option maxHeartbeats 8000000 in
/-- The body at a later point whose column block is normalised by heads: what it leaves in the wide output block. -/
def runHead (xa : S1024x2048.Idx → Elt Ideal .bf16) (h1 : ¬(k0_cond1 i = 1#1)) (h2 : k0_cond2 i = 1#1) (h3 : ¬(k0_cond3 i = 1#1)) :
    { out0 : List (View.Piece (Elt Ideal) S1024x1024 .bf16) //
      ∀ (K : PUnit → sProp 𝕄),
        iprop(inputs c arg2 arg3 arg4 arg5 arg6 x0 x1 x2 x3 x4
          ∗ (∃ d, owns (c : Thread nD τ) arg7 fullShare d) ∗ (arg9.view.loc (c : Thread nD τ) ↦[arg9.view.set]{fullShare} arg9.view.rep xa)
          ∗ (iprop(inputs c arg2 arg3 arg4 arg5 arg6 x0 x1 x2 x3 x4
              ∗ (∃ f, arg7.view.loc (c : Thread nD τ) ↦[arg7.view.set]{fullShare} arg7.view.writes (Elt Ideal) f out0)
              ∗ (arg9.view.loc (c : Thread nD τ) ↦[arg9.view.set]{fullShare} arg9.view.rep xa)) -∗ K ⟨⟩))
          ⊢ wp frame (wpE (defs₀ (F := Ideal)) Variants.none c none) Set.univ
              (cc0_inproj i arg2 harg2 arg3 harg3 arg4 harg4 arg5 harg5 arg6 harg6 arg7 harg7 arg8 harg8 arg9 harg9) K } :=
  ⟨_, fun K => by
    unfold inputs owns
    simp only [cc0_inproj_eq_skeleton]; unfold cc0_inproj_skel
    simp only [k0_part1_eq_skeleton, k0_part2_eq_skeleton, k0_part3_eq_skeleton]
    iintro ⟨⟨H0, H1, H2, H3, H4⟩, ⟨%d7, %f7, -, H7⟩, HS0, Hk⟩
    sl_exec (disch := first | sl_exact h1 | sl_exact h2 | sl_exact h3)
    sl_step
    iapply Hk
    isplitl [H0 H1 H2 H3 H4]
    · isplitl [H0]; · iexact H0
      isplitl [H1]; · iexact H1
      isplitl [H2]; · iexact H2
      isplitl [H3]; · iexact H3
      iexact H4
    isplitl [H7]; · iexists _; iexact H7
    iexact HS0⟩

set_option backward.proofsInPublic true in
set_option maxHeartbeats 8000000 in
/-- The body at a point whose column block is the product alone: what it leaves in the wide output block. -/
def runPlain (xa : S1024x2048.Idx → Elt Ideal .bf16) (h1 : ¬(k0_cond1 i = 1#1)) (h2 : ¬(k0_cond2 i = 1#1)) (h3 : k0_cond3 i = 1#1) :
    { out0 : List (View.Piece (Elt Ideal) S1024x1024 .bf16) //
      ∀ (K : PUnit → sProp 𝕄),
        iprop(inputs c arg2 arg3 arg4 arg5 arg6 x0 x1 x2 x3 x4
          ∗ (∃ d, owns (c : Thread nD τ) arg7 fullShare d) ∗ (arg9.view.loc (c : Thread nD τ) ↦[arg9.view.set]{fullShare} arg9.view.rep xa)
          ∗ (iprop(inputs c arg2 arg3 arg4 arg5 arg6 x0 x1 x2 x3 x4
              ∗ (∃ f, arg7.view.loc (c : Thread nD τ) ↦[arg7.view.set]{fullShare} arg7.view.writes (Elt Ideal) f out0)
              ∗ (arg9.view.loc (c : Thread nD τ) ↦[arg9.view.set]{fullShare} arg9.view.rep xa)) -∗ K ⟨⟩))
          ⊢ wp frame (wpE (defs₀ (F := Ideal)) Variants.none c none) Set.univ
              (cc0_inproj i arg2 harg2 arg3 harg3 arg4 harg4 arg5 harg5 arg6 harg6 arg7 harg7 arg8 harg8 arg9 harg9) K } :=
  ⟨_, fun K => by
    unfold inputs owns
    simp only [cc0_inproj_eq_skeleton]; unfold cc0_inproj_skel
    simp only [k0_part1_eq_skeleton, k0_part2_eq_skeleton, k0_part3_eq_skeleton]
    iintro ⟨⟨H0, H1, H2, H3, H4⟩, ⟨%d7, %f7, -, H7⟩, HS0, Hk⟩
    sl_exec (disch := first | sl_exact h1 | sl_exact h2 | sl_exact h3)
    sl_step
    iapply Hk
    isplitl [H0 H1 H2 H3 H4]
    · isplitl [H0]; · iexact H0
      isplitl [H1]; · iexact H1
      isplitl [H2]; · iexact H2
      isplitl [H3]; · iexact H3
      iexact H4
    isplitl [H7]; · iexists _; iexact H7
    iexact HS0⟩

end

end Cert.Kernel2Ideal.InProj

end
-- ==== Proof.InProjSpec.lean ====
module

public import Idealize.ShloMosaic.Lib.Pointwise
public import Idealize.ShloMosaic.PureOps.Ideal

@[expose] public section

set_option maxRecDepth 16384

noncomputable section

namespace Cert.InProjection

open Idealize.ShloMosaic
open Idealize.ShloMosaic.Tactic

/-! # The in-projection, index by index

The two formulas the kernel's results and the reference's both come to. -/

/-- A row normalised by its root mean square and scaled by a gain, at one place; the row's length is given as a float's bits. -/
def normed {N : Nat} (len : BitVec 32) (v g : Fin N → EReal) (d : Fin N) : EReal :=
  v d * Ideal.rsqrt (Ideal.div (∑ x, v x * v x) (Ideal.ofBits .f32 len) + Ideal.ofBits .f32 0x358637BD#32) * g d

/-- The shape of the tokens. -/
abbrev Tokens : Shape := ⟨2, ![16384, 2048]⟩
/-- The shape of the rows' gain. -/
abbrev Gain : Shape := ⟨2, ![1, 2048]⟩
/-- The shape of the wide weights. -/
abbrev Wide : Shape := ⟨2, ![2048, 7168]⟩
/-- The shape of the narrow weights. -/
abbrev Narrow : Shape := ⟨2, ![2048, 256]⟩
/-- The shape of the heads' gains. -/
abbrev Gains : Shape := ⟨3, ![4, 1, 128]⟩

/-- A token's normalised row. -/
def token (x : Tokens.Idx → EReal) (g : Gain.Idx → EReal) (r : Fin 16384) (d : Fin 2048) : EReal :=
  normed 0x45000000#32 (fun d => x (ix2 r d)) (fun d => g (ix2 0 d)) d

/-- The wide product at a row and a column. -/
def wide (x : Tokens.Idx → EReal) (g : Gain.Idx → EReal) (w : Wide.Idx → EReal) (r : Fin 16384) (j : Fin 7168) : EReal :=
  ∑ k : Fin 2048, token x g r k * w (ix2 k j)

/-- The wide product's column `l` of head `h` of column block `b`, normalised over the head. -/
def head (x : Tokens.Idx → EReal) (g : Gain.Idx → EReal) (w : Wide.Idx → EReal) (gains : Gains.Idx → EReal) (r : Fin 16384) (b : Fin 4) (h : Fin 8) (l : Fin 128) : EReal :=
  normed 0x43000000#32 (fun l => wide x g w r ⟨(b.val * 8 + h.val) * 128 + l.val, by omega⟩) (fun l => gains (ix3 b 0 l)) l

/-- The wide result: the first four column blocks normalised by heads, the others the product alone. -/
def wideResult (x : Tokens.Idx → EReal) (g : Gain.Idx → EReal) (w : Wide.Idx → EReal) (gains : Gains.Idx → EReal) (r : Fin 16384) (j : Fin 7168) : EReal :=
  if hj : j.val < 4096 then head x g w gains r ⟨j.val / 1024, by omega⟩ ⟨j.val / 128 % 8, by omega⟩ ⟨j.val % 128, by omega⟩
  else wide x g w r j

/-- The narrow result. -/
def narrowResult (x : Tokens.Idx → EReal) (g : Gain.Idx → EReal) (w : Narrow.Idx → EReal) (r : Fin 16384) (j : Fin 256) : EReal :=
  ∑ k : Fin 2048, token x g r k * w (ix2 k j)

/-- Below column 4096 the wide result is the head's. -/
theorem wideResult_head (x : Tokens.Idx → EReal) (g : Gain.Idx → EReal) (w : Wide.Idx → EReal) (gains : Gains.Idx → EReal) (r : Fin 16384) (b : Fin 4) (h : Fin 8) (l : Fin 128)
    (j : Fin 7168) (hj : j.val = (b.val * 8 + h.val) * 128 + l.val) : wideResult x g w gains r j = head x g w gains r b h l := by
  obtain ⟨j, hj'⟩ := j
  dsimp only at hj
  unfold wideResult
  rw [dif_pos (show j < 4096 by omega)]
  have e1 : (⟨j / 1024, by omega⟩ : Fin 4) = b := Fin.ext (by show j / 1024 = b.val; omega)
  have e2 : (⟨j / 128 % 8, by omega⟩ : Fin 8) = h := Fin.ext (by show j / 128 % 8 = h.val; omega)
  have e3 : (⟨j % 128, by omega⟩ : Fin 128) = l := Fin.ext (by show j % 128 = l.val; omega)
  rw [e1, e2, e3]

/-- From column 4096 on the wide result is the product. -/
theorem wideResult_plain (x : Tokens.Idx → EReal) (g : Gain.Idx → EReal) (w : Wide.Idx → EReal) (gains : Gains.Idx → EReal) (r : Fin 16384)
    (j : Fin 7168) (hj : 4096 ≤ j.val) : wideResult x g w gains r j = wide x g w r j := by
  unfold wideResult
  rw [dif_neg (by omega)]

end Cert.InProjection
end
-- ==== Proof.InProjValues.lean ====
module

public import proofs.«01_k».proof.Proof.InProjRuns
public import proofs.«01_k».proof.Proof.InProjSpec
public import Idealize.ShloMosaic.Lib.Pointwise
public import Idealize.ShloMosaic.Lib.VecWindow
public import Idealize.ShloMosaic.Lib.Pipeline.ValueKit

@[expose] public section

set_option maxRecDepth 16384
set_option Elab.async false

noncomputable section

namespace Cert.Kernel2Ideal.InProj

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.InProjection (normed)

/-! # What the body leaves, index by index -/

/-- The first of a slab's two heads. -/
theorem low_at (gn : FVec Ideal S1x1x128 .f32) (xn : FVec Ideal S1024x2048 .bf16) (w : FVec Ideal S2048x256 .bf16) (p : Fin 1024) (l : Fin 128) :
    k0_pay8 (F := Ideal) gn xn w (ix2 p l)
      = normed 0x43000000#32 (fun l : Fin 128 => ∑ k : Fin 2048, xn (ix2 p k) * w (ix2 k ⟨l.val, by omega⟩)) (fun l => gn (ix3 0 0 l)) l := by
  unfold normed
  pointwise [k0_pay8, k0_pay7, k0_pay6]

/-- The second of a slab's two heads. -/
theorem high_at (gn : FVec Ideal S1x1x128 .f32) (xn : FVec Ideal S1024x2048 .bf16) (w : FVec Ideal S2048x256 .bf16) (p : Fin 1024) (l : Fin 128) :
    k0_pay9 (F := Ideal) gn xn w (ix2 p l)
      = normed 0x43000000#32 (fun l : Fin 128 => ∑ k : Fin 2048, xn (ix2 p k) * w (ix2 k ⟨128 + l.val, by omega⟩)) (fun l => gn (ix3 0 0 l)) l := by
  unfold normed
  pointwise [k0_pay9, k0_pay7, k0_pay6]

/-- The normalised rows. -/
theorem norm_at (x : FVec Ideal S1024x2048 .f32) (g : FVec Ideal S1x2048 .f32) (p : Fin 1024) (d : Fin 2048) :
    k0_pay2 (F := Ideal) x g (ix2 p d) = normed 0x45000000#32 (fun d => x (ix2 p d)) (fun d => g (ix2 0 d)) d := by
  unfold normed
  pointwise [k0_pay2, k0_pay1]

/-- The narrow product. -/
theorem narrow_at (x : FVec Ideal S1024x2048 .f32) (g : FVec Ideal S1x2048 .f32) (w : FVec Ideal S2048x256 .bf16) (p : Fin 1024) (l : Fin 256) :
    k0_pay3 (F := Ideal) x g w (ix2 p l) = ∑ k : Fin 2048, normed 0x45000000#32 (fun d => x (ix2 p d)) (fun d => g (ix2 0 d)) k * w (ix2 k l) := by
  unfold normed
  pointwise [k0_pay3, k0_pay1]

/-- The wide product alone. -/
theorem plain_at (x : FVec Ideal S1024x2048 .bf16) (w : FVec Ideal S2048x1024 .bf16) (p : Fin 1024) (l : Fin 1024) :
    k0_pay5 (F := Ideal) x w (ix2 p l) = ∑ k : Fin 2048, x (ix2 p k) * w (ix2 k l) := by
  pointwise [k0_pay5]

/-- Column `l` of head `h` of a block: the product's columns of the head, normalised over the head. -/
def headAt (xn : S1024x2048.Idx → EReal) (w : S2048x1024.Idx → EReal) (gn : S1x1x128.Idx → EReal) (p : Fin 1024) (h : Fin 8) (l : Fin 128) : EReal :=
  normed 0x43000000#32 (fun l : Fin 128 => ∑ k : Fin 2048, xn (ix2 p k) * w (ix2 k ⟨h.val * 128 + l.val, by omega⟩)) (fun l => gn (ix3 0 0 l)) l

/-- A whole block normalised by heads. -/
def headBlk (xn : S1024x2048.Idx → EReal) (w : S2048x1024.Idx → EReal) (gn : S1x1x128.Idx → EReal) (y : S1024x1024.Idx) : EReal :=
  headAt xn w gn (y (0 : Fin 2)) ⟨(y (1 : Fin 2)).val / 128, by have := (show (y (1 : Fin 2)).val < 1024 from (y (1 : Fin 2)).isLt); omega⟩ ⟨(y (1 : Fin 2)).val % 128, by omega⟩

/-- The block at an index whose column is a head's. -/
theorem headBlk_eq (xn : S1024x2048.Idx → EReal) (w : S2048x1024.Idx → EReal) (gn : S1x1x128.Idx → EReal) (y : S1024x1024.Idx) (h : Fin 8) (l : Fin 128)
    (hy : (y (1 : Fin 2)).val = h.val * 128 + l.val) : headBlk xn w gn y = headAt xn w gn (y (0 : Fin 2)) h l := by
  unfold headBlk
  have e1 : (⟨(y (1 : Fin 2)).val / 128, by have := (show (y (1 : Fin 2)).val < 1024 from (y (1 : Fin 2)).isLt); omega⟩ : Fin 8) = h :=
    Fin.ext (by show (y (1 : Fin 2)).val / 128 = h.val; omega)
  have e2 : (⟨(y (1 : Fin 2)).val % 128, by omega⟩ : Fin 128) = l := Fin.ext (by show (y (1 : Fin 2)).val % 128 = l.val; omega)
  rw [e1, e2]

/-- A block written whole reads what was written. -/
theorem read_one {S : Shape} {e : EltTy} (v : View sig .tc .vmem S e) (f : v.ty.Contents (Elt Ideal)) {off : Fin S.rank → Nat} (inb : ∀ a, off a + S.size a ≤ S.size a)
    (P : S.Idx → Elt Ideal e) : v.read (Elt Ideal) (v.writes (Elt Ideal) f [⟨Rect.unit off S.size inb, P⟩]) = P := by
  funext y
  refine View.read_writes_cons_hit_of_coords v f (Rect.unit off S.size inb) P [] y y fun a => ?_
  show (y a).val = off a + 1 * (y a).val
  have := inb a
  omega

/-- Of a vector to be stored: that it is head `h` of the block. -/
def IsHead (xn : S1024x2048.Idx → EReal) (w : S2048x1024.Idx → EReal) (gn : S1x1x128.Idx → EReal) (h : Fin 8) (P : S1024x128.Idx → EReal) : Prop :=
  ∀ (z : S1024x128.Idx) (y : S1024x1024.Idx), (y (0 : Fin 2)).val = (z (0 : Fin 2)).val → (y (1 : Fin 2)).val = h.val * 128 + (z (1 : Fin 2)).val → P z = headBlk xn w gn y

/-- The first head of a slab is its head of the block. -/
theorem low_head {xn xn' : FVec Ideal S1024x2048 .bf16} {gn gn' : FVec Ideal S1x1x128 .f32} (w : FVec Ideal S2048x1024 .bf16) {slab : FVec Ideal S2048x256 .bf16} (h : Fin 8)
    (hx : xn' = xn) (hg : gn' = gn) (hs : ∀ (k : Fin 2048) (l : Fin 128), slab (ix2 k ⟨l.val, by omega⟩) = w (ix2 k ⟨h.val * 128 + l.val, by omega⟩)) :
    IsHead xn w gn h (k0_pay8 (F := Ideal) gn' xn' slab) := by
  subst hx hg
  intro z y h0 h1
  rw [headBlk_eq xn' w gn' y h (z (1 : Fin 2)) h1, show y (0 : Fin 2) = z (0 : Fin 2) from Fin.ext h0]
  idx_vars z
  refine (low_at gn' xn' slab _ _).trans ?_
  unfold headAt
  simp only [hs]

/-- The second head of a slab is its head of the block. -/
theorem high_head {xn xn' : FVec Ideal S1024x2048 .bf16} {gn gn' : FVec Ideal S1x1x128 .f32} (w : FVec Ideal S2048x1024 .bf16) {slab : FVec Ideal S2048x256 .bf16} (h : Fin 8)
    (hx : xn' = xn) (hg : gn' = gn) (hs : ∀ (k : Fin 2048) (l : Fin 128), slab (ix2 k ⟨128 + l.val, by omega⟩) = w (ix2 k ⟨h.val * 128 + l.val, by omega⟩)) :
    IsHead xn w gn h (k0_pay9 (F := Ideal) gn' xn' slab) := by
  subst hx hg
  intro z y h0 h1
  rw [headBlk_eq xn' w gn' y h (z (1 : Fin 2)) h1, show y (0 : Fin 2) = z (0 : Fin 2) from Fin.ext h0]
  idx_vars z
  refine (high_at gn' xn' slab _ _).trans ?_
  unfold headAt
  simp only [hs]

/-- The eight heads stored side by side make the whole block. -/
theorem read_heads (v : View sig .tc .vmem S1024x1024 .bf16) (f : v.ty.Contents (Elt Ideal)) (xn : S1024x2048.Idx → EReal) (w : S2048x1024.Idx → EReal) (gn : S1x1x128.Idx → EReal)
    {P0 P1 P2 P3 P4 P5 P6 P7 : FVec Ideal S1024x128 .bf16} (h0 : IsHead xn w gn 0 P0) (h1 : IsHead xn w gn 1 P1) (h2 : IsHead xn w gn 2 P2) (h3 : IsHead xn w gn 3 P3)
    (h4 : IsHead xn w gn 4 P4) (h5 : IsHead xn w gn 5 P5) (h6 : IsHead xn w gn 6 P6) (h7 : IsHead xn w gn 7 P7) :
    v.read (Elt Ideal) (v.writes (Elt Ideal) f
      [⟨Rect.unit ![0, 896] ![1024, 128] inb_S1024x1024_S1024x128_0_896, P7⟩, ⟨Rect.unit ![0, 768] ![1024, 128] inb_S1024x1024_S1024x128_0_768, P6⟩,
       ⟨Rect.unit ![0, 640] ![1024, 128] inb_S1024x1024_S1024x128_0_640, P5⟩, ⟨Rect.unit ![0, 512] ![1024, 128] inb_S1024x1024_S1024x128_0_512, P4⟩,
       ⟨Rect.unit ![0, 384] ![1024, 128] inb_S1024x1024_S1024x128_0_384, P3⟩, ⟨Rect.unit ![0, 256] ![1024, 128] inb_S1024x1024_S1024x128_0_256, P2⟩,
       ⟨Rect.unit ![0, 128] ![1024, 128] inb_S1024x1024_S1024x128_0_128, P1⟩, ⟨Rect.unit ![0, 0] ![1024, 128] inb_S1024x1024_S1024x128_0_0, P0⟩])
      = headBlk xn w gn := by
  funext y
  refine View.read_writes_apply_of_pieces v f (headBlk xn w gn) _ ?_ y (View.cover_of_tiledL _ ![1024, 128] (by sl_kernel_rfl) y)
  intro p hp
  simp only [List.mem_cons, List.not_mem_nil, or_false] at hp
  rcases hp with rfl | rfl | rfl | rfl | rfl | rfl | rfl | rfl
  · intro z
    exact h7 z _ (show 0 + 1 * _ = _ by omega) (show 896 + 1 * _ = 7 * 128 + _ by omega)
  · intro z
    exact h6 z _ (show 0 + 1 * _ = _ by omega) (show 768 + 1 * _ = 6 * 128 + _ by omega)
  · intro z
    exact h5 z _ (show 0 + 1 * _ = _ by omega) (show 640 + 1 * _ = 5 * 128 + _ by omega)
  · intro z
    exact h4 z _ (show 0 + 1 * _ = _ by omega) (show 512 + 1 * _ = 4 * 128 + _ by omega)
  · intro z
    exact h3 z _ (show 0 + 1 * _ = _ by omega) (show 384 + 1 * _ = 3 * 128 + _ by omega)
  · intro z
    exact h2 z _ (show 0 + 1 * _ = _ by omega) (show 256 + 1 * _ = 2 * 128 + _ by omega)
  · intro z
    exact h1 z _ (show 0 + 1 * _ = _ by omega) (show 128 + 1 * _ = 1 * 128 + _ by omega)
  · intro z
    exact h0 z _ (show 0 + 1 * _ = _ by omega) (show 0 + 1 * _ = 0 * 128 + _ by omega)

section
variable (c : Dev nD) (i : grid0.Coords) (arg2 : Memref sig .tc .vmem S1024x2048 .f32) (harg2 : arg2.IsWhole) (arg3 : Memref sig .tc .vmem S1x2048 .f32) (harg3 : arg3.IsWhole)
  (arg4 : Memref sig .tc .vmem S2048x1024 .bf16) (harg4 : arg4.IsWhole) (arg5 : Memref sig .tc .vmem S2048x256 .bf16) (harg5 : arg5.IsWhole)
  (arg6 : Memref sig .tc .vmem S1x1x128 .f32) (harg6 : arg6.IsWhole) (arg7 : Memref sig .tc .vmem S1024x1024 .bf16) (harg7 : arg7.IsWhole)
  (arg8 : Memref sig .tc .vmem S1024x256 .f32) (harg8 : arg8.IsWhole) (arg9 : Memref sig .tc .vmem S1024x2048 .bf16) (harg9 : arg9.IsWhole)
  (x0 : S1024x2048.Idx → Elt Ideal .f32) (x1 : S1x2048.Idx → Elt Ideal .f32) (x2 : S2048x1024.Idx → Elt Ideal .bf16)
  (x3 : S2048x256.Idx → Elt Ideal .bf16) (x4 : S1x1x128.Idx → Elt Ideal .f32) (xa : S1024x2048.Idx → Elt Ideal .bf16)

/-- A slab of the wide weights' block at an index. -/
theorem slab_at (o : Nat) (inb : ∀ a, (![0, o] : Fin 2 → Nat) a + S2048x256.size a ≤ S2048x1024.size a) (k : Fin 2048) (l : Fin 256) (j : Fin 1024) (hj : j.val = o + l.val) :
    View.readAt (Elt Ideal) arg4.view (Rect.unit (s := S2048x1024) ![0, o] S2048x256.size inb).toLoadRect (arg4.view.rep x2) (ix2 k l) = x2 (ix2 k j) := by
  rw [View.readAt_rep]
  refine congrArg x2 (funext fun a => Fin.ext ?_)
  match a with
  | ⟨0, _⟩ => show 0 + 1 * k.val = k.val; omega
  | ⟨1, _⟩ => show o + 1 * l.val = j.val; omega

/-- The rows kept, as a point after a row block's first reads them. -/
theorem rows_read (inb) : View.readAt (Elt Ideal) arg9.view (Rect.unit (s := S1024x2048) ![0, 0] ![1024, 2048] inb).toLoadRect (arg9.view.rep xa) = xa :=
  View.readAt_rep_full arg9.view xa inb

/-- The head's gains, as the body reads them. -/
theorem gains_read (inb) : View.readAt (Elt Ideal) arg6.view (Rect.unit (s := S1x1x128) ![0, 0, 0] ![1, 1, 128] inb).toLoadRect (arg6.view.rep x4) = x4 :=
  View.readAt_rep_full arg6.view x4 inb

/-- The rows kept, as a row block's first point reads what it has just stored. -/
theorem rows_stored : runFirst.sl.v11 arg2 arg3 arg9 x0 x1 = k0_pay2 (F := Ideal) x0 x1 := by
  unfold runFirst.sl.v11 runFirst.sl.HS0_1
  rw [show View.readAt (Elt Ideal) arg2.view (Rect.unit (s := S1024x2048) ![0, 0] ![1024, 2048] inb_S1024x2048_S1024x2048_0_0).toLoadRect (arg2.view.rep x0) = x0 from
      View.readAt_rep_full arg2.view x0 _,
    show View.readAt (Elt Ideal) arg3.view (Rect.unit (s := S1x2048) ![0, 0] ![1, 2048] inb_S1x2048_S1x2048_0_0).toLoadRect (arg3.view.rep x1) = x1 from
      View.readAt_rep_full arg3.view x1 _]
  exact (View.readAt_full arg9.view _ inb_S1024x2048_S1024x2048_0_0).trans (read_one arg9.view _ _ _)

/-- At a plain point the wide block is the product of the rows kept and the weights' block. -/
theorem runPlain_out (h1 h2 h3) (f) :
    arg7.view.read (Elt Ideal) (arg7.view.writes (Elt Ideal) f (runPlain c i arg2 harg2 arg3 harg3 arg4 harg4 arg5 harg5 arg6 harg6 arg7 harg7 arg8 harg8 arg9 harg9 x0 x1 x2 x3 x4 xa h1 h2 h3).1)
      = k0_pay5 (F := Ideal) xa x2 := by
  unfold runPlain
  dsimp only
  funext y
  frame_out [View.read_rep]
  exact congrFun (read_one arg7.view f _ (k0_pay5 (F := Ideal) xa x2)) y

/-- At a head point the wide block is the block of heads of the rows kept. -/
theorem runHead_out (h1 h2 h3) (f) :
    arg7.view.read (Elt Ideal) (arg7.view.writes (Elt Ideal) f (runHead c i arg2 harg2 arg3 harg3 arg4 harg4 arg5 harg5 arg6 harg6 arg7 harg7 arg8 harg8 arg9 harg9 x0 x1 x2 x3 x4 xa h1 h2 h3).1)
      = headBlk xa x2 x4 := by
  unfold runHead
  dsimp only
  exact read_heads arg7.view f xa x2 x4
    (low_head x2 0 (rows_read arg9 xa _) (gains_read arg6 x4 _) fun k l => slab_at arg4 x2 0 _ k ⟨l.val, by omega⟩ _ (by show 0 * 128 + l.val = 0 + l.val; omega))
    (high_head x2 1 (rows_read arg9 xa _) (gains_read arg6 x4 _) fun k l => slab_at arg4 x2 0 _ k ⟨128 + l.val, by omega⟩ _ (by show 1 * 128 + l.val = 0 + (128 + l.val); omega))
    (low_head x2 2 (rows_read arg9 xa _) (gains_read arg6 x4 _) fun k l => slab_at arg4 x2 256 _ k ⟨l.val, by omega⟩ _ (by show 2 * 128 + l.val = 256 + l.val; omega))
    (high_head x2 3 (rows_read arg9 xa _) (gains_read arg6 x4 _) fun k l => slab_at arg4 x2 256 _ k ⟨128 + l.val, by omega⟩ _ (by show 3 * 128 + l.val = 256 + (128 + l.val); omega))
    (low_head x2 4 (rows_read arg9 xa _) (gains_read arg6 x4 _) fun k l => slab_at arg4 x2 512 _ k ⟨l.val, by omega⟩ _ (by show 4 * 128 + l.val = 512 + l.val; omega))
    (high_head x2 5 (rows_read arg9 xa _) (gains_read arg6 x4 _) fun k l => slab_at arg4 x2 512 _ k ⟨128 + l.val, by omega⟩ _ (by show 5 * 128 + l.val = 512 + (128 + l.val); omega))
    (low_head x2 6 (rows_read arg9 xa _) (gains_read arg6 x4 _) fun k l => slab_at arg4 x2 768 _ k ⟨l.val, by omega⟩ _ (by show 6 * 128 + l.val = 768 + l.val; omega))
    (high_head x2 7 (rows_read arg9 xa _) (gains_read arg6 x4 _) fun k l => slab_at arg4 x2 768 _ k ⟨128 + l.val, by omega⟩ _ (by show 7 * 128 + l.val = 768 + (128 + l.val); omega))

/-- At a row block's first point the wide block is the block of heads of the rows just normalised. -/
theorem runFirst_out (h1 h2 h3) (f) :
    arg7.view.read (Elt Ideal) (arg7.view.writes (Elt Ideal) f (runFirst c i arg2 harg2 arg3 harg3 arg4 harg4 arg5 harg5 arg6 harg6 arg7 harg7 arg8 harg8 arg9 harg9 x0 x1 x2 x3 x4 h1 h2 h3).1)
      = headBlk (k0_pay2 (F := Ideal) x0 x1) x2 x4 := by
  unfold runFirst
  dsimp only
  exact read_heads arg7.view f (k0_pay2 (F := Ideal) x0 x1) x2 x4
    (low_head x2 0 (rows_stored arg2 arg3 arg9 x0 x1) (gains_read arg6 x4 _) fun k l => slab_at arg4 x2 0 _ k ⟨l.val, by omega⟩ _ (by show 0 * 128 + l.val = 0 + l.val; omega))
    (high_head x2 1 (rows_stored arg2 arg3 arg9 x0 x1) (gains_read arg6 x4 _) fun k l => slab_at arg4 x2 0 _ k ⟨128 + l.val, by omega⟩ _ (by show 1 * 128 + l.val = 0 + (128 + l.val); omega))
    (low_head x2 2 (rows_stored arg2 arg3 arg9 x0 x1) (gains_read arg6 x4 _) fun k l => slab_at arg4 x2 256 _ k ⟨l.val, by omega⟩ _ (by show 2 * 128 + l.val = 256 + l.val; omega))
    (high_head x2 3 (rows_stored arg2 arg3 arg9 x0 x1) (gains_read arg6 x4 _) fun k l => slab_at arg4 x2 256 _ k ⟨128 + l.val, by omega⟩ _ (by show 3 * 128 + l.val = 256 + (128 + l.val); omega))
    (low_head x2 4 (rows_stored arg2 arg3 arg9 x0 x1) (gains_read arg6 x4 _) fun k l => slab_at arg4 x2 512 _ k ⟨l.val, by omega⟩ _ (by show 4 * 128 + l.val = 512 + l.val; omega))
    (high_head x2 5 (rows_stored arg2 arg3 arg9 x0 x1) (gains_read arg6 x4 _) fun k l => slab_at arg4 x2 512 _ k ⟨128 + l.val, by omega⟩ _ (by show 5 * 128 + l.val = 512 + (128 + l.val); omega))
    (low_head x2 6 (rows_stored arg2 arg3 arg9 x0 x1) (gains_read arg6 x4 _) fun k l => slab_at arg4 x2 768 _ k ⟨l.val, by omega⟩ _ (by show 6 * 128 + l.val = 768 + l.val; omega))
    (high_head x2 7 (rows_stored arg2 arg3 arg9 x0 x1) (gains_read arg6 x4 _) fun k l => slab_at arg4 x2 768 _ k ⟨128 + l.val, by omega⟩ _ (by show 7 * 128 + l.val = 768 + (128 + l.val); omega))

/-- At a row block's first point the narrow block is the product of the normalised rows and the narrow weights. -/
theorem runFirst_narrow (h1 h2 h3) (f) :
    arg8.view.read (Elt Ideal) (arg8.view.writes (Elt Ideal) f (runFirst c i arg2 harg2 arg3 harg3 arg4 harg4 arg5 harg5 arg6 harg6 arg7 harg7 arg8 harg8 arg9 harg9 x0 x1 x2 x3 x4 h1 h2 h3).2.1)
      = k0_pay3 (F := Ideal) x0 x1 x3 := by
  unfold runFirst
  dsimp only
  funext y
  frame_out [View.read_rep]
  exact congrFun (read_one arg8.view f _ (k0_pay3 (F := Ideal) x0 x1 x3)) y

/-- At a row block's first point the scratch buffer is left holding the normalised rows. -/
theorem runFirst_kept (h1 h2 h3) (f) :
    arg9.view.read (Elt Ideal) (arg9.view.writes (Elt Ideal) f (runFirst c i arg2 harg2 arg3 harg3 arg4 harg4 arg5 harg5 arg6 harg6 arg7 harg7 arg8 harg8 arg9 harg9 x0 x1 x2 x3 x4 h1 h2 h3).2.2.1)
      = k0_pay2 (F := Ideal) x0 x1 := by
  unfold runFirst
  dsimp only
  unfold runFirst.sl.HS0_1
  funext y
  frame_out [View.read_rep]
  exact congrFun (read_one arg9.view f _ (k0_pay2 (F := Ideal) x0 x1)) y

end
end Cert.Kernel2Ideal.InProj
end
-- ==== Proof.InProjRun.lean ====
module

public import proofs.«01_k».proof.Proof.InProjBlocks
public import proofs.«01_k».proof.Proof.InProjValues
public import Idealize.ShloMosaic.Lib.Claim
public import Idealize.ShloMosaic.Lib.Pipeline.FrameBody
public import Idealize.ShloMosaic.Lib.Pipeline.TableIdle

@[expose] public section

set_option maxRecDepth 16384
set_option Elab.async false

noncomputable section

namespace Cert.Kernel2Ideal.InProj

open Cert.Kernel2Ideal Cert.Kernel2Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-! # The in-projection's launch -/

/-- The machine's resources at this program. -/
local notation "𝕄" => MT nD τ sig Unit (Elt Ideal) ℕ (UR sig nD τ) ℕ

variable (m : (ℓ : Loc nD τ sig) → Buf (Elt Ideal) ℓ) (ρ : Dev nD → PrngReg)

/-- The normalised rows of a point's row block. -/
def rowsOf (c : Dev nD) (t : Fin grid0.N) : FVec Ideal S1024x2048 .bf16 := k0_pay2 (F := Ideal) (iblk m c 0 t) (iblk m c 1 t)

/-- The wide block of a point. -/
def wideOf (c : Dev nD) (t : Fin grid0.N) : FVec Ideal S1024x1024 .bf16 :=
  if t.val % 7 < 4 then headBlk (rowsOf m c t) (iblk m c 2 t) (iblk m c 4 t) else k0_pay5 (F := Ideal) (rowsOf m c t) (iblk m c 2 t)

/-- The narrow block of a point's row block. -/
def narrowOf (c : Dev nD) (t : Fin grid0.N) : FVec Ideal S1024x256 .f32 := k0_pay3 (F := Ideal) (iblk m c 0 t) (iblk m c 1 t) (iblk m c 3 t)

/-- The point before. -/
def before (t : Fin grid0.N) : Fin grid0.N := ⟨t.val - 1, Nat.lt_of_le_of_lt (Nat.sub_le _ _) t.isLt⟩

/-- Points of one row block have the same normalised rows. -/
theorem rowsOf_same (c : Dev nD) (s t : Fin grid0.N) (h : s.val / 7 = t.val / 7) : rowsOf m c s = rowsOf m c t := by
  unfold rowsOf
  rw [tokens_same m c s t h, gain_same m c s t]

/-- Points of one row block have the same narrow block. -/
theorem narrowOf_same (c : Dev nD) (s t : Fin grid0.N) (h : s.val / 7 = t.val / 7) : narrowOf m c s = narrowOf m c t := by
  unfold narrowOf
  rw [tokens_same m c s t h, gain_same m c s t, narrowW_same m c s t]

/-- Between points: the scratch buffer holds the normalised rows of the point just run. -/
def Phi (c : Dev nD) (t : Fin (grid0.N + 1)) : sProp 𝕄 :=
  iprop((∃ a, ⌜∀ s : Fin grid0.N, s.val + 1 = t.val → a = rowsOf m c s⌝ ∗ owns (c : Thread nD τ) scM fullShare a) ∗ (∃ r, prngReg c r))

/-- The launch's proof data. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => wideOf m c t
    | ⟨6, _⟩ => narrowOf m c t
  Φ t := Phi m c t
  q _ := fullShare
  owed _ := 0

/-- The arrays are the launch's. -/
theorem A_eq (c : Dev nD) (w : Fin cfg0.W) : (dats m 0 c).A w = V m c (Pipeline.arrRef spec0 w) := by dsimp only [dats]

/-- Away from a row block's first point, the narrow block is in its buffer already. -/
theorem before6 (c : Dev nD) (t : Fin cfg0.N) (h : t.val % 7 ≠ 0) (d) : (dats m 0 c).before 6 t d = narrowOf m c t := by
  rw [(dats m 0 c).before_out_traj 6 rfl (fun _ _ => rfl) (fun s hs hi hf => by
      rw [fresh6 s.val (Nat.le_of_lt s.isLt), decide_eq_false_iff_not] at hf
      exact narrowOf_same m c s (before s) (by show s.val / 7 = (s.val - 1) / 7; omega)) t.val t rfl d,
    if_neg (by rw [fresh6 t.val (Nat.le_of_lt t.isLt), decide_eq_true_eq]; exact h)]
  exact narrowOf_same m c (before t) t (by show (t.val - 1) / 7 = t.val / 7; omega)

/-- The narrow block in its buffer is what the launch takes back of it, at every point. -/
theorem leaves6 (c : Dev nD) (t : Fin cfg0.N) : (owns (c : Thread nD τ) (st0_6 t) fullShare (narrowOf m c t) : sProp 𝕄) ⊢ (dats m 0 c).leavesExact 6 t := by
  unfold Dat.leavesExact
  cases hi : cfg0.idle 6 (cfg0.grid.coords t)
  · exact .rfl
  · cases hf : (cfg0.win 6).flush t
    · have h : t.val % 7 ≠ 0 := of_decide_eq_true ((idle6 t).symm.trans hi)
      show _ ⊢ iprop(∃ d, owns (c : Thread nD τ) (st0_6 t) fullShare ((dats m 0 c).before 6 t d))
      simp only [before6 m c t h]
      iintro H
      iexists (narrowOf m c t)
      iexact H
    · exact .rfl

/-- The wide block is taken back at what the body left. -/
theorem leaves5 (c : Dev nD) (t : Fin cfg0.N) : (dats m 0 c).leavesExact 5 t = owns (c : Thread nD τ) (st0_5 t) fullShare (wideOf m c t) := by
  unfold Dat.leavesExact
  rw [show cfg0.idle 5 (cfg0.grid.coords t) = false from idle5 t]
  rfl

/-- What the body is given at a point, its inputs read. -/
def bodyPre (c : Dev nD) (t : Fin cfg0.N) : sProp 𝕄 :=
  iprop(Phi m c t.castSucc ∗ (dats m 0 c).owesAt () t.castSucc
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ (∃ d, owns (c : Thread nD τ) (st0_5 t) fullShare d)
    ∗ (∃ d, owns (c : Thread nD τ) (st0_6 t) fullShare ((dats m 0 c).before 6 t d)))

/-- What it gives back. -/
def bodyPost (c : Dev nD) (t : Fin cfg0.N) : sProp 𝕄 :=
  iprop(Phi m c t.succ ∗ (dats m 0 c).owesAt () t.castSucc
    ∗ owns (c : Thread nD τ) (st0_0 t) fullShare (iblk m c 0 t) ∗ owns (c : Thread nD τ) (st0_1 t) fullShare (iblk m c 1 t)
    ∗ owns (c : Thread nD τ) (st0_2 t) fullShare (iblk m c 2 t) ∗ owns (c : Thread nD τ) (st0_3 t) fullShare (iblk m c 3 t)
    ∗ owns (c : Thread nD τ) (st0_4 t) fullShare (iblk m c 4 t) ∗ owns (c : Thread nD τ) (st0_5 t) fullShare (wideOf m c t)
    ∗ owns (c : Thread nD τ) (st0_6 t) fullShare (narrowOf m c t))

/-- The body at a point, as the launch asks it. -/
def BodyAt (c : Dev nD) (t : Fin cfg0.N) : Prop :=
  bodyPre m c t ⊢ wp frame (wpE (defs₀ (F := Ideal)) Variants.none c none) Set.univ (bodyAt0 t) (fun _ => bodyPost m c t)

set_option maxHeartbeats 4000000 in
/-- The body at a row block's first point. -/
theorem body_first (c : Dev nD) (t : Fin cfg0.N) (h : t.val % 7 = 0) : BodyAt m c t := by
  obtain ⟨h1, h2, h3⟩ := conds_first t h
  unfold BodyAt bodyPre bodyPost Phi bodyAt0
  iintro ⟨⟨⟨%a, -, HS⟩, Hg⟩, Ho, H0, H1, H2, H3, H4, H5, ⟨%d6, H6⟩⟩
  iapply ((runFirst c (grid0.coords t) _ _ _ _ _ _ _ _ _ _ _ _ _ _ _ _ (iblk m c 0 t) (iblk m c 1 t) (iblk m c 2 t) (iblk m c 3 t) (iblk m c 4 t) h1 h2 h3).2.2.2 _)
  isplitl [H0 H1 H2 H3 H4]
  · isplitl [H0]; · iapply rep_of_owns; iexact H0
    isplitl [H1]; · iapply rep_of_owns; iexact H1
    isplitl [H2]; · iapply rep_of_owns; iexact H2
    isplitl [H3]; · iapply rep_of_owns; iexact H3
    iapply rep_of_owns; iexact H4
  isplitl [H5]; · iexact H5
  isplitl [H6]; · iexists _; iexact H6
  isplitl [HS]; · iexists _; iexact HS
  iintro ⟨⟨H0, H1, H2, H3, H4⟩, ⟨%f5, H5⟩, ⟨%f6, H6⟩, ⟨%fs, HS⟩⟩
  isplitl [HS Hg]
  · isplitl [HS]
    · iexists (rowsOf m c t)
      isplitr
      · ipureintro
        intro s hs
        rw [show s = t from Fin.ext (by rw [Fin.val_succ] at hs; omega)]
      · unfold owns; iexists _; isplitr; swap
        · iexact HS
        · ipureintro; exact runFirst_kept _ _ _ _ _ _ _ _ _ _ _ _ _ _ _ _ _ _ _ _ _ _ _ _ _ _ _
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]
  · unfold owns; iexists _; isplitr; swap
    · iexact H5
    · ipureintro
      refine (runFirst_out _ _ _ _ _ _ _ _ _ _ _ _ _ _ _ _ _ _ _ _ _ _ _ _ _ _ _).trans ?_
      unfold wideOf; rw [if_pos (by omega)]; rfl
  unfold owns; iexists _; isplitr; swap
  · iexact H6
  · ipureintro; exact runFirst_narrow _ _ _ _ _ _ _ _ _ _ _ _ _ _ _ _ _ _ _ _ _ _ _ _ _ _ _

set_option maxHeartbeats 4000000 in
/-- The body at a later point whose column block is normalised by heads. -/
theorem body_head (c : Dev nD) (t : Fin cfg0.N) (h : t.val % 7 ≠ 0) (h' : t.val % 7 < 4) : BodyAt m c t := by
  obtain ⟨h1, h2, h3⟩ := conds_head t h h'
  unfold BodyAt bodyPre bodyPost Phi bodyAt0
  simp only [before6 m c t h]
  iintro ⟨⟨⟨%a, %ha, HS⟩, Hg⟩, Ho, H0, H1, H2, H3, H4, H5, ⟨%d6, H6⟩⟩
  have hrow : a = rowsOf m c t := (ha (before t) (by rw [Fin.val_castSucc]; show t.val - 1 + 1 = t.val; omega)).trans
    (rowsOf_same m c (before t) t (by show (t.val - 1) / 7 = t.val / 7; omega))
  subst hrow
  iapply ((runHead c (grid0.coords t) _ _ _ _ _ _ _ _ _ _ _ _ (st0_6 t) (hstage0_6 ((cfg0.slots t 6).cast nbuf0_6)) _ _ (iblk m c 0 t) (iblk m c 1 t) (iblk m c 2 t) (iblk m c 3 t) (iblk m c 4 t) (rowsOf m c t) h1 h2 h3).2 _)
  isplitl [H0 H1 H2 H3 H4]
  · isplitl [H0]; · iapply rep_of_owns; iexact H0
    isplitl [H1]; · iapply rep_of_owns; iexact H1
    isplitl [H2]; · iapply rep_of_owns; iexact H2
    isplitl [H3]; · iapply rep_of_owns; iexact H3
    iapply rep_of_owns; iexact H4
  isplitl [H5]; · iexact H5
  isplitl [HS]; · iapply rep_of_owns; iexact HS
  iintro ⟨⟨H0, H1, H2, H3, H4⟩, ⟨%f5, H5⟩, HS⟩
  isplitl [HS Hg]
  · isplitl [HS]
    · iexists (rowsOf m c t)
      isplitr
      · ipureintro
        intro s hs
        rw [show s = t from Fin.ext (by rw [Fin.val_succ] at hs; omega)]
      · iapply owns_of_rep; iexact HS
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]
  · unfold owns; iexists _; isplitr; swap
    · iexact H5
    · ipureintro
      refine (runHead_out _ _ _ _ _ _ _ _ _ _ _ _ _ _ _ _ _ _ _ _ _ _ _ _ _ _ _ _).trans ?_
      unfold wideOf; rw [if_pos h']
  iexact H6

set_option maxHeartbeats 4000000 in
/-- The body at a point whose column block is the product alone. -/
theorem body_plain (c : Dev nD) (t : Fin cfg0.N) (h' : ¬(t.val % 7 < 4)) : BodyAt m c t := by
  obtain ⟨h1, h2, h3⟩ := conds_plain t h'
  have h : t.val % 7 ≠ 0 := by omega
  unfold BodyAt bodyPre bodyPost Phi bodyAt0
  simp only [before6 m c t h]
  iintro ⟨⟨⟨%a, %ha, HS⟩, Hg⟩, Ho, H0, H1, H2, H3, H4, H5, ⟨%d6, H6⟩⟩
  have hrow : a = rowsOf m c t := (ha (before t) (by rw [Fin.val_castSucc]; show t.val - 1 + 1 = t.val; omega)).trans
    (rowsOf_same m c (before t) t (by show (t.val - 1) / 7 = t.val / 7; omega))
  subst hrow
  iapply ((runPlain c (grid0.coords t) _ _ _ _ _ _ _ _ _ _ _ _ (st0_6 t) (hstage0_6 ((cfg0.slots t 6).cast nbuf0_6)) _ _ (iblk m c 0 t) (iblk m c 1 t) (iblk m c 2 t) (iblk m c 3 t) (iblk m c 4 t) (rowsOf m c t) h1 h2 h3).2 _)
  isplitl [H0 H1 H2 H3 H4]
  · isplitl [H0]; · iapply rep_of_owns; iexact H0
    isplitl [H1]; · iapply rep_of_owns; iexact H1
    isplitl [H2]; · iapply rep_of_owns; iexact H2
    isplitl [H3]; · iapply rep_of_owns; iexact H3
    iapply rep_of_owns; iexact H4
  isplitl [H5]; · iexact H5
  isplitl [HS]; · iapply rep_of_owns; iexact HS
  iintro ⟨⟨H0, H1, H2, H3, H4⟩, ⟨%f5, H5⟩, HS⟩
  isplitl [HS Hg]
  · isplitl [HS]
    · iexists (rowsOf m c t)
      isplitr
      · ipureintro
        intro s hs
        rw [show s = t from Fin.ext (by rw [Fin.val_succ] at hs; omega)]
      · iapply owns_of_rep; iexact HS
    iexact Hg
  isplitl [Ho]; · iexact Ho
  isplitl [H0]; · iapply owns_of_rep; iexact H0
  isplitl [H1]; · iapply owns_of_rep; iexact H1
  isplitl [H2]; · iapply owns_of_rep; iexact H2
  isplitl [H3]; · iapply owns_of_rep; iexact H3
  isplitl [H4]; · iapply owns_of_rep; iexact H4
  isplitl [H5]
  · unfold owns; iexists _; isplitr; swap
    · iexact H5
    · ipureintro
      refine (runPlain_out _ _ _ _ _ _ _ _ _ _ _ _ _ _ _ _ _ _ _ _ _ _ _ _ _ _ _ _).trans ?_
      unfold wideOf; rw [if_neg h']
  iexact H6

/-- The body at every point. -/
theorem body_every (c : Dev nD) (t : Fin cfg0.N) : BodyAt m c t := by
  by_cases h' : t.val % 7 < 4
  · by_cases h : t.val % 7 = 0
    · exact body_first m c t h
    · exact body_head m c t h h'
  · exact body_plain m c t h'

set_option maxHeartbeats 2400000 in
/-- The launch's obligation of the body, at every point. -/
theorem body_obligation (c : Dev nD) : BodyObligation (dats m 0 c) (defs₀ (F := Ideal)) Variants.none () Set.univ := fun t => by
  have h0 : ∀ d, (dats m 0 c).before 0 t d = iblk m c 0 t := before0_0_of m (dats m 0 c) (A_eq m c 0) (fun t => by dsimp only [dats]) t
  have h1 : ∀ d, (dats m 0 c).before 1 t d = iblk m c 1 t := before0_1_of m (dats m 0 c) (A_eq m c 1) (fun t => by dsimp only [dats]) t
  have h2 : ∀ d, (dats m 0 c).before 2 t d = iblk m c 2 t := before0_2_of m (dats m 0 c) (A_eq m c 2) (fun t => by dsimp only [dats]) t
  have h3 : ∀ d, (dats m 0 c).before 3 t d = iblk m c 3 t := before0_3_of m (dats m 0 c) (A_eq m c 3) (fun t => by dsimp only [dats]) t
  have h4 : ∀ d, (dats m 0 c).before 4 t d = iblk m c 4 t := before0_4_of m (dats m 0 c) (A_eq m c 4) (fun t => by dsimp only [dats]) t
  rw [bigSep_W0, bigSep_W0, show defs₀ (F := Ideal) .tc cfg0.body (cfg0.bodyArgs t (cfg0.slots t)) = bodyAt0 t from by unfold defs₀; rw [Defs.onTc_tc]]
  refine triple_restated (body_every m c t) rfl ?_ fun _ => ?_
  · rewrite [show (dats m 0 c).Φ t.castSucc = Phi m c t.castSucc from rfl]
    unfold bodyPre
    simp only [h0, h1, h2, h3, h4]
    iintro ⟨HΦ, Ho, ⟨%d0, H0⟩, ⟨%d1, H1⟩, ⟨%d2, H2⟩, ⟨%d3, H3⟩, ⟨%d4, H4⟩, ⟨%d5, H5⟩, ⟨%d6, H6⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexists _; iexact H5
    iexists d6; iexact H6
  · rewrite [show (dats m 0 c).Φ t.succ = Phi m c t.succ from rfl, show (dats m 0 c).owesAt () t.succ = (dats m 0 c).owesAt () t.castSucc from rfl]
    unfold bodyPost
    iintro ⟨HΦ, Ho, H0, H1, H2, H3, H4, H5, H6⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]
    · iapply (show (owns (c : Thread nD τ) (st0_5 t) fullShare (wideOf m c t) : sProp 𝕄) ⊢ (dats m 0 c).leavesExact 5 t from by rw [leaves5])
      iexact H5
    iapply (leaves6 m c t)
    iexact H6

/-- What the launch starts the scratch buffer from, and takes it back as. -/
theorem scratch_eq (c : Dev nD) : (Pipeline.ΦA spec0 c : sProp 𝕄)
    = iprop(iprop((∃ d, owns (c : Thread nD τ) (scM) fullShare d)) ∗ (∃ r, prngReg c r)) := by
  unfold Pipeline.ΦA; rw [scopedRest0_eq]; simp only [owns_whole]; rfl

/-- Before the first point nothing is said of the scratch buffer. -/
theorem phi_first (c : Dev nD) : (Pipeline.ΦA spec0 c : sProp 𝕄) ⊢ (dats m 0 c).Φ 0 := by
  rw [scratch_eq, show (dats m 0 c).Φ 0 = Phi m c 0 from rfl]
  unfold Phi
  iintro ⟨⟨%a, HS⟩, Hg⟩
  isplitl [HS]
  · iexists a
    isplitr
    · ipureintro; intro s hs; exact absurd hs (Nat.succ_ne_zero _)
    · iexact HS
  iexact Hg

/-- After the last point the scratch buffer goes back. -/
theorem phi_last (c : Dev nD) : (dats m 0 c).Φ (Fin.last cfg0.N) ⊢ (Pipeline.ΦA spec0 c : sProp 𝕄) := by
  rw [scratch_eq, show (dats m 0 c).Φ (Fin.last cfg0.N) = Phi m c (Fin.last _) from rfl]
  unfold Phi
  iintro ⟨⟨%a, -, HS⟩, Hg⟩
  isplitl [HS]; · iexists a; iexact HS
  iexact Hg

set_option backward.isDefEq.respectTransparency.types false in
set_option maxHeartbeats 2400000 in
/-- The launch runs: every array ends at what the pipeline computes, and every counter at zero. -/
theorem run_launch : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := phi_first m) (hout := phi_last m)

/-- The argument arrays end unchanged, the two results at what the pipeline computes. -/
theorem run_result : θ_run defs (onTc (τ := τ) (main (F := Ideal))) ⟨m, fun _ => 0, ρ⟩ (fun r => ∀ c : Dev nD,
      r.2.mem ((c.tc : Thread nD τ).loc main_v0_0) = (dats m 0 c).arrAt 5 cfg0.N
      ∧ r.2.mem ((c.tc : Thread nD τ).loc main_v0_1) = (dats m 0 c).arrAt 6 cfg0.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h.1 c).1 5, (h.1 c).1 6, ((h.1 c).1 0).trans (((dats m 0 c).arrAt_in 0 rfl _).trans (A_eq m c 0)),
    ((h.1 c).1 1).trans (((dats m 0 c).arrAt_in 1 rfl _).trans (A_eq m c 1)), ((h.1 c).1 2).trans (((dats m 0 c).arrAt_in 2 rfl _).trans (A_eq m c 2)),
    ((h.1 c).1 3).trans (((dats m 0 c).arrAt_in 3 rfl _).trans (A_eq m c 3)), ((h.1 c).1 4).trans (((dats m 0 c).arrAt_in 4 rfl _).trans (A_eq m c 4))⟩) (run_launch m ρ)

/-- Every run leaves the argument arrays unchanged and its counters at zero. -/
theorem run_frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun _ h => ⟨fun c => ⟨((h.1 c).1 0).trans (((dats m 0 c).arrAt_in 0 rfl _).trans (A_eq m c 0)),
    ((h.1 c).1 1).trans (((dats m 0 c).arrAt_in 1 rfl _).trans (A_eq m c 1)), ((h.1 c).1 2).trans (((dats m 0 c).arrAt_in 2 rfl _).trans (A_eq m c 2)),
    ((h.1 c).1 3).trans (((dats m 0 c).arrAt_in 3 rfl _).trans (A_eq m c 3)), ((h.1 c).1 4).trans (((dats m 0 c).arrAt_in 4 rfl _).trans (A_eq m c 4))⟩, h.2⟩) (run_launch m ρ)

end Cert.Kernel2Ideal.InProj

end
-- ==== Proof.InProjResult.lean ====
module

public import proofs.«01_k».proof.Proof.InProjRun
public import Idealize.ShloMosaic.Lib.Pipeline.Covers

@[expose] public section

set_option maxRecDepth 16384
set_option Elab.async false

noncomputable section

namespace Cert.Kernel2Ideal.InProj

open Cert.Kernel2Ideal Cert.Kernel2Ideal.Gen
open Idealize.ShloMosaic
open Idealize.ShloMosaic.TcCoe Idealize.ShloMosaic.Tactic
open Idealize.ShloMosaic.Pipeline (Dat Cfg Window)
open Cert.InProjection (normed token wide wideResult narrowResult)

/-! # The two arrays the in-projection's run leaves -/

variable (m : (ℓ : Loc nD τ sig) → Buf (Elt Ideal) ℓ)

/-- The tokens the kernel is launched with. -/
abbrev argX (c : Dev nD) : S16384x2048.Idx → EReal := m ((c.tc : Thread nD τ).loc main_arg0)
/-- The rows' gain it is launched with. -/
abbrev argG (c : Dev nD) : S1x2048.Idx → EReal := m ((c.tc : Thread nD τ).loc main_arg1)
/-- The wide weights it is launched with. -/
abbrev argW (c : Dev nD) : S2048x7168.Idx → EReal := m ((c.tc : Thread nD τ).loc main_arg2)
/-- The narrow weights it is launched with. -/
abbrev argN (c : Dev nD) : S2048x256.Idx → EReal := m ((c.tc : Thread nD τ).loc main_arg3)
/-- The heads' gains it is launched with. -/
abbrev argH (c : Dev nD) : S4x1x128.Idx → EReal := m ((c.tc : Thread nD τ).loc main_arg4)

/-- The wide array the formulas describe. -/
def wideArr (c : Dev nD) (i : S16384x7168.Idx) : EReal := wideResult (argX m c) (argG m c) (argW m c) (argH m c) (i (0 : Fin 2)) (i (1 : Fin 2))

/-- The narrow array they describe. -/
def narrowArr (c : Dev nD) (i : S16384x256.Idx) : EReal := narrowResult (argX m c) (argG m c) (argN m c) (i (0 : Fin 2)) (i (1 : Fin 2))

/-- A point's normalised rows are its tokens'. -/
theorem rowsOf_at (c : Dev nD) (t : Fin grid0.N) (p : Fin 1024) (d : Fin 2048) :
    rowsOf m c t (ix2 p d) = token (argX m c) (argG m c) (rowAt t p) d := by
  unfold rowsOf
  refine (norm_at _ _ p d).trans ?_
  unfold token
  simp only [tokens_at, gain_at]

/-- The product's column of a point's block is the array's. -/
theorem dot_at (c : Dev nD) (t : Fin grid0.N) (p l : Fin 1024) :
    (∑ k : Fin 2048, rowsOf m c t (ix2 p k) * iblk m c 2 t (ix2 k l)) = wide (argX m c) (argG m c) (argW m c) (rowAt t p) (colAt t l) := by
  unfold wide
  exact Finset.sum_congr rfl fun k _ => congrArg₂ (· * ·) (rowsOf_at m c t p k) (wideW_at m c t k l)

/-- A point's wide block is the array's. -/
theorem wideOf_at (c : Dev nD) (t : Fin grid0.N) (p l : Fin 1024) :
    wideOf m c t (ix2 p l) = wideResult (argX m c) (argG m c) (argW m c) (argH m c) (rowAt t p) (colAt t l) := by
  unfold wideOf
  by_cases h : t.val % 7 < 4
  · rw [if_pos h, headBlk_eq _ _ _ (ix2 p l) ⟨l.val / 128, by omega⟩ ⟨l.val % 128, by omega⟩ (by show l.val = l.val / 128 * 128 + l.val % 128; omega)]
    rw [Cert.InProjection.wideResult_head _ _ _ _ _ ⟨t.val % 7, h⟩ ⟨l.val / 128, by omega⟩ ⟨l.val % 128, by omega⟩ (colAt t l)
      (by show t.val % 7 * 1024 + l.val = (t.val % 7 * 8 + l.val / 128) * 128 + l.val % 128; omega)]
    unfold headAt Cert.InProjection.head
    refine congrArg₂ (fun v g => normed 0x43000000#32 v g _) (funext fun q => ?_) (funext fun q => gains_at m c t ⟨t.val % 7, h⟩ rfl q)
    refine (dot_at m c t p _).trans (congrArg (wide (argX m c) (argG m c) (argW m c) (rowAt t p)) (Fin.ext ?_))
    show t.val % 7 * 1024 + (l.val / 128 * 128 + q.val) = (t.val % 7 * 8 + l.val / 128) * 128 + q.val
    omega
  · rw [if_neg h, Cert.InProjection.wideResult_plain _ _ _ _ _ _ (by show 4096 ≤ t.val % 7 * 1024 + l.val; omega)]
    exact (plain_at _ _ p l).trans (dot_at m c t p l)

/-- A point's narrow block is the array's. -/
theorem narrowOf_at (c : Dev nD) (t : Fin grid0.N) (p : Fin 1024) (l : Fin 256) :
    narrowOf m c t (ix2 p l) = narrowResult (argX m c) (argG m c) (argN m c) (rowAt t p) l := by
  unfold narrowOf
  refine (narrow_at _ _ _ p l).trans ?_
  unfold narrowResult token
  simp only [tokens_at, gain_at, narrowW_at]

/-- The written wide blocks cover their array. -/
theorem covers5 : (cfg0.win 5).Covers :=
  (cfg0.win 5).covers_of_indexMap_surj rfl
    (fun a => match a with | ⟨0, _⟩ => (by decide : 0 < 1024) | ⟨1, _⟩ => (by decide : 0 < 1024))
    fun β => ⟨fun a => match a with
        | ⟨0, _⟩ => (⟨(β (0 : Fin 2)).val, lt_of_lt_of_eq (β (0 : Fin 2)).isLt (show (16384 + 1024 - 1) / 1024 = 16 from by decide)⟩ : Fin 16)
        | ⟨1, _⟩ => (⟨(β (1 : Fin 2)).val, lt_of_lt_of_eq (β (1 : Fin 2)).isLt (show (7168 + 1024 - 1) / 1024 = 7 from by decide)⟩ : Fin 7),
      fun a => match a with
        | ⟨0, _⟩ => by
          show (BitVec.ofNat 32 (β (0 : Fin 2)).val).toNat = (β (0 : Fin 2)).val
          have : (β (0 : Fin 2)).val < 16 := lt_of_lt_of_eq (β (0 : Fin 2)).isLt (show (16384 + 1024 - 1) / 1024 = 16 from by decide)
          rw [BitVec.toNat_ofNat]
          omega
        | ⟨1, _⟩ => by
          show (BitVec.ofNat 32 (β (1 : Fin 2)).val).toNat = (β (1 : Fin 2)).val
          have : (β (1 : Fin 2)).val < 7 := lt_of_lt_of_eq (β (1 : Fin 2)).isLt (show (7168 + 1024 - 1) / 1024 = 7 from by decide)
          rw [BitVec.toNat_ofNat]
          omega⟩

/-- The written narrow blocks cover theirs. -/
theorem covers6 : (cfg0.win 6).Covers :=
  (cfg0.win 6).covers_of_indexMap_surj rfl
    (fun a => match a with | ⟨0, _⟩ => (by decide : 0 < 1024) | ⟨1, _⟩ => (by decide : 0 < 256))
    fun β => ⟨fun a => match a with
        | ⟨0, _⟩ => (⟨(β (0 : Fin 2)).val, lt_of_lt_of_eq (β (0 : Fin 2)).isLt (show (16384 + 1024 - 1) / 1024 = 16 from by decide)⟩ : Fin 16)
        | ⟨1, _⟩ => (0 : Fin 7),
      fun a => match a with
        | ⟨0, _⟩ => by
          show (BitVec.ofNat 32 (β (0 : Fin 2)).val).toNat = (β (0 : Fin 2)).val
          have : (β (0 : Fin 2)).val < 16 := lt_of_lt_of_eq (β (0 : Fin 2)).isLt (show (16384 + 1024 - 1) / 1024 = 16 from by decide)
          rw [BitVec.toNat_ofNat]
          omega
        | ⟨1, _⟩ => by
          have : (β (1 : Fin 2)).val < 1 := lt_of_lt_of_eq (β (1 : Fin 2)).isLt (show (256 + 256 - 1) / 256 = 1 from by decide)
          show 0 = (β (1 : Fin 2)).val
          omega⟩

/-- The wide array the run leaves is the formulas'. -/
theorem wide_eq (c : Dev nD) : (dats m (0 : Fin 1) c).arrAt 5 cfg0.N = wideArr m c := by
  refine (dats m (0 : Fin 1) c).arrAt_eq_of_covers 5 (wideArr m c) covers5 fun t hflush y => ?_
  obtain ⟨p, hp⟩ : ∃ p : Fin 1024, p.val = (y (0 : Fin 2)).val := ⟨⟨(y (0 : Fin 2)).val, (show (y (0 : Fin 2)).val < 1024 from (y (0 : Fin 2)).isLt)⟩, rfl⟩
  obtain ⟨l, hl⟩ : ∃ l : Fin 1024, l.val = (y (1 : Fin 2)).val := ⟨⟨(y (1 : Fin 2)).val, (show (y (1 : Fin 2)).val < 1024 from (y (1 : Fin 2)).isLt)⟩, rfl⟩
  have hy : (cfg0.win 5).xinj (cfg0.grid.coords t) y = ix2 p l := by
    refine funext fun a => Fin.ext ?_
    match a with
    | ⟨0, _⟩ => exact hp.symm
    | ⟨1, _⟩ => exact hl.symm
  refine Eq.trans (b := wideOf m c t (ix2 p l)) (congrArg (wideOf m c t) hy) ((wideOf_at m c t p l).trans ?_)
  have e := place5 t
  refine congrArg₂ (wideResult (argX m c) (argG m c) (argW m c) (argH m c)) (Fin.ext ?_) (Fin.ext ?_)
  · show t.val / 7 * 1024 + p.val = cc0_transform_5 (grid0.coords t) 0 * 1024 + 1 * (y (0 : Fin 2)).val
    rw [e.1, hp]; omega
  · show t.val % 7 * 1024 + l.val = cc0_transform_5 (grid0.coords t) 1 * 1024 + 1 * (y (1 : Fin 2)).val
    rw [e.2, hl]; omega

/-- The narrow array the run leaves is the formulas'. -/
theorem narrow_eq (c : Dev nD) : (dats m (0 : Fin 1) c).arrAt 6 cfg0.N = narrowArr m c := by
  refine (dats m (0 : Fin 1) c).arrAt_eq_of_covers 6 (narrowArr m c) covers6 fun t hflush y => ?_
  obtain ⟨p, hp⟩ : ∃ p : Fin 1024, p.val = (y (0 : Fin 2)).val := ⟨⟨(y (0 : Fin 2)).val, (show (y (0 : Fin 2)).val < 1024 from (y (0 : Fin 2)).isLt)⟩, rfl⟩
  obtain ⟨l, hl⟩ : ∃ l : Fin 256, l.val = (y (1 : Fin 2)).val := ⟨⟨(y (1 : Fin 2)).val, (show (y (1 : Fin 2)).val < 256 from (y (1 : Fin 2)).isLt)⟩, rfl⟩
  have hy : (cfg0.win 6).xinj (cfg0.grid.coords t) y = ix2 p l := by
    refine funext fun a => Fin.ext ?_
    match a with
    | ⟨0, _⟩ => exact hp.symm
    | ⟨1, _⟩ => exact hl.symm
  refine Eq.trans (b := narrowOf m c t (ix2 p l)) (congrArg (narrowOf m c t) hy) ((narrowOf_at m c t p l).trans ?_)
  have e := place6 t
  refine congrArg₂ (narrowResult (argX m c) (argG m c) (argN m c)) (Fin.ext ?_) (Fin.ext ?_)
  · show t.val / 7 * 1024 + p.val = cc0_transform_6 (grid0.coords t) 0 * 1024 + 1 * (y (0 : Fin 2)).val
    rw [e.1, hp]; omega
  · show l.val = cc0_transform_6 (grid0.coords t) 1 * 256 + 1 * (y (1 : Fin 2)).val
    rw [e.2, hl]; omega

end Cert.Kernel2Ideal.InProj

end
-- ==== Proof.InProjReference.lean ====
module

public import proofs.«01_k».proof.Proof.Gen.Reference2Ideal
public import proofs.«01_k».proof.Proof.InProjSpec
public import Idealize.ShloMosaic.Lib.Claim
public import Idealize.ShloMosaic.PureOps.Ideal.Laws
public import Idealize.ShloMosaic.Adequacy
public import Idealize.ShloMosaic.Init

@[expose] public section

set_option maxRecDepth 16384
set_option Elab.async false

noncomputable section

namespace Cert.Reference2Ideal.InProj

open Cert.Reference2Ideal Cert.Reference2Ideal.Gen
open Idealize.ShloMosaic
open Idealize.ShloMosaic.TcCoe Idealize.ShloMosaic.Tactic
open Idealize.SL Idealize.SL.Sem

/-! # The in-projection's reference: its run, and its results at an index -/

/-- The normalised tokens. -/
def rows (x : FVec Ideal S16384x2048 .f32) (g : FVec Ideal S1x2048 .f32) : FVec Ideal S16384x2048 .f32 :=
  mulf (mulf x (broadcastInDim S16384x2048 ![0, 1] bcast_S16384x1_S16384x2048_0_1
      (Host.rsqrt (addf (Host.divf (broadcastInDim S16384x1 ![0] bcast_S16384_S16384x1_0
            (Host.reduceAdd (mulf x x) (constant (F := Ideal) S_ .f32 0x00000000#32) reducesTo_S16384x2048_S16384_d1 h_S_))
          (broadcastInDim S16384x1 ![] bcast_S_S16384x1 (constant (F := Ideal) S_ .f32 0x45000000#32)))
        (broadcastInDim S16384x1 ![] bcast_S_S16384x1 (constant (F := Ideal) S_ .f32 0x358637BD#32))))))
    (broadcastInDim S16384x2048 ![0, 1] bcast_S1x2048_S16384x2048_0_1 g)

/-- The wide product. -/
def product (x : FVec Ideal S16384x2048 .f32) (g : FVec Ideal S1x2048 .f32) (w : FVec Ideal S2048x7168 .bf16) : FVec Ideal S16384x7168 .f32 :=
  Host.dotGeneral dot_S16384x2048_S2048x7168_S16384x7168_1_0_0_1_n_n none (rows x g) (extf .f32 w bitsLt_bf16_f32)

/-- The heads of the first columns of a product, normalised. -/
def heads (p : FVec Ideal S16384x4x8x128 .f32) (gains : FVec Ideal S4x1x128 .f32) : FVec Ideal S16384x4x8x128 .f32 :=
  mulf (mulf p (broadcastInDim S16384x4x8x128 ![0, 1, 2, 3] bcast_S16384x4x8x1_S16384x4x8x128_0_1_2_3
      (Host.rsqrt (addf (Host.divf (broadcastInDim S16384x4x8x1 ![0, 1, 2] bcast_S16384x4x8_S16384x4x8x1_0_1_2
            (Host.reduceAdd (mulf p p) (constant (F := Ideal) S_ .f32 0x00000000#32) reducesTo_S16384x4x8x128_S16384x4x8_d3 h_S_))
          (broadcastInDim S16384x4x8x1 ![] bcast_S_S16384x4x8x1 (constant (F := Ideal) S_ .f32 0x43000000#32)))
        (broadcastInDim S16384x4x8x1 ![] bcast_S_S16384x4x8x1 (constant (F := Ideal) S_ .f32 0x358637BD#32))))))
    (broadcastInDim S16384x4x8x128 ![0, 1, 2, 3] bcast_S1x4x1x128_S16384x4x8x128_0_1_2_3 (shapeCast S1x4x1x128 gains shapeCasts_S4x1x128_S1x4x1x128))

/-- The wide result of a product. -/
def joined (p : FVec Ideal S16384x7168 .f32) (gains : FVec Ideal S4x1x128 .f32) : FVec Ideal S16384x7168 .bf16 :=
  truncf .bf16 (concatenate S16384x7168 1
    [⟨S16384x4096, shapeCast S16384x4096 (heads (shapeCast S16384x4x8x128 (extractStridedSlice S16384x4096 ![0, 0] p slices_S16384x7168_S16384x4096_0_0)
        shapeCasts_S16384x4096_S16384x4x8x128) gains) shapeCasts_S16384x4x8x128_S16384x4096⟩,
      ⟨S16384x3072, extractStridedSlice S16384x3072 ![0, 4096] p slices_S16384x7168_S16384x3072_0_4096⟩]
    concatenates_S16384x4096_S16384x3072_S16384x7168_d1) bitsLt_bf16_f32

/-- The narrow product. -/
def small (x : FVec Ideal S16384x2048 .f32) (g : FVec Ideal S1x2048 .f32) (w : FVec Ideal S2048x256 .bf16) : FVec Ideal S16384x256 .f32 :=
  Host.dotGeneral dot_S16384x2048_S2048x256_S16384x256_1_0_0_1_n_n none (rows x g) (extf .f32 w bitsLt_bf16_f32)

set_option maxHeartbeats 3200000 in
/-- Every run of the reference ends with its two results in place and its arguments unchanged. -/
theorem run (m : (ℓ : Loc nD τ sig) → Buf (Elt Ideal) ℓ) (g : Dev nD → PrngReg) :
    θ_run (defs (F := Ideal)) (onTc (τ := τ) (main (F := Ideal))) ⟨m, fun _ => 0, g⟩ (fun r => ∀ c : Dev nD,
      r.2.mem ((c.tc : Thread nD τ).loc main_v32)
        = joined (product (m ((c.tc : Thread nD τ).loc main_arg0)) (m ((c.tc : Thread nD τ).loc main_arg1)) (m ((c.tc : Thread nD τ).loc main_arg2))) (m ((c.tc : Thread nD τ).loc main_arg4))
      ∧ r.2.mem ((c.tc : Thread nD τ).loc main_v34)
        = small (m ((c.tc : Thread nD τ).loc main_arg0)) (m ((c.tc : Thread nD τ).loc main_arg1)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) := by
  hlo_run
  all_goals rfl

/-- Every run of the reference leaves its arguments unchanged and its semaphores at zero. -/
theorem run_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨fun c => (h c).2.2, sem_eq_zero_of_no_sems (by decide) r.2⟩) (run m g)

/-- The normalised tokens at an index. -/
theorem rows_at (x : FVec Ideal S16384x2048 .f32) (g : FVec Ideal S1x2048 .f32) (r : Fin 16384) (d : Fin 2048) :
    rows x g (ix2 r d) = Cert.InProjection.token x g r d := by
  unfold rows Cert.InProjection.token Cert.InProjection.normed
  pointwise []

/-- The wide product at an index. -/
theorem product_at (x : FVec Ideal S16384x2048 .f32) (g : FVec Ideal S1x2048 .f32) (w : FVec Ideal S2048x7168 .bf16) (r : Fin 16384) (j : Fin 7168) :
    product x g w (ix2 r j) = Cert.InProjection.wide x g w r j := by
  unfold product Cert.InProjection.wide
  pointwise []
  exact Finset.sum_congr rfl fun k _ => congrArg (· * _) (rows_at x g r k)

/-- The narrow result at an index. -/
theorem small_at (x : FVec Ideal S16384x2048 .f32) (g : FVec Ideal S1x2048 .f32) (w : FVec Ideal S2048x256 .bf16) (r : Fin 16384) (j : Fin 256) :
    small x g w (ix2 r j) = Cert.InProjection.narrowResult x g w r j := by
  unfold small Cert.InProjection.narrowResult
  pointwise []
  exact Finset.sum_congr rfl fun k _ => congrArg (· * _) (rows_at x g r k)

/-- The heads at an index. -/
theorem heads_at (p : FVec Ideal S16384x4x8x128 .f32) (gains : FVec Ideal S4x1x128 .f32) (r : Fin 16384) (b : Fin 4) (h : Fin 8) (l : Fin 128) :
    heads p gains (ix4 r b h l) = Cert.InProjection.normed 0x43000000#32 (fun l => p (ix4 r b h l)) (fun l => gains (ix3 b 0 l)) l := by
  unfold heads Cert.InProjection.normed
  pointwise []

/-- The product's first columns cut into heads, at an index. -/
theorem cut_at (p : FVec Ideal S16384x7168 .f32) (r : Fin 16384) (b : Fin 4) (h : Fin 8) (l : Fin 128) :
    shapeCast S16384x4x8x128 (extractStridedSlice S16384x4096 ![0, 0] p slices_S16384x7168_S16384x4096_0_0) shapeCasts_S16384x4096_S16384x4x8x128 (ix4 r b h l)
      = p (ix2 r ⟨(b.val * 8 + h.val) * 128 + l.val, by omega⟩) := by
  pointwise []
  exact congrArg (fun q => p (ix2 r q)) (Fin.ext (by show b.val * 1024 + h.val * 128 + l.val = (b.val * 8 + h.val) * 128 + l.val; omega))

/-- The wide result's columns normalised by heads. -/
theorem joined_head (p : FVec Ideal S16384x7168 .f32) (gains : FVec Ideal S4x1x128 .f32) (r : Fin 16384) (b : Fin 4) (h : Fin 8) (l : Fin 128)
    (j : Fin 7168) (hj : j.val = (b.val * 8 + h.val) * 128 + l.val) :
    joined p gains (ix2 r j) = Cert.InProjection.normed 0x43000000#32 (fun l => p (ix2 r ⟨(b.val * 8 + h.val) * 128 + l.val, by omega⟩)) (fun l => gains (ix3 b 0 l)) l := by
  unfold joined
  pointwise []
  rw [dif_pos (show j.val < 4096 by omega), show (⟨j.val / 1024, by omega⟩ : Fin 4) = b from Fin.ext (by show j.val / 1024 = b.val; omega),
    show (⟨j.val / 128 % 8, by omega⟩ : Fin 8) = h from Fin.ext (by show j.val / 128 % 8 = h.val; omega),
    show (⟨j.val % 128, by omega⟩ : Fin 128) = l from Fin.ext (by show j.val % 128 = l.val; omega), heads_at]
  simp only [cut_at]

/-- The wide result's other columns. -/
theorem joined_plain (p : FVec Ideal S16384x7168 .f32) (gains : FVec Ideal S4x1x128 .f32) (r : Fin 16384)
    (j : Fin 7168) (hj : 4096 ≤ j.val) : joined p gains (ix2 r j) = p (ix2 r j) := by
  unfold joined
  pointwise []
  rw [dif_neg (by omega)]
  exact congrArg (fun q => p (ix2 r q)) (Fin.ext (by show 4096 + (j.val - 4096) = j.val; omega))

/-- The wide result at an index. -/
theorem joined_at (x : FVec Ideal S16384x2048 .f32) (g : FVec Ideal S1x2048 .f32) (w : FVec Ideal S2048x7168 .bf16) (gains : FVec Ideal S4x1x128 .f32)
    (r : Fin 16384) (j : Fin 7168) : joined (product x g w) gains (ix2 r j) = Cert.InProjection.wideResult x g w gains r j := by
  by_cases hj : j.val < 4096
  · have hb : j.val = ((⟨j.val / 1024, by omega⟩ : Fin 4).val * 8 + (⟨j.val / 128 % 8, by omega⟩ : Fin 8).val) * 128 + (⟨j.val % 128, by omega⟩ : Fin 128).val := by
      show j.val = (j.val / 1024 * 8 + j.val / 128 % 8) * 128 + j.val % 128; omega
    rw [Cert.InProjection.wideResult_head x g w gains r _ _ _ j hb, joined_head (product x g w) gains r _ _ _ j hb]
    simp only [product_at]
    rfl
  · rw [Cert.InProjection.wideResult_plain x g w gains r j (by omega), joined_plain _ _ _ _ (by omega), product_at]

end Cert.Reference2Ideal.InProj

end
-- ==== Proof.OutProjSpec.lean ====
module

public import proofs.«01_k».proof.Proof.InProjSpec

@[expose] public section

set_option maxRecDepth 16384

noncomputable section

namespace Cert.OutProjection

open Idealize.ShloMosaic
open Cert.InProjection (Tokens Gain normed)

/-! # What the output projection computes, at an index

The two formulas the kernel's results and the reference's both come to. -/

/-- The shape of one attention's heads' outputs, side by side. -/
abbrev Heads : Shape := ⟨2, ![16384, 1024]⟩
/-- The shape of one attention's half of the output weights. -/
abbrev Half : Shape := ⟨2, ![1024, 2048]⟩

/-- A token with the two attentions' outputs, projected, added to it. -/
def mixed (o p : Heads.Idx → EReal) (x : Tokens.Idx → EReal) (wo wp : Half.Idx → EReal) (r : Fin 16384) (d : Fin 2048) : EReal :=
  x (ix2 r d) + (∑ k : Fin 1024, o (ix2 r k) * wo (ix2 k d)) + ∑ k : Fin 1024, p (ix2 r k) * wp (ix2 k d)

/-- The same token normalised for the experts. -/
def ready (o p : Heads.Idx → EReal) (x : Tokens.Idx → EReal) (wo wp : Half.Idx → EReal) (g : Gain.Idx → EReal) (r : Fin 16384) (d : Fin 2048) : EReal :=
  normed 0x45000000#32 (mixed o p x wo wp r) (fun d => g (ix2 0 d)) d

end Cert.OutProjection

end
-- ==== Proof.OutProjRuns.lean ====
module

public import proofs.«01_k».proof.Proof.Gen.Kernel3Ideal.Value
public import proofs.«01_k».proof.Proof.OutProjSpec
public import Idealize.ShloMosaic.Lib.Pipeline.ValueKit
public import Idealize.ShloMosaic.Lib.Pipeline.Covers
public import Idealize.ShloMosaic.Lib.Pointwise
public import Idealize.ShloMosaic.PureOps.Ideal

@[expose] public section

set_option maxRecDepth 16384
set_option Elab.async false

noncomputable section

namespace Cert.Kernel3Ideal.OutProj

open Cert.Kernel3Ideal Cert.Kernel3Ideal.Gen
open Idealize.ShloMosaic
open Idealize.ShloMosaic.TcCoe Idealize.ShloMosaic.Tactic
open Idealize.ShloMosaic.Pipeline (Dat Cfg Window)
open Cert.InProjection (normed)
open Cert.OutProjection (mixed ready)

/-! # What a point of the output projection leaves in its two blocks of rows -/

/-- A rectangle from the origin of a table. -/
theorem origin : (![0, 0] : Fin 2 → ℕ) = fun _ => 0 := by
  funext a
  match a with
  | ⟨0, _⟩ => rfl
  | ⟨1, _⟩ => rfl

section
variable (c : Dev nD) (i : grid0.Coords)
  (arg1 : Memref sig .tc .vmem S512x1024 .bf16) (harg1 : arg1.IsWhole)
  (arg2 : Memref sig .tc .vmem S512x1024 .bf16) (harg2 : arg2.IsWhole)
  (arg3 : Memref sig .tc .vmem S512x2048 .f32) (harg3 : arg3.IsWhole)
  (arg4 : Memref sig .tc .vmem S1024x2048 .bf16) (harg4 : arg4.IsWhole)
  (arg5 : Memref sig .tc .vmem S1024x2048 .bf16) (harg5 : arg5.IsWhole)
  (arg6 : Memref sig .tc .vmem S1x2048 .f32) (harg6 : arg6.IsWhole)
  (arg7 : Memref sig .tc .vmem S32x2048 .bf16) (harg7 : arg7.IsWhole)
  (arg8 : Memref sig .tc .vmem S32x2048 .bf16) (harg8 : arg8.IsWhole)
  (arg9 : Memref sig .tc .vmem S32x1 .f32) (harg9 : arg9.IsWhole)
  (arg10 : Memref sig .tc .vmem S512x2048 .f32) (harg10 : arg10.IsWhole)
  (arg11 : Memref sig .tc .vmem S512x2048 .f32) (harg11 : arg11.IsWhole)
  (arg12 : Memref sig .tc .vmem S4x512 .i32) (harg12 : arg12.IsWhole)
  (arg13 : Memref sig .tc .vmem S4x512 .i32) (harg13 : arg13.IsWhole)
  (arg14 : Memref sig .tc .vmem S4x512 .f32) (harg14 : arg14.IsWhole)
  (arg15 : Memref sig .tc .vmem S32x128 .i32) (harg15 : arg15.IsWhole)
  (arg16 : Memref sig .tc .vmem S32x128 .f32) (harg16 : arg16.IsWhole)
  (x0 : Vec Ideal S512x1024 .bf16) (x1 : Vec Ideal S512x1024 .bf16) (x2 : Vec Ideal S512x2048 .f32) (x3 : Vec Ideal S1024x2048 .bf16) (x4 : Vec Ideal S1024x2048 .bf16) (x5 : Vec Ideal S1x2048 .f32) (x6 : Vec Ideal S32x2048 .bf16) (x7 : Vec Ideal S32x2048 .bf16) (x8 : Vec Ideal S32x1 .f32)

/-- The first point leaves the rows with the projections added in the first block, and those rows normalised in the second. -/
theorem outs_A (hc0 : cond0_0 i) :
    out0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = k0_pay7 x2 x0 x3 x1 x4
    ∧ out0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = k0_pay8 x2 x0 x3 x1 x4 x5 := by
  refine ⟨?_, ?_⟩
  · unfold out0_A_9
    rw [View.read_writes_eq_canon _ _ _ (cover0_A_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
    unfold kernelRun0_A
    dsimp only
    sl_unfold_words
    rw [View.canon_unit_zero origin]
    simp only [View.readAt_eq_ld, harg1.read_unread, harg2.read_unread, harg3.read_unread, harg4.read_unread, harg5.read_unread,
      View.ld_unit_zero (S := S512x1024) origin, View.ld_unit_zero (S := S512x2048) origin, View.ld_unit_zero (S := S1024x2048) origin]
  · unfold out0_A_10
    rw [View.read_writes_eq_canon _ _ _ (cover0_A_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
    unfold kernelRun0_A
    dsimp only
    sl_unfold_words
    rw [View.canon_unit_zero origin]
    simp only [View.readAt_eq_ld, harg1.read_unread, harg2.read_unread, harg3.read_unread, harg4.read_unread, harg5.read_unread, harg6.read_unread,
      View.ld_unit_zero (S := S512x1024) origin, View.ld_unit_zero (S := S512x2048) origin, View.ld_unit_zero (S := S1024x2048) origin,
      View.ld_unit_zero (S := S1x2048) origin]

/-- A later point leaves the rows with the projections added in the first block, and those rows normalised in the second. -/
theorem outs_B (hc0 : ¬cond0_0 i) (xs0 : Vec Ideal S32x128 .f32) :
    out0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 = k0_pay7 x2 x0 x3 x1 x4
    ∧ out0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 = k0_pay8 x2 x0 x3 x1 x4 x5 := by
  refine ⟨?_, ?_⟩
  · unfold out0_B_9
    rw [View.read_writes_eq_canon _ _ _ (cover0_B_9 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0)]
    unfold kernelRun0_B
    dsimp only
    sl_unfold_words
    rw [View.canon_unit_zero origin]
    simp only [View.readAt_eq_ld, harg1.read_unread, harg2.read_unread, harg3.read_unread, harg4.read_unread, harg5.read_unread,
      View.ld_unit_zero (S := S512x1024) origin, View.ld_unit_zero (S := S512x2048) origin, View.ld_unit_zero (S := S1024x2048) origin]
  · unfold out0_B_10
    rw [View.read_writes_eq_canon _ _ _ (cover0_B_10 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0)]
    unfold kernelRun0_B
    dsimp only
    sl_unfold_words
    rw [View.canon_unit_zero origin]
    simp only [View.readAt_eq_ld, harg1.read_unread, harg2.read_unread, harg3.read_unread, harg4.read_unread, harg5.read_unread, harg6.read_unread,
      View.ld_unit_zero (S := S512x1024) origin, View.ld_unit_zero (S := S512x2048) origin, View.ld_unit_zero (S := S1024x2048) origin,
      View.ld_unit_zero (S := S1x2048) origin]

end

end Cert.Kernel3Ideal.OutProj

end
-- ==== Proof.OutProjResult.lean ====
module

public import proofs.«01_k».proof.Proof.OutProjRuns

@[expose] public section

set_option maxRecDepth 16384
set_option Elab.async false

noncomputable section

namespace Cert.Kernel3Ideal.OutProj

open Cert.Kernel3Ideal Cert.Kernel3Ideal.Gen
open Idealize.ShloMosaic
open Idealize.ShloMosaic.TcCoe Idealize.ShloMosaic.Tactic
open Idealize.ShloMosaic.Pipeline (Dat Cfg Window)
open Cert.InProjection (normed)
open Cert.OutProjection (mixed ready)

/-! # The two arrays the output projection's run leaves

Point `t` of the grid is row block `t`. -/

/-- A block of rows that moves with the point starts at row block `t`, column 0. -/
theorem place : ∀ t : Fin grid0.N,
    (cc0_transform_0 (grid0.coords t) 0 = t.val ∧ cc0_transform_0 (grid0.coords t) 1 = 0)
    ∧ (cc0_transform_1 (grid0.coords t) 0 = t.val ∧ cc0_transform_1 (grid0.coords t) 1 = 0)
    ∧ (cc0_transform_2 (grid0.coords t) 0 = t.val ∧ cc0_transform_2 (grid0.coords t) 1 = 0)
    ∧ (cc0_transform_9 (grid0.coords t) 0 = t.val ∧ cc0_transform_9 (grid0.coords t) 1 = 0)
    ∧ (cc0_transform_10 (grid0.coords t) 0 = t.val ∧ cc0_transform_10 (grid0.coords t) 1 = 0) := by decide +kernel

/-- There are 32 points. -/
theorem point_lt (t : Fin grid0.N) : t.val < 32 := lt_of_lt_of_eq t.isLt N_0

variable (m : (ℓ : Loc nD τ sig) → Buf (Elt Ideal) ℓ)

/-- A row of the tokens' array. -/
def rowAt (t : Fin grid0.N) (p : Fin 512) : Fin 16384 := ⟨t.val * 512 + p.val, by have := point_lt t; omega⟩

/-- The first attention's outputs the kernel is launched with. -/
abbrev argO (c : Dev nD) : S16384x1024.Idx → EReal := m ((c.tc : Thread nD τ).loc main_arg0)
/-- The second attention's outputs it is launched with. -/
abbrev argP (c : Dev nD) : S16384x1024.Idx → EReal := m ((c.tc : Thread nD τ).loc main_arg1)
/-- The tokens it is launched with. -/
abbrev argX (c : Dev nD) : S16384x2048.Idx → EReal := m ((c.tc : Thread nD τ).loc main_arg2)
/-- The first attention's half of the weights. -/
abbrev argWO (c : Dev nD) : S1024x2048.Idx → EReal := m ((c.tc : Thread nD τ).loc main_arg3)
/-- The second attention's half. -/
abbrev argWP (c : Dev nD) : S1024x2048.Idx → EReal := m ((c.tc : Thread nD τ).loc main_arg4)
/-- The rows' gain. -/
abbrev argG (c : Dev nD) : S1x2048.Idx → EReal := m ((c.tc : Thread nD τ).loc main_arg5)

/-- The first attention's block at an index. -/
theorem o_at (c : Dev nD) (t : Fin grid0.N) (p : Fin 512) (k : Fin 1024) : iblk m c 0 t (ix2 p k) = argO m c (ix2 (rowAt t p) k) := by
  have e := (place t).1
  refine congrArg (argO m c) (funext fun a => Fin.ext ?_)
  match a with
  | ⟨0, _⟩ => show cc0_transform_0 (grid0.coords t) 0 * 512 + 1 * p.val = t.val * 512 + p.val; rw [e.1]; omega
  | ⟨1, _⟩ => show cc0_transform_0 (grid0.coords t) 1 * 1024 + 1 * k.val = k.val; rw [e.2]; omega

/-- The second attention's block at an index. -/
theorem p_at (c : Dev nD) (t : Fin grid0.N) (p : Fin 512) (k : Fin 1024) : iblk m c 1 t (ix2 p k) = argP m c (ix2 (rowAt t p) k) := by
  have e := (place t).2.1
  refine congrArg (argP m c) (funext fun a => Fin.ext ?_)
  match a with
  | ⟨0, _⟩ => show cc0_transform_1 (grid0.coords t) 0 * 512 + 1 * p.val = t.val * 512 + p.val; rw [e.1]; omega
  | ⟨1, _⟩ => show cc0_transform_1 (grid0.coords t) 1 * 1024 + 1 * k.val = k.val; rw [e.2]; omega

/-- The tokens' block at an index. -/
theorem x_at (c : Dev nD) (t : Fin grid0.N) (p : Fin 512) (d : Fin 2048) : iblk m c 2 t (ix2 p d) = argX m c (ix2 (rowAt t p) d) := by
  have e := (place t).2.2.1
  refine congrArg (argX m c) (funext fun a => Fin.ext ?_)
  match a with
  | ⟨0, _⟩ => show cc0_transform_2 (grid0.coords t) 0 * 512 + 1 * p.val = t.val * 512 + p.val; rw [e.1]; omega
  | ⟨1, _⟩ => show cc0_transform_2 (grid0.coords t) 1 * 2048 + 1 * d.val = d.val; rw [e.2]; omega

/-- The first half of the weights at an index. -/
theorem wo_at (c : Dev nD) (t : Fin grid0.N) (k : Fin 1024) (d : Fin 2048) : iblk m c 3 t (ix2 k d) = argWO m c (ix2 k d) := by
  refine congrArg (argWO m c) (funext fun a => Fin.ext ?_)
  match a with
  | ⟨0, _⟩ => show 0 * 1024 + 1 * k.val = k.val; omega
  | ⟨1, _⟩ => show 0 * 2048 + 1 * d.val = d.val; omega

/-- The second half at an index. -/
theorem wp_at (c : Dev nD) (t : Fin grid0.N) (k : Fin 1024) (d : Fin 2048) : iblk m c 4 t (ix2 k d) = argWP m c (ix2 k d) := by
  refine congrArg (argWP m c) (funext fun a => Fin.ext ?_)
  match a with
  | ⟨0, _⟩ => show 0 * 1024 + 1 * k.val = k.val; omega
  | ⟨1, _⟩ => show 0 * 2048 + 1 * d.val = d.val; omega

/-- The rows' gain at an index. -/
theorem g_at (c : Dev nD) (t : Fin grid0.N) (d : Fin 2048) : iblk m c 5 t (ix2 0 d) = argG m c (ix2 0 d) := by
  refine congrArg (argG m c) (funext fun a => Fin.ext ?_)
  match a with
  | ⟨0, _⟩ => show 0 * 1 + 1 * 0 = 0; omega
  | ⟨1, _⟩ => show 0 * 2048 + 1 * d.val = d.val; omega

/-- The stored sum at an index, of any blocks. -/
theorem sum_at (x : FVec Ideal S512x2048 .f32) (o p : FVec Ideal S512x1024 .bf16) (wo wp : FVec Ideal S1024x2048 .bf16) (r : Fin 512) (d : Fin 2048) :
    k0_pay7 x o wo p wp (ix2 r d) = x (ix2 r d) + (∑ k : Fin 1024, o (ix2 r k) * wo (ix2 k d)) + ∑ k : Fin 1024, p (ix2 r k) * wp (ix2 k d) := by
  pointwise [k0_pay7]

/-- The stored normalised rows at an index are the stored sums', normalised. -/
theorem norm_at (x : FVec Ideal S512x2048 .f32) (o p : FVec Ideal S512x1024 .bf16) (wo wp : FVec Ideal S1024x2048 .bf16) (g : FVec Ideal S1x2048 .f32)
    (r : Fin 512) (d : Fin 2048) :
    k0_pay8 (F := Ideal) x o wo p wp g (ix2 r d) = normed 0x45000000#32 (fun d => k0_pay7 (F := Ideal) x o wo p wp (ix2 r d)) (fun d => g (ix2 0 d)) d := by
  unfold k0_pay8 normed
  pointwise [k0_pay7]

/-- A point's sums. -/
def sumOf (c : Dev nD) (t : Fin grid0.N) : FVec Ideal S512x2048 .f32 := k0_pay7 (iblk m c 2 t) (iblk m c 0 t) (iblk m c 3 t) (iblk m c 1 t) (iblk m c 4 t)

/-- A point's normalised rows. -/
def normOf (c : Dev nD) (t : Fin grid0.N) : FVec Ideal S512x2048 .f32 :=
  k0_pay8 (iblk m c 2 t) (iblk m c 0 t) (iblk m c 3 t) (iblk m c 1 t) (iblk m c 4 t) (iblk m c 5 t)

/-- Every point leaves its sums in the first of the two blocks. -/
theorem left9 (c : Dev nD) (t : Fin cfg0.N) : (outsAt0 m c t.val t.isLt).1 = sumOf m c t := by
  by_cases h0 : t.val % 32 = 0
  · simp only [outsAt0_A m c t h0]
    rw [(outs_A _ _ _ _ _ _ _ _ _ _ _ _ _ _ _ _ _ _ _ _ _ _ _ _ _ _ _ _ _ _ _ _ _ _ _ _ _ _ _ _ _ _ _ _).1]
    rfl
  · simp only [outsAt0_B m c t h0]
    rw [(outs_B _ _ _ _ _ _ _ _ _ _ _ _ _ _ _ _ _ _ _ _ _ _ _ _ _ _ _ _ _ _ _ _ _ _ _ _ _ _ _ _ _ _ _ _ _).1]
    rfl

/-- Every point leaves its normalised rows in the second. -/
theorem left10 (c : Dev nD) (t : Fin cfg0.N) : (outsAt0 m c t.val t.isLt).2.1 = normOf m c t := by
  by_cases h0 : t.val % 32 = 0
  · simp only [outsAt0_A m c t h0]
    rw [(outs_A _ _ _ _ _ _ _ _ _ _ _ _ _ _ _ _ _ _ _ _ _ _ _ _ _ _ _ _ _ _ _ _ _ _ _ _ _ _ _ _ _ _ _ _).2]
    rfl
  · simp only [outsAt0_B m c t h0]
    rw [(outs_B _ _ _ _ _ _ _ _ _ _ _ _ _ _ _ _ _ _ _ _ _ _ _ _ _ _ _ _ _ _ _ _ _ _ _ _ _ _ _ _ _ _ _ _ _).2]
    rfl

/-- A point's sums at an index are the formula's. -/
theorem sumOf_at (c : Dev nD) (t : Fin grid0.N) (p : Fin 512) (d : Fin 2048) :
    sumOf m c t (ix2 p d) = mixed (argO m c) (argP m c) (argX m c) (argWO m c) (argWP m c) (rowAt t p) d := by
  unfold sumOf mixed
  refine (sum_at _ _ _ _ _ p d).trans ?_
  simp only [o_at, p_at, x_at, wo_at, wp_at]

/-- A point's normalised rows at an index are the formula's. -/
theorem normOf_at (c : Dev nD) (t : Fin grid0.N) (p : Fin 512) (d : Fin 2048) :
    normOf m c t (ix2 p d) = ready (argO m c) (argP m c) (argX m c) (argWO m c) (argWP m c) (argG m c) (rowAt t p) d := by
  unfold normOf ready
  refine (norm_at _ _ _ _ _ _ p d).trans ?_
  exact congrArg₂ (fun v g => normed 0x45000000#32 v g d) (funext fun d => sumOf_at m c t p d) (funext fun d => g_at m c t d)

/-- The array of tokens the formulas describe. -/
def mixedArr (c : Dev nD) (i : S16384x2048.Idx) : EReal :=
  mixed (argO m c) (argP m c) (argX m c) (argWO m c) (argWP m c) (i (0 : Fin 2)) (i (1 : Fin 2))

/-- The array of normalised tokens they describe. -/
def readyArr (c : Dev nD) (i : S16384x2048.Idx) : EReal :=
  ready (argO m c) (argP m c) (argX m c) (argWO m c) (argWP m c) (argG m c) (i (0 : Fin 2)) (i (1 : Fin 2))

/-- The array of tokens the run leaves is the formulas'. -/
theorem mixed_eq (c : Dev nD) : (dats m (0 : Fin 1) c).arrAt 9 cfg0.N = mixedArr m c := by
  refine (dats m (0 : Fin 1) c).arrAt_eq_of_cover 9 (mixedArr m c) (fun t hflush => ?_) fun i => (Value.covered_iff9 i).2
    ⟨Nat.zero_le _, (i (0 : Fin 2)).isLt, Nat.zero_le _, (i (1 : Fin 2)).isLt⟩
  rw [Value.flushed9, left9]
  funext y
  obtain ⟨p, hp⟩ : ∃ p : Fin 512, p.val = (y (0 : Fin 2)).val := ⟨⟨(y (0 : Fin 2)).val, (show (y (0 : Fin 2)).val < 512 from (y (0 : Fin 2)).isLt)⟩, rfl⟩
  obtain ⟨d, hd⟩ : ∃ d : Fin 2048, d.val = (y (1 : Fin 2)).val := ⟨⟨(y (1 : Fin 2)).val, (show (y (1 : Fin 2)).val < 2048 from (y (1 : Fin 2)).isLt)⟩, rfl⟩
  have hy : (cfg0.win 9).xinj (cfg0.grid.coords t) y = ix2 p d := by
    refine funext fun a => Fin.ext ?_
    match a with
    | ⟨0, _⟩ => exact hp.symm
    | ⟨1, _⟩ => exact hd.symm
  refine Eq.trans (b := sumOf m c t (ix2 p d)) (congrArg (sumOf m c t) hy) ((sumOf_at m c t p d).trans ?_)
  have e := (place t).2.2.2.1
  refine congrArg₂ (mixed (argO m c) (argP m c) (argX m c) (argWO m c) (argWP m c)) (Fin.ext ?_) (Fin.ext ?_)
  · show t.val * 512 + p.val = cc0_transform_9 (grid0.coords t) 0 * 512 + 1 * (y (0 : Fin 2)).val
    rw [e.1, hp]; omega
  · show d.val = cc0_transform_9 (grid0.coords t) 1 * 2048 + 1 * (y (1 : Fin 2)).val
    rw [e.2, hd]; omega

/-- The array of normalised tokens the run leaves is the formulas'. -/
theorem ready_eq (c : Dev nD) : (dats m (0 : Fin 1) c).arrAt 10 cfg0.N = readyArr m c := by
  refine (dats m (0 : Fin 1) c).arrAt_eq_of_cover 10 (readyArr m c) (fun t hflush => ?_) fun i => (Value.covered_iff10 i).2
    ⟨Nat.zero_le _, (i (0 : Fin 2)).isLt, Nat.zero_le _, (i (1 : Fin 2)).isLt⟩
  rw [Value.flushed10, left10]
  funext y
  obtain ⟨p, hp⟩ : ∃ p : Fin 512, p.val = (y (0 : Fin 2)).val := ⟨⟨(y (0 : Fin 2)).val, (show (y (0 : Fin 2)).val < 512 from (y (0 : Fin 2)).isLt)⟩, rfl⟩
  obtain ⟨d, hd⟩ : ∃ d : Fin 2048, d.val = (y (1 : Fin 2)).val := ⟨⟨(y (1 : Fin 2)).val, (show (y (1 : Fin 2)).val < 2048 from (y (1 : Fin 2)).isLt)⟩, rfl⟩
  have hy : (cfg0.win 10).xinj (cfg0.grid.coords t) y = ix2 p d := by
    refine funext fun a => Fin.ext ?_
    match a with
    | ⟨0, _⟩ => exact hp.symm
    | ⟨1, _⟩ => exact hd.symm
  refine Eq.trans (b := normOf m c t (ix2 p d)) (congrArg (normOf m c t) hy) ((normOf_at m c t p d).trans ?_)
  have e := (place t).2.2.2.2
  refine congrArg₂ (ready (argO m c) (argP m c) (argX m c) (argWO m c) (argWP m c) (argG m c)) (Fin.ext ?_) (Fin.ext ?_)
  · show t.val * 512 + p.val = cc0_transform_10 (grid0.coords t) 0 * 512 + 1 * (y (0 : Fin 2)).val
    rw [e.1, hp]; omega
  · show d.val = cc0_transform_10 (grid0.coords t) 1 * 2048 + 1 * (y (1 : Fin 2)).val
    rw [e.2, hd]; omega

end Cert.Kernel3Ideal.OutProj

end
-- ==== Proof.OutProjReference.lean ====
module

public import proofs.«01_k».proof.Defs
public import proofs.«01_k».proof.Proof.Gen.Reference3Ideal.Run
public import proofs.«01_k».proof.Proof.OutProjSpec
public import Idealize.ShloMosaic.Lib.Claim
public import Idealize.ShloMosaic.Lib.Pointwise
public import Idealize.ShloMosaic.PureOps.Ideal.Laws
public import Idealize.ShloMosaic.Adequacy
public import Idealize.ShloMosaic.Init

@[expose] public section

set_option maxRecDepth 16384
set_option Elab.async false

noncomputable section

namespace Cert.Reference3Ideal.OutProj

open Cert.Reference3Ideal Cert.Reference3Ideal.Gen
open Idealize.ShloMosaic
open Idealize.ShloMosaic.TcCoe Idealize.ShloMosaic.Tactic
open Idealize.SL Idealize.SL.Sem

/-! # The output projection's reference: its run, and its results at an index -/

/-- The two attentions' outputs side by side. -/
def heads (o p : FVec Ideal S16384x1024 .bf16) : FVec Ideal S16384x2048 .bf16 :=
  concatenate S16384x2048 1 [⟨S16384x1024, o⟩, ⟨S16384x1024, p⟩] concatenates_S16384x1024_S16384x1024_S16384x2048_d1

/-- The two halves of the weights, one under the other. -/
def weights (wo wp : FVec Ideal S1024x2048 .bf16) : FVec Ideal S2048x2048 .bf16 :=
  concatenate S2048x2048 0 [⟨S1024x2048, wo⟩, ⟨S1024x2048, wp⟩] concatenates_S1024x2048_S1024x2048_S2048x2048_d0

/-- The tokens with the projection added. -/
def added (o p : FVec Ideal S16384x1024 .bf16) (x : FVec Ideal S16384x2048 .f32) (wo wp : FVec Ideal S1024x2048 .bf16) : FVec Ideal S16384x2048 .f32 :=
  addf x (Host.dotGeneral dot_S16384x2048_S2048x2048_S16384x2048_1_0_0_1_n_n none (extf .f32 (heads o p) bitsLt_bf16_f32) (extf .f32 (weights wo wp) bitsLt_bf16_f32))

/-- Rows normalised. -/
def rows (x : FVec Ideal S16384x2048 .f32) (g : FVec Ideal S1x2048 .f32) : FVec Ideal S16384x2048 .f32 :=
  mulf (mulf x (broadcastInDim S16384x2048 ![0, 1] bcast_S16384x1_S16384x2048_0_1
      (Host.rsqrt (addf (Host.divf (broadcastInDim S16384x1 ![0] bcast_S16384_S16384x1_0
            (Host.reduceAdd (mulf x x) (constant (F := Ideal) S_ .f32 0x00000000#32) reducesTo_S16384x2048_S16384_d1 h_S_))
          (broadcastInDim S16384x1 ![] bcast_S_S16384x1 (constant (F := Ideal) S_ .f32 0x45000000#32)))
        (broadcastInDim S16384x1 ![] bcast_S_S16384x1 (constant (F := Ideal) S_ .f32 0x358637BD#32))))))
    (broadcastInDim S16384x2048 ![0, 1] bcast_S1x2048_S16384x2048_0_1 g)

/-- Every run of the reference leaves its arguments unchanged and its semaphores at zero. -/
theorem run_frame : Cert.quiescent_Reference3Ideal := fun m g _ =>
  (θ_run defs _ _).mono (fun r h => ⟨fun c => (h c).2.2, sem_eq_zero_of_no_sems (by decide) r.2⟩) (Value.run m g)

/-- The side-by-side outputs at an index. -/
theorem heads_at (o p : FVec Ideal S16384x1024 .bf16) (r : Fin 16384) (k : Fin 2048) :
    heads o p (ix2 r k) = if h : k.val < 1024 then o (ix2 r ⟨k.val, h⟩) else p (ix2 r ⟨k.val - 1024, by omega⟩) := by
  unfold heads
  pointwise []

/-- The stacked weights at an index. -/
theorem weights_at (wo wp : FVec Ideal S1024x2048 .bf16) (k d : Fin 2048) :
    weights wo wp (ix2 k d) = if h : k.val < 1024 then wo (ix2 ⟨k.val, h⟩ d) else wp (ix2 ⟨k.val - 1024, by omega⟩ d) := by
  unfold weights
  pointwise []

/-- The tokens with the projection added, at an index: the sum over both halves is the halves' sums. -/
theorem added_at (o p : FVec Ideal S16384x1024 .bf16) (x : FVec Ideal S16384x2048 .f32) (wo wp : FVec Ideal S1024x2048 .bf16) (r : Fin 16384) (d : Fin 2048) :
    added o p x wo wp (ix2 r d) = Cert.OutProjection.mixed o p x wo wp r d := by
  have e : added o p x wo wp (ix2 r d) = x (ix2 r d) + ∑ k : Fin (1024 + 1024), heads o p (ix2 r k) * weights wo wp (ix2 k d) := by
    unfold added
    generalize heads o p = u
    generalize weights wo wp = v
    pointwise []
  rw [e, Fin.sum_univ_add]
  unfold Cert.OutProjection.mixed
  rw [add_assoc]
  refine congrArg (x (ix2 r d) + ·) (congrArg₂ (· + ·) (Finset.sum_congr rfl fun k _ => ?_) (Finset.sum_congr rfl fun k _ => ?_))
  · rw [heads_at, weights_at, dif_pos (show (Fin.castAdd 1024 k).val < 1024 from k.isLt), dif_pos (show (Fin.castAdd 1024 k).val < 1024 from k.isLt)]
    rfl
  · have hk : ¬(Fin.natAdd 1024 k).val < 1024 := by show ¬(1024 + k.val < 1024); omega
    have ek : (⟨(Fin.natAdd 1024 k).val - 1024, by show 1024 + k.val - 1024 < 1024; omega⟩ : Fin 1024) = k := Fin.ext (by show 1024 + k.val - 1024 = k.val; omega)
    rw [heads_at, weights_at, dif_neg hk, dif_neg hk, ek]

/-- Normalised rows at an index. -/
theorem rows_at (x : FVec Ideal S16384x2048 .f32) (g : FVec Ideal S1x2048 .f32) (r : Fin 16384) (d : Fin 2048) :
    rows x g (ix2 r d) = Cert.InProjection.normed 0x45000000#32 (fun d => x (ix2 r d)) (fun d => g (ix2 0 d)) d := by
  unfold rows Cert.InProjection.normed
  pointwise []

/-- The normalised tokens at an index. -/
theorem ready_at (o p : FVec Ideal S16384x1024 .bf16) (x : FVec Ideal S16384x2048 .f32) (wo wp : FVec Ideal S1024x2048 .bf16) (g : FVec Ideal S1x2048 .f32)
    (r : Fin 16384) (d : Fin 2048) :
    rows (added o p x wo wp) g (ix2 r d) = Cert.OutProjection.ready o p x wo wp g r d := by
  rw [rows_at]
  unfold Cert.OutProjection.ready
  exact congrArg (fun v => Cert.InProjection.normed 0x45000000#32 v (fun d => g (ix2 0 d)) d) (funext fun d => added_at o p x wo wp r d)

end Cert.Reference3Ideal.OutProj

end
-- ==== Proof.PrepSpec.lean ====
module

public import proofs.«01_k».proof.Proof.InProjSpec

@[expose] public section

set_option maxRecDepth 16384

noncomputable section

namespace Cert.Prep

open Idealize.ShloMosaic

/-! # What the preparation computes, at an index

A running sum of the forget gates' log-sigmoids down the tokens, and the sum over windows that double in length by which the kernel reaches it. -/

/-- The shape of the narrow projection, by batch. -/
abbrev Small : Shape := ⟨3, ![4, 4096, 256]⟩
/-- The shape of a row over the lanes. -/
abbrev Lanes : Shape := ⟨2, ![1, 128]⟩

/-- The logarithm of one plus the exponential of minus a magnitude. -/
def tail (a : EReal) : EReal := Ideal.log (1 + Ideal.exp (-a))

/-- The logarithm of the sigmoid. -/
def logSigmoid (z : EReal) : EReal := min z 0 - tail (max z (-z))

/-- The tail is never minus infinity. -/
theorem tail_ne_bot (a : EReal) : tail a ≠ ⊥ := by
  unfold tail
  generalize -a = b
  match b with
  | ⊥ =>
    show Ideal.log (1 + 0) ≠ ⊥
    rw [add_zero]
    show (if (1 : ℝ) ≤ 0 then (⊥ : EReal) else ((Real.log 1 : ℝ) : EReal)) ≠ ⊥
    rw [if_neg (by norm_num)]
    exact EReal.coe_ne_bot _
  | ⊤ =>
    show Ideal.log (1 + ⊤) ≠ ⊥
    rw [show (1 : EReal) + ⊤ = ⊤ from EReal.coe_add_top 1]
    exact bot_lt_top.ne'
  | (r : ℝ) =>
    show Ideal.log (1 + ((Real.exp r : ℝ) : EReal)) ≠ ⊥
    rw [show (1 : EReal) + ((Real.exp r : ℝ) : EReal) = ((1 + Real.exp r : ℝ) : EReal) from (EReal.coe_add 1 _).symm]
    show (if 1 + Real.exp r ≤ 0 then (⊥ : EReal) else ((Real.log (1 + Real.exp r) : ℝ) : EReal)) ≠ ⊥
    rw [if_neg (by have := Real.exp_pos r; linarith)]
    exact EReal.coe_ne_bot _

/-- Minus the softplus of minus a number is its log-sigmoid. -/
theorem neg_softplus (z : EReal) : -(max (-z) 0 + tail (max z (-z))) = logSigmoid z := by
  unfold logSigmoid
  rw [EReal.neg_add (Or.inl fun h => absurd (le_max_right (-z) 0) (by rw [h]; exact not_le.2 EReal.bot_lt_zero)) (Or.inr (tail_ne_bot _))]
  congr 1
  rcases le_total z 0 with h | h
  · rw [min_eq_left h, max_eq_left (EReal.neg_nonneg.2 h), neg_neg]
  · rw [min_eq_right h, max_eq_right ((EReal.neg_le_neg_iff.2 h).trans (le_of_eq neg_zero)), neg_zero]

/-- A sum with its like `n` places before added, where there is one. -/
def doubled (n : Nat) (f : Nat → EReal) (t : Nat) : EReal := f t + if n ≤ t then f (t - n) else 0

/-- The sum of the last `n` entries up to place `t`. -/
def window (n : Nat) (f : Nat → EReal) (t : Nat) : EReal := ∑ j ∈ Finset.range n, if j ≤ t then f (t - j) else 0

/-- The running sum. -/
def running (f : Nat → EReal) (t : Nat) : EReal := ∑ j ∈ Finset.range (t + 1), f j

/-- A window of one entry is the entry. -/
theorem window_one (f : Nat → EReal) : window 1 f = f := by
  funext t
  unfold window
  rw [Finset.sum_range_one, if_pos (Nat.zero_le t), Nat.sub_zero]

/-- Two windows, one after the other, are a window of twice the length. -/
theorem doubled_window (n : Nat) (f : Nat → EReal) : doubled n (window n f) = window (n + n) f := by
  funext t
  unfold doubled
  rw [show window (n + n) f t = _ from Finset.sum_range_add _ n n]
  refine congrArg (_ + ·) ?_
  by_cases h : n ≤ t
  · rw [if_pos h]
    unfold window
    refine Finset.sum_congr rfl fun j _ => ?_
    by_cases hj : j ≤ t - n
    · rw [if_pos hj, if_pos (show n + j ≤ t by omega), show t - n - j = t - (n + j) by omega]
    · rw [if_neg hj, if_neg (show ¬n + j ≤ t by omega)]
  · rw [if_neg h]
    exact (Finset.sum_eq_zero fun j _ => if_neg (show ¬n + j ≤ t by omega)).symm

/-- A window that reaches the start is the running sum. -/
theorem window_running (n : Nat) (f : Nat → EReal) (t : Nat) (h : t < n) : window n f t = running f t := by
  unfold window running
  rw [show n = (t + 1) + (n - (t + 1)) by omega, Finset.sum_range_add,
    Finset.sum_eq_zero (s := Finset.range (n - (t + 1))) fun j _ => if_neg (show ¬t + 1 + j ≤ t by omega), add_zero,
    ← Finset.sum_range_reflect (fun j => f j) (t + 1)]
  refine Finset.sum_congr rfl fun j hj => ?_
  have := Finset.mem_range.1 hj
  rw [if_pos (by omega)]
  exact congrArg f (by omega)

/-- A forget gate's log-sigmoid at a batch, a place and a lane; past the end there is none. -/
def gate (x : Small.Idx → EReal) (g : Lanes.Idx → EReal) (b : Fin 4) (l : Fin 128) (j : Nat) : EReal :=
  if h : j < 4096 then logSigmoid (x (ix3 b ⟨j, h⟩ ⟨128 + l.val, by omega⟩) + g (ix2 0 l)) else 0

/-- The gates' running sum. -/
def gates (x : Small.Idx → EReal) (g : Lanes.Idx → EReal) (b : Fin 4) (t : Fin 4096) (l : Fin 128) : EReal := running (gate x g b l) t.val

/-- A token's key, normalised. -/
def key (x : Small.Idx → EReal) (g : Lanes.Idx → EReal) (b : Fin 4) (t : Fin 4096) (l : Fin 128) : EReal :=
  Cert.InProjection.normed 0x43000000#32 (fun l : Fin 128 => x (ix3 b t ⟨l.val, by omega⟩)) (fun l => g (ix2 0 l)) l

/-- The keys' first half of the lanes, by pages of 512 tokens. -/
def firstHalf (x : Small.Idx → EReal) (g : Lanes.Idx → EReal) (b : Fin 4) (h : Fin 8) (r : Fin 512) (l : Fin 128) : EReal :=
  if l.val < 64 then key x g b ⟨h.val * 512 + r.val, by omega⟩ l else 0

/-- Their second half. -/
def secondHalf (x : Small.Idx → EReal) (g : Lanes.Idx → EReal) (b : Fin 4) (h : Fin 8) (r : Fin 512) (l : Fin 128) : EReal :=
  if l.val < 64 then 0 else key x g b ⟨h.val * 512 + r.val, by omega⟩ l

end Cert.Prep

end
-- ==== Proof.PrepResult.lean ====
module

public import proofs.«01_k».proof.Proof.Gen.Kernel4Ideal.Value
public import proofs.«01_k».proof.Proof.PrepSpec
public import Idealize.ShloMosaic.Lib.Pointwise
public import Idealize.ShloMosaic.Lib.Pipeline.Covers
public import Idealize.ShloMosaic.Lib.WordCmp
public import Idealize.ShloMosaic.PureOps.Ideal.Laws

@[expose] public section

set_option maxRecDepth 16384
set_option Elab.async false

noncomputable section

namespace Cert.Kernel4Ideal.Prep

open Cert.Kernel4Ideal Cert.Kernel4Ideal.Gen
open Idealize.ShloMosaic
open Idealize.ShloMosaic.TcCoe Idealize.ShloMosaic.Tactic
open Idealize.ShloMosaic.Pipeline (Dat Cfg Window)
open Cert.Prep (logSigmoid doubled window running gate gates key firstHalf secondHalf)

/-! # The arrays the preparation's run leaves

Point `t` of the grid is batch `t`. -/

/-- A lane of a column block holds the entries of a sequence. -/
def Holds (x : FVec Ideal S4096x128 .f32) (l : Fin 128) (f : Nat → EReal) : Prop := ∀ t : Fin 4096, x (ix2 t l) = f t.val

/-- Adding the block turned down by some rows, where there are as many above, doubles the sequence's windows. -/
theorem shifted (b : BitVec 32) (hb : b.toNat < 4096) (x : FVec Ideal S4096x128 .f32) (l : Fin 128) (f : Nat → EReal) (h : Holds x l f) :
    Holds (addf x (select (cmpi .sge (iota .tc S4096x128 32 [0] iota_S4096x128_d0_w32) (broadcast S4096x128 b))
      (dynamicRotate 0 b none x rotates_S4096x128_d0) (broadcast S4096x128 (Scalar.ofBits (F := Ideal) .f32 0x00000000#32)))) l (doubled b.toNat f) := by
  intro t
  have ht := t.isLt
  have e : IntOp.cmpi .sge (BitVec.ofNat 32 t.val) b = BitVec.ofBool (decide (b.toNat ≤ t.val)) := by
    have q := WordCmp.cmpi_sge_of_lt (w := 32) (x := BitVec.ofNat 32 t.val) (y := b) (by rw [BitVec.toNat_ofNat]; omega) (by omega)
    rw [BitVec.toNat_ofNat, Nat.mod_eq_of_lt (by omega)] at q
    exact q
  have p : addf x (select (cmpi .sge (iota .tc S4096x128 32 [0] iota_S4096x128_d0_w32) (broadcast S4096x128 b))
      (dynamicRotate 0 b none x rotates_S4096x128_d0) (broadcast S4096x128 (Scalar.ofBits (F := Ideal) .f32 0x00000000#32))) (ix2 t l)
      = x (ix2 t l) + Scalar.select (IntOp.cmpi .sge (BitVec.ofNat 32 t.val) b) (x (ix2 ⟨(t.val + 4096 - b.toNat % 4096) % 4096, by omega⟩ l)) 0 := by
    pointwise []
  rw [p, e, h t, h]
  unfold doubled Scalar.select
  refine congrArg (_ + ·) ?_
  by_cases hbt : b.toNat ≤ t.val
  · rw [if_pos hbt, decide_eq_true hbt, if_pos (by decide)]
    exact congrArg f (by show (t.val + 4096 - b.toNat % 4096) % 4096 = t.val - b.toNat; omega)
  · rw [if_neg hbt, decide_eq_false hbt, if_neg (by decide)]

/-- The log-sigmoids at an index. -/
theorem start_at (v0 : FVec Ideal S1x4096x128 .f32) (v2 : FVec Ideal S1x128 .f32) (l : Fin 128) (f : Nat → EReal)
    (h : ∀ t : Fin 4096, logSigmoid (v0 (ix3 0 t l) + v2 (ix2 0 l)) = f t.val) :
    Holds (k0_pay6 (F := Ideal) v0 v2) l (window 8 f) := by
  unfold k0_pay6
  rw [show window 8 f = doubled 4 (doubled 2 (doubled 1 f)) by
    rw [← Cert.Prep.window_one f]; simp only [Cert.Prep.doubled_window]; rw [Cert.Prep.window_one]]
  refine shifted 4#32 (by decide) _ l _ (shifted 2#32 (by decide) _ l _ (shifted 1#32 (by decide) _ l _ ?_))
  intro t
  refine Eq.trans ?_ (h t)
  unfold logSigmoid Cert.Prep.tail
  rw [← zero_sub]
  pointwise []
  rfl

/-- After every shift a lane holds the windows of all the rows. -/
theorem sums_at (v0 : FVec Ideal S1x4096x128 .f32) (v2 : FVec Ideal S1x128 .f32) (l : Fin 128) (f : Nat → EReal)
    (h : ∀ t : Fin 4096, logSigmoid (v0 (ix3 0 t l) + v2 (ix2 0 l)) = f t.val) :
    Holds (k0_pay11 (F := Ideal) (iota .tc S4096x128 32 [0] iota_S4096x128_d0_w32)
      (k0_pay8 (F := Ideal) (iota .tc S4096x128 32 [0] iota_S4096x128_d0_w32) (k0_pay6 (F := Ideal) v0 v2) (k0_pay7 (F := Ideal) v0 v2))
      (k0_pay9 (iota .tc S4096x128 32 [0] iota_S4096x128_d0_w32))
      (k0_pay10 (F := Ideal) (iota .tc S4096x128 32 [0] iota_S4096x128_d0_w32) (k0_pay6 (F := Ideal) v0 v2) (k0_pay7 (F := Ideal) v0 v2))) l (window 4096 f) := by
  unfold k0_pay11 k0_pay10 k0_pay9 k0_pay8 k0_pay7
  rw [show window 4096 f = doubled 2048 (doubled 1024 (doubled 512 (doubled 256 (doubled 128 (doubled 64 (doubled 32 (doubled 16 (doubled 8 (window 8 f))))))))) by
    simp only [Cert.Prep.doubled_window]]
  have hs := start_at v0 v2 l f h
  generalize k0_pay6 (F := Ideal) v0 v2 = x at hs ⊢
  refine shifted 2048#32 (by decide) _ l _ (shifted 1024#32 (by decide) _ l _ (shifted 512#32 (by decide) _ l _ (shifted 256#32 (by decide) _ l _
    (shifted 128#32 (by decide) _ l _ (shifted 64#32 (by decide) _ l _ (shifted 32#32 (by decide) _ l _ (shifted 16#32 (by decide) _ l _
      (shifted 8#32 (by decide) _ l _ hs))))))))

/-- The origin of a block of three axes. -/
theorem origin3 : (![0, 0, 0] : Fin 3 → Nat) = fun _ => 0 := by funext a; match a with | ⟨0, _⟩ | ⟨1, _⟩ | ⟨2, _⟩ => rfl

/-- The origin of a block of two. -/
theorem origin2 : (![0, 0] : Fin 2 → Nat) = fun _ => 0 := by funext a; match a with | ⟨0, _⟩ | ⟨1, _⟩ => rfl

/-- The gates' columns of a block at an index. -/
theorem high_at (x0 : Vec Ideal S1x4096x256 .f32) (t : Fin 4096) (l : Fin 128) : View.ld x0 r0_0 (ix3 0 t l) = x0 (ix3 0 t ⟨128 + l.val, by omega⟩) := by
  refine congrArg x0 (funext fun a => Fin.ext ?_)
  match a with
  | ⟨0, _⟩ => rfl
  | ⟨1, _⟩ => show 0 + 1 * t.val = t.val; omega
  | ⟨2, _⟩ => show 128 + 1 * l.val = 128 + l.val; omega

/-- The keys' columns of a block at an index. -/
theorem low_at (x0 : Vec Ideal S1x4096x256 .f32) (t : Fin 4096) (l : Fin 128) : View.ld x0 r0_4 (ix3 0 t l) = x0 (ix3 0 t ⟨l.val, by omega⟩) := by
  refine congrArg x0 (funext fun a => Fin.ext ?_)
  match a with
  | ⟨0, _⟩ => rfl
  | ⟨1, _⟩ => show 0 + 1 * t.val = t.val; omega
  | ⟨2, _⟩ => show 0 + 1 * l.val = l.val; omega

/-- The summed gates of a block. -/
def sums (x0 : Vec Ideal S1x4096x256 .f32) (x1 x2 : Vec Ideal S1x128 .f32) : FVec Ideal S4096x128 .f32 :=
  k0_pay11 (k0_pay30 x0 x1 x2) (k0_pay33 x0 x1 x2) (k0_pay34 x0 x1 x2) (k0_pay35 x0 x1 x2)

/-- The summed gates of a block at an index. -/
theorem sums_eq (x0 : Vec Ideal S1x4096x256 .f32) (x1 x2 : Vec Ideal S1x128 .f32) (l : Fin 128) (f : Nat → EReal)
    (h : ∀ t : Fin 4096, logSigmoid (x0 (ix3 0 t ⟨128 + l.val, by omega⟩) + x1 (ix2 0 l)) = f t.val) (t : Fin 4096) :
    sums x0 x1 x2 (ix2 t l) = running f t.val := by
  unfold sums k0_pay35 k0_pay34 k0_pay33 k0_pay32 k0_pay31 k0_pay30
  rw [View.ld_unit_zero (S := S1x128) origin2]
  refine (sums_at (View.ld x0 r0_0) x1 l f (fun j => ?_) t).trans (Cert.Prep.window_running 4096 f t.val t.isLt)
  rw [high_at]
  exact h j

/-- The block of columns at an index. -/
theorem out3_at (x0 : Vec Ideal S1x4096x256 .f32) (x1 x2 : Vec Ideal S1x128 .f32) (t : Fin 4096) (l : Fin 128) :
    out0_3 (F := Ideal) x0 x1 x2 (ix3 0 t l) = sums x0 x1 x2 (ix2 t l) := by
  unfold out0_3 sums
  rw [View.canon_unit_zero origin3]
  unfold k0_pay12
  generalize k0_pay11 (k0_pay30 x0 x1 x2) (k0_pay33 x0 x1 x2) (k0_pay34 x0 x1 x2) (k0_pay35 x0 x1 x2) = v
  pointwise []

/-- The block of rows at an index. -/
theorem out4_at (x0 : Vec Ideal S1x4096x256 .f32) (x1 x2 : Vec Ideal S1x128 .f32) (h : Fin 8) (t : Fin 4096) :
    out0_4 (F := Ideal) x0 x1 x2 (ix3 0 h t) = sums x0 x1 x2 (ix2 t ⟨h.val, by omega⟩) := by
  unfold out0_4 sums
  rw [View.canon_unit_zero origin3]
  unfold k0_pay13
  generalize k0_pay11 (k0_pay30 x0 x1 x2) (k0_pay33 x0 x1 x2) (k0_pay34 x0 x1 x2) (k0_pay35 x0 x1 x2) = v
  pointwise []

/-- A slab of 512 rows stored as a block's page. -/
theorem page_at (n : Nat) (v : FVec Ideal S4096x128 .f32) (h : S4096x128.Slices ![n, 0] S512x128) (hn : n + 512 ≤ 4096) (r : Fin 512) (l : Fin 128) :
    shapeCast S1x1x512x128 (truncf .bf16 (extractStridedSlice S512x128 ![n, 0] v h) bitsLt_bf16_f32) shapeCasts_S512x128_S1x1x512x128 (ix4 0 0 r l)
      = v (ix2 ⟨n + r.val, by omega⟩ l) := by
  pointwise []

/-- Rows of tokens by pages of 512. -/
def pages (v : FVec Ideal S4096x128 .f32) (y : S1x8x512x128.Idx) : EReal :=
  v (ix2 ⟨(y (1 : Fin 4)).val * 512 + (y (2 : Fin 4)).val, by
    have h1 : (y (1 : Fin 4)).val < 8 := (y (1 : Fin 4)).isLt
    have h2 : (y (2 : Fin 4)).val < 512 := (y (2 : Fin 4)).isLt
    omega⟩ ⟨(y (3 : Fin 4)).val, (y (3 : Fin 4)).isLt⟩)

/-- A slab stored as page `q` is that page. -/
theorem pages_at (q : Nat) (v : FVec Ideal S4096x128 .f32) (h : S4096x128.Slices ![q * 512, 0] S512x128)
    (inb : ∀ a : Fin 4, (![0, q, 0, 0] : Fin 4 → Nat) a + S1x1x512x128.size a ≤ S1x8x512x128.size a) (x : S1x1x512x128.Idx) :
    shapeCast S1x1x512x128 (truncf .bf16 (extractStridedSlice S512x128 ![q * 512, 0] v h) bitsLt_bf16_f32) shapeCasts_S512x128_S1x1x512x128 x
      = pages v ((Rect.unit (s := S1x8x512x128) ![0, q, 0, 0] S1x1x512x128.size inb).emb x) := by
  have hq : q + 1 ≤ 8 := inb 1
  have h0 : (x (0 : Fin 4)).val < 1 := (x (0 : Fin 4)).isLt
  have h1 : (x (1 : Fin 4)).val < 1 := (x (1 : Fin 4)).isLt
  have e : x = ix4 0 0 ⟨(x (2 : Fin 4)).val, (x (2 : Fin 4)).isLt⟩ ⟨(x (3 : Fin 4)).val, (x (3 : Fin 4)).isLt⟩ := by
    refine funext fun a => Fin.ext ?_
    match a with
    | ⟨0, _⟩ => show (x (0 : Fin 4)).val = 0; omega
    | ⟨1, _⟩ => show (x (1 : Fin 4)).val = 0; omega
    | ⟨2, _⟩ => rfl
    | ⟨3, _⟩ => rfl
  refine (congrArg _ e).trans ((page_at (q * 512) v h (by omega) _ _).trans ?_)
  refine congrArg v (funext fun a => Fin.ext ?_)
  match a with
  | ⟨0, _⟩ => show q * 512 + (x (2 : Fin 4)).val = (q + 1 * (x (1 : Fin 4)).val) * 512 + (0 + 1 * (x (2 : Fin 4)).val); omega
  | ⟨1, _⟩ => show (x (3 : Fin 4)).val = 0 + 1 * (x (3 : Fin 4)).val; omega

/-- The length 128 as a float's bits. -/
theorem length_eq : Ideal.ofBits .f32 0x43000000#32 = ((128 : ℝ) : EReal) := by
  simp [Ideal.ofBits, Ideal.ieee, -EReal.coe_mul]; norm_num

/-- Its inverse as a float's bits. -/
theorem inverse_eq : Ideal.ofBits .f32 0x3C000000#32 = ((1 / 128 : ℝ) : EReal) := by
  simp [Ideal.ofBits, Ideal.ieee, -EReal.coe_mul]; norm_num

/-- Dividing by the length is multiplying by its inverse. -/
theorem mean_eq (x : EReal) : Ideal.div x (Ideal.ofBits .f32 0x43000000#32) = x * Ideal.ofBits .f32 0x3C000000#32 := by
  rw [length_eq, inverse_eq]
  exact Ideal.div_coe (by norm_num) x

/-- The normalised keys at an index. -/
theorem keys_at (v : FVec Ideal S1x4096x128 .f32) (g : FVec Ideal S1x128 .f32) (t : Fin 4096) (l : Fin 128) :
    k0_pay14 (F := Ideal) v g (ix2 t l) = Cert.InProjection.normed 0x43000000#32 (fun l => v (ix3 0 t l)) (fun l => g (ix2 0 l)) l := by
  unfold Cert.InProjection.normed k0_pay14
  rw [mean_eq]
  pointwise []

/-- The first half's keys at an index. -/
theorem first_at (v : FVec Ideal S1x4096x128 .f32) (g : FVec Ideal S1x128 .f32) (t : Fin 4096) (l : Fin 128) :
    k0_pay15 (F := Ideal) v g (ix2 t l) = if l.val < 64 then k0_pay14 (F := Ideal) v g (ix2 t l) else 0 := by
  unfold k0_pay15
  generalize k0_pay14 (F := Ideal) v g = u
  have p : select (cmpi .slt (iota .tc S4096x128 32 [1] iota_S4096x128_d1_w32) (broadcast S4096x128 64#32)) u
      (broadcast S4096x128 (Scalar.ofBits (F := Ideal) .f32 0x00000000#32)) (ix2 t l) = Scalar.select (IntOp.cmpi .slt (BitVec.ofNat 32 l.val) (BitVec.ofNat 32 64)) (u (ix2 t l)) 0 := by
    pointwise []
  rw [p, WordCmp.cmpi_slt_ofNat (w := 32) (by omega) (by decide)]
  unfold Scalar.select
  by_cases h : l.val < 64
  · rw [if_pos h, decide_eq_true h, if_pos (by decide)]
  · rw [if_neg h, decide_eq_false h, if_neg (by decide)]

/-- The second half's keys at an index. -/
theorem second_at (u : FVec Ideal S4096x128 .f32) (t : Fin 4096) (l : Fin 128) :
    k0_pay16 (F := Ideal) u (iota .tc S4096x128 32 [1] iota_S4096x128_d1_w32) 64#32 (ix2 t l) = if l.val < 64 then 0 else u (ix2 t l) := by
  unfold k0_pay16
  have p : select (cmpi .sge (iota .tc S4096x128 32 [1] iota_S4096x128_d1_w32) (broadcast S4096x128 64#32)) u
      (broadcast S4096x128 (Scalar.ofBits (F := Ideal) .f32 0x00000000#32)) (ix2 t l) = Scalar.select (IntOp.cmpi .sge (BitVec.ofNat 32 l.val) (BitVec.ofNat 32 64)) (u (ix2 t l)) 0 := by
    pointwise []
  rw [p, WordCmp.cmpi_sge_ofNat (w := 32) (by omega) (by decide)]
  unfold Scalar.select
  by_cases h : l.val < 64
  · rw [if_pos h, decide_eq_false (by omega), if_neg (by decide)]
  · rw [if_neg h, decide_eq_true (by omega), if_pos (by decide)]

/-- A slab of 512 rows, narrowed, as a page. -/
def slab (o : Fin 2 → Nat) (v : FVec Ideal S4096x128 .f32) (h : S4096x128.Slices o S512x128) : FVec Ideal S1x1x512x128 .bf16 :=
  shapeCast S1x1x512x128 (truncf .bf16 (extractStridedSlice S512x128 o v h) bitsLt_bf16_f32) shapeCasts_S512x128_S1x1x512x128

/-- Eight slabs stored one after the other leave all the rows, by pages. -/
theorem stored_pages (v : FVec Ideal S4096x128 .f32) (y : S1x8x512x128.Idx) :
    View.canon (Val := Elt Ideal) (s := S1x8x512x128) (e := .bf16) [⟨r0_12, slab ![3584, 0] v slices_S4096x128_o3584_0_S512x128⟩, ⟨r0_11, slab ![3072, 0] v slices_S4096x128_o3072_0_S512x128⟩,
      ⟨r0_10, slab ![2560, 0] v slices_S4096x128_o2560_0_S512x128⟩, ⟨r0_9, slab ![2048, 0] v slices_S4096x128_o2048_0_S512x128⟩,
      ⟨r0_8, slab ![1536, 0] v slices_S4096x128_o1536_0_S512x128⟩, ⟨r0_7, slab ![1024, 0] v slices_S4096x128_o1024_0_S512x128⟩,
      ⟨r0_6, slab ![512, 0] v slices_S4096x128_o512_0_S512x128⟩, ⟨r0_5, slab ![0, 0] v slices_S4096x128_o0_0_S512x128⟩] y = pages v y := by
  refine View.canon_apply_of_pieces (Val := Elt Ideal) (e := .bf16) (pages v) _ ?_ _ (cover0_5 (F := Ideal) _ _ _ _ _ _ _ _ _)
  intro pc hpc
  rcases List.mem_cons.mp hpc with rfl | hpc
  · exact fun x => pages_at 7 v slices_S4096x128_o3584_0_S512x128 inb_S1x8x512x128_S1x1x512x128_0_7_0_0 x
  rcases List.mem_cons.mp hpc with rfl | hpc
  · exact fun x => pages_at 6 v slices_S4096x128_o3072_0_S512x128 inb_S1x8x512x128_S1x1x512x128_0_6_0_0 x
  rcases List.mem_cons.mp hpc with rfl | hpc
  · exact fun x => pages_at 5 v slices_S4096x128_o2560_0_S512x128 inb_S1x8x512x128_S1x1x512x128_0_5_0_0 x
  rcases List.mem_cons.mp hpc with rfl | hpc
  · exact fun x => pages_at 4 v slices_S4096x128_o2048_0_S512x128 inb_S1x8x512x128_S1x1x512x128_0_4_0_0 x
  rcases List.mem_cons.mp hpc with rfl | hpc
  · exact fun x => pages_at 3 v slices_S4096x128_o1536_0_S512x128 inb_S1x8x512x128_S1x1x512x128_0_3_0_0 x
  rcases List.mem_cons.mp hpc with rfl | hpc
  · exact fun x => pages_at 2 v slices_S4096x128_o1024_0_S512x128 inb_S1x8x512x128_S1x1x512x128_0_2_0_0 x
  rcases List.mem_cons.mp hpc with rfl | hpc
  · exact fun x => pages_at 1 v slices_S4096x128_o512_0_S512x128 inb_S1x8x512x128_S1x1x512x128_0_1_0_0 x
  rcases List.mem_cons.mp hpc with rfl | hpc
  · exact fun x => pages_at 0 v slices_S4096x128_o0_0_S512x128 inb_S1x8x512x128_S1x1x512x128_0_0_0_0 x
  nomatch hpc

/-- The first half's block at an index. -/
theorem out5_at (x0 : Vec Ideal S1x4096x256 .f32) (x1 x2 : Vec Ideal S1x128 .f32) (h : Fin 8) (r : Fin 512) (l : Fin 128) :
    out0_5 (F := Ideal) x0 x1 x2 (ix4 0 h r l) = k0_pay38 (F := Ideal) x0 x1 x2 (ix2 ⟨h.val * 512 + r.val, by omega⟩ l) := by
  unfold out0_5
  generalize k0_pay38 (F := Ideal) x0 x1 x2 = v
  exact stored_pages v (ix4 0 h r l)

/-- The second half's. -/
theorem out6_at (x0 : Vec Ideal S1x4096x256 .f32) (x1 x2 : Vec Ideal S1x128 .f32) (h : Fin 8) (r : Fin 512) (l : Fin 128) :
    out0_6 (F := Ideal) x0 x1 x2 (ix4 0 h r l) = k0_pay39 (F := Ideal) x0 x1 x2 (ix2 ⟨h.val * 512 + r.val, by omega⟩ l) := by
  unfold out0_6 k0_pay18 k0_pay20 k0_pay22
  rw [show k0_pay16 (F := Ideal) (k0_pay37 x0 x1 x2) (k0_pay36 x0 x1 x2) 64#32 = k0_pay39 x0 x1 x2 from rfl]
  generalize k0_pay39 (F := Ideal) x0 x1 x2 = v
  exact stored_pages v (ix4 0 h r l)

/-- A block of an array that moves with the point is batch `t`. -/
theorem place : ∀ t : Fin grid0.N,
    (cc0_transform_0 (grid0.coords t) 0 = t.val ∧ cc0_transform_0 (grid0.coords t) 1 = 0 ∧ cc0_transform_0 (grid0.coords t) 2 = 0)
    ∧ (cc0_transform_3 (grid0.coords t) 0 = t.val ∧ cc0_transform_3 (grid0.coords t) 1 = 0 ∧ cc0_transform_3 (grid0.coords t) 2 = 0)
    ∧ (cc0_transform_4 (grid0.coords t) 0 = t.val ∧ cc0_transform_4 (grid0.coords t) 1 = 0 ∧ cc0_transform_4 (grid0.coords t) 2 = 0)
    ∧ (cc0_transform_5 (grid0.coords t) 0 = t.val ∧ cc0_transform_5 (grid0.coords t) 1 = 0 ∧ cc0_transform_5 (grid0.coords t) 2 = 0 ∧ cc0_transform_5 (grid0.coords t) 3 = 0)
    ∧ (cc0_transform_6 (grid0.coords t) 0 = t.val ∧ cc0_transform_6 (grid0.coords t) 1 = 0 ∧ cc0_transform_6 (grid0.coords t) 2 = 0 ∧ cc0_transform_6 (grid0.coords t) 3 = 0) := by
  decide +kernel

/-- The batch a point works on. -/
def batch (t : Fin grid0.N) : Fin 4 := ⟨t.val, lt_of_lt_of_eq t.isLt N_0⟩

variable (m : (ℓ : Loc nD τ sig) → Buf (Elt Ideal) ℓ)

/-- The narrow projection the kernel is launched with. -/
abbrev argX (c : Dev nD) : S4x4096x256.Idx → EReal := m ((c.tc : Thread nD τ).loc main_arg0)
/-- The gates' bias. -/
abbrev argB (c : Dev nD) : S1x128.Idx → EReal := m ((c.tc : Thread nD τ).loc main_arg1)
/-- The keys' gain. -/
abbrev argG (c : Dev nD) : S1x128.Idx → EReal := m ((c.tc : Thread nD τ).loc main_arg2)

/-- The narrow projection's block at an index. -/
theorem x_at (c : Dev nD) (t : Fin grid0.N) (p : Fin 4096) (k : Fin 256) : iblk m c 0 t (ix3 0 p k) = argX m c (ix3 (batch t) p k) := by
  have e := (place t).1
  refine congrArg (argX m c) (funext fun a => Fin.ext ?_)
  match a with
  | ⟨0, _⟩ => show cc0_transform_0 (grid0.coords t) 0 * 1 + 1 * 0 = t.val; rw [e.1]; omega
  | ⟨1, _⟩ => show cc0_transform_0 (grid0.coords t) 1 * 4096 + 1 * p.val = p.val; rw [e.2.1]; omega
  | ⟨2, _⟩ => show cc0_transform_0 (grid0.coords t) 2 * 256 + 1 * k.val = k.val; rw [e.2.2]; omega

/-- The bias at an index. -/
theorem b_at (c : Dev nD) (t : Fin grid0.N) (l : Fin 128) : iblk m c 1 t (ix2 0 l) = argB m c (ix2 0 l) := by
  refine congrArg (argB m c) (funext fun a => Fin.ext ?_)
  match a with
  | ⟨0, _⟩ => show 0 * 1 + 1 * 0 = 0; omega
  | ⟨1, _⟩ => show 0 * 128 + 1 * l.val = l.val; omega

/-- The gain at an index. -/
theorem g_at (c : Dev nD) (t : Fin grid0.N) (l : Fin 128) : iblk m c 2 t (ix2 0 l) = argG m c (ix2 0 l) := by
  refine congrArg (argG m c) (funext fun a => Fin.ext ?_)
  match a with
  | ⟨0, _⟩ => show 0 * 1 + 1 * 0 = 0; omega
  | ⟨1, _⟩ => show 0 * 128 + 1 * l.val = l.val; omega

/-- A point's summed gates are its batch's. -/
theorem gates_at (c : Dev nD) (t : Fin grid0.N) (p : Fin 4096) (l : Fin 128) :
    sums (iblk m c 0 t) (iblk m c 1 t) (iblk m c 2 t) (ix2 p l) = gates (argX m c) (argB m c) (batch t) p l := by
  refine sums_eq _ _ _ l (gate (argX m c) (argB m c) (batch t) l) (fun j => ?_) p
  rw [x_at, b_at]
  unfold gate
  rw [dif_pos j.isLt]

/-- A point's normalised keys are its batch's. -/
theorem key_at (c : Dev nD) (t : Fin grid0.N) (p : Fin 4096) (l : Fin 128) :
    k0_pay14 (F := Ideal) (View.ld (iblk m c 0 t) r0_4) (iblk m c 2 t) (ix2 p l) = key (argX m c) (argG m c) (batch t) p l := by
  refine (keys_at _ _ p l).trans ?_
  unfold key
  exact congrArg₂ (fun v g => Cert.InProjection.normed 0x43000000#32 v g l)
    (funext fun l => (low_at (iblk m c 0 t) p l).trans (x_at m c t p _)) (funext fun l => g_at m c t l)

/-- A point's first half is its batch's. -/
theorem firstHalf_at (c : Dev nD) (t : Fin grid0.N) (h : Fin 8) (r : Fin 512) (l : Fin 128) :
    out0_5 (F := Ideal) (iblk m c 0 t) (iblk m c 1 t) (iblk m c 2 t) (ix4 0 h r l) = firstHalf (argX m c) (argG m c) (batch t) h r l := by
  rw [out5_at]
  unfold k0_pay38 firstHalf
  rw [View.ld_unit_zero (S := S1x128) origin2, first_at, key_at]

/-- A point's second half is its batch's. -/
theorem secondHalf_at (c : Dev nD) (t : Fin grid0.N) (h : Fin 8) (r : Fin 512) (l : Fin 128) :
    out0_6 (F := Ideal) (iblk m c 0 t) (iblk m c 1 t) (iblk m c 2 t) (ix4 0 h r l) = secondHalf (argX m c) (argG m c) (batch t) h r l := by
  rw [out6_at]
  unfold k0_pay39 k0_pay37 k0_pay36 secondHalf
  rw [View.ld_unit_zero (S := S1x128) origin2, second_at, key_at]

/-- The array of columns the formulas describe. -/
def colArr (c : Dev nD) (i : S4x4096x128.Idx) : EReal := gates (argX m c) (argB m c) (i (0 : Fin 3)) (i (1 : Fin 3)) (i (2 : Fin 3))

/-- The array of rows. -/
def rowArr (c : Dev nD) (i : S4x8x4096.Idx) : EReal :=
  gates (argX m c) (argB m c) (i (0 : Fin 3)) (i (2 : Fin 3)) ⟨(i (1 : Fin 3)).val, lt_of_lt_of_le (show (i (1 : Fin 3)).val < 8 from (i (1 : Fin 3)).isLt) (by decide)⟩

/-- The array of the keys' first halves. -/
def firstArr (c : Dev nD) (i : S4x8x512x128.Idx) : EReal := firstHalf (argX m c) (argG m c) (i (0 : Fin 4)) (i (1 : Fin 4)) (i (2 : Fin 4)) (i (3 : Fin 4))

/-- The array of their second halves. -/
def secondArr (c : Dev nD) (i : S4x8x512x128.Idx) : EReal := secondHalf (argX m c) (argG m c) (i (0 : Fin 4)) (i (1 : Fin 4)) (i (2 : Fin 4)) (i (3 : Fin 4))

/-- The blocks of columns cover their array. -/
theorem covers3 : (cfg0.win 3).Covers := by decide +kernel
/-- The blocks of rows cover theirs. -/
theorem covers4 : (cfg0.win 4).Covers := by decide +kernel
/-- The blocks of the keys' first halves cover theirs. -/
theorem covers5 : (cfg0.win 5).Covers := by decide +kernel
/-- The blocks of their second halves cover theirs. -/
theorem covers6 : (cfg0.win 6).Covers := by decide +kernel

/-- What a point leaves in the block of columns. -/
def colOf (c : Dev nD) (t : Fin grid0.N) : FVec Ideal S1x4096x128 .f32 := out0_3 (F := Ideal) (iblk m c 0 t) (iblk m c 1 t) (iblk m c 2 t)
/-- What a point leaves in the block of rows. -/
def rowOf (c : Dev nD) (t : Fin grid0.N) : FVec Ideal S1x8x4096 .f32 := out0_4 (F := Ideal) (iblk m c 0 t) (iblk m c 1 t) (iblk m c 2 t)
/-- What a point leaves in the block of the keys' first halves. -/
def firstOf (c : Dev nD) (t : Fin grid0.N) : FVec Ideal S1x8x512x128 .bf16 := out0_5 (F := Ideal) (iblk m c 0 t) (iblk m c 1 t) (iblk m c 2 t)
/-- What a point leaves in the block of their second halves. -/
def secondOf (c : Dev nD) (t : Fin grid0.N) : FVec Ideal S1x8x512x128 .bf16 := out0_6 (F := Ideal) (iblk m c 0 t) (iblk m c 1 t) (iblk m c 2 t)

/-- The block of columns is the batch's gates. -/
theorem colOf_at (c : Dev nD) (t : Fin grid0.N) (p : Fin 4096) (l : Fin 128) : colOf m c t (ix3 0 p l) = gates (argX m c) (argB m c) (batch t) p l :=
  (out3_at _ _ _ p l).trans (gates_at m c t p l)

/-- The block of rows is the batch's gates. -/
theorem rowOf_at (c : Dev nD) (t : Fin grid0.N) (h : Fin 8) (p : Fin 4096) :
    rowOf m c t (ix3 0 h p) = gates (argX m c) (argB m c) (batch t) p ⟨h.val, by omega⟩ :=
  (out4_at _ _ _ h p).trans (gates_at m c t p _)

end Cert.Kernel4Ideal.Prep

end
-- ==== Proof.PrepArrays.lean ====
module

public import proofs.«01_k».proof.Proof.PrepResult
public import Idealize.ShloMosaic.Lib.Pointwise
public import Idealize.ShloMosaic.Lib.Pipeline.Covers
public import Idealize.ShloMosaic.Lib.WordCmp
public import Idealize.ShloMosaic.PureOps.Ideal.Laws

@[expose] public section

set_option maxRecDepth 16384
set_option Elab.async false

noncomputable section

namespace Cert.Kernel4Ideal.Prep

open Cert.Kernel4Ideal Cert.Kernel4Ideal.Gen
open Idealize.ShloMosaic
open Idealize.ShloMosaic.TcCoe Idealize.ShloMosaic.Tactic
open Idealize.ShloMosaic.Pipeline (Dat Cfg Window)
open Cert.Prep (logSigmoid doubled window running gate gates key firstHalf secondHalf)

/-! # The arrays the preparation's run leaves, whole -/

variable (m : (ℓ : Loc nD τ sig) → Buf (Elt Ideal) ℓ)

/-- The array of columns the run leaves is the formulas'. -/
theorem col_eq (c : Dev nD) : (dats m (0 : Fin 1) c).arrAt 3 cfg0.N = colArr m c := by
  refine (dats m (0 : Fin 1) c).arrAt_eq_of_cover 3 (colArr m c) (fun t hflush => ?_) (Window.Covers.cover (cfg0.win 3) covers3 (arr_whole0 3))
  refine (Value.flushed3 m c t).trans (Eq.trans (b := (cfg0.win 3).cut (grid0.coords t) (colOf m c t)) rfl ?_)
  generalize hK : colOf m c t = K
  funext y
  obtain ⟨p, hp⟩ : ∃ p : Fin 4096, p.val = (y (1 : Fin 3)).val := ⟨⟨(y (1 : Fin 3)).val, (show (y (1 : Fin 3)).val < 4096 from (y (1 : Fin 3)).isLt)⟩, rfl⟩
  obtain ⟨l, hl⟩ : ∃ l : Fin 128, l.val = (y (2 : Fin 3)).val := ⟨⟨(y (2 : Fin 3)).val, (show (y (2 : Fin 3)).val < 128 from (y (2 : Fin 3)).isLt)⟩, rfl⟩
  have h0 : (y (0 : Fin 3)).val < 1 := (show (y (0 : Fin 3)).val < 1 from (y (0 : Fin 3)).isLt)
  have hy : (cfg0.win 3).xinj (cfg0.grid.coords t) y = ix3 0 p l := by
    refine funext fun a => Fin.ext ?_
    match a with
    | ⟨0, _⟩ => show (y (0 : Fin 3)).val = 0; omega
    | ⟨1, _⟩ => exact hp.symm
    | ⟨2, _⟩ => exact hl.symm
  refine Eq.trans (b := K (ix3 0 p l)) (congrArg K hy) ((congrFun hK.symm _).trans ((colOf_at m c t p l).trans ?_))
  have e := (place t).2.1
  refine congr (congrArg₂ (gates (argX m c) (argB m c)) (Fin.ext ?_) (Fin.ext ?_)) (Fin.ext ?_)
  · show t.val = cc0_transform_3 (grid0.coords t) 0 * 1 + 1 * (y (0 : Fin 3)).val
    rw [e.1]; omega
  · show p.val = cc0_transform_3 (grid0.coords t) 1 * 4096 + 1 * (y (1 : Fin 3)).val
    rw [e.2.1, hp]; omega
  · show l.val = cc0_transform_3 (grid0.coords t) 2 * 128 + 1 * (y (2 : Fin 3)).val
    rw [e.2.2, hl]; omega

/-- The array of rows the run leaves is the formulas'. -/
theorem row_eq (c : Dev nD) : (dats m (0 : Fin 1) c).arrAt 4 cfg0.N = rowArr m c := by
  refine (dats m (0 : Fin 1) c).arrAt_eq_of_cover 4 (rowArr m c) (fun t hflush => ?_) (Window.Covers.cover (cfg0.win 4) covers4 (arr_whole0 4))
  refine (Value.flushed4 m c t).trans (Eq.trans (b := (cfg0.win 4).cut (grid0.coords t) (rowOf m c t)) rfl ?_)
  generalize hK : rowOf m c t = K
  funext y
  obtain ⟨h, hh⟩ : ∃ h : Fin 8, h.val = (y (1 : Fin 3)).val := ⟨⟨(y (1 : Fin 3)).val, (show (y (1 : Fin 3)).val < 8 from (y (1 : Fin 3)).isLt)⟩, rfl⟩
  obtain ⟨p, hp⟩ : ∃ p : Fin 4096, p.val = (y (2 : Fin 3)).val := ⟨⟨(y (2 : Fin 3)).val, (show (y (2 : Fin 3)).val < 4096 from (y (2 : Fin 3)).isLt)⟩, rfl⟩
  have h0 : (y (0 : Fin 3)).val < 1 := (show (y (0 : Fin 3)).val < 1 from (y (0 : Fin 3)).isLt)
  have hy : (cfg0.win 4).xinj (cfg0.grid.coords t) y = ix3 0 h p := by
    refine funext fun a => Fin.ext ?_
    match a with
    | ⟨0, _⟩ => show (y (0 : Fin 3)).val = 0; omega
    | ⟨1, _⟩ => exact hh.symm
    | ⟨2, _⟩ => exact hp.symm
  refine Eq.trans (b := K (ix3 0 h p)) (congrArg K hy) ((congrFun hK.symm _).trans ((rowOf_at m c t h p).trans ?_))
  have e := (place t).2.2.1
  refine congr (congrArg₂ (gates (argX m c) (argB m c)) (Fin.ext ?_) (Fin.ext ?_)) (Fin.ext ?_)
  · show t.val = cc0_transform_4 (grid0.coords t) 0 * 1 + 1 * (y (0 : Fin 3)).val
    rw [e.1]; omega
  · show p.val = cc0_transform_4 (grid0.coords t) 2 * 4096 + 1 * (y (2 : Fin 3)).val
    rw [e.2.2, hp]; omega
  · show h.val = cc0_transform_4 (grid0.coords t) 1 * 8 + 1 * (y (1 : Fin 3)).val
    rw [e.2.1, hh]; omega

/-- The array of the keys' first halves the run leaves is the formulas'. -/
theorem first_eq (c : Dev nD) : (dats m (0 : Fin 1) c).arrAt 5 cfg0.N = firstArr m c := by
  refine (dats m (0 : Fin 1) c).arrAt_eq_of_cover 5 (firstArr m c) (fun t hflush => ?_) (Window.Covers.cover (cfg0.win 5) covers5 (arr_whole0 5))
  refine (Value.flushed5 m c t).trans (Eq.trans (b := (cfg0.win 5).cut (grid0.coords t) (firstOf m c t)) rfl ?_)
  generalize hK : firstOf m c t = K
  funext y
  obtain ⟨h, hh⟩ : ∃ h : Fin 8, h.val = (y (1 : Fin 4)).val := ⟨⟨(y (1 : Fin 4)).val, (show (y (1 : Fin 4)).val < 8 from (y (1 : Fin 4)).isLt)⟩, rfl⟩
  obtain ⟨r, hr⟩ : ∃ r : Fin 512, r.val = (y (2 : Fin 4)).val := ⟨⟨(y (2 : Fin 4)).val, (show (y (2 : Fin 4)).val < 512 from (y (2 : Fin 4)).isLt)⟩, rfl⟩
  obtain ⟨l, hl⟩ : ∃ l : Fin 128, l.val = (y (3 : Fin 4)).val := ⟨⟨(y (3 : Fin 4)).val, (show (y (3 : Fin 4)).val < 128 from (y (3 : Fin 4)).isLt)⟩, rfl⟩
  have h0 : (y (0 : Fin 4)).val < 1 := (show (y (0 : Fin 4)).val < 1 from (y (0 : Fin 4)).isLt)
  have hy : (cfg0.win 5).xinj (cfg0.grid.coords t) y = ix4 0 h r l := by
    refine funext fun a => Fin.ext ?_
    match a with
    | ⟨0, _⟩ => show (y (0 : Fin 4)).val = 0; omega
    | ⟨1, _⟩ => exact hh.symm
    | ⟨2, _⟩ => exact hr.symm
    | ⟨3, _⟩ => exact hl.symm
  refine Eq.trans (b := K (ix4 0 h r l)) (congrArg K hy) ((congrFun hK.symm _).trans ((firstHalf_at m c t h r l).trans ?_))
  have e := (place t).2.2.2.1
  refine congr (congr (congrArg₂ (firstHalf (argX m c) (argG m c)) (Fin.ext ?_) (Fin.ext ?_)) (Fin.ext ?_)) (Fin.ext ?_)
  · show t.val = cc0_transform_5 (grid0.coords t) 0 * 1 + 1 * (y (0 : Fin 4)).val
    rw [e.1]; omega
  · show h.val = cc0_transform_5 (grid0.coords t) 1 * 8 + 1 * (y (1 : Fin 4)).val
    rw [e.2.1, hh]; omega
  · show r.val = cc0_transform_5 (grid0.coords t) 2 * 512 + 1 * (y (2 : Fin 4)).val
    rw [e.2.2.1, hr]; omega
  · show l.val = cc0_transform_5 (grid0.coords t) 3 * 128 + 1 * (y (3 : Fin 4)).val
    rw [e.2.2.2, hl]; omega

/-- The array of the keys' second halves the run leaves is the formulas'. -/
theorem second_eq (c : Dev nD) : (dats m (0 : Fin 1) c).arrAt 6 cfg0.N = secondArr m c := by
  refine (dats m (0 : Fin 1) c).arrAt_eq_of_cover 6 (secondArr m c) (fun t hflush => ?_) (Window.Covers.cover (cfg0.win 6) covers6 (arr_whole0 6))
  refine (Value.flushed6 m c t).trans (Eq.trans (b := (cfg0.win 6).cut (grid0.coords t) (secondOf m c t)) rfl ?_)
  generalize hK : secondOf m c t = K
  funext y
  obtain ⟨h, hh⟩ : ∃ h : Fin 8, h.val = (y (1 : Fin 4)).val := ⟨⟨(y (1 : Fin 4)).val, (show (y (1 : Fin 4)).val < 8 from (y (1 : Fin 4)).isLt)⟩, rfl⟩
  obtain ⟨r, hr⟩ : ∃ r : Fin 512, r.val = (y (2 : Fin 4)).val := ⟨⟨(y (2 : Fin 4)).val, (show (y (2 : Fin 4)).val < 512 from (y (2 : Fin 4)).isLt)⟩, rfl⟩
  obtain ⟨l, hl⟩ : ∃ l : Fin 128, l.val = (y (3 : Fin 4)).val := ⟨⟨(y (3 : Fin 4)).val, (show (y (3 : Fin 4)).val < 128 from (y (3 : Fin 4)).isLt)⟩, rfl⟩
  have h0 : (y (0 : Fin 4)).val < 1 := (show (y (0 : Fin 4)).val < 1 from (y (0 : Fin 4)).isLt)
  have hy : (cfg0.win 6).xinj (cfg0.grid.coords t) y = ix4 0 h r l := by
    refine funext fun a => Fin.ext ?_
    match a with
    | ⟨0, _⟩ => show (y (0 : Fin 4)).val = 0; omega
    | ⟨1, _⟩ => exact hh.symm
    | ⟨2, _⟩ => exact hr.symm
    | ⟨3, _⟩ => exact hl.symm
  refine Eq.trans (b := K (ix4 0 h r l)) (congrArg K hy) ((congrFun hK.symm _).trans ((secondHalf_at m c t h r l).trans ?_))
  have e := (place t).2.2.2.2
  refine congr (congr (congrArg₂ (secondHalf (argX m c) (argG m c)) (Fin.ext ?_) (Fin.ext ?_)) (Fin.ext ?_)) (Fin.ext ?_)
  · show t.val = cc0_transform_6 (grid0.coords t) 0 * 1 + 1 * (y (0 : Fin 4)).val
    rw [e.1]; omega
  · show h.val = cc0_transform_6 (grid0.coords t) 1 * 8 + 1 * (y (1 : Fin 4)).val
    rw [e.2.1, hh]; omega
  · show r.val = cc0_transform_6 (grid0.coords t) 2 * 512 + 1 * (y (2 : Fin 4)).val
    rw [e.2.2.1, hr]; omega
  · show l.val = cc0_transform_6 (grid0.coords t) 3 * 128 + 1 * (y (3 : Fin 4)).val
    rw [e.2.2.2, hl]; omega

end Cert.Kernel4Ideal.Prep

end
-- ==== Proof.PrepReference.lean ====
module

public import proofs.«01_k».proof.Defs
public import proofs.«01_k».proof.Proof.Gen.Reference4Ideal.Run
public import proofs.«01_k».proof.Proof.PrepSpec
public import Idealize.ShloMosaic.Lib.Claim
public import Idealize.ShloMosaic.Lib.Pointwise
public import Idealize.ShloMosaic.Lib.WordCmp
public import Idealize.ShloMosaic.PureOps.Ideal.Laws
public import Idealize.ShloMosaic.Adequacy
public import Idealize.ShloMosaic.Init

@[expose] public section

set_option maxRecDepth 16384
set_option Elab.async false

noncomputable section

namespace Cert.Reference4Ideal.Prep

open Cert.Reference4Ideal Cert.Reference4Ideal.Gen
open Idealize.ShloMosaic
open Idealize.ShloMosaic.TcCoe Idealize.ShloMosaic.Tactic
open Idealize.SL Idealize.SL.Sem
open Cert.Prep (logSigmoid running gate gates key firstHalf secondHalf)

/-! # The preparation's reference: its run, and its results at an index -/

/-- The gates with their bias. -/
def biased (x : FVec Ideal S4x4096x256 .f32) (b : FVec Ideal S1x128 .f32) : FVec Ideal S4x4096x128 .f32 :=
  addf (extractStridedSlice S4x4096x128 ![0, 0, 128] x slices_S4x4096x256_S4x4096x128_0_0_128)
    (broadcastInDim S4x4096x128 ![0, 1, 2] bcast_S1x1x128_S4x4096x128_0_1_2 (broadcastInDim S1x1x128 ![1, 2] bcast_S1x128_S1x1x128_1_2 b))

/-- Zeros over the gates. -/
def zeros : FVec Ideal S4x4096x128 .f32 := broadcastInDim S4x4096x128 ![] bcast_S_S4x4096x128 (constant (F := Ideal) S_ .f32 0x00000000#32)

/-- The log-sigmoid, entry by entry. -/
def logs (z : FVec Ideal S4x4096x128 .f32) : FVec Ideal S4x4096x128 .f32 :=
  Host.negf (select (cmpf .une (subf (Host.negf z) zeros) (subf (Host.negf z) zeros)) (addf (Host.negf z) zeros)
    (addf (maximumf (Host.negf z) zeros) (Host.log1p (Host.exp (Host.negf (Host.absf (subf (Host.negf z) zeros)))))))

/-- The running sums down the tokens. -/
def summed (w : FVec Ideal S4x4096x128 .f32) : FVec Ideal S4x4096x128 .f32 :=
  Host.reduceWindowAdd ![1, 4096, 1] ![1, 1, 1] ![0, 4095, 0] ![0, 0, 0] w (broadcastInDim S_ ![] bcast_S_S_ (constant (F := Ideal) S_ .f32 0x00000000#32))
    reduceWindows_S4x4096x128_S4x4096x128_w1s1p0_0_w4096s1p4095_0_w1s1p0_0 h_S_

/-- Every run of the reference leaves its arguments unchanged and its semaphores at zero. -/
theorem run_frame : Cert.quiescent_Reference4Ideal := fun m g _ =>
  (θ_run defs _ _).mono (fun r h => ⟨fun c => (h c).2.2.2.2, sem_eq_zero_of_no_sems (by decide) r.2⟩) (Value.run m g)

/-- The gates with their bias at an index. -/
theorem biased_at (x : FVec Ideal S4x4096x256 .f32) (b : FVec Ideal S1x128 .f32) (n : Fin 4) (t : Fin 4096) (l : Fin 128) :
    biased x b (ix3 n t l) = x (ix3 n t ⟨128 + l.val, by omega⟩) + b (ix2 0 l) := by
  unfold biased
  pointwise []

/-- The log-sigmoid at an index. -/
theorem logs_at (z : FVec Ideal S4x4096x128 .f32) (n : Fin 4) (t : Fin 4096) (l : Fin 128) : logs z (ix3 n t l) = logSigmoid (z (ix3 n t l)) := by
  rw [← Cert.Prep.neg_softplus]
  unfold logs zeros Cert.Prep.tail
  pointwise []
  rw [if_neg (fun h => h rfl)]
  show -(max _ 0 + Ideal.log (1 + Ideal.exp (-max (-z (ix3 n t l)) (- -z (ix3 n t l))))) = _
  rw [neg_neg, max_comm (-z (ix3 n t l)) (z (ix3 n t l))]

/-- A left fold of additions is the start and the sum. -/
theorem foldl_sum {ι : Type} (l : List ι) (g : ι → EReal) (v : EReal) : l.foldl (fun r a => r + g a) v = v + (l.map g).sum := by
  induction l generalizing v with
  | nil => simp
  | cons a l ih => rw [List.foldl_cons, ih, List.map_cons, List.sum_cons, add_assoc]

/-- The window's shape: all tokens of one lane of one batch. -/
abbrev Tall : Shape := ⟨3, ![1, 4096, 1]⟩

/-- It has as many positions as there are tokens. -/
theorem tall_numel : Tall.numel = 4096 := by decide

/-- Position `n` of the window is token `n`. -/
theorem tall_symm (n : Fin Tall.numel) : Tall.rowMajor.symm n = ix3 (0 : Fin 1) (n.cast tall_numel) (0 : Fin 1) :=
  (Tall.rowMajor.symm_apply_eq).2 (Fin.ext (by
    rw [Shape.rowMajor_val_three]
    show n.val = (0 * 4096 + n.val) * 1 + 0
    omega))

/-- What the window at token `t` finds at its position `k`. -/
def found (f : Nat → EReal) (t k : Nat) : EReal := if 4095 ≤ t + k then f (t + k - 4095) else 0

/-- The entries found are a running sum's. -/
theorem found_sum (f : Nat → EReal) (t : Nat) (h : t < 4096) : ∑ k ∈ Finset.range 4096, found f t k = running f t := by
  rw [← Cert.Prep.window_running 4096 f t h, ← Finset.sum_range_reflect (found f t) 4096]
  unfold Cert.Prep.window found
  refine Finset.sum_congr rfl fun k hk => ?_
  have hk := Finset.mem_range.1 hk
  by_cases hle : k ≤ t
  · rw [if_pos hle, if_pos (by omega), show t + (4096 - 1 - k) - 4095 = t - k by omega]
  · rw [if_neg hle, if_neg (by omega)]

/-- The running sums at an index. -/
theorem summed_at (w : FVec Ideal S4x4096x128 .f32) (n : Fin 4) (l : Fin 128) (f : Nat → EReal) (h : ∀ j : Fin 4096, w (ix3 n j l) = f j.val) (t : Fin 4096) :
    summed w (ix3 n t l) = running f t.val := by
  have ht := t.isLt
  have hz : (broadcastInDim S_ ![] bcast_S_S_ (constant (F := Ideal) S_ .f32 0x00000000#32)) (Shape.Idx.first h_S_) = (0 : EReal) := by
    rw [show Shape.Idx.first h_S_ = ix0 from funext fun a => a.elim0]
    pointwise []
  unfold summed Host.reduceWindowAdd
  rw [Ideal.hostReduceWindowAdd_def, hz]
  unfold Ideal.hostReduceWindowAdd Host.reduceWindow
  refine (foldl_sum _ _ _).trans ?_
  rw [zero_add, ← found_sum f t.val ht, ← Fin.sum_univ_def]
  refine Eq.trans (b := ∑ k : Fin Tall.numel, found f t.val k.val) (Finset.sum_congr rfl fun k _ => ?_) ?_
  · have h0 : (Tall.rowMajor.symm k 0).val = 0 := by rw [tall_symm]; rfl
    have h1 : (Tall.rowMajor.symm k 1).val = k.val := by rw [tall_symm]; rfl
    have h2 : (Tall.rowMajor.symm k 2).val = 0 := by rw [tall_symm]; rfl
    have hk : k.val < 4096 := (k.cast tall_numel).isLt
    unfold found
    split
    · next hin =>
      have hb := hin 1
      change 4095 ≤ t.val * 1 + (Tall.rowMajor.symm k 1).val ∧ t.val * 1 + (Tall.rowMajor.symm k 1).val - 4095 < 4096 at hb
      rw [h1] at hb
      rw [if_pos (by omega)]
      refine (congrArg w (funext fun a => Fin.ext ?_)).trans (h ⟨t.val + k.val - 4095, by omega⟩)
      match a with
      | ⟨0, _⟩ =>
        show n.val * 1 + (Tall.rowMajor.symm k 0).val - 0 = n.val
        rw [h0]; omega
      | ⟨1, _⟩ =>
        show t.val * 1 + (Tall.rowMajor.symm k 1).val - 4095 = t.val + k.val - 4095
        rw [h1, Nat.mul_one]
      | ⟨2, _⟩ =>
        show l.val * 1 + (Tall.rowMajor.symm k 2).val - 0 = l.val
        rw [h2]; omega
    · next hin =>
      rw [if_neg fun hle => hin fun a => by
        match a with
        | ⟨0, _⟩ =>
          show 0 ≤ n.val * 1 + (Tall.rowMajor.symm k 0).val ∧ n.val * 1 + (Tall.rowMajor.symm k 0).val - 0 < 4
          rw [h0]; omega
        | ⟨1, _⟩ =>
          show 4095 ≤ t.val * 1 + (Tall.rowMajor.symm k 1).val ∧ t.val * 1 + (Tall.rowMajor.symm k 1).val - 4095 < 4096
          rw [h1]; omega
        | ⟨2, _⟩ =>
          show 0 ≤ l.val * 1 + (Tall.rowMajor.symm k 2).val ∧ l.val * 1 + (Tall.rowMajor.symm k 2).val - 0 < 128
          rw [h2]; omega]
  · exact (Fin.sum_univ_eq_sum_range (found f t.val) Tall.numel).trans (congrArg (fun M => ∑ k ∈ Finset.range M, found f t.val k) tall_numel)

/-- The running sums of the log-sigmoids are the gates. -/
theorem summed_gates (x : FVec Ideal S4x4096x256 .f32) (b : FVec Ideal S1x128 .f32) (n : Fin 4) (t : Fin 4096) (l : Fin 128) :
    summed (logs (biased x b)) (ix3 n t l) = gates x b n t l :=
  summed_at _ n l (gate x b n l) (fun j => by
    rw [logs_at, biased_at]
    unfold gate
    rw [dif_pos j.isLt]) t

/-- The keys, normalised. -/
def keys (x : FVec Ideal S4x4096x256 .f32) (g : FVec Ideal S1x128 .f32) : FVec Ideal S4x4096x128 .f32 :=
  mulf (mulf (extractStridedSlice S4x4096x128 ![0, 0, 0] x slices_S4x4096x256_S4x4096x128_0_0_0)
      (broadcastInDim S4x4096x128 ![0, 1, 2] bcast_S4x4096x1_S4x4096x128_0_1_2 (Host.rsqrt (addf (Host.divf (broadcastInDim S4x4096x1 ![0, 1] bcast_S4x4096_S4x4096x1_0_1
        (Host.reduceAdd (mulf (extractStridedSlice S4x4096x128 ![0, 0, 0] x slices_S4x4096x256_S4x4096x128_0_0_0)
          (extractStridedSlice S4x4096x128 ![0, 0, 0] x slices_S4x4096x256_S4x4096x128_0_0_0)) (constant (F := Ideal) S_ .f32 0x00000000#32) reducesTo_S4x4096x128_S4x4096_d2 h_S_))
        (broadcastInDim S4x4096x1 ![] bcast_S_S4x4096x1 (constant (F := Ideal) S_ .f32 0x43000000#32)))
        (broadcastInDim S4x4096x1 ![] bcast_S_S4x4096x1 (constant (F := Ideal) S_ .f32 0x358637BD#32))))))
    (broadcastInDim S4x4096x128 ![0, 1, 2] bcast_S1x1x128_S4x4096x128_0_1_2 (broadcastInDim S1x1x128 ![1, 2] bcast_S1x128_S1x1x128_1_2 g))

/-- The lanes of the first half. -/
def lanes : IVec S4x4096x128 1 :=
  broadcastInDim S4x4096x128 ![2] bcast_S128_S4x4096x128_2 (cmpi .slt (iotaInDim S128 32 0) (broadcastInDim S128 ![] bcast_S_S128 (constantI S_ 32 64#32)))

/-- Rows by pages, narrowed. -/
def paged (w : FVec Ideal S4x4096x128 .f32) : FVec Ideal S4x8x512x128 .bf16 := shapeCast _ (truncf .bf16 w bitsLt_bf16_f32) shapeCasts_S4x4096x128_S4x8x512x128

/-- The keys' first halves, by pages. -/
def firsts (x : FVec Ideal S4x4096x256 .f32) (g : FVec Ideal S1x128 .f32) : FVec Ideal S4x8x512x128 .bf16 :=
  paged (select lanes (keys x g) (broadcastInDim S4x4096x128 ![] bcast_S_S4x4096x128 (id (constant (F := Ideal) S_ .f32 0x00000000#32))))

/-- The keys' second halves, by pages. -/
def seconds (x : FVec Ideal S4x4096x256 .f32) (g : FVec Ideal S1x128 .f32) : FVec Ideal S4x8x512x128 .bf16 :=
  paged (select lanes (broadcastInDim S4x4096x128 ![] bcast_S_S4x4096x128 (id (constant (F := Ideal) S_ .f32 0x00000000#32))) (keys x g))

/-- The keys at an index. -/
theorem keys_at (x : FVec Ideal S4x4096x256 .f32) (g : FVec Ideal S1x128 .f32) (n : Fin 4) (t : Fin 4096) (l : Fin 128) : keys x g (ix3 n t l) = key x g n t l := by
  unfold keys key Cert.InProjection.normed
  pointwise []

/-- A lane is of the first half when it is below 64. -/
theorem lanes_at (n : Fin 4) (t : Fin 4096) (l : Fin 128) : lanes (ix3 n t l) = BitVec.ofBool (decide (l.val < 64)) := by
  refine Eq.trans ?_ (WordCmp.cmpi_slt_ofNat (w := 32) (a := l.val) (b := 64) (by omega) (by decide))
  unfold lanes
  pointwise []

/-- Rows by pages at an index. -/
theorem paged_at (w : FVec Ideal S4x4096x128 .f32) (n : Fin 4) (h : Fin 8) (r : Fin 512) (l : Fin 128) :
    paged w (ix4 n h r l) = w (ix3 n ⟨h.val * 512 + r.val, by omega⟩ l) := by
  unfold paged
  pointwise []

/-- The first halves at an index. -/
theorem first_at (x : FVec Ideal S4x4096x256 .f32) (g : FVec Ideal S1x128 .f32) (n : Fin 4) (h : Fin 8) (r : Fin 512) (l : Fin 128) :
    firsts x g (ix4 n h r l) = firstHalf x g n h r l := by
  unfold firsts
  rw [paged_at]
  unfold firstHalf
  rw [← keys_at]
  generalize keys x g = k
  have p : select lanes k (broadcastInDim S4x4096x128 ![] bcast_S_S4x4096x128 (id (constant (F := Ideal) S_ .f32 0x00000000#32))) (ix3 n ⟨h.val * 512 + r.val, by omega⟩ l)
      = Scalar.select (lanes (ix3 n ⟨h.val * 512 + r.val, by omega⟩ l)) (k (ix3 n ⟨h.val * 512 + r.val, by omega⟩ l)) 0 := by
    generalize lanes = q
    unfold id
    pointwise []
  rw [p, lanes_at]
  unfold Scalar.select
  by_cases h : l.val < 64
  · rw [if_pos h, decide_eq_true h, if_pos (by decide)]
  · rw [if_neg h, decide_eq_false h, if_neg (by decide)]

/-- The second halves at an index. -/
theorem second_at (x : FVec Ideal S4x4096x256 .f32) (g : FVec Ideal S1x128 .f32) (n : Fin 4) (h : Fin 8) (r : Fin 512) (l : Fin 128) :
    seconds x g (ix4 n h r l) = secondHalf x g n h r l := by
  unfold seconds
  rw [paged_at]
  unfold secondHalf
  rw [← keys_at]
  generalize keys x g = k
  have p : select lanes (broadcastInDim S4x4096x128 ![] bcast_S_S4x4096x128 (id (constant (F := Ideal) S_ .f32 0x00000000#32))) k (ix3 n ⟨h.val * 512 + r.val, by omega⟩ l)
      = Scalar.select (lanes (ix3 n ⟨h.val * 512 + r.val, by omega⟩ l)) 0 (k (ix3 n ⟨h.val * 512 + r.val, by omega⟩ l)) := by
    generalize lanes = q
    unfold id
    pointwise []
  rw [p, lanes_at]
  unfold Scalar.select
  by_cases h : l.val < 64
  · rw [if_pos h, decide_eq_true h, if_pos (by decide)]
  · rw [if_neg h, decide_eq_false h, if_neg (by decide)]

/-- The first heads' columns, turned into rows. -/
def turned (w : FVec Ideal S4x4096x128 .f32) : FVec Ideal S4x8x4096 .f32 :=
  extractStridedSlice S4x8x4096 ![0, 0, 0] (transpose S4x128x4096 [0, 2, 1] w transposes_S4x4096x128_S4x128x4096_0_2_1) slices_S4x128x4096_S4x8x4096_0_0_0

/-- The rows at an index. -/
theorem turned_at (w : FVec Ideal S4x4096x128 .f32) (n : Fin 4) (h : Fin 8) (t : Fin 4096) : turned w (ix3 n h t) = w (ix3 n t ⟨h.val, by omega⟩) := by
  unfold turned
  pointwise []

end Cert.Reference4Ideal.Prep

end
-- ==== Proof.RouterOrder.lean ====
module

public import Idealize.ShloMosaic.Lib.SortFacts
public import Idealize.ShloMosaic.PureOps.Ideal

@[expose] public section

noncomputable section

namespace Cert.Router

open Idealize.ShloMosaic

/-! # A stable sort from the largest down, and picking the largest over and over

The positions of a list of extended reals, sorted from the largest down and equal ones in order, are the positions found by taking
the first largest entry, striking it out, and starting again. -/

/-- Of two entries, the first comes before the second: it is larger, or as large and earlier. -/
def Ahead {n : ℕ} (l : Fin n → EReal) (a b : Fin n) : Prop := l b < l a ∨ (l a = l b ∧ a < b)

/-- An entry ahead of another, itself ahead of a third, is ahead of the third. -/
theorem Ahead.trans {n : ℕ} {l : Fin n → EReal} {a b c : Fin n} (h : Ahead l a b) (k : Ahead l b c) : Ahead l a c := by
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩

/-- Putting an entry into a sorted list of later entries leaves it sorted. -/
theorem ahead_insert {n : ℕ} (l : Fin n → EReal) (a : Fin n) (m : List (Fin n)) (hm : m.Pairwise (Ahead l)) (ha : ∀ b ∈ m, a < b) :
    (insertBefore (fun k k' => decide (l k' < l k)) a m).Pairwise (Ahead l) := by
  induction m with
  | nil => exact List.pairwise_singleton _ _
  | cons b m ih =>
    rw [List.pairwise_cons] at hm
    unfold insertBefore
    split
    next h =>
      refine List.pairwise_cons.2 ⟨fun c hc => ?_, ih hm.2 fun c hc => ha c (List.mem_cons_of_mem _ hc)⟩
      rcases List.mem_cons.1 ((perm_insertBefore _ a m).mem_iff.1 hc) with rfl | hc
      · exact Or.inl (of_decide_eq_true h)
      · exact hm.1 c hc
    next h =>
      have hab : Ahead l a b := by
        rcases lt_or_eq_of_le (not_lt.1 fun k => h (decide_eq_true k)) with k | k
        · exact Or.inl k
        · exact Or.inr ⟨k.symm, ha b List.mem_cons_self⟩
      refine List.pairwise_cons.2 ⟨fun c hc => ?_, List.pairwise_cons.2 hm⟩
      rcases List.mem_cons.1 hc with rfl | hc
      · exact hab
      · exact hab.trans (hm.1 c hc)

/-- The stable sort of a list in order is sorted. -/
theorem ahead_sort {n : ℕ} (l : Fin n → EReal) (m : List (Fin n)) (hm : m.Pairwise (· < ·)) :
    (stableSort (fun k k' => decide (l k' < l k)) m).Pairwise (Ahead l) := by
  induction m with
  | nil => exact List.Pairwise.nil
  | cons a m ih =>
    rw [List.pairwise_cons] at hm
    unfold stableSort
    exact ahead_insert l a _ (ih hm.2) fun b hb => hm.1 b ((perm_stableSort _ m).mem_iff.1 hb)

/-- The position of the entry a sort from the largest down puts at a place. -/
def place {n : ℕ} (l : Fin n → EReal) (k : Fin n) : Fin n := sortedFrom (fun k k' => decide (l k' < l k)) k

/-- An earlier place's entry is ahead of a later place's. -/
theorem place_ahead {n : ℕ} (l : Fin n → EReal) (i j : Fin n) (h : i < j) : Ahead l (place l i) (place l j) := by
  have hp : ∀ a b : Fin (sortPositions n (fun k k' => decide (l k' < l k))).length, a < b →
      Ahead l ((sortPositions n (fun k k' => decide (l k' < l k))).get a) ((sortPositions n (fun k k' => decide (l k' < l k))).get b) :=
    List.pairwise_iff_get.mp (ahead_sort l (List.finRange n) (List.pairwise_lt_finRange n))
  exact hp _ _ (by simp only [Fin.lt_def, Fin.val_cast]; exact h)

/-- Every entry is at some place. -/
theorem place_surj {n : ℕ} (l : Fin n → EReal) (e : Fin n) : ∃ k, place l k = e := sortedFrom_surjective _ e

/-- Two places hold different entries. -/
theorem place_inj {n : ℕ} (l : Fin n → EReal) (i j : Fin n) (h : place l i = place l j) : i = j := sortedFrom_injective _ h

/-- The entries left once those of the first `r` places are struck out. -/
def left {n : ℕ} (l : Fin n → EReal) (r : ℕ) (e : Fin n) : EReal := if ∃ k : Fin n, k.val < r ∧ place l k = e then ⊥ else l e

/-- Nothing is struck out at first. -/
theorem left_zero {n : ℕ} (l : Fin n → EReal) (e : Fin n) : left l 0 e = l e := if_neg fun ⟨k, h, _⟩ => absurd h (Nat.not_lt_zero _)

/-- Striking out one more place. -/
theorem left_succ {n : ℕ} (l : Fin n → EReal) (r : Fin n) (e : Fin n) :
    left l (r.val + 1) e = if e = place l r then ⊥ else left l r.val e := by
  unfold left
  by_cases h : e = place l r
  · rw [if_pos h, if_pos ⟨r, Nat.lt_succ_self _, h.symm⟩]
  · rw [if_neg h]
    refine if_congr ⟨fun ⟨k, hk, e'⟩ => ⟨k, ?_, e'⟩, fun ⟨k, hk, e'⟩ => ⟨k, by omega, e'⟩⟩ rfl rfl
    rcases Nat.lt_succ_iff_lt_or_eq.1 hk with hk | hk
    · exact hk
    · exact absurd (e'.symm.trans (congrArg (place l) (Fin.ext hk))) h

/-- The entry at the next place is still there. -/
theorem left_place {n : ℕ} (l : Fin n → EReal) (r : Fin n) : left l r.val (place l r) = l (place l r) :=
  if_neg fun ⟨k, hk, e⟩ => by have := place_inj l k r e; subst this; exact absurd hk (lt_irrefl _)

/-- It is the largest of what is left. -/
theorem left_le {n : ℕ} (l : Fin n → EReal) (r : Fin n) (e : Fin n) : left l r.val e ≤ left l r.val (place l r) := by
  rw [left_place]
  obtain ⟨k, rfl⟩ := place_surj l e
  unfold left
  split
  · exact bot_le
  · next h =>
    rcases lt_trichotomy k r with hk | rfl | hk
    · exact absurd ⟨k, hk, rfl⟩ h
    · exact le_refl _
    · rcases place_ahead l r k hk with h | ⟨h, _⟩
      · exact h.le
      · exact h.ge

/-- And the first of the largest, if no entry is minus infinity. -/
theorem left_first {n : ℕ} (l : Fin n → EReal) (hl : ∀ e, l e ≠ ⊥) (r : Fin n) (e : Fin n) (h : left l r.val e = left l r.val (place l r)) :
    place l r ≤ e := by
  rw [left_place] at h
  obtain ⟨k, rfl⟩ := place_surj l e
  unfold left at h
  split at h
  · exact absurd h.symm (hl _)
  · next hk =>
    rcases lt_trichotomy k r with hk' | rfl | hk'
    · exact absurd ⟨k, hk', rfl⟩ hk
    · exact le_refl _
    · rcases place_ahead l r k hk' with h' | ⟨_, h'⟩
      · exact absurd h h'.ne
      · exact h'.le

end Cert.Router

end
-- ==== Proof.RouterSpec.lean ====
module

public import proofs.«01_k».proof.Proof.OutProjSpec
public import proofs.«01_k».proof.Proof.RouterOrder

@[expose] public section

set_option maxRecDepth 16384

noncomputable section

namespace Cert.Router

open Idealize.ShloMosaic
open Cert.InProjection (Tokens Gain normed)
open Cert.OutProjection (Heads Half mixed ready)

/-! # The router's logits and choices, at an index -/

/-- The shape of the router's weights, a row per expert. -/
abbrev Table : Shape := ⟨2, ![32, 2048]⟩
/-- The shape of its biases. -/
abbrev Bias : Shape := ⟨2, ![32, 1]⟩

/-- An extended real that is a real. -/
def IsReal (v : EReal) : Prop := ∃ r : ℝ, v = (r : EReal)

/-- A sum of two reals is real. -/
theorem IsReal.add {a b : EReal} (h : IsReal a) (k : IsReal b) : IsReal (a + b) := by
  obtain ⟨r, rfl⟩ := h
  obtain ⟨s, rfl⟩ := k
  exact ⟨r + s, (EReal.coe_add r s).symm⟩

/-- A product of two reals is real. -/
theorem IsReal.mul {a b : EReal} (h : IsReal a) (k : IsReal b) : IsReal (a * b) := by
  obtain ⟨r, rfl⟩ := h
  obtain ⟨s, rfl⟩ := k
  exact ⟨r * s, (EReal.coe_mul r s).symm⟩

/-- A finite sum of reals is real. -/
theorem IsReal.sum {n : ℕ} {f : Fin n → EReal} (h : ∀ k, IsReal (f k)) : IsReal (∑ k, f k) :=
  Finset.sum_induction f IsReal (fun _ _ => IsReal.add) ⟨0, EReal.coe_zero.symm⟩ fun k _ => h k

/-- A real is not minus infinity. -/
theorem IsReal.ne_bot {a : EReal} (h : IsReal a) : a ≠ ⊥ := by
  obtain ⟨r, rfl⟩ := h
  exact EReal.coe_ne_bot r

/-- A sum of squares of reals is a real no less than zero. -/
theorem squares {n : ℕ} {f : Fin n → EReal} (h : ∀ k, IsReal (f k)) : ∃ r : ℝ, 0 ≤ r ∧ ∑ k, f k * f k = (r : EReal) := by
  refine Finset.sum_induction (fun k => f k * f k) (fun v => ∃ r : ℝ, 0 ≤ r ∧ v = (r : EReal)) ?_ ⟨0, le_refl _, EReal.coe_zero.symm⟩ fun k _ => ?_
  · rintro _ _ ⟨a, ha, rfl⟩ ⟨b, hb, rfl⟩
    exact ⟨a + b, add_nonneg ha hb, (EReal.coe_add a b).symm⟩
  · obtain ⟨r, hr⟩ := h k
    exact ⟨r * r, mul_self_nonneg r, by rw [hr, EReal.coe_mul]⟩

/-- The rows' length as a float's bits. -/
theorem width_eq : Ideal.ofBits .f32 0x45000000#32 = ((2048 : ℝ) : EReal) := by
  simp [Ideal.ofBits, Ideal.ieee, -EReal.coe_mul]; norm_num

/-- The norm's guard against zero is a positive real. -/
theorem guard_pos : ∃ e : ℝ, 0 < e ∧ Ideal.ofBits .f32 0x358637BD#32 = (e : EReal) := by
  refine ⟨_, ?_, by simp only [Ideal.ofBits, Ideal.ieee]; rfl⟩
  simp

/-- A square is not negative. -/
theorem square_nonneg (v : EReal) : 0 ≤ v * v := by
  induction v with
  | bot => simp
  | top => simp
  | coe r => exact_mod_cast mul_self_nonneg r

/-- The square of what is not real is plus infinity. -/
theorem square_top (v : EReal) (h : ¬IsReal v) : v * v = ⊤ := by
  induction v with
  | bot => simp
  | top => simp
  | coe r => exact absurd ⟨r, rfl⟩ h

/-- A row, normalised with real gains, is real: a row with an infinite entry is divided by an infinite root, and is zero. -/
theorem normed_real {n : ℕ} (v g : Fin n → EReal) (hg : ∀ k, IsReal (g k)) (d : Fin n) : IsReal (normed 0x45000000#32 v g d) := by
  unfold normed
  obtain ⟨e, he, ee⟩ := guard_pos
  by_cases hv : ∀ k, IsReal (v k)
  · refine ((hv d).mul ?_).mul (hg d)
    obtain ⟨s, hs, es⟩ := squares hv
    rw [es, ee, width_eq]
    have q : Ideal.div (s : EReal) ((2048 : ℝ) : EReal) + (e : EReal) = ((s / 2048 + e : ℝ) : EReal) := by
      rw [Ideal.div_coe (by norm_num), ← EReal.coe_mul, ← EReal.coe_add, mul_one_div]
    have p : 0 < s / 2048 + e := by positivity
    rw [q, Ideal.rsqrt_coe, if_neg (not_lt.2 p.le), if_neg p.ne']
    exact ⟨_, rfl⟩
  · obtain ⟨k, hk⟩ := not_forall.1 hv
    have t : ∑ k, v k * v k = ⊤ := top_le_iff.1 ((square_top _ hk).symm.le.trans
      (Finset.single_le_sum (f := fun k => v k * v k) (fun k _ => square_nonneg (v k)) (Finset.mem_univ k)))
    have q : Ideal.div ⊤ ((2048 : ℝ) : EReal) + (e : EReal) = ⊤ := by
      rw [Ideal.div_coe (by norm_num), EReal.top_mul_coe_of_pos (by norm_num), EReal.top_add_coe]
    have z : Ideal.rsqrt ⊤ = 0 := rfl
    rw [t, ee, width_eq, q, z, mul_zero, zero_mul]
    exact ⟨0, EReal.coe_zero.symm⟩

section
variable (o p : Heads.Idx → EReal) (x : Tokens.Idx → EReal) (wo wp : Half.Idx → EReal) (g : Gain.Idx → EReal) (hi lo : Table.Idx → EReal) (b : Bias.Idx → EReal)

/-- An expert's logit for a token. -/
def logit (r : Fin 16384) (e : Fin 32) : EReal :=
  (∑ d : Fin 2048, ready o p x wo wp g r d * (hi (ix2 e d) + lo (ix2 e d))) + b (ix2 e 0)

/-- The expert a token chooses at a place, as a word. -/
def choice (k : Fin 4) (r : Fin 16384) : BitVec 32 := BitVec.ofNat 32 (place (logit o p x wo wp g hi lo b r) (Fin.castLE (by decide) k)).val

variable (hg : ∀ i, IsReal (g i)) (hhi : ∀ i, IsReal (hi i)) (hlo : ∀ i, IsReal (lo i)) (hb : ∀ i, IsReal (b i))

include hg in
/-- Normalised tokens are real, the gains being. -/
theorem ready_real (r : Fin 16384) (d : Fin 2048) : IsReal (ready o p x wo wp g r d) := normed_real _ _ (fun k => hg _) d

include hg hhi hlo hb in
/-- So are the logits, the router's weights and biases being. -/
theorem logit_real (r : Fin 16384) (e : Fin 32) : IsReal (logit o p x wo wp g hi lo b r e) :=
  (IsReal.sum fun d => (ready_real o p x wo wp g hg r d).mul ((hhi _).add (hlo _))).add (hb _)

end

/-- Three products with split factors add up to the one with the factors put together, of reals. -/
theorem split {n : ℕ} (h u v : Fin n → EReal) (hh : ∀ k, IsReal (h k)) (hu : ∀ k, IsReal (u k)) (hv : ∀ k, IsReal (v k)) :
    (∑ k, u k * h k) + (∑ k, u k * (h k - h k)) + (∑ k, v k * h k) = ∑ k, h k * (u k + v k) := by
  rw [← Finset.sum_add_distrib, ← Finset.sum_add_distrib]
  refine Finset.sum_congr rfl fun k _ => ?_
  obtain ⟨a, ha⟩ := hh k
  obtain ⟨b, hb⟩ := hu k
  obtain ⟨c, hc⟩ := hv k
  rw [ha, hb, hc]
  norm_cast
  ring

end Cert.Router

end
-- ==== Proof.RouterPre.lean ====
module

public import proofs.«01_k».proof.Proof.Gen.Pre_finite
public import proofs.«01_k».proof.Proof.RouterSpec
public import Idealize.ShloMosaic.Lib.ReduceAll

@[expose] public section

set_option maxRecDepth 16384

noncomputable section

namespace Cert.Router

open Idealize.ShloMosaic
open Cert.Pre_finite (S_ S16384x1024 S16384x2048 S1024x2048 S1x2048 S32x2048 S32x1)

/-! # The router's precondition, read back -/

/-- The bits of plus infinity. -/
theorem highest : Ideal.ofBits .f32 0x7F800000#32 = ⊤ := by simp [Ideal.ofBits, Ideal.ieee]

/-- An extended real whose magnitude is below plus infinity is real. -/
theorem real_of_abs (v : EReal) (h : max v (-v) < ⊤) : IsReal v := by
  induction v with
  | bot => simp at h
  | top => simp at h
  | coe r => exact ⟨r, rfl⟩

/-- There is one index of no axes. -/
theorem one_index (i j : S_.Idx) : i = j := funext fun a => a.elim0

/-- An array all of whose magnitudes test below plus infinity is of reals. -/
theorem all_real {s : Shape} {axes : List (Fin s.rank)} (x : FVec Ideal s .f32) (b : S_.BroadcastsInDim s (![] : Fin 0 → Fin s.rank)) (r : s.ReducesTo axes S_)
    (hu : 0 < S_.numel) (j : S_.Idx)
    (e : Host.reduce IntOp.andi (cmpf .olt (Host.absf x) (broadcastInDim s ![] b (constant (F := Ideal) S_ .f32 0x7F800000#32))) (constantI S_ 1 1#1) r hu j = 1#1)
    (i : s.Idx) : IsReal (x i) := by
  haveI : Subsingleton S_.Idx := ⟨one_index⟩
  have h : BitVec.ofBool (decide (max (x i) (-(x i)) < Ideal.ofBits .f32 0x7F800000#32)) = 1#1 := Host.reduce_andi_all _ _ r hu j e i
  rw [highest] at h
  refine real_of_abs _ (of_decide_eq_true ?_)
  revert h
  cases decide (max (x i) (-(x i)) < ⊤) with
  | true => exact fun _ => rfl
  | false => exact fun h => absurd h (by decide)

/-- What the precondition says: every gain, and every entry of the router's weights and biases, is real. -/
theorem args_real [Cert.Pre_finite.Facts] (o p : FVec Ideal S16384x1024 .bf16) (x : FVec Ideal S16384x2048 .f32) (wo wp : FVec Ideal S1024x2048 .bf16) (g : FVec Ideal S1x2048 .f32)
    (hi lo : FVec Ideal S32x2048 .bf16) (b : FVec Ideal S32x1 .f32) (h : Cert.Pre_finite.fn (F := Ideal) o p x wo wp g hi lo b = fun _ => 1#1) :
    (∀ i, IsReal (g i)) ∧ (∀ i, IsReal (hi i)) ∧ (∀ i, IsReal (lo i)) ∧ ∀ i, IsReal (b i) := by
  have h0 := congrFun h ix0
  unfold Cert.Pre_finite.fn at h0
  dsimp only at h0
  have h3 := IntOp.andi_eq_one.1 h0
  have h2 := IntOp.andi_eq_one.1 h3.1
  have h1 := IntOp.andi_eq_one.1 h2.1
  exact ⟨fun i => all_real _ _ _ _ _ h1.1 i, fun i => all_real _ _ _ _ _ h1.2 i, fun i => all_real _ _ _ _ _ h2.2 i, fun i => all_real _ _ _ _ _ h3.2 i⟩

end Cert.Router

end
-- ==== Proof.RouterReference.lean ====
module

public import proofs.«01_k».proof.Proof.OutProjReference
public import proofs.«01_k».proof.Proof.RouterSpec
public import proofs.«01_k».proof.Proof.Gen.Reference5Ideal.Run

@[expose] public section

set_option maxRecDepth 16384
set_option Elab.async false

noncomputable section

namespace Cert.Reference5Ideal.Router

open Cert.Reference5Ideal Cert.Reference5Ideal.Gen
open Idealize.ShloMosaic
open Idealize.ShloMosaic.TcCoe Idealize.ShloMosaic.Tactic
open Idealize.SL Idealize.SL.Sem

/-! # The router's reference: its run, and its result at an index -/

/-- Rows scored against the experts. -/
def scores (h : FVec Ideal S16384x2048 .f32) (hi lo : FVec Ideal S32x2048 .bf16) (b : FVec Ideal S32x1 .f32) : FVec Ideal S16384x32 .f32 :=
  addf (Host.dotGeneral dot_S16384x2048_S2048x32_S16384x32_1_0_0_1_n_n none h
      (transpose S2048x32 [1, 0] (addf (extf .f32 hi bitsLt_bf16_f32) (extf .f32 lo bitsLt_bf16_f32)) transposes_S32x2048_S2048x32_1_0))
    (broadcastInDim S16384x32 ![0, 1] bcast_S1x32_S16384x32_0_1 (transpose S1x32 [1, 0] b transposes_S32x1_S1x32_1_0))

/-- The four leading experts of each row, a column per row. -/
def leaders (w : FVec Ideal S16384x32 .f32) : IVec S4x16384 32 :=
  transpose S4x16384 [1, 0] (Host.topK S16384x4 1 (FloatOps.cmpfTotal (F := Ideal) (φ := .f32) .gt) w sliceFits_S16384x32_S16384x4).2 transposes_S16384x4_S4x16384_1_0

/-- The rows scored. -/
def prepared (o p : FVec Ideal S16384x1024 .bf16) (x : FVec Ideal S16384x2048 .f32) (wo wp : FVec Ideal S1024x2048 .bf16) (g : FVec Ideal S1x2048 .f32) : FVec Ideal S16384x2048 .f32 :=
  Cert.Reference3Ideal.OutProj.rows (Cert.Reference3Ideal.OutProj.added o p x wo wp) g

/-- Every run of the reference leaves its arguments unchanged and its semaphores at zero. -/
theorem run_frame : Cert.quiescent_Reference5Ideal := fun m g _ =>
  (θ_run defs _ _).mono (fun r h => ⟨fun c => (h c).2.2, sem_eq_zero_of_no_sems (by decide) r.2⟩) (Value.run m g)

/-- A score at an index. -/
theorem scores_at (h : FVec Ideal S16384x2048 .f32) (hi lo : FVec Ideal S32x2048 .bf16) (b : FVec Ideal S32x1 .f32) (r : Fin 16384) (e : Fin 32) :
    scores h hi lo b (ix2 r e) = (∑ d : Fin 2048, h (ix2 r d) * (hi (ix2 e d) + lo (ix2 e d))) + b (ix2 e 0) := by
  unfold scores
  pointwise []

/-- A position along a row. -/
theorem along_row (r : Fin 16384) (q k : Fin 32) (hd : 1 < S16384x32.rank) : Shape.Idx.along (s := S16384x32) (ix2 r q) ⟨1, hd⟩ k = ix2 r k := by
  funext a
  match a with
  | ⟨0, _⟩ => rfl
  | ⟨1, _⟩ => rfl

/-- A bit made of a test, tested. -/
theorem bit_test (b : Bool) : (BitVec.ofBool b == 1#1) = b := by
  revert b
  decide

/-- A sort of two arrays by the first, read in the second at an index. -/
theorem sort_at {s : Shape} {d : ℕ} {α β : Type} (gt : α → α → BitVec 1) (w : s.Idx → α) (y : s.Idx → β) (hd : d < s.rank) (j : s.Idx) :
    (Host.sort2 s d (fun l r => gt l.1 r.1) w y).2 j
      = y (j.along ⟨d, hd⟩ (sortedFrom (fun k k' => gt (w (j.along ⟨d, hd⟩ k)) (w (j.along ⟨d, hd⟩ k')) == 1#1) (j ⟨d, hd⟩))) := by
  unfold Host.sort2
  rw [dif_pos hd]

/-- The position an entry carries. -/
theorem carried (r : Fin 16384) (n : Fin 32) :
    (fun i : S16384x32.Idx => if hd : 1 < S16384x32.rank then iotaInDim S16384x32 32 ⟨1, hd⟩ i else 0#32) (ix2 r n) = BitVec.ofNat 32 n.val := by
  refine (dif_pos (show 1 < S16384x32.rank by decide)).trans ?_
  rfl

/-- The positions of a row, sorted by its entries, at an index, under any comparison. -/
theorem sorted_row {α : Type} (gt : α → α → BitVec 1) (w : S16384x32.Idx → α) (y : S16384x32.Idx → BitVec 32) (r : Fin 16384) (q : Fin 32) :
    (Host.sort2 S16384x32 1 (fun l r => gt l.1 r.1) w y).2 (ix2 r q) = y (ix2 r (sortedFrom (fun k k' : Fin 32 => gt (w (ix2 r k)) (w (ix2 r k')) == 1#1) q)) := by
  have hd : 1 < S16384x32.rank := by decide
  have e : (fun k k' : Fin 32 => gt (w (Shape.Idx.along (s := S16384x32) (ix2 r q) ⟨1, hd⟩ k)) (w (Shape.Idx.along (s := S16384x32) (ix2 r q) ⟨1, hd⟩ k')) == 1#1)
      = fun k k' : Fin 32 => gt (w (ix2 r k)) (w (ix2 r k')) == 1#1 := by
    funext k k'
    rw [along_row, along_row]
  refine (sort_at gt w y hd (ix2 r q)).trans ?_
  refine (congrArg y (along_row r q _ hd)).trans ?_
  exact congrArg (fun f : Fin 32 → Fin 32 → Bool => y (ix2 r (sortedFrom f q))) e

/-- The positions of a row of extended reals, sorted by its entries, are its places. -/
theorem sorted_at (w : FVec Ideal S16384x32 .f32) (r : Fin 16384) (q : Fin 32) :
    (Host.sort2 S16384x32 1 (fun l r => FloatOps.cmpfTotal (F := Ideal) (φ := .f32) .gt l.1 r.1) w
      (fun i => if hd : 1 < S16384x32.rank then iotaInDim S16384x32 32 ⟨1, hd⟩ i else 0#32)).2 (ix2 r q)
      = BitVec.ofNat 32 (Cert.Router.place (fun e => w (ix2 r e)) q).val := by
  have e : (fun k k' : Fin 32 => FloatOps.cmpfTotal (F := Ideal) (φ := .f32) .gt (w (ix2 r k)) (w (ix2 r k')) == 1#1)
      = fun k k' : Fin 32 => decide (w (ix2 r k') < w (ix2 r k)) := by
    funext k k'
    rw [Ideal.cmpfTotal_def]
    exact bit_test _
  refine (sorted_row _ w _ r q).trans ((carried r _).trans ?_)
  exact congrArg (fun f : Fin 32 → Fin 32 → Bool => BitVec.ofNat 32 (sortedFrom f q).val) e

/-- The leading experts at an index. -/
theorem leaders_at (w : FVec Ideal S16384x32 .f32) (k : Fin 4) (r : Fin 16384) :
    leaders w (ix2 k r) = BitVec.ofNat 32 (Cert.Router.place (fun e => w (ix2 r e)) (Fin.castLE (by decide) k)).val := by
  refine Eq.trans ?_ (sorted_at w r (Fin.castLE (by decide) k))
  unfold leaders Host.topK
  dsimp only
  generalize (Host.sort2 S16384x32 1 (fun l r => FloatOps.cmpfTotal (F := Ideal) (φ := .f32) .gt l.1 r.1) w
      (fun i => if hd : 1 < S16384x32.rank then iotaInDim S16384x32 32 ⟨1, hd⟩ i else 0#32)).2 = z
  refine congrArg z (funext fun a => Fin.ext ?_)
  match a with
  | ⟨0, _⟩ => show 0 + r.val = r.val; omega
  | ⟨1, _⟩ => show 0 + k.val = k.val; omega

/-- The reference's score at an index is the formula's. -/
theorem logit_at (o p : FVec Ideal S16384x1024 .bf16) (x : FVec Ideal S16384x2048 .f32) (wo wp : FVec Ideal S1024x2048 .bf16) (g : FVec Ideal S1x2048 .f32)
    (hi lo : FVec Ideal S32x2048 .bf16) (b : FVec Ideal S32x1 .f32) (r : Fin 16384) (e : Fin 32) :
    scores (prepared o p x wo wp g) hi lo b (ix2 r e) = Cert.Router.logit o p x wo wp g hi lo b r e := by
  refine (scores_at _ hi lo b r e).trans ?_
  unfold Cert.Router.logit
  refine congrArg (· + b (ix2 e 0)) (Finset.sum_congr rfl fun d _ => ?_)
  exact congrArg (· * (hi (ix2 e d) + lo (ix2 e d))) (Cert.Reference3Ideal.OutProj.ready_at o p x wo wp g r d)

/-- The reference's chosen expert at an index is the formula's. -/
theorem choice_at (o p : FVec Ideal S16384x1024 .bf16) (x : FVec Ideal S16384x2048 .f32) (wo wp : FVec Ideal S1024x2048 .bf16) (g : FVec Ideal S1x2048 .f32)
    (hi lo : FVec Ideal S32x2048 .bf16) (b : FVec Ideal S32x1 .f32) (k : Fin 4) (r : Fin 16384) :
    leaders (scores (prepared o p x wo wp g) hi lo b) (ix2 k r) = Cert.Router.choice o p x wo wp g hi lo b k r := by
  rw [leaders_at]
  unfold Cert.Router.choice
  exact congrArg (fun l => BitVec.ofNat 32 (Cert.Router.place l (Fin.castLE (by decide) k)).val) (funext fun e => logit_at o p x wo wp g hi lo b r e)

end Cert.Reference5Ideal.Router

end
-- ==== Proof.RouterRound.lean ====
module

public import proofs.«01_k».proof.Proof.Gen.Kernel5Ideal.Skeleton
public import proofs.«01_k».proof.Proof.RouterOrder
public import Idealize.ShloMosaic.Lib.Pointwise
public import Idealize.ShloMosaic.Lib.SortNet.Extract
public import Idealize.ShloMosaic.PureOps.Ideal

@[expose] public section

set_option maxRecDepth 16384
set_option Elab.async false

noncomputable section

namespace Cert.Kernel5Ideal.Router

open Cert.Kernel5Ideal Cert.Kernel5Ideal.Gen
open Idealize.ShloMosaic
open Idealize.ShloMosaic.TcCoe Idealize.ShloMosaic.Tactic
open Cert.Router

/-! # One round of the router: the first largest entry of every column, struck out -/

/-- The largest entry of every column. -/
def top (w : FVec Ideal S32x512 .f32) : FVec Ideal S1x512 .f32 :=
  shapeCast S1x512 (multiReduction .maximumf [0] S512 w 0xFF800000#32 reduces_S32x512_S512 (.inl rfl) rfl) shapeCasts_S512_S1x512

/-- Where the largest entry stands, the row's number; elsewhere 32. -/
def marks (w : FVec Ideal S32x512 .f32) : IVec S32x512 32 :=
  select (cmpf .oeq w (broadcastTo S32x512 (top w) broadcasts_S1x512_S32x512)) (iota .tc S32x512 32 [0] iota_S32x512_d0_w32) (broadcast S32x512 32#32)

/-- The row of every column's first largest entry. -/
def pick (w : FVec Ideal S32x512 .f32) : IVec S1x512 32 :=
  shapeCast S1x512 (multiReductionI .minsi [0] S512 (marks w) 2147483647#32 reduces_S32x512_S512 rfl) shapeCasts_S512_S1x512

/-- The columns with that entry struck out. -/
def strike (w : FVec Ideal S32x512 .f32) : FVec Ideal S32x512 .f32 :=
  select (cmpi .eq (iota .tc S32x512 32 [0] iota_S32x512_d0_w32) (broadcastTo S32x512 (pick w) broadcasts_S1x512_S32x512))
    (broadcast S32x512 (Scalar.ofBits (F := Ideal) .f32 0xFF800000#32)) w

/-- The word the struck entries are filled with is minus infinity. -/
theorem lowest : Ideal.ofBits .f32 0xFF800000#32 = ⊥ := by simp [Ideal.ofBits, Ideal.ieee]

/-- The largest entry of a column, as a fold. -/
theorem top_fold (w : FVec Ideal S32x512 .f32) (q : Fin 512) : top w (ix2 0 q) = Finset.univ.fold max ⊥ fun k : Fin 32 => w (ix2 k q) := by
  rw [← lowest]
  pointwise [top]

/-- The least mark of a column, as a fold. -/
theorem pick_fold (w : FVec Ideal S32x512 .f32) (q : Fin 512) :
    pick w (ix2 0 q) = Finset.univ.fold IntOp.minsi 2147483647#32 fun k : Fin 32 => marks w (ix2 k q) := by
  unfold pick
  generalize marks w = v
  pointwise []

/-- A mark at an index. -/
theorem marks_at (w : FVec Ideal S32x512 .f32) (e : Fin 32) (q : Fin 512) :
    marks w (ix2 e q) = if w (ix2 e q) = top w (ix2 0 q) then BitVec.ofNat 32 e.val else 32#32 := by
  unfold marks
  generalize top w = v
  pointwise []

/-- The columns struck out at an index. -/
theorem strike_at (w : FVec Ideal S32x512 .f32) (e : Fin 32) (q : Fin 512) :
    strike w (ix2 e q) = if BitVec.ofNat 32 e.val = pick w (ix2 0 q) then ⊥ else w (ix2 e q) := by
  have p : strike w (ix2 e q) = Scalar.select (IntOp.cmpi .eq (BitVec.ofNat 32 e.val) (pick w (ix2 0 q))) (Ideal.ofBits .f32 0xFF800000#32) (w (ix2 e q)) := by
    unfold strike
    generalize pick w = v
    pointwise []
  rw [p, lowest]
  generalize pick w (ix2 0 q) = v
  unfold Scalar.select IntOp.cmpi
  by_cases h : BitVec.ofNat 32 e.val = v
  · simp [h]
  · rw [if_neg h]
    refine if_neg ?_
    show ¬(BitVec.ofBool (BitVec.ofNat 32 e.val == v) = 1#1)
    rw [beq_eq_false_iff_ne.2 h]
    decide

/-- A column's largest entry is any entry no other exceeds. -/
theorem top_eq (w : FVec Ideal S32x512 .f32) (q : Fin 512) (p : Fin 32) (h : ∀ e : Fin 32, w (ix2 e q) ≤ w (ix2 p q)) :
    top w (ix2 0 q) = w (ix2 p q) := by
  rw [top_fold]
  exact le_antisymm (Finset.fold_max_le _ |>.2 ⟨bot_le, fun e _ => h e⟩) (Finset.le_fold_max _ |>.2 (Or.inr ⟨p, Finset.mem_univ _, le_refl _⟩))

/-- The least of a family of words is any of them that none is below. -/
theorem least_eq (f : Fin 32 → BitVec 32) (p : Fin 32) (h : ∀ e, (f p).toInt ≤ (f e).toInt) :
    (Finset.univ.fold IntOp.minsi 2147483647#32 f) = f p := by
  refine BitVec.eq_of_toInt_eq ?_
  rw [← Finset.fold_hom (op := IntOp.minsi) (op' := min) (m := BitVec.toInt) (fun a b => SortNet.toInt_minsi a b)]
  refine le_antisymm (Finset.fold_min_le _ |>.2 (Or.inr ⟨p, Finset.mem_univ _, le_refl _⟩)) (Finset.le_fold_min _ |>.2 ⟨?_, fun e _ => h e⟩)
  have := BitVec.toInt_lt (x := f p)
  have e0 : (2147483647#32).toInt = 2147483647 := by decide
  rw [e0]
  omega

/-- The picked row is the first of a column's largest entries. -/
theorem pick_eq (w : FVec Ideal S32x512 .f32) (q : Fin 512) (p : Fin 32) (h : ∀ e : Fin 32, w (ix2 e q) ≤ w (ix2 p q))
    (k : ∀ e : Fin 32, w (ix2 e q) = w (ix2 p q) → p ≤ e) : pick w (ix2 0 q) = BitVec.ofNat 32 p.val := by
  have number : ∀ e : Fin 32, (BitVec.ofNat 32 e.val).toInt = (e.val : ℤ) := by decide
  have e0 : (32#32).toInt = 32 := by decide
  have hp : marks w (ix2 p q) = BitVec.ofNat 32 p.val := by rw [marks_at, top_eq w q p h, if_pos rfl]
  rw [pick_fold, least_eq _ p, hp]
  intro e
  rw [hp, marks_at, top_eq w q p h, number]
  split
  · next he =>
    rw [number]
    exact_mod_cast Fin.le_def.1 (k e he)
  · rw [e0]
    have := p.isLt
    omega

/-- A round over what is left of a column picks the next place's row and strikes it out. -/
theorem round (w : FVec Ideal S32x512 .f32) (q : Fin 512) (l : Fin 32 → EReal) (hl : ∀ e, l e ≠ ⊥) (r : Fin 32) (hw : ∀ e : Fin 32, w (ix2 e q) = left l r.val e) :
    pick w (ix2 0 q) = BitVec.ofNat 32 (place l r).val ∧ ∀ e : Fin 32, strike w (ix2 e q) = left l (r.val + 1) e := by
  have hp : pick w (ix2 0 q) = BitVec.ofNat 32 (place l r).val :=
    pick_eq w q _ (fun e => by rw [hw, hw]; exact left_le l r e) fun e he => by rw [hw, hw] at he; exact left_first l hl r e he
  refine ⟨hp, fun e => ?_⟩
  have same : ∀ a b : Fin 32, BitVec.ofNat 32 a.val = BitVec.ofNat 32 b.val ↔ a = b := by decide
  rw [strike_at, hp, left_succ, hw]
  exact if_congr (same _ _) rfl rfl

/-- The four rounds pick the first four places' rows of a column. -/
theorem rounds (w : FVec Ideal S32x512 .f32) (q : Fin 512) (hl : ∀ e : Fin 32, w (ix2 e q) ≠ ⊥) :
    pick w (ix2 0 q) = BitVec.ofNat 32 (place (fun e => w (ix2 e q)) 0).val
    ∧ pick (strike w) (ix2 0 q) = BitVec.ofNat 32 (place (fun e => w (ix2 e q)) 1).val
    ∧ pick (strike (strike w)) (ix2 0 q) = BitVec.ofNat 32 (place (fun e => w (ix2 e q)) 2).val
    ∧ pick (strike (strike (strike w))) (ix2 0 q) = BitVec.ofNat 32 (place (fun e => w (ix2 e q)) 3).val := by
  have a := round w q (fun e => w (ix2 e q)) hl 0 fun e => (left_zero (fun e => w (ix2 e q)) e).symm
  have b := round (strike w) q _ hl 1 a.2
  have c := round (strike (strike w)) q _ hl 2 b.2
  exact ⟨a.1, b.1, c.1, (round (strike (strike (strike w))) q _ hl 3 c.2).1⟩

/-- The four rows the kernel stores are the four rounds' over its logits. -/
theorem stored (a b : FVec Ideal S512x2048 .bf16) (c d e : FVec Ideal S32x2048 .bf16) (f : FVec Ideal S32x1 .f32) :
    k0_pay13 (F := Ideal) a b c d e f = pick (k0_pay11 (F := Ideal) a b c d e f)
    ∧ k0_pay17 (F := Ideal) a b c d e f = pick (strike (k0_pay11 (F := Ideal) a b c d e f))
    ∧ k0_pay23 (F := Ideal) (iota .tc S32x512 32 [0] iota_S32x512_d0_w32) (k0_pay15 (F := Ideal) a b c d e f) (k0_pay18 (F := Ideal) a b c d e f) (k0_pay20 (F := Ideal)) = pick (strike (strike (k0_pay11 (F := Ideal) a b c d e f)))
    ∧ k0_pay27 (F := Ideal) (iota .tc S32x512 32 [0] iota_S32x512_d0_w32) (k0_pay15 (F := Ideal) a b c d e f) (k0_pay18 (F := Ideal) a b c d e f) (k0_pay20 (F := Ideal)) = pick (strike (strike (strike (k0_pay11 (F := Ideal) a b c d e f)))) :=
  ⟨rfl, rfl, rfl, rfl⟩

end Cert.Kernel5Ideal.Router

end
-- ==== Proof.RouterRuns.lean ====
module

public import proofs.«01_k».proof.Proof.Gen.Kernel5Ideal.Frame
public import proofs.«01_k».proof.Proof.RouterRound
public import Idealize.ShloMosaic.Lib.Pipeline.ValueKit
public import Idealize.ShloMosaic.Lib.Pipeline.Covers
public import Idealize.ShloMosaic.Lib.Pointwise
public import Idealize.ShloMosaic.PureOps.Ideal

@[expose] public section

set_option maxRecDepth 16384
set_option Elab.async false

noncomputable section

namespace Cert.Kernel5Ideal.Router

open Cert.Kernel5Ideal Cert.Kernel5Ideal.Gen
open Idealize.ShloMosaic
open Idealize.ShloMosaic.TcCoe Idealize.ShloMosaic.Tactic
open Idealize.ShloMosaic.Pipeline (Dat Cfg Window)

/-! # What a point of the router leaves in its block of chosen experts -/

/-- A rectangle from the origin of a table. -/
theorem origin : (![0, 0] : Fin 2 → ℕ) = fun _ => 0 := by
  funext a
  match a with
  | ⟨0, _⟩ => rfl
  | ⟨1, _⟩ => rfl

/-- Four rows, one under the other. -/
def stacked (v : Fin 4 → IVec S1x512 32) (y : S4x512.Idx) : BitVec 32 := v (y (0 : Fin 2)) (ix2 0 (y (1 : Fin 2)))

/-- A row stored at its place is that row of the stack. -/
theorem stacked_at (v : Fin 4 → IVec S1x512 32) (k : Fin 4) (inb : ∀ a : Fin 2, (![k.val, 0] : Fin 2 → Nat) a + S1x512.size a ≤ S4x512.size a) (x : S1x512.Idx) :
    v k x = stacked v ((Rect.unit (s := S4x512) ![k.val, 0] S1x512.size inb).emb x) := by
  have h0 : (x (0 : Fin 2)).val < 1 := (x (0 : Fin 2)).isLt
  have e : x = ix2 0 ⟨(x (1 : Fin 2)).val, (x (1 : Fin 2)).isLt⟩ := by
    refine funext fun a => Fin.ext ?_
    match a with
    | ⟨0, _⟩ => show (x (0 : Fin 2)).val = 0; omega
    | ⟨1, _⟩ => rfl
  refine (congrArg (v k) e).trans (congrArg₂ (fun a b => v a (ix2 0 b)) (Fin.ext ?_) (Fin.ext ?_))
  · show k.val = k.val + 1 * (x (0 : Fin 2)).val; omega
  · show (x (1 : Fin 2)).val = 0 + 1 * (x (1 : Fin 2)).val; omega

/-- Four rows stored one after the other leave the stack. -/
theorem stored_rows (v0 v1 v2 v3 : IVec S1x512 32) (y : S4x512.Idx) :
    View.canon (Val := Elt Ideal) (s := S4x512) (e := .i32) [⟨Rect.unit (s := S4x512) ![3, 0] S1x512.size inb_S4x512_S1x512_3_0, v3⟩,
      ⟨Rect.unit (s := S4x512) ![2, 0] S1x512.size inb_S4x512_S1x512_2_0, v2⟩, ⟨Rect.unit (s := S4x512) ![1, 0] S1x512.size inb_S4x512_S1x512_1_0, v1⟩,
      ⟨Rect.unit (s := S4x512) ![0, 0] S1x512.size inb_S4x512_S1x512_0_0, v0⟩] y = stacked ![v0, v1, v2, v3] y := by
  refine View.canon_apply_of_pieces (Val := Elt Ideal) (e := .i32) (stacked ![v0, v1, v2, v3]) _ ?_ _ (View.cover_of_tiledL (s := S4x512) _ (![1, 512] : Fin 2 → ℕ) (by sl_kernel_rfl) y)
  intro pc hpc
  rcases List.mem_cons.mp hpc with rfl | hpc
  · exact fun x => stacked_at ![v0, v1, v2, v3] 3 inb_S4x512_S1x512_3_0 x
  rcases List.mem_cons.mp hpc with rfl | hpc
  · exact fun x => stacked_at ![v0, v1, v2, v3] 2 inb_S4x512_S1x512_2_0 x
  rcases List.mem_cons.mp hpc with rfl | hpc
  · exact fun x => stacked_at ![v0, v1, v2, v3] 1 inb_S4x512_S1x512_1_0 x
  rcases List.mem_cons.mp hpc with rfl | hpc
  · exact fun x => stacked_at ![v0, v1, v2, v3] 0 inb_S4x512_S1x512_0_0 x
  nomatch hpc

/-- The four rounds' rows over the logits. -/
def picks (w : FVec Ideal S32x512 .f32) : IVec S4x512 32 :=
  stacked ![pick w, pick (strike w), pick (strike (strike w)), pick (strike (strike (strike w)))]

/-- A block's logits, of the blocks they are computed from. -/
def logitsOf (x : FVec Ideal S512x2048 .f32) (o : FVec Ideal S512x1024 .bf16) (wo : FVec Ideal S1024x2048 .bf16) (p : FVec Ideal S512x1024 .bf16)
    (wp : FVec Ideal S1024x2048 .bf16) (g : FVec Ideal S1x2048 .f32) (hi lo : FVec Ideal S32x2048 .bf16) (b : FVec Ideal S32x1 .f32) : FVec Ideal S32x512 .f32 :=
  k0_pay11 (F := Ideal) (k0_pay9 (F := Ideal) x o wo p wp g) (k0_pay10 (F := Ideal) x o wo p wp g) hi hi lo b

section
variable (c : Dev nD) (i : grid0.Coords)
  (arg1 : Memref sig .tc .vmem S512x1024 .bf16) (harg1 : arg1.IsWhole)
  (arg2 : Memref sig .tc .vmem S512x1024 .bf16) (harg2 : arg2.IsWhole)
  (arg3 : Memref sig .tc .vmem S512x2048 .f32) (harg3 : arg3.IsWhole)
  (arg4 : Memref sig .tc .vmem S1024x2048 .bf16) (harg4 : arg4.IsWhole)
  (arg5 : Memref sig .tc .vmem S1024x2048 .bf16) (harg5 : arg5.IsWhole)
  (arg6 : Memref sig .tc .vmem S1x2048 .f32) (harg6 : arg6.IsWhole)
  (arg7 : Memref sig .tc .vmem S32x2048 .bf16) (harg7 : arg7.IsWhole)
  (arg8 : Memref sig .tc .vmem S32x2048 .bf16) (harg8 : arg8.IsWhole)
  (arg9 : Memref sig .tc .vmem S32x1 .f32) (harg9 : arg9.IsWhole)
  (arg10 : Memref sig .tc .vmem S512x2048 .f32) (harg10 : arg10.IsWhole)
  (arg11 : Memref sig .tc .vmem S512x2048 .f32) (harg11 : arg11.IsWhole)
  (arg12 : Memref sig .tc .vmem S4x512 .i32) (harg12 : arg12.IsWhole)
  (arg13 : Memref sig .tc .vmem S4x512 .i32) (harg13 : arg13.IsWhole)
  (arg14 : Memref sig .tc .vmem S4x512 .f32) (harg14 : arg14.IsWhole)
  (arg15 : Memref sig .tc .vmem S32x128 .i32) (harg15 : arg15.IsWhole)
  (arg16 : Memref sig .tc .vmem S32x128 .f32) (harg16 : arg16.IsWhole)
  (x0 : Vec Ideal S512x1024 .bf16) (x1 : Vec Ideal S512x1024 .bf16) (x2 : Vec Ideal S512x2048 .f32) (x3 : Vec Ideal S1024x2048 .bf16) (x4 : Vec Ideal S1024x2048 .bf16) (x5 : Vec Ideal S1x2048 .f32) (x6 : Vec Ideal S32x2048 .bf16) (x7 : Vec Ideal S32x2048 .bf16) (x8 : Vec Ideal S32x1 .f32)

/-- The first point leaves the four rounds' rows in its block. -/
theorem chosen_A (hc0 : cond0_0 i) :
    out0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = picks (logitsOf x2 x0 x3 x1 x4 x5 x6 x7 x8) := by
  unfold out0_A_11
  rw [View.read_writes_eq_canon _ _ _ (cover0_A_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread,
    harg7.read_unread, harg8.read_unread, harg9.read_unread,
    View.ld_unit_zero (S := S512x1024) origin, View.ld_unit_zero (S := S512x2048) origin, View.ld_unit_zero (S := S1024x2048) origin,
    View.ld_unit_zero (S := S1x2048) origin, View.ld_unit_zero (S := S32x2048) origin, View.ld_unit_zero (S := S32x1) origin]
  funext y
  exact stored_rows _ _ _ _ y

/-- A later point leaves the four rounds' rows in its block. -/
theorem chosen_B (hc0 : ¬cond0_0 i) (xs0 : Vec Ideal S32x128 .f32) :
    out0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 = picks (logitsOf x2 x0 x3 x1 x4 x5 x6 x7 x8) := by
  unfold out0_B_11
  rw [View.read_writes_eq_canon _ _ _ (cover0_B_11 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0)]
  unfold kernelRun0_B
  dsimp only
  sl_unfold_words
  simp only [View.readAt_eq_ld, harg1.read_unread, harg2.read_unread, harg3.read_unread, harg4.read_unread, harg5.read_unread, harg6.read_unread,
    harg7.read_unread, harg8.read_unread, harg9.read_unread,
    View.ld_unit_zero (S := S512x1024) origin, View.ld_unit_zero (S := S512x2048) origin, View.ld_unit_zero (S := S1024x2048) origin,
    View.ld_unit_zero (S := S1x2048) origin, View.ld_unit_zero (S := S32x2048) origin, View.ld_unit_zero (S := S32x1) origin]
  funext y
  exact stored_rows _ _ _ _ y

end

end Cert.Kernel5Ideal.Router

end
-- ==== Proof.RouterResult.lean ====
module

public import proofs.«01_k».proof.Proof.RouterRuns
public import proofs.«01_k».proof.Proof.RouterSpec
public import proofs.«01_k».proof.Proof.Gen.Kernel5Ideal.Value

@[expose] public section

set_option maxRecDepth 16384
set_option Elab.async false

noncomputable section

namespace Cert.Kernel5Ideal.Router

open Cert.Kernel5Ideal Cert.Kernel5Ideal.Gen
open Idealize.ShloMosaic
open Idealize.ShloMosaic.TcCoe Idealize.ShloMosaic.Tactic
open Idealize.ShloMosaic.Pipeline (Dat Cfg Window)
open Cert.InProjection (normed)
open Cert.OutProjection (mixed ready)
open Cert.Router (IsReal logit choice)

/-! # The array of chosen experts the router's run leaves

Point `t` of the grid is row block `t` of the tokens, column block `t` of the chosen experts. -/

/-- A block that moves with the point starts at row block `t`; the chosen experts' at column block `t`. -/
theorem spot : ∀ t : Fin grid0.N,
    (cc0_transform_0 (grid0.coords t) 0 = t.val ∧ cc0_transform_0 (grid0.coords t) 1 = 0)
    ∧ (cc0_transform_1 (grid0.coords t) 0 = t.val ∧ cc0_transform_1 (grid0.coords t) 1 = 0)
    ∧ (cc0_transform_2 (grid0.coords t) 0 = t.val ∧ cc0_transform_2 (grid0.coords t) 1 = 0)
    ∧ (cc0_transform_11 (grid0.coords t) 0 = 0 ∧ cc0_transform_11 (grid0.coords t) 1 = t.val) := by decide +kernel

/-- There are 32 points. -/
theorem point_lt (t : Fin grid0.N) : t.val < 32 := lt_of_lt_of_eq t.isLt N_0

variable (m : (ℓ : Loc nD τ sig) → Buf (Elt Ideal) ℓ)

/-- A row of the tokens' array. -/
def rowAt (t : Fin grid0.N) (p : Fin 512) : Fin 16384 := ⟨t.val * 512 + p.val, by have := point_lt t; omega⟩

/-- The first attention's outputs the kernel is launched with. -/
abbrev argO (c : Dev nD) : S16384x1024.Idx → EReal := m ((c.tc : Thread nD τ).loc main_arg0)
/-- The second attention's outputs. -/
abbrev argP (c : Dev nD) : S16384x1024.Idx → EReal := m ((c.tc : Thread nD τ).loc main_arg1)
/-- The tokens. -/
abbrev argX (c : Dev nD) : S16384x2048.Idx → EReal := m ((c.tc : Thread nD τ).loc main_arg2)
/-- The first attention's half of the weights. -/
abbrev argWO (c : Dev nD) : S1024x2048.Idx → EReal := m ((c.tc : Thread nD τ).loc main_arg3)
/-- The second attention's half. -/
abbrev argWP (c : Dev nD) : S1024x2048.Idx → EReal := m ((c.tc : Thread nD τ).loc main_arg4)
/-- The rows' gain. -/
abbrev argG (c : Dev nD) : S1x2048.Idx → EReal := m ((c.tc : Thread nD τ).loc main_arg5)
/-- The router's weights, their high part. -/
abbrev argHi (c : Dev nD) : S32x2048.Idx → EReal := m ((c.tc : Thread nD τ).loc main_arg6)
/-- Their low part. -/
abbrev argLo (c : Dev nD) : S32x2048.Idx → EReal := m ((c.tc : Thread nD τ).loc main_arg7)
/-- The router's biases. -/
abbrev argB (c : Dev nD) : S32x1.Idx → EReal := m ((c.tc : Thread nD τ).loc main_arg8)

/-- The first attention's block at an index. -/
theorem o_at (c : Dev nD) (t : Fin grid0.N) (p : Fin 512) (k : Fin 1024) : iblk m c 0 t (ix2 p k) = argO m c (ix2 (rowAt t p) k) := by
  have e := (spot t).1
  refine congrArg (argO m c) (funext fun a => Fin.ext ?_)
  match a with
  | ⟨0, _⟩ => show cc0_transform_0 (grid0.coords t) 0 * 512 + 1 * p.val = t.val * 512 + p.val; rw [e.1]; omega
  | ⟨1, _⟩ => show cc0_transform_0 (grid0.coords t) 1 * 1024 + 1 * k.val = k.val; rw [e.2]; omega

/-- The second attention's block at an index. -/
theorem p_at (c : Dev nD) (t : Fin grid0.N) (p : Fin 512) (k : Fin 1024) : iblk m c 1 t (ix2 p k) = argP m c (ix2 (rowAt t p) k) := by
  have e := (spot t).2.1
  refine congrArg (argP m c) (funext fun a => Fin.ext ?_)
  match a with
  | ⟨0, _⟩ => show cc0_transform_1 (grid0.coords t) 0 * 512 + 1 * p.val = t.val * 512 + p.val; rw [e.1]; omega
  | ⟨1, _⟩ => show cc0_transform_1 (grid0.coords t) 1 * 1024 + 1 * k.val = k.val; rw [e.2]; omega

/-- The tokens' block at an index. -/
theorem x_at (c : Dev nD) (t : Fin grid0.N) (p : Fin 512) (d : Fin 2048) : iblk m c 2 t (ix2 p d) = argX m c (ix2 (rowAt t p) d) := by
  have e := (spot t).2.2.1
  refine congrArg (argX m c) (funext fun a => Fin.ext ?_)
  match a with
  | ⟨0, _⟩ => show cc0_transform_2 (grid0.coords t) 0 * 512 + 1 * p.val = t.val * 512 + p.val; rw [e.1]; omega
  | ⟨1, _⟩ => show cc0_transform_2 (grid0.coords t) 1 * 2048 + 1 * d.val = d.val; rw [e.2]; omega

/-- The first half of the weights at an index. -/
theorem wo_at (c : Dev nD) (t : Fin grid0.N) (k : Fin 1024) (d : Fin 2048) : iblk m c 3 t (ix2 k d) = argWO m c (ix2 k d) := by
  refine congrArg (argWO m c) (funext fun a => Fin.ext ?_)
  match a with
  | ⟨0, _⟩ => show 0 * 1024 + 1 * k.val = k.val; omega
  | ⟨1, _⟩ => show 0 * 2048 + 1 * d.val = d.val; omega

/-- The second half at an index. -/
theorem wp_at (c : Dev nD) (t : Fin grid0.N) (k : Fin 1024) (d : Fin 2048) : iblk m c 4 t (ix2 k d) = argWP m c (ix2 k d) := by
  refine congrArg (argWP m c) (funext fun a => Fin.ext ?_)
  match a with
  | ⟨0, _⟩ => show 0 * 1024 + 1 * k.val = k.val; omega
  | ⟨1, _⟩ => show 0 * 2048 + 1 * d.val = d.val; omega

/-- The rows' gain at an index. -/
theorem g_at (c : Dev nD) (t : Fin grid0.N) (d : Fin 2048) : iblk m c 5 t (ix2 0 d) = argG m c (ix2 0 d) := by
  refine congrArg (argG m c) (funext fun a => Fin.ext ?_)
  match a with
  | ⟨0, _⟩ => show 0 * 1 + 1 * 0 = 0; omega
  | ⟨1, _⟩ => show 0 * 2048 + 1 * d.val = d.val; omega

/-- The high part of the router's weights at an index. -/
theorem hi_at (c : Dev nD) (t : Fin grid0.N) (e : Fin 32) (d : Fin 2048) : iblk m c 6 t (ix2 e d) = argHi m c (ix2 e d) := by
  refine congrArg (argHi m c) (funext fun a => Fin.ext ?_)
  match a with
  | ⟨0, _⟩ => show 0 * 32 + 1 * e.val = e.val; omega
  | ⟨1, _⟩ => show 0 * 2048 + 1 * d.val = d.val; omega

/-- The low part at an index. -/
theorem lo_at (c : Dev nD) (t : Fin grid0.N) (e : Fin 32) (d : Fin 2048) : iblk m c 7 t (ix2 e d) = argLo m c (ix2 e d) := by
  refine congrArg (argLo m c) (funext fun a => Fin.ext ?_)
  match a with
  | ⟨0, _⟩ => show 0 * 32 + 1 * e.val = e.val; omega
  | ⟨1, _⟩ => show 0 * 2048 + 1 * d.val = d.val; omega

/-- The router's biases at an index. -/
theorem b_at (c : Dev nD) (t : Fin grid0.N) (e : Fin 32) : iblk m c 8 t (ix2 e 0) = argB m c (ix2 e 0) := by
  refine congrArg (argB m c) (funext fun a => Fin.ext ?_)
  match a with
  | ⟨0, _⟩ => show 0 * 32 + 1 * e.val = e.val; omega
  | ⟨1, _⟩ => show 0 * 1 + 1 * 0 = 0; omega

/-- The tokens with the projections added, at an index, of any blocks. -/
theorem sum_at (x : FVec Ideal S512x2048 .f32) (o p : FVec Ideal S512x1024 .bf16) (wo wp : FVec Ideal S1024x2048 .bf16) (r : Fin 512) (d : Fin 2048) :
    k0_pay7 x o wo p wp (ix2 r d) = x (ix2 r d) + (∑ k : Fin 1024, o (ix2 r k) * wo (ix2 k d)) + ∑ k : Fin 1024, p (ix2 r k) * wp (ix2 k d) := by
  pointwise [k0_pay7]

/-- The normalised rows at an index are the sums', normalised. -/
theorem norm_at (x : FVec Ideal S512x2048 .f32) (o p : FVec Ideal S512x1024 .bf16) (wo wp : FVec Ideal S1024x2048 .bf16) (g : FVec Ideal S1x2048 .f32)
    (r : Fin 512) (d : Fin 2048) :
    k0_pay8 (F := Ideal) x o wo p wp g (ix2 r d) = normed 0x45000000#32 (fun d => k0_pay7 (F := Ideal) x o wo p wp (ix2 r d)) (fun d => g (ix2 0 d)) d := by
  unfold k0_pay8 normed
  pointwise [k0_pay7]

/-- The logits at an index, of any normalised rows and what rounding leaves of them. -/
theorem logits_at (u v : FVec Ideal S512x2048 .bf16) (hi lo : FVec Ideal S32x2048 .bf16) (b : FVec Ideal S32x1 .f32) (e : Fin 32) (q : Fin 512) :
    k0_pay11 (F := Ideal) u v hi hi lo b (ix2 e q) = (∑ k : Fin 2048, hi (ix2 e k) * u (ix2 q k)) + (∑ k : Fin 2048, hi (ix2 e k) * v (ix2 q k))
      + (∑ k : Fin 2048, lo (ix2 e k) * u (ix2 q k)) + b (ix2 e 0) := by
  pointwise [k0_pay11]

/-- A point's normalised rows. -/
def normOf (c : Dev nD) (t : Fin grid0.N) : FVec Ideal S512x2048 .f32 :=
  k0_pay8 (iblk m c 2 t) (iblk m c 0 t) (iblk m c 3 t) (iblk m c 1 t) (iblk m c 4 t) (iblk m c 5 t)

/-- A point's logits. -/
def scoreOf (c : Dev nD) (t : Fin grid0.N) : FVec Ideal S32x512 .f32 :=
  logitsOf (iblk m c 2 t) (iblk m c 0 t) (iblk m c 3 t) (iblk m c 1 t) (iblk m c 4 t) (iblk m c 5 t) (iblk m c 6 t) (iblk m c 7 t) (iblk m c 8 t)

/-- Every point leaves the four rounds' rows over its logits in its block of chosen experts. -/
theorem left11 (c : Dev nD) (t : Fin cfg0.N) : (outsAt0 m c t.val t.isLt).2.2.1 = picks (scoreOf m c t) := by
  by_cases h0 : t.val % 32 = 0
  · simp only [outsAt0_A m c t h0]
    rw [chosen_A]
    rfl
  · simp only [outsAt0_B m c t h0]
    rw [chosen_B]
    rfl

/-- A point's normalised rows at an index are the formula's. -/
theorem normOf_at (c : Dev nD) (t : Fin grid0.N) (p : Fin 512) (d : Fin 2048) :
    normOf m c t (ix2 p d) = ready (argO m c) (argP m c) (argX m c) (argWO m c) (argWP m c) (argG m c) (rowAt t p) d := by
  unfold normOf ready
  refine (norm_at _ _ _ _ _ _ p d).trans ?_
  refine congrArg₂ (fun v g => normed 0x45000000#32 v g d) (funext fun d => ?_) (funext fun d => g_at m c t d)
  unfold mixed
  refine (sum_at _ _ _ _ _ p d).trans ?_
  simp only [o_at, p_at, x_at, wo_at, wp_at]

/-- The gains, the router's weights and its biases are of reals. -/
structure Reals (c : Dev nD) : Prop where
  /-- The gains are. -/
  hg : ∀ i, IsReal (argG m c i)
  /-- The high part of the router's weights is. -/
  hhi : ∀ i, IsReal (argHi m c i)
  /-- The low part is. -/
  hlo : ∀ i, IsReal (argLo m c i)
  /-- The biases are. -/
  hb : ∀ i, IsReal (argB m c i)

variable {m}

/-- A logit the formula describes. -/
abbrev logitAt (m : (ℓ : Loc nD τ sig) → Buf (Elt Ideal) ℓ) (c : Dev nD) : Fin 16384 → Fin 32 → EReal :=
  logit (argO m c) (argP m c) (argX m c) (argWO m c) (argWP m c) (argG m c) (argHi m c) (argLo m c) (argB m c)

/-- It is real, of real gains, weights and biases. -/
theorem logitAt_real {c : Dev nD} (h : Reals m c) (r : Fin 16384) (e : Fin 32) : IsReal (logitAt m c r e) :=
  Cert.Router.logit_real _ _ _ _ _ _ _ _ _ h.hg h.hhi h.hlo h.hb r e

/-- A point's logits at an index are the formula's, of real gains, weights and biases. -/
theorem scoreOf_at {c : Dev nD} (h : Reals m c) (t : Fin grid0.N) (e : Fin 32) (q : Fin 512) : scoreOf m c t (ix2 e q) = logitAt m c (rowAt t q) e := by
  have hr : ∀ d : Fin 2048, IsReal (normOf m c t (ix2 q d)) := fun d => by
    rw [normOf_at]
    exact Cert.Router.ready_real _ _ _ _ _ _ h.hg _ d
  refine (logits_at _ _ _ _ _ e q).trans ?_
  refine Eq.trans (b := (∑ d : Fin 2048, argHi m c (ix2 e d) * normOf m c t (ix2 q d))
      + (∑ d : Fin 2048, argHi m c (ix2 e d) * (normOf m c t (ix2 q d) - normOf m c t (ix2 q d)))
      + (∑ d : Fin 2048, argLo m c (ix2 e d) * normOf m c t (ix2 q d)) + argB m c (ix2 e 0)) ?_ ?_
  · simp only [hi_at, lo_at, b_at]
    rfl
  · rw [Cert.Router.split _ _ _ hr (fun d => h.hhi _) (fun d => h.hlo _)]
    unfold logitAt logit
    simp only [normOf_at]

/-- Rows stacked, at an index. -/
theorem stacked_ix (v : Fin 4 → IVec S1x512 32) (k : Fin 4) (q : Fin 512) : stacked v (ix2 k q) = v k (ix2 0 q) := rfl

/-- The four rounds' rows at an index, over logits none of which is minus infinity. -/
theorem picks_at (w : FVec Ideal S32x512 .f32) (k : Fin 4) (q : Fin 512) (hl : ∀ e : Fin 32, w (ix2 e q) ≠ ⊥) (j : Fin 32) (hj : j.val = k.val) :
    picks w (ix2 k q) = BitVec.ofNat 32 (Cert.Router.place (fun e => w (ix2 e q)) j).val := by
  obtain ⟨a, b, d, e⟩ := rounds w q hl
  unfold picks
  rw [stacked_ix]
  generalize pick w = u0 at *
  generalize pick (strike w) = u1 at *
  generalize pick (strike (strike w)) = u2 at *
  generalize pick (strike (strike (strike w))) = u3 at *
  generalize Cert.Router.place (fun e => w (ix2 e q)) = f at *
  match k with
  | 0 => obtain rfl : j = 0 := Fin.ext hj; exact a
  | 1 => obtain rfl : j = 1 := Fin.ext hj; exact b
  | 2 => obtain rfl : j = 2 := Fin.ext hj; exact d
  | 3 => obtain rfl : j = 3 := Fin.ext hj; exact e

/-- The array of chosen experts the formula describes. -/
def chosenArr (m : (ℓ : Loc nD τ sig) → Buf (Elt Ideal) ℓ) (c : Dev nD) (i : S4x16384.Idx) : BitVec 32 :=
  choice (argO m c) (argP m c) (argX m c) (argWO m c) (argWP m c) (argG m c) (argHi m c) (argLo m c) (argB m c) (i (0 : Fin 2)) (i (1 : Fin 2))

/-- A point's rows at an index are the formula's. -/
theorem chosen_at {c : Dev nD} (h : Reals m c) (t : Fin grid0.N) (k : Fin 4) (q : Fin 512) :
    picks (scoreOf m c t) (ix2 k q) = choice (argO m c) (argP m c) (argX m c) (argWO m c) (argWP m c) (argG m c) (argHi m c) (argLo m c) (argB m c) k (rowAt t q) := by
  have e : (fun e => scoreOf m c t (ix2 e q)) = logitAt m c (rowAt t q) := funext fun e => scoreOf_at h t e q
  rw [picks_at (scoreOf m c t) k q (fun e => by rw [scoreOf_at h]; exact (logitAt_real h _ _).ne_bot) (Fin.castLE (by decide) k) rfl, e]
  rfl

/-- The array of chosen experts the run leaves is the formula's, of real gains, weights and biases. -/
theorem chosen_eq {c : Dev nD} (h : Reals m c) : (dats m (0 : Fin 1) c).arrAt 11 cfg0.N = chosenArr m c := by
  refine (dats m (0 : Fin 1) c).arrAt_eq_of_cover 11 (chosenArr m c) (fun t hflush => ?_) fun i => (Value.covered_iff11 i).2
    ⟨Nat.zero_le _, (i (0 : Fin 2)).isLt, Nat.zero_le _, (i (1 : Fin 2)).isLt⟩
  rw [Value.flushed11, left11]
  funext y
  obtain ⟨k, hk⟩ : ∃ k : Fin 4, k.val = (y (0 : Fin 2)).val := ⟨⟨(y (0 : Fin 2)).val, (show (y (0 : Fin 2)).val < 4 from (y (0 : Fin 2)).isLt)⟩, rfl⟩
  obtain ⟨q, hq⟩ : ∃ q : Fin 512, q.val = (y (1 : Fin 2)).val := ⟨⟨(y (1 : Fin 2)).val, (show (y (1 : Fin 2)).val < 512 from (y (1 : Fin 2)).isLt)⟩, rfl⟩
  have hy : (cfg0.win 11).xinj (cfg0.grid.coords t) y = ix2 k q := by
    refine funext fun a => Fin.ext ?_
    match a with
    | ⟨0, _⟩ => exact hk.symm
    | ⟨1, _⟩ => exact hq.symm
  refine Eq.trans (b := picks (scoreOf m c t) (ix2 k q)) (congrArg (picks (scoreOf m c t)) hy) ((chosen_at h t k q).trans ?_)
  have e := (spot t).2.2.2
  refine congrArg₂ (choice (argO m c) (argP m c) (argX m c) (argWO m c) (argWP m c) (argG m c) (argHi m c) (argLo m c) (argB m c)) (Fin.ext ?_) (Fin.ext ?_)
  · show k.val = cc0_transform_11 (grid0.coords t) 0 * 4 + 1 * (y (0 : Fin 2)).val
    rw [e.1, hk]; omega
  · show t.val * 512 + q.val = cc0_transform_11 (grid0.coords t) 1 * 512 + 1 * (y (1 : Fin 2)).val
    rw [e.2, hq]; omega

end Cert.Kernel5Ideal.Router

end
-- ==== Proof.RouterShare.lean ====
module

public import proofs.«01_k».proof.Proof.RouterSpec

@[expose] public section

noncomputable section

namespace Cert.Router

open Idealize.ShloMosaic
open Cert.InProjection (Tokens Gain)
open Cert.OutProjection (Heads Half)

/-! # A token's shares of its chosen experts -/

/-- The softmax of four numbers, of each less the first, at a place. -/
def softened (v : Fin 4 → EReal) (k : Fin 4) : EReal := Ideal.div (Ideal.exp (v k - v 0)) (∑ j : Fin 4, Ideal.exp (v j - v 0))

/-- The four largest of 32 numbers, in the order of their places. -/
def leading (l : Fin 32 → EReal) (k : Fin 4) : EReal := l (place l (Fin.castLE (by decide) k))

/-- None of them exceeds the first. -/
theorem leading_le (l : Fin 32 → EReal) (k : Fin 4) : leading l k ≤ leading l 0 := by
  rcases Nat.eq_zero_or_pos k.val with h | h
  · obtain rfl : k = 0 := Fin.ext h
    exact le_refl _
  · rcases place_ahead l (Fin.castLE (by decide) (0 : Fin 4)) (Fin.castLE (by decide) k) (Fin.lt_def.2 h) with e | e
    · exact le_of_lt e
    · exact le_of_eq e.1.symm

/-- The share a token gives the expert it chooses at a place. -/
def gate (o p : Heads.Idx → EReal) (x : Tokens.Idx → EReal) (wo wp : Half.Idx → EReal) (g : Gain.Idx → EReal) (hi lo : Table.Idx → EReal)
    (b : Bias.Idx → EReal) (k : Fin 4) (r : Fin 16384) : EReal :=
  softened (leading (logit o p x wo wp g hi lo b r)) k

end Cert.Router

end
-- ==== Proof.RouterGates.lean ====
module

public import proofs.«01_k».proof.Proof.RouterResult
public import proofs.«01_k».proof.Proof.RouterShare

@[expose] public section

set_option maxRecDepth 16384
set_option Elab.async false

noncomputable section

namespace Cert.Kernel5Ideal.Router

open Cert.Kernel5Ideal Cert.Kernel5Ideal.Gen
open Idealize.ShloMosaic
open Idealize.ShloMosaic.TcCoe Idealize.ShloMosaic.Tactic
open Idealize.ShloMosaic.Pipeline (Dat Cfg Window)
open Cert.Router (softened leading place left left_zero left_le left_place gate)

/-! # The array of shares the router's run leaves -/

/-- Four rows of numbers, one under the other. -/
def piled (v : Fin 4 → FVec Ideal S1x512 .f32) (y : S4x512.Idx) : EReal := v (y (0 : Fin 2)) (ix2 0 (y (1 : Fin 2)))

/-- A row of numbers stored at its place is that row of the pile. -/
theorem piled_at (v : Fin 4 → FVec Ideal S1x512 .f32) (k : Fin 4) (inb : ∀ a : Fin 2, (![k.val, 0] : Fin 2 → Nat) a + S1x512.size a ≤ S4x512.size a) (x : S1x512.Idx) :
    v k x = piled v ((Rect.unit (s := S4x512) ![k.val, 0] S1x512.size inb).emb x) := by
  have h0 : (x (0 : Fin 2)).val < 1 := (x (0 : Fin 2)).isLt
  have e : x = ix2 0 ⟨(x (1 : Fin 2)).val, (x (1 : Fin 2)).isLt⟩ := by
    refine funext fun a => Fin.ext ?_
    match a with
    | ⟨0, _⟩ => show (x (0 : Fin 2)).val = 0; omega
    | ⟨1, _⟩ => rfl
  refine (congrArg (v k) e).trans (congrArg₂ (fun a b => v a (ix2 0 b)) (Fin.ext ?_) (Fin.ext ?_))
  · show k.val = k.val + 1 * (x (0 : Fin 2)).val; omega
  · show (x (1 : Fin 2)).val = 0 + 1 * (x (1 : Fin 2)).val; omega

/-- Four rows of numbers stored one after the other leave the pile. -/
theorem stored_numbers (v0 v1 v2 v3 : FVec Ideal S1x512 .f32) (y : S4x512.Idx) :
    View.canon (Val := Elt Ideal) (s := S4x512) (e := .f32) [⟨Rect.unit (s := S4x512) ![3, 0] S1x512.size inb_S4x512_S1x512_3_0, v3⟩,
      ⟨Rect.unit (s := S4x512) ![2, 0] S1x512.size inb_S4x512_S1x512_2_0, v2⟩, ⟨Rect.unit (s := S4x512) ![1, 0] S1x512.size inb_S4x512_S1x512_1_0, v1⟩,
      ⟨Rect.unit (s := S4x512) ![0, 0] S1x512.size inb_S4x512_S1x512_0_0, v0⟩] y = piled ![v0, v1, v2, v3] y := by
  refine View.canon_apply_of_pieces (Val := Elt Ideal) (e := .f32) (piled ![v0, v1, v2, v3]) _ ?_ _ (View.cover_of_tiledL (s := S4x512) _ (![1, 512] : Fin 2 → ℕ) (by sl_kernel_rfl) y)
  intro pc hpc
  rcases List.mem_cons.mp hpc with rfl | hpc
  · exact fun x => piled_at ![v0, v1, v2, v3] 3 inb_S4x512_S1x512_3_0 x
  rcases List.mem_cons.mp hpc with rfl | hpc
  · exact fun x => piled_at ![v0, v1, v2, v3] 2 inb_S4x512_S1x512_2_0 x
  rcases List.mem_cons.mp hpc with rfl | hpc
  · exact fun x => piled_at ![v0, v1, v2, v3] 1 inb_S4x512_S1x512_1_0 x
  rcases List.mem_cons.mp hpc with rfl | hpc
  · exact fun x => piled_at ![v0, v1, v2, v3] 0 inb_S4x512_S1x512_0_0 x
  nomatch hpc

/-- The exponential of a row less another. -/
def raised (u v : FVec Ideal S1x512 .f32) : FVec Ideal S1x512 .f32 := exp (subf u v)

/-- The sum of the four rows' exponentials, each less the first. -/
def total (u0 u1 u2 u3 : FVec Ideal S1x512 .f32) : FVec Ideal S1x512 .f32 :=
  addf (addf (addf (raised u0 u0) (raised u1 u0)) (raised u2 u0)) (raised u3 u0)

/-- The four rows' softmax. -/
def shared (u0 u1 u2 u3 : FVec Ideal S1x512 .f32) (y : S4x512.Idx) : EReal :=
  piled ![divf (raised u0 u0) (total u0 u1 u2 u3), divf (raised u1 u0) (total u0 u1 u2 u3), divf (raised u2 u0) (total u0 u1 u2 u3),
    divf (raised u3 u0) (total u0 u1 u2 u3)] y

/-- The four rounds' largest entries over the logits, their softmax. -/
def gates (w : FVec Ideal S32x512 .f32) : FVec Ideal S4x512 .f32 := shared (top w) (top (strike w)) (top (strike (strike w))) (top (strike (strike (strike w))))

section
variable (c : Dev nD) (i : grid0.Coords)
  (arg1 : Memref sig .tc .vmem S512x1024 .bf16) (harg1 : arg1.IsWhole)
  (arg2 : Memref sig .tc .vmem S512x1024 .bf16) (harg2 : arg2.IsWhole)
  (arg3 : Memref sig .tc .vmem S512x2048 .f32) (harg3 : arg3.IsWhole)
  (arg4 : Memref sig .tc .vmem S1024x2048 .bf16) (harg4 : arg4.IsWhole)
  (arg5 : Memref sig .tc .vmem S1024x2048 .bf16) (harg5 : arg5.IsWhole)
  (arg6 : Memref sig .tc .vmem S1x2048 .f32) (harg6 : arg6.IsWhole)
  (arg7 : Memref sig .tc .vmem S32x2048 .bf16) (harg7 : arg7.IsWhole)
  (arg8 : Memref sig .tc .vmem S32x2048 .bf16) (harg8 : arg8.IsWhole)
  (arg9 : Memref sig .tc .vmem S32x1 .f32) (harg9 : arg9.IsWhole)
  (arg10 : Memref sig .tc .vmem S512x2048 .f32) (harg10 : arg10.IsWhole)
  (arg11 : Memref sig .tc .vmem S512x2048 .f32) (harg11 : arg11.IsWhole)
  (arg12 : Memref sig .tc .vmem S4x512 .i32) (harg12 : arg12.IsWhole)
  (arg13 : Memref sig .tc .vmem S4x512 .i32) (harg13 : arg13.IsWhole)
  (arg14 : Memref sig .tc .vmem S4x512 .f32) (harg14 : arg14.IsWhole)
  (arg15 : Memref sig .tc .vmem S32x128 .i32) (harg15 : arg15.IsWhole)
  (arg16 : Memref sig .tc .vmem S32x128 .f32) (harg16 : arg16.IsWhole)
  (x0 : Vec Ideal S512x1024 .bf16) (x1 : Vec Ideal S512x1024 .bf16) (x2 : Vec Ideal S512x2048 .f32) (x3 : Vec Ideal S1024x2048 .bf16) (x4 : Vec Ideal S1024x2048 .bf16) (x5 : Vec Ideal S1x2048 .f32) (x6 : Vec Ideal S32x2048 .bf16) (x7 : Vec Ideal S32x2048 .bf16) (x8 : Vec Ideal S32x1 .f32)

/-- The first point leaves the softmax in its block. -/
theorem gates_A (hc0 : cond0_0 i) :
    out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 = gates (logitsOf x2 x0 x3 x1 x4 x5 x6 x7 x8) := by
  unfold out0_A_13
  rw [View.read_writes_eq_canon _ _ _ (cover0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread,
    harg7.read_unread, harg8.read_unread, harg9.read_unread,
    View.ld_unit_zero (S := S512x1024) origin, View.ld_unit_zero (S := S512x2048) origin, View.ld_unit_zero (S := S1024x2048) origin,
    View.ld_unit_zero (S := S1x2048) origin, View.ld_unit_zero (S := S32x2048) origin, View.ld_unit_zero (S := S32x1) origin]
  funext y
  exact stored_numbers _ _ _ _ y

/-- A later point leaves the softmax in its block. -/
theorem gates_B (hc0 : ¬cond0_0 i) (xs0 : Vec Ideal S32x128 .f32) :
    out0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0 = gates (logitsOf x2 x0 x3 x1 x4 x5 x6 x7 x8) := by
  unfold out0_B_13
  rw [View.read_writes_eq_canon _ _ _ (cover0_B_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 hc0 x0 x1 x2 x3 x4 x5 x6 x7 x8 xs0)]
  unfold kernelRun0_B
  dsimp only
  sl_unfold_words
  simp only [View.readAt_eq_ld, harg1.read_unread, harg2.read_unread, harg3.read_unread, harg4.read_unread, harg5.read_unread, harg6.read_unread,
    harg7.read_unread, harg8.read_unread, harg9.read_unread,
    View.ld_unit_zero (S := S512x1024) origin, View.ld_unit_zero (S := S512x2048) origin, View.ld_unit_zero (S := S1024x2048) origin,
    View.ld_unit_zero (S := S1x2048) origin, View.ld_unit_zero (S := S32x2048) origin, View.ld_unit_zero (S := S32x1) origin]
  funext y
  exact stored_numbers _ _ _ _ y

end

/-- The largest entry a round finds over what is left of a column is the next leading one. -/
theorem top_left (w : FVec Ideal S32x512 .f32) (q : Fin 512) (l : Fin 32 → EReal) (r : Fin 32) (k : Fin 4) (hk : r = Fin.castLE (by decide) k)
    (hw : ∀ e : Fin 32, w (ix2 e q) = left l r.val e) : top w (ix2 0 q) = leading l k := by
  rw [top_eq w q (place l r) fun e => by rw [hw, hw]; exact left_le l r e, hw, left_place]
  subst hk
  rfl

/-- The four rounds find the four leading entries of a column. -/
theorem tops (w : FVec Ideal S32x512 .f32) (q : Fin 512) (hl : ∀ e : Fin 32, w (ix2 e q) ≠ ⊥) :
    top w (ix2 0 q) = leading (fun e => w (ix2 e q)) 0
    ∧ top (strike w) (ix2 0 q) = leading (fun e => w (ix2 e q)) 1
    ∧ top (strike (strike w)) (ix2 0 q) = leading (fun e => w (ix2 e q)) 2
    ∧ top (strike (strike (strike w))) (ix2 0 q) = leading (fun e => w (ix2 e q)) 3 := by
  have z := fun e => (left_zero (fun e => w (ix2 e q)) e).symm
  have a := round w q (fun e => w (ix2 e q)) hl 0 z
  have b := round (strike w) q _ hl 1 a.2
  have c := round (strike (strike w)) q _ hl 2 b.2
  exact ⟨top_left w q (fun e => w (ix2 e q)) 0 0 (by decide) z, top_left (strike w) q _ 1 1 (by decide) a.2, top_left (strike (strike w)) q _ 2 2 (by decide) b.2,
    top_left (strike (strike (strike w))) q _ 3 3 (by decide) c.2⟩

/-- Rows of numbers piled, at an index. -/
theorem piled_ix (v : Fin 4 → FVec Ideal S1x512 .f32) (k : Fin 4) (q : Fin 512) : piled v (ix2 k q) = v k (ix2 0 q) := rfl

/-- A share of any four rows at an index. -/
theorem share_at (u u0 u1 u2 u3 : FVec Ideal S1x512 .f32) (q : Fin 512) (f : Fin 4 → EReal) (h0 : u0 (ix2 0 q) = f 0) (h1 : u1 (ix2 0 q) = f 1)
    (h2 : u2 (ix2 0 q) = f 2) (h3 : u3 (ix2 0 q) = f 3) (k : Fin 4) (h : u (ix2 0 q) = f k) :
    divf (raised u u0) (total u0 u1 u2 u3) (ix2 0 q) = softened f k := by
  have p : divf (raised u u0) (total u0 u1 u2 u3) (ix2 0 q) = Ideal.div (Ideal.exp (u (ix2 0 q) - u0 (ix2 0 q)))
      (Ideal.exp (u0 (ix2 0 q) - u0 (ix2 0 q)) + Ideal.exp (u1 (ix2 0 q) - u0 (ix2 0 q)) + Ideal.exp (u2 (ix2 0 q) - u0 (ix2 0 q))
        + Ideal.exp (u3 (ix2 0 q) - u0 (ix2 0 q))) := by
    pointwise [raised, total]
  rw [p, h, h0, h1, h2, h3]
  unfold softened
  rw [Fin.sum_univ_four]

/-- The softmax of four rows at an index. -/
theorem shared_at (u0 u1 u2 u3 : FVec Ideal S1x512 .f32) (q : Fin 512) (f : Fin 4 → EReal) (h0 : u0 (ix2 0 q) = f 0) (h1 : u1 (ix2 0 q) = f 1)
    (h2 : u2 (ix2 0 q) = f 2) (h3 : u3 (ix2 0 q) = f 3) (k : Fin 4) : shared u0 u1 u2 u3 (ix2 k q) = softened f k := by
  unfold shared
  rw [piled_ix]
  match k with
  | 0 => exact share_at u0 u0 u1 u2 u3 q f h0 h1 h2 h3 0 h0
  | 1 => exact share_at u1 u0 u1 u2 u3 q f h0 h1 h2 h3 1 h1
  | 2 => exact share_at u2 u0 u1 u2 u3 q f h0 h1 h2 h3 2 h2
  | 3 => exact share_at u3 u0 u1 u2 u3 q f h0 h1 h2 h3 3 h3

/-- The shares' block starts at column block `t`. -/
theorem spot_gates : ∀ t : Fin grid0.N, cc0_transform_13 (grid0.coords t) 0 = 0 ∧ cc0_transform_13 (grid0.coords t) 1 = t.val := by decide +kernel

/-- Every point leaves the softmax over its logits in its block of shares. -/
theorem left13 (m : (ℓ : Loc nD τ sig) → Buf (Elt Ideal) ℓ) (c : Dev nD) (t : Fin cfg0.N) : (outsAt0 m c t.val t.isLt).2.2.2.2.1 = gates (scoreOf m c t) := by
  by_cases h0 : t.val % 32 = 0
  · simp only [outsAt0_A m c t h0]
    rw [gates_A]
    rfl
  · simp only [outsAt0_B m c t h0]
    rw [gates_B]
    rfl

/-- The array of shares the formula describes. -/
def gateArr (m : (ℓ : Loc nD τ sig) → Buf (Elt Ideal) ℓ) (c : Dev nD) (i : S4x16384.Idx) : EReal :=
  gate (argO m c) (argP m c) (argX m c) (argWO m c) (argWP m c) (argG m c) (argHi m c) (argLo m c) (argB m c) (i (0 : Fin 2)) (i (1 : Fin 2))

variable {m : (ℓ : Loc nD τ sig) → Buf (Elt Ideal) ℓ}

/-- A point's shares at an index are the formula's. -/
theorem gates_at {c : Dev nD} (h : Reals m c) (t : Fin grid0.N) (k : Fin 4) (q : Fin 512) :
    gates (scoreOf m c t) (ix2 k q) = gate (argO m c) (argP m c) (argX m c) (argWO m c) (argWP m c) (argG m c) (argHi m c) (argLo m c) (argB m c) k (rowAt t q) := by
  have e : (fun e => scoreOf m c t (ix2 e q)) = logitAt m c (rowAt t q) := funext fun e => scoreOf_at h t e q
  obtain ⟨h0, h1, h2, h3⟩ := tops (scoreOf m c t) q fun e => by rw [scoreOf_at h]; exact (logitAt_real h _ _).ne_bot
  unfold gates
  rw [shared_at _ _ _ _ q _ h0 h1 h2 h3 k, e]
  rfl

/-- The array of shares the run leaves is the formula's, of real gains, weights and biases. -/
theorem gates_eq {c : Dev nD} (h : Reals m c) : (dats m (0 : Fin 1) c).arrAt 13 cfg0.N = gateArr m c := by
  refine (dats m (0 : Fin 1) c).arrAt_eq_of_cover 13 (gateArr m c) (fun t hflush => ?_) fun i => (Value.covered_iff13 i).2
    ⟨Nat.zero_le _, (i (0 : Fin 2)).isLt, Nat.zero_le _, (i (1 : Fin 2)).isLt⟩
  rw [Value.flushed13, left13]
  funext y
  obtain ⟨k, hk⟩ : ∃ k : Fin 4, k.val = (y (0 : Fin 2)).val := ⟨⟨(y (0 : Fin 2)).val, (show (y (0 : Fin 2)).val < 4 from (y (0 : Fin 2)).isLt)⟩, rfl⟩
  obtain ⟨q, hq⟩ : ∃ q : Fin 512, q.val = (y (1 : Fin 2)).val := ⟨⟨(y (1 : Fin 2)).val, (show (y (1 : Fin 2)).val < 512 from (y (1 : Fin 2)).isLt)⟩, rfl⟩
  have hy : (cfg0.win 13).xinj (cfg0.grid.coords t) y = ix2 k q := by
    refine funext fun a => Fin.ext ?_
    match a with
    | ⟨0, _⟩ => exact hk.symm
    | ⟨1, _⟩ => exact hq.symm
  refine Eq.trans (b := gates (scoreOf m c t) (ix2 k q)) (congrArg (gates (scoreOf m c t)) hy) ((gates_at h t k q).trans ?_)
  have e := spot_gates t
  refine congrArg₂ (gate (argO m c) (argP m c) (argX m c) (argWO m c) (argWP m c) (argG m c) (argHi m c) (argLo m c) (argB m c)) (Fin.ext ?_) (Fin.ext ?_)
  · show k.val = cc0_transform_13 (grid0.coords t) 0 * 4 + 1 * (y (0 : Fin 2)).val
    rw [e.1, hk]; omega
  · show t.val * 512 + q.val = cc0_transform_13 (grid0.coords t) 1 * 512 + 1 * (y (1 : Fin 2)).val
    rw [e.2, hq]; omega

end Cert.Kernel5Ideal.Router

end
-- ==== Proof.RouterShares.lean ====
module

public import proofs.«01_k».proof.Proof.RouterReference
public import proofs.«01_k».proof.Proof.RouterShare

@[expose] public section

set_option maxRecDepth 16384
set_option Elab.async false

noncomputable section

namespace Cert.Reference5Ideal.Router

open Cert.Reference5Ideal Cert.Reference5Ideal.Gen
open Idealize.ShloMosaic
open Idealize.ShloMosaic.TcCoe Idealize.ShloMosaic.Tactic

/-! # The shares the router's reference gives -/

/-- The four largest scores of each row. -/
def largest (w : FVec Ideal S16384x32 .f32) : FVec Ideal S16384x4 .f32 :=
  (Host.topK S16384x4 1 (FloatOps.cmpfTotal (F := Ideal) (φ := .f32) .gt) w sliceFits_S16384x32_S16384x4).1

/-- A row's largest entry. -/
def peak (v : FVec Ideal S16384x4 .f32) : FVec Ideal S16384 .f32 :=
  maximumf (broadcastInDim S16384 ![] bcast_S_S16384 (constant (F := Ideal) S_ .f32 0xFF800000#32))
    (Host.reduce (FloatOps.maximumf (F := Ideal)) v (constant (F := Ideal) S_ .f32 0xFF800000#32) reducesTo_S16384x4_S16384_d1 h_S_)

/-- A number per row, along each row. -/
def spread (u : FVec Ideal S16384 .f32) : FVec Ideal S16384x4 .f32 :=
  broadcastInDim S16384x4 ![0, 1] bcast_S16384x1_S16384x4_0_1 (broadcastInDim S16384x1 ![0] bcast_S16384_S16384x1_0 u)

/-- The exponentials of a row, each entry less the largest. -/
def raised (v : FVec Ideal S16384x4 .f32) : FVec Ideal S16384x4 .f32 := Host.exp (subf v (spread (peak v)))

/-- The softmax of each row, a column per row. -/
def shares (v : FVec Ideal S16384x4 .f32) : FVec Ideal S4x16384 .f32 :=
  transpose S4x16384 [1, 0] (Host.divf (raised v)
    (spread (Host.reduceAdd (raised v) (constant (F := Ideal) S_ .f32 0x00000000#32) reducesTo_S16384x4_S16384_d1 h_S_))) transposes_S16384x4_S4x16384_1_0

/-- A sort of two arrays by the first, read in the first at an index. -/
theorem sort_first {s : Shape} {d : ℕ} {α β : Type} (gt : α → α → BitVec 1) (w : s.Idx → α) (y : s.Idx → β) (hd : d < s.rank) (j : s.Idx) :
    (Host.sort2 s d (fun l r => gt l.1 r.1) w y).1 j
      = w (j.along ⟨d, hd⟩ (sortedFrom (fun k k' => gt (w (j.along ⟨d, hd⟩ k)) (w (j.along ⟨d, hd⟩ k')) == 1#1) (j ⟨d, hd⟩))) := by
  unfold Host.sort2
  rw [dif_pos hd]

/-- The entries of a row, sorted, at an index, under any comparison. -/
theorem first_row {α : Type} (gt : α → α → BitVec 1) (w : S16384x32.Idx → α) (y : S16384x32.Idx → BitVec 32) (r : Fin 16384) (q : Fin 32) :
    (Host.sort2 S16384x32 1 (fun l r => gt l.1 r.1) w y).1 (ix2 r q) = w (ix2 r (sortedFrom (fun k k' : Fin 32 => gt (w (ix2 r k)) (w (ix2 r k')) == 1#1) q)) := by
  have hd : 1 < S16384x32.rank := by decide
  have e : (fun k k' : Fin 32 => gt (w (Shape.Idx.along (s := S16384x32) (ix2 r q) ⟨1, hd⟩ k)) (w (Shape.Idx.along (s := S16384x32) (ix2 r q) ⟨1, hd⟩ k')) == 1#1)
      = fun k k' : Fin 32 => gt (w (ix2 r k)) (w (ix2 r k')) == 1#1 := by
    funext k k'
    rw [along_row, along_row]
  refine (sort_first gt w y hd (ix2 r q)).trans ?_
  refine (congrArg w (along_row r q _ hd)).trans ?_
  exact congrArg (fun f : Fin 32 → Fin 32 → Bool => w (ix2 r (sortedFrom f q))) e

/-- The entries of a row of extended reals, sorted, are those at its places. -/
theorem first_at (w : FVec Ideal S16384x32 .f32) (y : S16384x32.Idx → BitVec 32) (r : Fin 16384) (q : Fin 32) :
    (Host.sort2 S16384x32 1 (fun l r => FloatOps.cmpfTotal (F := Ideal) (φ := .f32) .gt l.1 r.1) w y).1 (ix2 r q)
      = w (ix2 r (Cert.Router.place (fun e => w (ix2 r e)) q)) := by
  have e : (fun k k' : Fin 32 => FloatOps.cmpfTotal (F := Ideal) (φ := .f32) .gt (w (ix2 r k)) (w (ix2 r k')) == 1#1)
      = fun k k' : Fin 32 => decide (w (ix2 r k') < w (ix2 r k)) := by
    funext k k'
    rw [Ideal.cmpfTotal_def]
    exact bit_test _
  refine (first_row _ w y r q).trans ?_
  exact congrArg (fun f : Fin 32 → Fin 32 → Bool => w (ix2 r (sortedFrom f q))) e

/-- The largest scores at an index. -/
theorem largest_at (w : FVec Ideal S16384x32 .f32) (r : Fin 16384) (k : Fin 4) : largest w (ix2 r k) = Cert.Router.leading (fun e => w (ix2 r e)) k := by
  refine Eq.trans ?_ (first_at w (fun i => if hd : 1 < S16384x32.rank then iotaInDim S16384x32 32 ⟨1, hd⟩ i else 0#32) r (Fin.castLE (by decide) k))
  unfold largest Host.topK
  dsimp only
  generalize (Host.sort2 S16384x32 1 (fun l r => FloatOps.cmpfTotal (F := Ideal) (φ := .f32) .gt l.1 r.1) w
      (fun i => if hd : 1 < S16384x32.rank then iotaInDim S16384x32 32 ⟨1, hd⟩ i else 0#32)).1 = z
  refine congrArg z (funext fun a => Fin.ext ?_)
  match a with
  | ⟨0, _⟩ => show 0 + r.val = r.val; omega
  | ⟨1, _⟩ => show 0 + k.val = k.val; omega

/-- A row's largest entry is the first, none exceeding it. -/
theorem peak_at (v : FVec Ideal S16384x4 .f32) (r : Fin 16384) (h : ∀ j : Fin 4, v (ix2 r j) ≤ v (ix2 r 0)) : peak v (ix1 r) = v (ix2 r 0) := by
  have p : peak v (ix1 r) = max (Ideal.ofBits .f32 0xFF800000#32) (Finset.univ.fold max (Ideal.ofBits .f32 0xFF800000#32) fun j : Fin 4 => v (ix2 r j)) := by
    unfold peak
    pointwise []
  rw [p, show Ideal.ofBits .f32 0xFF800000#32 = ⊥ by simp [Ideal.ofBits, Ideal.ieee]]
  refine (max_eq_right bot_le).trans ?_
  exact le_antisymm (Finset.fold_max_le _ |>.2 ⟨bot_le, fun e _ => h e⟩) (Finset.le_fold_max _ |>.2 (Or.inr ⟨0, Finset.mem_univ _, le_refl _⟩))

/-- A number spread along its row. -/
theorem spread_at (u : FVec Ideal S16384 .f32) (r : Fin 16384) (k : Fin 4) : spread u (ix2 r k) = u (ix1 r) := by
  unfold spread
  pointwise []

/-- An exponential at an index. -/
theorem raised_at (v : FVec Ideal S16384x4 .f32) (r : Fin 16384) (k : Fin 4) (h : ∀ j : Fin 4, v (ix2 r j) ≤ v (ix2 r 0)) :
    raised v (ix2 r k) = Ideal.exp (v (ix2 r k) - v (ix2 r 0)) := by
  have p : raised v (ix2 r k) = Ideal.exp (v (ix2 r k) - spread (peak v) (ix2 r k)) := by
    unfold raised
    generalize spread (peak v) = u
    pointwise []
  rw [p, spread_at, peak_at v r h]

/-- A share at an index. -/
theorem shares_at (v : FVec Ideal S16384x4 .f32) (k : Fin 4) (r : Fin 16384) (h : ∀ j : Fin 4, v (ix2 r j) ≤ v (ix2 r 0)) :
    shares v (ix2 k r) = Cert.Router.softened (fun j => v (ix2 r j)) k := by
  have p : shares v (ix2 k r) = Ideal.div (raised v (ix2 r k)) (∑ j : Fin 4, raised v (ix2 r j)) := by
    unfold shares spread
    generalize raised v = u
    pointwise []
  rw [p]
  unfold Cert.Router.softened
  rw [raised_at v r k h]
  exact congrArg (Ideal.div _) (Finset.sum_congr rfl fun j _ => raised_at v r j h)

/-- The reference's share at an index is the formula's. -/
theorem gate_at (o p : FVec Ideal S16384x1024 .bf16) (x : FVec Ideal S16384x2048 .f32) (wo wp : FVec Ideal S1024x2048 .bf16) (g : FVec Ideal S1x2048 .f32)
    (hi lo : FVec Ideal S32x2048 .bf16) (b : FVec Ideal S32x1 .f32) (k : Fin 4) (r : Fin 16384) :
    shares (largest (scores (prepared o p x wo wp g) hi lo b)) (ix2 k r) = Cert.Router.gate o p x wo wp g hi lo b k r := by
  have e : (fun e => scores (prepared o p x wo wp g) hi lo b (ix2 r e)) = Cert.Router.logit o p x wo wp g hi lo b r :=
    funext fun e => logit_at o p x wo wp g hi lo b r e
  refine (shares_at _ k r fun j => ?_).trans ?_
  · rw [largest_at, largest_at]
    exact Cert.Router.leading_le _ j
  · unfold Cert.Router.gate
    refine congrArg (fun v => Cert.Router.softened v k) (funext fun j => ?_)
    rw [largest_at, e]

end Cert.Reference5Ideal.Router

end
-- ==== Proof.lean ====
/-
  The proof of `Cert.Claim`, of the experts, of the in-projection, of the output projection, of the router's choice and of the preparation: the frames of the kernel, of its
  idealization and of the reference; and, over the extended reals, the kernel's arrays equal to the reference's.
-/
module

public import proofs.«01_k».proof.Defs
public import proofs.«01_k».proof.Proof.BitsRun
public import proofs.«01_k».proof.Proof.Result
public import proofs.«01_k».proof.Proof.Reference
public import proofs.«01_k».proof.Proof.Pre
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.InProjFrame
public import proofs.«01_k».proof.Proof.InProjResult
public import proofs.«01_k».proof.Proof.InProjReference
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.OutProjResult
public import proofs.«01_k».proof.Proof.OutProjReference
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.PrepArrays
public import proofs.«01_k».proof.Proof.PrepReference
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Pre_finite
public import proofs.«01_k».proof.Proof.RouterPre
public import proofs.«01_k».proof.Proof.RouterReference
public import proofs.«01_k».proof.Proof.RouterResult
public import proofs.«01_k».proof.Proof.RouterGates
public import proofs.«01_k».proof.Proof.RouterShares
public import Idealize.ShloMosaic.Adequacy
public import Idealize.ShloMosaic.Init

@[expose] public section

set_option maxRecDepth 16384

noncomputable section

namespace Cert.Kernel.Experts

open Cert.Kernel Cert.Kernel.Gen
open Idealize.ShloMosaic

/-- There is one device. -/
theorem one_dev (c : Dev nD) : c = 0 := Subsingleton.elim (α := Fin 1) c 0

/-- The expert table the kernel is launched with. -/
abbrev table0 (m : (ℓ : Loc nD τ sig) → Buf (Elt Bits) ℓ) : S160.Idx → BitVec 32 := m (((0 : Dev nD).tc : Thread nD τ).loc main_arg0)

/-- The count of used tiles the kernel is launched with. -/
abbrev table1 (m : (ℓ : Loc nD τ sig) → Buf (Elt Bits) ℓ) : S1.Idx → BitVec 32 := m (((0 : Dev nD).tc : Thread nD τ).loc main_arg1)

/-- The precondition makes the tables routed. -/
theorem routed_of_pre (m : (ℓ : Loc nD τ sig) → Buf (Elt Bits) ℓ) (h : Cert.Pre_Kernel m) : Routed (table0 m) (table1 m) :=
  have t := Cert.Routed.tables_ok _ _ _ _ _ _ _ _ _ (h 0)
  ⟨t.1, t.2⟩

/-- The launch memory holds its own tables. -/
theorem holds_of (m : (ℓ : Loc nD τ sig) → Buf (Elt Bits) ℓ) : Holds (table0 m) (table1 m) m := fun c => by
  rw [one_dev c]
  exact ⟨rfl, rfl⟩

end Cert.Kernel.Experts

namespace Cert.KernelIdeal.Experts

open Cert.KernelIdeal Cert.KernelIdeal.Gen
open Idealize.ShloMosaic

/-- There is one device. -/
theorem one_dev (c : Dev nD) : c = 0 := Subsingleton.elim (α := Fin 1) c 0

/-- The expert table the idealized kernel is launched with. -/
abbrev table0 (m : (ℓ : Loc nD τ sig) → Buf (Elt Ideal) ℓ) : S160.Idx → BitVec 32 := m (((0 : Dev nD).tc : Thread nD τ).loc main_arg0)

/-- The count of used tiles the idealized kernel is launched with. -/
abbrev table1 (m : (ℓ : Loc nD τ sig) → Buf (Elt Ideal) ℓ) : S1.Idx → BitVec 32 := m (((0 : Dev nD).tc : Thread nD τ).loc main_arg1)

/-- The precondition makes the tables routed. -/
theorem routed_of_pre (m : (ℓ : Loc nD τ sig) → Buf (Elt Ideal) ℓ) (h : Cert.Pre_KernelIdeal m) : Routed (table0 m) (table1 m) :=
  have t := Cert.Routed.tables_ok _ _ _ _ _ _ _ _ _ (h 0)
  ⟨t.1, t.2⟩

/-- The launch memory holds its own tables. -/
theorem holds_of (m : (ℓ : Loc nD τ sig) → Buf (Elt Ideal) ℓ) : Holds (table0 m) (table1 m) m := fun c => by
  rw [one_dev c]
  exact ⟨rfl, rfl⟩

end Cert.KernelIdeal.Experts

namespace Cert.Proof

open Idealize.ShloMosaic Idealize.SL.Sem

/-- The reference's array, at routed tables, is the array the specification describes. -/
theorem reference_eq (m : (ℓ : Loc Cert.KernelIdeal.nD Cert.KernelIdeal.τ Cert.KernelIdeal.sig) → Buf (Elt Ideal) ℓ)
    (te : Cert.ReferenceIdeal.S160.Idx → BitVec 32) (nu : Cert.ReferenceIdeal.S1.Idx → BitVec 32) (h : ∀ i, (te i).toNat < 32)
    (c : Dev Cert.KernelIdeal.nD) :
    Cert.ReferenceIdeal.Experts.out te nu
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
        (m ((c.tc : Thread Cert.KernelIdeal.nD Cert.KernelIdeal.τ).loc Cert.KernelIdeal.main_arg8))
      = Cert.KernelIdeal.Experts.specArr (T0 := te) (T1 := nu) m c := by
  funext i
  have h0 : (i 0).val < 81920 := (i 0).isLt
  have e : i = ix2 (Cert.Routed.rowOf ⟨(i 0).val / 512, by omega⟩ ⟨(i 0).val % 512, by omega⟩) ⟨(i 1).val, (i 1).isLt⟩ := by
    refine funext fun a => Fin.ext ?_
    match a with
    | ⟨0, _⟩ =>
      show (i 0).val = (i 0).val / 512 * 512 + (i 0).val % 512
      omega
    | ⟨1, _⟩ => rfl
  exact (congrArg _ e).trans (Cert.ReferenceIdeal.Experts.out_at te nu _ _ _ _ _ _ _ _ _ _ (h _))

/-- The kernel, at every interpretation of its floats as words: it ends, its arguments unchanged, its semaphores at zero. -/
theorem frame_kernel : Cert.quiescent_Kernel := fun m g h =>
  Cert.Kernel.Experts.run_frame (Cert.Kernel.Experts.routed_of_pre m h) g (Cert.Kernel.Experts.holds_of m)

/-- The same of the kernel over the extended reals. -/
theorem frame_ideal : Cert.quiescent_KernelIdeal := fun m g h =>
  Cert.KernelIdeal.Experts.run_frame (Cert.KernelIdeal.Experts.routed_of_pre m h) g (Cert.KernelIdeal.Experts.holds_of m)

/-- Over the extended reals the kernel and the reference end with the same array. -/
theorem same_array : Cert.algebraic_KernelIdeal_ReferenceIdeal := fun m g m' g' hpre hagree => by
  have hr := Cert.KernelIdeal.Experts.routed_of_pre m hpre
  refine ⟨fun c => Cert.KernelIdeal.Experts.specArr (T0 := Cert.KernelIdeal.Experts.table0 m) (T1 := Cert.KernelIdeal.Experts.table1 m) m c,
    (θ_run _ _ _).mono (fun r h c => ⟨(h c).1.trans (Cert.KernelIdeal.Experts.arr_eq hr m g c), (h c).2⟩)
      (Cert.KernelIdeal.Experts.run_result hr g (Cert.KernelIdeal.Experts.holds_of m)),
    (θ_run _ _ _).mono (fun r h c => ⟨(h c).1.trans ?_, (h c).2⟩) (Cert.ReferenceIdeal.Experts.run m' g')⟩
  obtain ⟨a0, a1, a2, a3, a4, a5, a6, a7, a8⟩ := hagree c
  rw [a0, a1, a2, a3, a4, a5, a6, a7, a8, Cert.KernelIdeal.Experts.one_dev c]
  exact reference_eq m _ _ hr.expert 0

/-- The reference's wide array is the one the formulas describe. -/
theorem wide_reference (m : (ℓ : Loc Cert.Kernel2Ideal.nD Cert.Kernel2Ideal.τ Cert.Kernel2Ideal.sig) → Buf (Elt Ideal) ℓ) (c : Dev Cert.Kernel2Ideal.nD) :
    Cert.Reference2Ideal.InProj.joined (Cert.Reference2Ideal.InProj.product (Cert.Kernel2Ideal.InProj.argX m c) (Cert.Kernel2Ideal.InProj.argG m c)
        (Cert.Kernel2Ideal.InProj.argW m c)) (Cert.Kernel2Ideal.InProj.argH m c) = Cert.Kernel2Ideal.InProj.wideArr m c := by
  funext i
  have e : i = ix2 (i (0 : Fin 2)) (i (1 : Fin 2)) := by
    funext a
    match a with
    | ⟨0, _⟩ => rfl
    | ⟨1, _⟩ => rfl
  exact (congrArg _ e).trans (Cert.Reference2Ideal.InProj.joined_at _ _ _ _ _ _)

/-- The reference's narrow array is the one the formulas describe. -/
theorem narrow_reference (m : (ℓ : Loc Cert.Kernel2Ideal.nD Cert.Kernel2Ideal.τ Cert.Kernel2Ideal.sig) → Buf (Elt Ideal) ℓ) (c : Dev Cert.Kernel2Ideal.nD) :
    Cert.Reference2Ideal.InProj.small (Cert.Kernel2Ideal.InProj.argX m c) (Cert.Kernel2Ideal.InProj.argG m c) (Cert.Kernel2Ideal.InProj.argN m c)
      = Cert.Kernel2Ideal.InProj.narrowArr m c := by
  funext i
  have e : i = ix2 (i (0 : Fin 2)) (i (1 : Fin 2)) := by
    funext a
    match a with
    | ⟨0, _⟩ => rfl
    | ⟨1, _⟩ => rfl
  exact (congrArg _ e).trans (Cert.Reference2Ideal.InProj.small_at _ _ _ _ _)

/-- Over the extended reals the in-projection and its reference end with the same two arrays. -/
theorem same_projections : Cert.algebraic_Kernel2Ideal_Reference2Ideal := fun m g m' g' _ hagree => by
  refine ⟨fun c => Cert.Kernel2Ideal.InProj.wideArr m c, fun c => Cert.Kernel2Ideal.InProj.narrowArr m c,
    (θ_run _ _ _).mono (fun r h c => ⟨(h c).1.trans (Cert.Kernel2Ideal.InProj.wide_eq m c), (h c).2.1.trans (Cert.Kernel2Ideal.InProj.narrow_eq m c), (h c).2.2⟩)
      (Cert.Kernel2Ideal.InProj.run_result m g),
    (θ_run _ _ _).mono (fun r h c => ⟨(h c).1.trans ?_, (h c).2.1.trans ?_, (h c).2.2⟩) (Cert.Reference2Ideal.InProj.run m' g')⟩
  · obtain ⟨a0, a1, a2, a3, a4⟩ := hagree c
    rw [a0, a1, a2, a4]
    exact wide_reference m c
  · obtain ⟨a0, a1, a2, a3, a4⟩ := hagree c
    rw [a0, a1, a3]
    exact narrow_reference m c

/-- The reference's array of tokens is the one the formulas describe. -/
theorem mixed_reference (m : (ℓ : Loc Cert.Kernel3Ideal.nD Cert.Kernel3Ideal.τ Cert.Kernel3Ideal.sig) → Buf (Elt Ideal) ℓ) (c : Dev Cert.Kernel3Ideal.nD) :
    Cert.Reference3Ideal.OutProj.added (Cert.Kernel3Ideal.OutProj.argO m c) (Cert.Kernel3Ideal.OutProj.argP m c) (Cert.Kernel3Ideal.OutProj.argX m c)
        (Cert.Kernel3Ideal.OutProj.argWO m c) (Cert.Kernel3Ideal.OutProj.argWP m c) = Cert.Kernel3Ideal.OutProj.mixedArr m c := by
  funext i
  have e : i = ix2 (i (0 : Fin 2)) (i (1 : Fin 2)) := by
    funext a
    match a with
    | ⟨0, _⟩ => rfl
    | ⟨1, _⟩ => rfl
  exact (congrArg _ e).trans (Cert.Reference3Ideal.OutProj.added_at _ _ _ _ _ _ _)

/-- The reference's array of normalised tokens is the one the formulas describe. -/
theorem ready_reference (m : (ℓ : Loc Cert.Kernel3Ideal.nD Cert.Kernel3Ideal.τ Cert.Kernel3Ideal.sig) → Buf (Elt Ideal) ℓ) (c : Dev Cert.Kernel3Ideal.nD) :
    Cert.Reference3Ideal.OutProj.rows (Cert.Reference3Ideal.OutProj.added (Cert.Kernel3Ideal.OutProj.argO m c) (Cert.Kernel3Ideal.OutProj.argP m c)
        (Cert.Kernel3Ideal.OutProj.argX m c) (Cert.Kernel3Ideal.OutProj.argWO m c) (Cert.Kernel3Ideal.OutProj.argWP m c)) (Cert.Kernel3Ideal.OutProj.argG m c)
      = Cert.Kernel3Ideal.OutProj.readyArr m c := by
  funext i
  have e : i = ix2 (i (0 : Fin 2)) (i (1 : Fin 2)) := by
    funext a
    match a with
    | ⟨0, _⟩ => rfl
    | ⟨1, _⟩ => rfl
  exact (congrArg _ e).trans (Cert.Reference3Ideal.OutProj.ready_at _ _ _ _ _ _ _ _)

/-- Over the extended reals the output projection and its reference end with the same two arrays. -/
theorem same_tokens : Cert.algebraic_Kernel3Ideal_Reference3Ideal := fun m g m' g' _ hagree => by
  refine ⟨fun c => Cert.Kernel3Ideal.OutProj.mixedArr m c, fun c => Cert.Kernel3Ideal.OutProj.readyArr m c,
    (θ_run _ _ _).mono (fun r h c => ⟨(h c).1.trans (Cert.Kernel3Ideal.OutProj.mixed_eq m c), (h c).2.1.trans (Cert.Kernel3Ideal.OutProj.ready_eq m c),
        (h c).2.2.2.2.2.2⟩)
      (Cert.Kernel3Ideal.Value.run_blocks m g),
    (θ_run _ _ _).mono (fun r h c => ⟨(h c).1.trans ?_, (h c).2.1.trans ?_, (h c).2.2⟩) (Cert.Reference3Ideal.Value.run m' g')⟩
  · obtain ⟨a0, a1, a2, a3, a4, a5, a6, a7, a8⟩ := hagree c
    rw [a0, a1, a2, a3, a4]
    exact mixed_reference m c
  · obtain ⟨a0, a1, a2, a3, a4, a5, a6, a7, a8⟩ := hagree c
    rw [a0, a1, a2, a3, a4, a5]
    exact ready_reference m c

/-- The reference's columns are the ones the formulas describe. -/
theorem columns_reference (m : (ℓ : Loc Cert.Kernel4Ideal.nD Cert.Kernel4Ideal.τ Cert.Kernel4Ideal.sig) → Buf (Elt Ideal) ℓ) (c : Dev Cert.Kernel4Ideal.nD) :
    Cert.Reference4Ideal.Prep.summed (Cert.Reference4Ideal.Prep.logs (Cert.Reference4Ideal.Prep.biased (Cert.Kernel4Ideal.Prep.argX m c) (Cert.Kernel4Ideal.Prep.argB m c))) = Cert.Kernel4Ideal.Prep.colArr m c := by
  funext i
  have e : i = ix3 (i (0 : Fin 3)) (i (1 : Fin 3)) (i (2 : Fin 3)) := by
    funext a
    match a with
    | ⟨0, _⟩ => rfl
    | ⟨1, _⟩ => rfl
    | ⟨2, _⟩ => rfl
  exact (congrArg _ e).trans (Cert.Reference4Ideal.Prep.summed_gates _ _ _ _ _)

/-- The reference's rows are the ones the formulas describe. -/
theorem rows_reference (m : (ℓ : Loc Cert.Kernel4Ideal.nD Cert.Kernel4Ideal.τ Cert.Kernel4Ideal.sig) → Buf (Elt Ideal) ℓ) (c : Dev Cert.Kernel4Ideal.nD) :
    Cert.Reference4Ideal.Prep.turned (Cert.Reference4Ideal.Prep.summed (Cert.Reference4Ideal.Prep.logs (Cert.Reference4Ideal.Prep.biased (Cert.Kernel4Ideal.Prep.argX m c) (Cert.Kernel4Ideal.Prep.argB m c)))) = Cert.Kernel4Ideal.Prep.rowArr m c := by
  funext i
  have e : i = ix3 (i (0 : Fin 3)) (i (1 : Fin 3)) (i (2 : Fin 3)) := by
    funext a
    match a with
    | ⟨0, _⟩ => rfl
    | ⟨1, _⟩ => rfl
    | ⟨2, _⟩ => rfl
  exact (congrArg _ e).trans ((Cert.Reference4Ideal.Prep.turned_at _ _ _ _).trans (Cert.Reference4Ideal.Prep.summed_gates _ _ _ _ _))

/-- The reference's first halves are the ones the formulas describe. -/
theorem firsts_reference (m : (ℓ : Loc Cert.Kernel4Ideal.nD Cert.Kernel4Ideal.τ Cert.Kernel4Ideal.sig) → Buf (Elt Ideal) ℓ) (c : Dev Cert.Kernel4Ideal.nD) :
    Cert.Reference4Ideal.Prep.firsts (Cert.Kernel4Ideal.Prep.argX m c) (Cert.Kernel4Ideal.Prep.argG m c) = Cert.Kernel4Ideal.Prep.firstArr m c := by
  funext i
  have e : i = ix4 (i (0 : Fin 4)) (i (1 : Fin 4)) (i (2 : Fin 4)) (i (3 : Fin 4)) := by
    funext a
    match a with
    | ⟨0, _⟩ => rfl
    | ⟨1, _⟩ => rfl
    | ⟨2, _⟩ => rfl
    | ⟨3, _⟩ => rfl
  exact (congrArg _ e).trans (Cert.Reference4Ideal.Prep.first_at _ _ _ _ _ _)

/-- The reference's second halves are the ones the formulas describe. -/
theorem seconds_reference (m : (ℓ : Loc Cert.Kernel4Ideal.nD Cert.Kernel4Ideal.τ Cert.Kernel4Ideal.sig) → Buf (Elt Ideal) ℓ) (c : Dev Cert.Kernel4Ideal.nD) :
    Cert.Reference4Ideal.Prep.seconds (Cert.Kernel4Ideal.Prep.argX m c) (Cert.Kernel4Ideal.Prep.argG m c) = Cert.Kernel4Ideal.Prep.secondArr m c := by
  funext i
  have e : i = ix4 (i (0 : Fin 4)) (i (1 : Fin 4)) (i (2 : Fin 4)) (i (3 : Fin 4)) := by
    funext a
    match a with
    | ⟨0, _⟩ => rfl
    | ⟨1, _⟩ => rfl
    | ⟨2, _⟩ => rfl
    | ⟨3, _⟩ => rfl
  exact (congrArg _ e).trans (Cert.Reference4Ideal.Prep.second_at _ _ _ _ _ _)

/-- Over the extended reals the preparation and its reference end with the same four arrays. -/
theorem same_preparation : Cert.algebraic_Kernel4Ideal_Reference4Ideal := fun m g m' g' _ hagree => by
  refine ⟨fun c => Cert.Kernel4Ideal.Prep.colArr m c, fun c => Cert.Kernel4Ideal.Prep.rowArr m c, fun c => Cert.Kernel4Ideal.Prep.firstArr m c, fun c => Cert.Kernel4Ideal.Prep.secondArr m c,
    (θ_run _ _ _).mono (fun r h c => ⟨(h c).1.trans (Cert.Kernel4Ideal.Prep.col_eq m c), (h c).2.1.trans (Cert.Kernel4Ideal.Prep.row_eq m c),
        (h c).2.2.1.trans (Cert.Kernel4Ideal.Prep.first_eq m c), (h c).2.2.2.1.trans (Cert.Kernel4Ideal.Prep.second_eq m c), (h c).2.2.2.2⟩)
      (Cert.Kernel4Ideal.Value.run_blocks m g),
    (θ_run _ _ _).mono (fun r h c => ⟨(h c).1.trans ?_, (h c).2.1.trans ?_, (h c).2.2.1.trans ?_, (h c).2.2.2.1.trans ?_, (h c).2.2.2.2⟩)
      (Cert.Reference4Ideal.Value.run m' g')⟩
  · obtain ⟨a0, a1, a2⟩ := hagree c
    rw [a0, a1]
    exact columns_reference m c
  · obtain ⟨a0, a1, a2⟩ := hagree c
    rw [a0, a1]
    exact rows_reference m c
  · obtain ⟨a0, a1, a2⟩ := hagree c
    rw [a0, a2]
    exact firsts_reference m c
  · obtain ⟨a0, a1, a2⟩ := hagree c
    rw [a0, a2]
    exact seconds_reference m c

/-- The router's precondition makes the gains, the router's weights and its biases of reals. -/
theorem reals_of_pre (m : (ℓ : Loc Cert.Kernel5Ideal.nD Cert.Kernel5Ideal.τ Cert.Kernel5Ideal.sig) → Buf (Elt Ideal) ℓ) (h : Cert.Pre_Kernel5Ideal_finite m)
    (c : Dev Cert.Kernel5Ideal.nD) : Cert.Kernel5Ideal.Router.Reals m c :=
  have t := Cert.Router.args_real _ _ _ _ _ _ _ _ _ (h c)
  ⟨t.1, t.2.1, t.2.2.1, t.2.2.2⟩

/-- The reference's array of chosen experts is the one the formula describes. -/
theorem chosen_reference (m : (ℓ : Loc Cert.Kernel5Ideal.nD Cert.Kernel5Ideal.τ Cert.Kernel5Ideal.sig) → Buf (Elt Ideal) ℓ) (c : Dev Cert.Kernel5Ideal.nD) :
    Cert.Reference5Ideal.Router.leaders (Cert.Reference5Ideal.Router.scores (Cert.Reference5Ideal.Router.prepared (Cert.Kernel5Ideal.Router.argO m c)
        (Cert.Kernel5Ideal.Router.argP m c) (Cert.Kernel5Ideal.Router.argX m c) (Cert.Kernel5Ideal.Router.argWO m c) (Cert.Kernel5Ideal.Router.argWP m c)
        (Cert.Kernel5Ideal.Router.argG m c)) (Cert.Kernel5Ideal.Router.argHi m c) (Cert.Kernel5Ideal.Router.argLo m c) (Cert.Kernel5Ideal.Router.argB m c))
      = Cert.Kernel5Ideal.Router.chosenArr m c := by
  funext i
  have e : i = ix2 (i (0 : Fin 2)) (i (1 : Fin 2)) := by
    funext a
    match a with
    | ⟨0, _⟩ => rfl
    | ⟨1, _⟩ => rfl
  exact (congrArg _ e).trans (Cert.Reference5Ideal.Router.choice_at _ _ _ _ _ _ _ _ _ _ _)

/-- The reference's array of shares is the one the formula describes. -/
theorem shares_reference (m : (ℓ : Loc Cert.Kernel5Ideal.nD Cert.Kernel5Ideal.τ Cert.Kernel5Ideal.sig) → Buf (Elt Ideal) ℓ) (c : Dev Cert.Kernel5Ideal.nD) :
    Cert.Reference5Ideal.Router.shares (Cert.Reference5Ideal.Router.largest (Cert.Reference5Ideal.Router.scores (Cert.Reference5Ideal.Router.prepared
        (Cert.Kernel5Ideal.Router.argO m c) (Cert.Kernel5Ideal.Router.argP m c) (Cert.Kernel5Ideal.Router.argX m c) (Cert.Kernel5Ideal.Router.argWO m c)
        (Cert.Kernel5Ideal.Router.argWP m c) (Cert.Kernel5Ideal.Router.argG m c)) (Cert.Kernel5Ideal.Router.argHi m c) (Cert.Kernel5Ideal.Router.argLo m c)
        (Cert.Kernel5Ideal.Router.argB m c)))
      = Cert.Kernel5Ideal.Router.gateArr m c := by
  funext i
  have e : i = ix2 (i (0 : Fin 2)) (i (1 : Fin 2)) := by
    funext a
    match a with
    | ⟨0, _⟩ => rfl
    | ⟨1, _⟩ => rfl
  exact (congrArg _ e).trans (Cert.Reference5Ideal.Router.gate_at _ _ _ _ _ _ _ _ _ _ _)

/-- Over the extended reals, of finite gains, weights and biases, the router and its reference choose the same experts and give them the same shares. -/
theorem same_choices : Cert.algebraic_Kernel5Ideal_Reference5Ideal_pre_finite := fun m g m' g' hpre hagree => by
  refine ⟨fun c => Cert.Kernel5Ideal.Router.chosenArr m c, fun c => Cert.Kernel5Ideal.Router.gateArr m c,
    (θ_run _ _ _).mono (fun r h c => ⟨(h c).2.2.1.trans (Cert.Kernel5Ideal.Router.chosen_eq (reals_of_pre m hpre c)),
        (h c).2.2.2.2.1.trans (Cert.Kernel5Ideal.Router.gates_eq (reals_of_pre m hpre c)), (h c).2.2.2.2.2.2⟩)
      (Cert.Kernel5Ideal.Value.run_blocks m g),
    (θ_run _ _ _).mono (fun r h c => ⟨(h c).1.trans ?_, (h c).2.1.trans ?_, (h c).2.2⟩) (Cert.Reference5Ideal.Value.run m' g')⟩
  · obtain ⟨a0, a1, a2, a3, a4, a5, a6, a7, a8⟩ := hagree c
    rw [a0, a1, a2, a3, a4, a5, a6, a7, a8]
    exact chosen_reference m c
  · obtain ⟨a0, a1, a2, a3, a4, a5, a6, a7, a8⟩ := hagree c
    unfold Cert.Reference5Ideal.Value.res_main_v38
    rw [a0, a1, a2, a3, a4, a5, a6, a7, a8]
    exact shares_reference m c

/-- The certificate's claim. -/
theorem claim : Cert.Claim :=
  ⟨Cert.Kernel.Gen.facts, Cert.KernelIdeal.Gen.facts, Cert.ReferenceIdeal.Gen.facts, Cert.Kernel2.Gen.facts, Cert.Kernel2Ideal.Gen.facts,
    Cert.Reference2Ideal.Gen.facts, Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts, Cert.Pre_routed.Gen.facts, Cert.Pre_finite.Gen.facts,
    frame_kernel, frame_ideal, fun m g _ => Cert.ReferenceIdeal.Experts.run_frame m g, fun m g _ => Cert.ReferenceIdeal.Experts.run_frame m g,
    fun m g _ => Cert.Kernel2.InProj.frame m g, fun m g _ => Cert.Kernel2Ideal.InProj.run_frame m g, fun m g _ => Cert.Reference2Ideal.InProj.run_frame m g,
    fun m g _ => Cert.Kernel3.Gen.frame m g, fun m g _ => Cert.Kernel3Ideal.Gen.frame m g, Cert.Reference3Ideal.OutProj.run_frame,
    fun m g _ => Cert.Kernel4.Gen.frame m g, fun m g _ => Cert.Kernel4Ideal.Gen.frame m g, Cert.Reference4Ideal.Prep.run_frame,
    fun m g _ => Cert.Kernel5.Gen.frame m g, fun m g _ => Cert.Kernel5Ideal.Gen.frame m g, fun m g _ => Cert.Kernel5Ideal.Gen.frame m g,
    Cert.Reference5Ideal.Router.run_frame, fun m g _ => Cert.Reference5Ideal.Router.run_frame m g trivial,
    trivial, same_array, trivial, same_projections, trivial, same_tokens, trivial, same_preparation, trivial, same_choices⟩

end Cert.Proof

end
